-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)) (v2 : (c : Dev Cert.Kernel3Ideal.nD) → Buf (Elt Ideal) ((c.tc : Thread Cert.Kernel3Ideal.nD Cert.Kernel3Ideal.τ).loc Cert.Kernel3Ideal.main_v43_2)) (v3 : (c : Dev Cert.Kernel3Ideal.nD) → Buf (Elt Ideal) ((c.tc : Thread Cert.Kernel3Ideal.nD Cert.Kernel3Ideal.τ).loc Cert.Kernel3Ideal.main_v43_3)) (v4 : (c : Dev Cert.Kernel3Ideal.nD) → Buf (Elt Ideal) ((c.tc : Thread Cert.Kernel3Ideal.nD Cert.Kernel3Ideal.τ).loc Cert.Kernel3Ideal.main_v43_4)) (v5 : (c : Dev Cert.Kernel3Ideal.nD) → Buf (Elt Ideal) ((c.tc : Thread Cert.Kernel3Ideal.nD Cert.Kernel3Ideal.τ).loc Cert.Kernel3Ideal.main_v43_5)) (v6 : (c : Dev Cert.Kernel3Ideal.nD) → Buf (Elt Ideal) ((c.tc : Thread Cert.Kernel3Ideal.nD Cert.Kernel3Ideal.τ).loc Cert.Kernel3Ideal.main_v43_6)) (v7 : (c : Dev Cert.Kernel3Ideal.nD) → Buf (Elt Ideal) ((c.tc : Thread Cert.Kernel3Ideal.nD Cert.Kernel3Ideal.τ).loc Cert.Kernel3Ideal.main_v43_7)) (v8 : (c : Dev Cert.Kernel3Ideal.nD) → Buf (Elt Ideal) ((c.tc : Thread Cert.Kernel3Ideal.nD Cert.Kernel3Ideal.τ).loc Cert.Kernel3Ideal.main_v43_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_v43_3) = v3 c
          ∧ r.2.mem ((c.tc : Thread Cert.Kernel3Ideal.nD Cert.Kernel3Ideal.τ).loc Cert.Kernel3Ideal.main_v43_4) = v4 c
          ∧ r.2.mem ((c.tc : Thread Cert.Kernel3Ideal.nD Cert.Kernel3Ideal.τ).loc Cert.Kernel3Ideal.main_v43_5) = v5 c
          ∧ r.2.mem ((c.tc : Thread Cert.Kernel3Ideal.nD Cert.Kernel3Ideal.τ).loc Cert.Kernel3Ideal.main_v43_6) = v6 c
          ∧ r.2.mem ((c.tc : Thread Cert.Kernel3Ideal.nD Cert.Kernel3Ideal.τ).loc Cert.Kernel3Ideal.main_v43_7) = v7 c
          ∧ r.2.mem ((c.tc : Thread Cert.Kernel3Ideal.nD Cert.Kernel3Ideal.τ).loc Cert.Kernel3Ideal.main_v43_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v150) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v105) = v2 c
          ∧ r.2.mem ((c.tc : Thread Cert.Reference3Ideal.nD Cert.Reference3Ideal.τ).loc Cert.Reference3Ideal.main_v136) = v3 c
          ∧ r.2.mem ((c.tc : Thread Cert.Reference3Ideal.nD Cert.Reference3Ideal.τ).loc Cert.Reference3Ideal.main_v137) = v4 c
          ∧ r.2.mem ((c.tc : Thread Cert.Reference3Ideal.nD Cert.Reference3Ideal.τ).loc Cert.Reference3Ideal.main_v138) = v5 c
          ∧ r.2.mem ((c.tc : Thread Cert.Reference3Ideal.nD Cert.Reference3Ideal.τ).loc Cert.Reference3Ideal.main_v139) = v6 c
          ∧ r.2.mem ((c.tc : Thread Cert.Reference3Ideal.nD Cert.Reference3Ideal.τ).loc Cert.Reference3Ideal.main_v147) = v7 c
          ∧ r.2.mem ((c.tc : Thread Cert.Reference3Ideal.nD Cert.Reference3Ideal.τ).loc Cert.Reference3Ideal.main_v151) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v45_0)) (v1 : (c : Dev Cert.Kernel4Ideal.nD) → Buf (Elt Ideal) ((c.tc : Thread Cert.Kernel4Ideal.nD Cert.Kernel4Ideal.τ).loc Cert.Kernel4Ideal.main_v45_1)) (v2 : (c : Dev Cert.Kernel4Ideal.nD) → Buf (Elt Ideal) ((c.tc : Thread Cert.Kernel4Ideal.nD Cert.Kernel4Ideal.τ).loc Cert.Kernel4Ideal.main_v45_2)) (v3 : (c : Dev Cert.Kernel4Ideal.nD) → Buf (Elt Ideal) ((c.tc : Thread Cert.Kernel4Ideal.nD Cert.Kernel4Ideal.τ).loc Cert.Kernel4Ideal.main_v45_3)) (v4 : (c : Dev Cert.Kernel4Ideal.nD) → Buf (Elt Ideal) ((c.tc : Thread Cert.Kernel4Ideal.nD Cert.Kernel4Ideal.τ).loc Cert.Kernel4Ideal.main_v45_4)) (v5 : (c : Dev Cert.Kernel4Ideal.nD) → Buf (Elt Ideal) ((c.tc : Thread Cert.Kernel4Ideal.nD Cert.Kernel4Ideal.τ).loc Cert.Kernel4Ideal.main_v45_5)) (v6 : (c : Dev Cert.Kernel4Ideal.nD) → Buf (Elt Ideal) ((c.tc : Thread Cert.Kernel4Ideal.nD Cert.Kernel4Ideal.τ).loc Cert.Kernel4Ideal.main_v45_6)) (v7 : (c : Dev Cert.Kernel4Ideal.nD) → Buf (Elt Ideal) ((c.tc : Thread Cert.Kernel4Ideal.nD Cert.Kernel4Ideal.τ).loc Cert.Kernel4Ideal.main_v45_7)) (v8 : (c : Dev Cert.Kernel4Ideal.nD) → Buf (Elt Ideal) ((c.tc : Thread Cert.Kernel4Ideal.nD Cert.Kernel4Ideal.τ).loc Cert.Kernel4Ideal.main_v45_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45_0) = v0 c
          ∧ r.2.mem ((c.tc : Thread Cert.Kernel4Ideal.nD Cert.Kernel4Ideal.τ).loc Cert.Kernel4Ideal.main_v45_1) = v1 c
          ∧ r.2.mem ((c.tc : Thread Cert.Kernel4Ideal.nD Cert.Kernel4Ideal.τ).loc Cert.Kernel4Ideal.main_v45_2) = v2 c
          ∧ r.2.mem ((c.tc : Thread Cert.Kernel4Ideal.nD Cert.Kernel4Ideal.τ).loc Cert.Kernel4Ideal.main_v45_3) = v3 c
          ∧ r.2.mem ((c.tc : Thread Cert.Kernel4Ideal.nD Cert.Kernel4Ideal.τ).loc Cert.Kernel4Ideal.main_v45_4) = v4 c
          ∧ r.2.mem ((c.tc : Thread Cert.Kernel4Ideal.nD Cert.Kernel4Ideal.τ).loc Cert.Kernel4Ideal.main_v45_5) = v5 c
          ∧ r.2.mem ((c.tc : Thread Cert.Kernel4Ideal.nD Cert.Kernel4Ideal.τ).loc Cert.Kernel4Ideal.main_v45_6) = v6 c
          ∧ r.2.mem ((c.tc : Thread Cert.Kernel4Ideal.nD Cert.Kernel4Ideal.τ).loc Cert.Kernel4Ideal.main_v45_7) = v7 c
          ∧ r.2.mem ((c.tc : Thread Cert.Kernel4Ideal.nD Cert.Kernel4Ideal.τ).loc Cert.Kernel4Ideal.main_v45_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v175) = v0 c
          ∧ r.2.mem ((c.tc : Thread Cert.Reference4Ideal.nD Cert.Reference4Ideal.τ).loc Cert.Reference4Ideal.main_v176) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_v110) = v3 c
          ∧ r.2.mem ((c.tc : Thread Cert.Reference4Ideal.nD Cert.Reference4Ideal.τ).loc Cert.Reference4Ideal.main_v146) = v4 c
          ∧ r.2.mem ((c.tc : Thread Cert.Reference4Ideal.nD Cert.Reference4Ideal.τ).loc Cert.Reference4Ideal.main_v177) = v5 c
          ∧ r.2.mem ((c.tc : Thread Cert.Reference4Ideal.nD Cert.Reference4Ideal.τ).loc Cert.Reference4Ideal.main_v178) = v6 c
          ∧ r.2.mem ((c.tc : Thread Cert.Reference4Ideal.nD Cert.Reference4Ideal.τ).loc Cert.Reference4Ideal.main_v181) = v7 c
          ∧ r.2.mem ((c.tc : Thread Cert.Reference4Ideal.nD Cert.Reference4Ideal.τ).loc Cert.Reference4Ideal.main_v172) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v46_0)) (v1 : (c : Dev Cert.Kernel7Ideal.nD) → Buf (Elt Ideal) ((c.tc : Thread Cert.Kernel7Ideal.nD Cert.Kernel7Ideal.τ).loc Cert.Kernel7Ideal.main_v46_1)) (v2 : (c : Dev Cert.Kernel7Ideal.nD) → Buf (Elt Ideal) ((c.tc : Thread Cert.Kernel7Ideal.nD Cert.Kernel7Ideal.τ).loc Cert.Kernel7Ideal.main_v46_2)) (v3 : (c : Dev Cert.Kernel7Ideal.nD) → Buf (Elt Ideal) ((c.tc : Thread Cert.Kernel7Ideal.nD Cert.Kernel7Ideal.τ).loc Cert.Kernel7Ideal.main_v46_3)) (v4 : (c : Dev Cert.Kernel7Ideal.nD) → Buf (Elt Ideal) ((c.tc : Thread Cert.Kernel7Ideal.nD Cert.Kernel7Ideal.τ).loc Cert.Kernel7Ideal.main_v46_4)) (v5 : (c : Dev Cert.Kernel7Ideal.nD) → Buf (Elt Ideal) ((c.tc : Thread Cert.Kernel7Ideal.nD Cert.Kernel7Ideal.τ).loc Cert.Kernel7Ideal.main_v46_5)) (v6 : (c : Dev Cert.Kernel7Ideal.nD) → Buf (Elt Ideal) ((c.tc : Thread Cert.Kernel7Ideal.nD Cert.Kernel7Ideal.τ).loc Cert.Kernel7Ideal.main_v46_6)) (v7 : (c : Dev Cert.Kernel7Ideal.nD) → Buf (Elt Ideal) ((c.tc : Thread Cert.Kernel7Ideal.nD Cert.Kernel7Ideal.τ).loc Cert.Kernel7Ideal.main_v46_7)) (v8 : (c : Dev Cert.Kernel7Ideal.nD) → Buf (Elt Ideal) ((c.tc : Thread Cert.Kernel7Ideal.nD Cert.Kernel7Ideal.τ).loc Cert.Kernel7Ideal.main_v46_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v46_0) = v0 c
          ∧ r.2.mem ((c.tc : Thread Cert.Kernel7Ideal.nD Cert.Kernel7Ideal.τ).loc Cert.Kernel7Ideal.main_v46_1) = v1 c
          ∧ r.2.mem ((c.tc : Thread Cert.Kernel7Ideal.nD Cert.Kernel7Ideal.τ).loc Cert.Kernel7Ideal.main_v46_2) = v2 c
          ∧ r.2.mem ((c.tc : Thread Cert.Kernel7Ideal.nD Cert.Kernel7Ideal.τ).loc Cert.Kernel7Ideal.main_v46_3) = v3 c
          ∧ r.2.mem ((c.tc : Thread Cert.Kernel7Ideal.nD Cert.Kernel7Ideal.τ).loc Cert.Kernel7Ideal.main_v46_4) = v4 c
          ∧ r.2.mem ((c.tc : Thread Cert.Kernel7Ideal.nD Cert.Kernel7Ideal.τ).loc Cert.Kernel7Ideal.main_v46_5) = v5 c
          ∧ r.2.mem ((c.tc : Thread Cert.Kernel7Ideal.nD Cert.Kernel7Ideal.τ).loc Cert.Kernel7Ideal.main_v46_6) = v6 c
          ∧ r.2.mem ((c.tc : Thread Cert.Kernel7Ideal.nD Cert.Kernel7Ideal.τ).loc Cert.Kernel7Ideal.main_v46_7) = v7 c
          ∧ r.2.mem ((c.tc : Thread Cert.Kernel7Ideal.nD Cert.Kernel7Ideal.τ).loc Cert.Kernel7Ideal.main_v46_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v152) = v0 c
          ∧ r.2.mem ((c.tc : Thread Cert.Reference7Ideal.nD Cert.Reference7Ideal.τ).loc Cert.Reference7Ideal.main_v76) = v1 c
          ∧ r.2.mem ((c.tc : Thread Cert.Reference7Ideal.nD Cert.Reference7Ideal.τ).loc Cert.Reference7Ideal.main_v107) = v2 c
          ∧ r.2.mem ((c.tc : Thread Cert.Reference7Ideal.nD Cert.Reference7Ideal.τ).loc Cert.Reference7Ideal.main_v138) = v3 c
          ∧ r.2.mem ((c.tc : Thread Cert.Reference7Ideal.nD Cert.Reference7Ideal.τ).loc Cert.Reference7Ideal.main_v139) = v4 c
          ∧ r.2.mem ((c.tc : Thread Cert.Reference7Ideal.nD Cert.Reference7Ideal.τ).loc Cert.Reference7Ideal.main_v140) = v5 c
          ∧ r.2.mem ((c.tc : Thread Cert.Reference7Ideal.nD Cert.Reference7Ideal.τ).loc Cert.Reference7Ideal.main_v141) = v6 c
          ∧ r.2.mem ((c.tc : Thread Cert.Reference7Ideal.nD Cert.Reference7Ideal.τ).loc Cert.Reference7Ideal.main_v149) = v7 c
          ∧ r.2.mem ((c.tc : Thread Cert.Reference7Ideal.nD Cert.Reference7Ideal.τ).loc Cert.Reference7Ideal.main_v153) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v75_2)) (v1 : (c : Dev Cert.Kernel8Ideal.nD) → Buf (Elt Ideal) ((c.tc : Thread Cert.Kernel8Ideal.nD Cert.Kernel8Ideal.τ).loc Cert.Kernel8Ideal.main_v75_3)) (v2 : (c : Dev Cert.Kernel8Ideal.nD) → Buf (Elt Ideal) ((c.tc : Thread Cert.Kernel8Ideal.nD Cert.Kernel8Ideal.τ).loc Cert.Kernel8Ideal.main_v75_4)) (v3 : (c : Dev Cert.Kernel8Ideal.nD) → Buf (Elt Ideal) ((c.tc : Thread Cert.Kernel8Ideal.nD Cert.Kernel8Ideal.τ).loc Cert.Kernel8Ideal.main_v75_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v75_2) = v0 c
          ∧ r.2.mem ((c.tc : Thread Cert.Kernel8Ideal.nD Cert.Kernel8Ideal.τ).loc Cert.Kernel8Ideal.main_v75_3) = v1 c
          ∧ r.2.mem ((c.tc : Thread Cert.Kernel8Ideal.nD Cert.Kernel8Ideal.τ).loc Cert.Kernel8Ideal.main_v75_4) = v2 c
          ∧ r.2.mem ((c.tc : Thread Cert.Kernel8Ideal.nD Cert.Kernel8Ideal.τ).loc Cert.Kernel8Ideal.main_v75_8) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v80) = v2 c
          ∧ r.2.mem ((c.tc : Thread Cert.Reference8Ideal.nD Cert.Reference8Ideal.τ).loc Cert.Reference8Ideal.main_v82) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4x4096x512 : Shape := ⟨3, ![4, 4096, 512]⟩
abbrev S4x4096x256 : Shape := ⟨3, ![4, 4096, 256]⟩
abbrev S4x4096x128 : Shape := ⟨3, ![4, 4096, 128]⟩
abbrev S1x256x512 : Shape := ⟨3, ![1, 256, 512]⟩
abbrev S1x256x256 : Shape := ⟨3, ![1, 256, 256]⟩
abbrev S1x256x128 : Shape := ⟨3, ![1, 256, 128]⟩
abbrev S1x4096x128 : Shape := ⟨3, ![1, 4096, 128]⟩
abbrev S1x4096x256 : Shape := ⟨3, ![1, 4096, 256]⟩
abbrev S8x512x256 : Shape := ⟨3, ![8, 512, 256]⟩
abbrev S8x256x512 : Shape := ⟨3, ![8, 256, 512]⟩
abbrev S2048x128 : Shape := ⟨2, ![2048, 128]⟩
abbrev S256x128 : Shape := ⟨2, ![256, 128]⟩
abbrev S1024x128 : Shape := ⟨2, ![1024, 128]⟩
abbrev S128x256 : Shape := ⟨2, ![128, 256]⟩
abbrev S1x256 : Shape := ⟨2, ![1, 256]⟩
abbrev S512x256 : Shape := ⟨2, ![512, 256]⟩
abbrev S1x512x128 : Shape := ⟨3, ![1, 512, 128]⟩
abbrev S512x128 : Shape := ⟨2, ![512, 128]⟩
abbrev S512x1024 : Shape := ⟨2, ![512, 1024]⟩
abbrev S1x512x256 : Shape := ⟨3, ![1, 512, 256]⟩
abbrev S8x256 : Shape := ⟨2, ![8, 256]⟩
abbrev S256x256 : Shape := ⟨2, ![256, 256]⟩
abbrev S64x256 : Shape := ⟨2, ![64, 256]⟩
abbrev S32x256 : Shape := ⟨2, ![32, 256]⟩
abbrev S16x256 : Shape := ⟨2, ![16, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S2048x512 : Shape := ⟨2, ![2048, 512]⟩
abbrev S256x512 : Shape := ⟨2, ![256, 512]⟩
abbrev S256x1 : Shape := ⟨2, ![256, 1]⟩
abbrev S4096x128 : Shape := ⟨2, ![4096, 128]⟩

abbrev nBuf : Space → Nat
  | .hbm => 6
  | .vmem => 17
  | .smem => 0
  | _ => 0

abbrev bufTy : (tb : Table) → Fin (tcTables nBuf tb) → BufTy
  | .hbm, ⟨0, _⟩ => ⟨S4x4096x512, .bf16⟩
  | .hbm, ⟨1, _⟩ => ⟨S4x4096x256, .bf16⟩
  | .hbm, ⟨2, _⟩ => ⟨S4x4096x128, .f32⟩
  | .hbm, ⟨3, _⟩ => ⟨S4x4096x128, .bf16⟩
  | .hbm, ⟨4, _⟩ => ⟨S4x4096x256, .bf16⟩
  | .hbm, ⟨5, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .f32⟩
  | .local _ .vmem, ⟨5, _⟩ => ⟨S1x256x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x256x512, .bf16⟩
  | .local _ .vmem, ⟨11, _⟩ => ⟨S1x256x512, .bf16⟩
  | .local _ .vmem, ⟨12, _⟩ => ⟨S8x512x256, .i32⟩
  | .local _ .vmem, ⟨13, _⟩ => ⟨S8x256x512, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_26 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v58 : BitVec 32 := Scalar.subi v20 c0_i32_26
  let c1_i32_27 : BitVec 32 := 1#32
  let v60 : BitVec 32 := Scalar.divsi v58 c1_i32_27
  let v61 : BitVec 32 := Scalar.muli v60 c1_i32_27
  let v62 : BitVec 32 := Scalar.addi c0_i32_26 v61
  let c1_i32_28 : BitVec 32 := 1#32
  ⟨c0_i32_26, v62, c1_i32_28⟩
def k0_mult1 (i : grid0.Coords) (k0_t1 : Fin (k0_t1_loop i).trips) : BitVec 32 :=
  let c0_i32_26 : BitVec 32 := 0#32
  let c1_i32_28 : BitVec 32 := 1#32
  let arg13 : BitVec 32 := Scf.iv c0_i32_26 c1_i32_28 k0_t1
  let c512_i32_124 : BitVec 32 := 512#32
  let v198 : BitVec 32 := Scalar.muli arg13 c512_i32_124
  v198
def k0_off1 (i : grid0.Coords) (k0_t1 : Fin (k0_t1_loop i).trips) : Fin 3 → Nat :=
  let c0_125 : Index := 0#32
  let c0_i32_26 : BitVec 32 := 0#32
  let c1_i32_28 : BitVec 32 := 1#32
  let arg13 : BitVec 32 := Scf.iv c0_i32_26 c1_i32_28 k0_t1
  let c512_i32_124 : BitVec 32 := 512#32
  let v198 : BitVec 32 := Scalar.muli arg13 c512_i32_124
  let v199 : BitVec 32 := v198
  let v200 : Index := Scalar.indexCast v199
  let c0_126 : Index := 0#32
  ![0, v200.toNat, 0]
def k0_off2 (i : grid0.Coords) (k0_t1 : Fin (k0_t1_loop i).trips) : Fin 3 → Nat :=
  let c0_i32_26 : BitVec 32 := 0#32
  let c1_i32_28 : BitVec 32 := 1#32
  let arg13 : BitVec 32 := Scf.iv c0_i32_26 c1_i32_28 k0_t1
  let v250 : Index := Scalar.indexCast arg13
  let c0_138 : Index := 0#32
  let c0_139 : Index := 0#32
  ![v250.toNat, 0, 0]
@[reducible] def k0_t2_loop (i : grid0.Coords) : Scf.Loop 32 :=
  let c0_i32_26 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v58 : BitVec 32 := Scalar.subi v20 c0_i32_26
  let c1_i32_27 : BitVec 32 := 1#32
  let v60 : BitVec 32 := Scalar.divsi v58 c1_i32_27
  let v61 : BitVec 32 := Scalar.muli v60 c1_i32_27
  let v62 : BitVec 32 := Scalar.addi c0_i32_26 v61
  let v59 : BitVec 32 := Scalar.addi c0_i32_26 v58
  let c1_i32_29 : BitVec 32 := 1#32
  ⟨v62, v59, c1_i32_29⟩
def k0_mult2 (i : grid0.Coords) (k0_t2 : Fin (k0_t2_loop i).trips) : BitVec 32 :=
  let c0_i32_26 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v58 : BitVec 32 := Scalar.subi v20 c0_i32_26
  let c1_i32_27 : BitVec 32 := 1#32
  let v60 : BitVec 32 := Scalar.divsi v58 c1_i32_27
  let v61 : BitVec 32 := Scalar.muli v60 c1_i32_27
  let v62 : BitVec 32 := Scalar.addi c0_i32_26 v61
  let c1_i32_29 : BitVec 32 := 1#32
  let arg13 : BitVec 32 := Scf.iv v62 c1_i32_29 k0_t2
  let c512_i32_124 : BitVec 32 := 512#32
  let v198 : BitVec 32 := Scalar.muli arg13 c512_i32_124
  v198
def k0_off3 (i : grid0.Coords) (k0_t2 : Fin (k0_t2_loop i).trips) : Fin 3 → Nat :=
  let c0_125 : Index := 0#32
  let c0_i32_26 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v58 : BitVec 32 := Scalar.subi v20 c0_i32_26
  let c1_i32_27 : BitVec 32 := 1#32
  let v60 : BitVec 32 := Scalar.divsi v58 c1_i32_27
  let v61 : BitVec 32 := Scalar.muli v60 c1_i32_27
  let v62 : BitVec 32 := Scalar.addi c0_i32_26 v61
  let c1_i32_29 : BitVec 32 := 1#32
  let arg13 : BitVec 32 := Scf.iv v62 c1_i32_29 k0_t2
  let c512_i32_124 : BitVec 32 := 512#32
  let v198 : BitVec 32 := Scalar.muli arg13 c512_i32_124
  let v199 : BitVec 32 := v198
  let v200 : Index := Scalar.indexCast v199
  let c0_126 : Index := 0#32
  ![0, v200.toNat, 0]
def k0_off4 (i : grid0.Coords) (k0_t2 : Fin (k0_t2_loop i).trips) : Fin 3 → Nat :=
  let c0_i32_26 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v58 : BitVec 32 := Scalar.subi v20 c0_i32_26
  let c1_i32_27 : BitVec 32 := 1#32
  let v60 : BitVec 32 := Scalar.divsi v58 c1_i32_27
  let v61 : BitVec 32 := Scalar.muli v60 c1_i32_27
  let v62 : BitVec 32 := Scalar.addi c0_i32_26 v61
  let c1_i32_29 : BitVec 32 := 1#32
  let arg13 : BitVec 32 := Scf.iv v62 c1_i32_29 k0_t2
  let v250 : Index := Scalar.indexCast arg13
  let c0_138 : Index := 0#32
  let c0_139 : Index := 0#32
  ![v250.toNat, 0, 0]
def k0_cond1 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c0_i32_34 : BitVec 32 := 0#32
  let v69 : BitVec 1 := Scalar.cmpi .ne v68 c0_i32_34
  v69

def k0_cond2 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c0_i32_125 : BitVec 32 := 0#32
  let v199 : BitVec 1 := Scalar.cmpi .ne v198 c0_i32_125
  v199

def k0_cond3 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c1_i32_126 : BitVec 32 := 1#32
  let v201 : BitVec 32 := Scalar.subi v198 c1_i32_126
  let c0_i32_127 : BitVec 32 := 0#32
  let v202 : BitVec 1 := Scalar.cmpi .ne v201 c0_i32_127
  v202

def k0_cond4 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c1_i32_126 : BitVec 32 := 1#32
  let v201 : BitVec 32 := Scalar.subi v198 c1_i32_126
  let c1_i32_128 : BitVec 32 := 1#32
  let v204 : BitVec 32 := Scalar.subi v201 c1_i32_128
  let c0_i32_129 : BitVec 32 := 0#32
  let v205 : BitVec 1 := Scalar.cmpi .ne v204 c0_i32_129
  v205

def k0_cond5 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c1_i32_126 : BitVec 32 := 1#32
  let v201 : BitVec 32 := Scalar.subi v198 c1_i32_126
  let c1_i32_128 : BitVec 32 := 1#32
  let v204 : BitVec 32 := Scalar.subi v201 c1_i32_128
  let c1_i32_130 : BitVec 32 := 1#32
  let v207 : BitVec 32 := Scalar.subi v204 c1_i32_130
  let c0_i32_131 : BitVec 32 := 0#32
  let v208 : BitVec 1 := Scalar.cmpi .ne v207 c0_i32_131
  v208

def k0_cond6 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c1_i32_126 : BitVec 32 := 1#32
  let v201 : BitVec 32 := Scalar.subi v198 c1_i32_126
  let c1_i32_128 : BitVec 32 := 1#32
  let v204 : BitVec 32 := Scalar.subi v201 c1_i32_128
  let c1_i32_130 : BitVec 32 := 1#32
  let v207 : BitVec 32 := Scalar.subi v204 c1_i32_130
  let c1_i32_132 : BitVec 32 := 1#32
  let v210 : BitVec 32 := Scalar.subi v207 c1_i32_132
  let c0_i32_133 : BitVec 32 := 0#32
  let v211 : BitVec 1 := Scalar.cmpi .ne v210 c0_i32_133
  v211

def k0_cond7 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_31 : BitVec 32 := 1#32
  let v66 : BitVec 32 := Scalar.subi v20 c1_i32_31
  let c0_i32_32 : BitVec 32 := 0#32
  let v67 : BitVec 32 := Scalar.maxsi v66 c0_i32_32
  let c7_i32 : BitVec 32 := 7#32
  let v68 : BitVec 32 := Scalar.minsi v67 c7_i32
  let c1_i32_124 : BitVec 32 := 1#32
  let v198 : BitVec 32 := Scalar.subi v68 c1_i32_124
  let c1_i32_126 : BitVec 32 := 1#32
  let v201 : BitVec 32 := Scalar.subi v198 c1_i32_126
  let c1_i32_128 : BitVec 32 := 1#32
  let v204 : BitVec 32 := Scalar.subi v201 c1_i32_128
  let c1_i32_130 : BitVec 32 := 1#32
  let v207 : BitVec 32 := Scalar.subi v204 c1_i32_130
  let c1_i32_132 : BitVec 32 := 1#32
  let v210 : BitVec 32 := Scalar.subi v207 c1_i32_132
  let c1_i32_134 : BitVec 32 := 1#32
  let v213 : BitVec 32 := Scalar.subi v210 c1_i32_134
  let c0_i32_135 : BitVec 32 := 0#32
  let v214 : BitVec 1 := Scalar.cmpi .ne v213 c0_i32_135
  v214

@[reducible] def k0_t3_loop : Scf.Loop 32 :=
  let c0_i32_136 : BitVec 32 := 0#32
  let c32_i32 : BitVec 32 := 32#32
  let v218 : BitVec 32 := Scalar.addi c0_i32_136 c32_i32
  let c1_i32_137 : BitVec 32 := 1#32
  ⟨c0_i32_136, v218, c1_i32_137⟩
@[reducible] def k0_t4_loop : Scf.Loop 32 :=
  let c0_i32_136 : BitVec 32 := 0#32
  let c32_i32 : BitVec 32 := 32#32
  let v218 : BitVec 32 := Scalar.addi c0_i32_136 c32_i32
  let c1_i32_137 : BitVec 32 := 1#32
  ⟨c0_i32_136, v218, c1_i32_137⟩
@[reducible] def k0_t5_loop : Scf.Loop 32 :=
  let c0_i32_134 : BitVec 32 := 0#32
  let c32_i32 : BitVec 32 := 32#32
  let v215 : BitVec 32 := Scalar.addi c0_i32_134 c32_i32
  let c1_i32_135 : BitVec 32 := 1#32
  ⟨c0_i32_134, v215, c1_i32_135⟩
@[reducible] def k0_t6_loop : Scf.Loop 32 :=
  let c0_i32_132 : BitVec 32 := 0#32
  let c32_i32 : BitVec 32 := 32#32
  let v212 : BitVec 32 := Scalar.addi c0_i32_132 c32_i32
  let c1_i32_133 : BitVec 32 := 1#32
  ⟨c0_i32_132, v212, c1_i32_133⟩
@[reducible] def k0_t7_loop : Scf.Loop 32 :=
  let c0_i32_130 : BitVec 32 := 0#32
  let c32_i32 : BitVec 32 := 32#32
  let v209 : BitVec 32 := Scalar.addi c0_i32_130 c32_i32
  let c1_i32_131 : BitVec 32 := 1#32
  ⟨c0_i32_130, v209, c1_i32_131⟩
@[reducible] def k0_t8_loop : Scf.Loop 32 :=
  let c0_i32_128 : BitVec 32 := 0#32
  let c32_i32 : BitVec 32 := 32#32
  let v206 : BitVec 32 := Scalar.addi c0_i32_128 c32_i32
  let c1_i32_129 : BitVec 32 := 1#32
  ⟨c0_i32_128, v206, c1_i32_129⟩
@[reducible] def k0_t9_loop : Scf.Loop 32 :=
  let c0_i32_126 : BitVec 32 := 0#32
  let c32_i32 : BitVec 32 := 32#32
  let v203 : BitVec 32 := Scalar.addi c0_i32_126 c32_i32
  let c1_i32_127 : BitVec 32 := 1#32
  ⟨c0_i32_126, v203, c1_i32_127⟩
@[reducible] def k0_t10_loop : Scf.Loop 32 :=
  let c0_i32_124 : BitVec 32 := 0#32
  let c32_i32 : BitVec 32 := 32#32
  let v200 : BitVec 32 := Scalar.addi c0_i32_124 c32_i32
  let c1_i32_125 : BitVec 32 := 1#32
  ⟨c0_i32_124, v200, c1_i32_125⟩
@[reducible] def k0_t11_loop (i : grid0.Coords) : Scf.Loop 32 :=
  let c0_i32_125 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v199 : BitVec 32 := Scalar.subi v20 c0_i32_125
  let c1_i32_126 : BitVec 32 := 1#32
  let v201 : BitVec 32 := Scalar.divsi v199 c1_i32_126
  let v202 : BitVec 32 := Scalar.muli v201 c1_i32_126
  let v203 : BitVec 32 := Scalar.addi c0_i32_125 v202
  let c1_i32_127 : BitVec 32 := 1#32
  ⟨c0_i32_125, v203, c1_i32_127⟩
def k0_off5 (i : grid0.Coords) (k0_t11 : Fin (k0_t11_loop i).trips) : Fin 3 → Nat :=
  let c0_i32_125 : BitVec 32 := 0#32
  let c1_i32_127 : BitVec 32 := 1#32
  let arg13 : BitVec 32 := Scf.iv c0_i32_125 c1_i32_127 k0_t11
  let v213 : Index := Scalar.indexCast arg13
  let c0_134 : Index := 0#32
  let c0_135 : Index := 0#32
  ![v213.toNat, 0, 0]
@[reducible] def k0_t12_loop (i : grid0.Coords) : Scf.Loop 32 :=
  let c0_i32_125 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v199 : BitVec 32 := Scalar.subi v20 c0_i32_125
  let c1_i32_126 : BitVec 32 := 1#32
  let v201 : BitVec 32 := Scalar.divsi v199 c1_i32_126
  let v202 : BitVec 32 := Scalar.muli v201 c1_i32_126
  let v203 : BitVec 32 := Scalar.addi c0_i32_125 v202
  let v200 : BitVec 32 := Scalar.addi c0_i32_125 v199
  let c1_i32_128 : BitVec 32 := 1#32
  ⟨v203, v200, c1_i32_128⟩
def k0_off6 (i : grid0.Coords) (k0_t12 : Fin (k0_t12_loop i).trips) : Fin 3 → Nat :=
  let c0_i32_125 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v199 : BitVec 32 := Scalar.subi v20 c0_i32_125
  let c1_i32_126 : BitVec 32 := 1#32
  let v201 : BitVec 32 := Scalar.divsi v199 c1_i32_126
  let v202 : BitVec 32 := Scalar.muli v201 c1_i32_126
  let v203 : BitVec 32 := Scalar.addi c0_i32_125 v202
  let c1_i32_128 : BitVec 32 := 1#32
  let arg13 : BitVec 32 := Scf.iv v203 c1_i32_128 k0_t12
  let v213 : Index := Scalar.indexCast arg13
  let c0_134 : Index := 0#32
  let c0_135 : Index := 0#32
  ![v213.toNat, 0, 0]
@[reducible] def k0_t13_loop : Scf.Loop 32 :=
  let c0_i32_131 : BitVec 32 := 0#32
  let c13_i32 : BitVec 32 := 13#32
  let v211 : BitVec 32 := Scalar.addi c0_i32_131 c13_i32
  let c1_i32_132 : BitVec 32 := 1#32
  ⟨c0_i32_131, v211, c1_i32_132⟩
@[reducible] def k0_t14_loop (i : grid0.Coords) : Scf.Loop 32 :=
  let c0_i32_136 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v218 : BitVec 32 := Scalar.subi v20 c0_i32_136
  let c1_i32_137 : BitVec 32 := 1#32
  let v220 : BitVec 32 := Scalar.divsi v218 c1_i32_137
  let v221 : BitVec 32 := Scalar.muli v220 c1_i32_137
  let v222 : BitVec 32 := Scalar.addi c0_i32_136 v221
  let c1_i32_138 : BitVec 32 := 1#32
  ⟨c0_i32_136, v222, c1_i32_138⟩
def k0_off7 (i : grid0.Coords) (k0_t14 : Fin (k0_t14_loop i).trips) : Fin 3 → Nat :=
  let c0_i32_136 : BitVec 32 := 0#32
  let c1_i32_138 : BitVec 32 := 1#32
  let arg15 : BitVec 32 := Scf.iv c0_i32_136 c1_i32_138 k0_t14
  let v229 : Index := Scalar.indexCast arg15
  let c0_141 : Index := 0#32
  let c0_142 : Index := 0#32
  ![v229.toNat, 0, 0]
@[reducible] def k0_t15_loop (i : grid0.Coords) : Scf.Loop 32 :=
  let c0_i32_136 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v218 : BitVec 32 := Scalar.subi v20 c0_i32_136
  let c1_i32_137 : BitVec 32 := 1#32
  let v220 : BitVec 32 := Scalar.divsi v218 c1_i32_137
  let v221 : BitVec 32 := Scalar.muli v220 c1_i32_137
  let v222 : BitVec 32 := Scalar.addi c0_i32_136 v221
  let v219 : BitVec 32 := Scalar.addi c0_i32_136 v218
  let c1_i32_139 : BitVec 32 := 1#32
  ⟨v222, v219, c1_i32_139⟩
def k0_off8 (i : grid0.Coords) (k0_t15 : Fin (k0_t15_loop i).trips) : Fin 3 → Nat :=
  let c0_i32_136 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v218 : BitVec 32 := Scalar.subi v20 c0_i32_136
  let c1_i32_137 : BitVec 32 := 1#32
  let v220 : BitVec 32 := Scalar.divsi v218 c1_i32_137
  let v221 : BitVec 32 := Scalar.muli v220 c1_i32_137
  let v222 : BitVec 32 := Scalar.addi c0_i32_136 v221
  let c1_i32_139 : BitVec 32 := 1#32
  let arg15 : BitVec 32 := Scf.iv v222 c1_i32_139 k0_t15
  let v229 : Index := Scalar.indexCast arg15
  let c0_141 : Index := 0#32
  let c0_142 : Index := 0#32
  ![v229.toNat, 0, 0]
@[reducible] def k0_t16_loop (i : grid0.Coords) : Scf.Loop 32 :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_45 : BitVec 32 := 1#32
  ⟨c0_i32_43, v91, c1_i32_45⟩
def k0_off9 (i : grid0.Coords) (k0_t16 : Fin (k0_t16_loop i).trips) : Fin 3 → Nat :=
  let c0_i32_43 : BitVec 32 := 0#32
  let c1_i32_45 : BitVec 32 := 1#32
  let arg13 : BitVec 32 := Scf.iv c0_i32_43 c1_i32_45 k0_t16
  let v198 : Index := Scalar.indexCast arg13
  let c0_124 : Index := 0#32
  let c0_125 : Index := 0#32
  ![v198.toNat, 0, 0]
def k0_off10 (i : grid0.Coords) (k0_t16 : Fin (k0_t16_loop i).trips) : Fin 3 → Nat :=
  let c0_i32_43 : BitVec 32 := 0#32
  let c1_i32_45 : BitVec 32 := 1#32
  let arg13 : BitVec 32 := Scf.iv c0_i32_43 c1_i32_45 k0_t16
  let c1_i32_130 : BitVec 32 := 1#32
  let v220 : BitVec 32 := Scalar.muli arg13 c1_i32_130
  let c0_i32_131 : BitVec 32 := 0#32
  let v221 : BitVec 32 := Scalar.addi v220 c0_i32_131
  let v222 : Index := Scalar.indexCast v221
  let c0_132 : Index := 0#32
  let c0_133 : Index := 0#32
  ![v222.toNat, 0, 0]
def k0_off11 (i : grid0.Coords) (k0_t16 : Fin (k0_t16_loop i).trips) : Fin 3 → Nat :=
  let c0_i32_43 : BitVec 32 := 0#32
  let c1_i32_45 : BitVec 32 := 1#32
  let arg13 : BitVec 32 := Scf.iv c0_i32_43 c1_i32_45 k0_t16
  let c1_i32_134 : BitVec 32 := 1#32
  let v228 : BitVec 32 := Scalar.muli arg13 c1_i32_134
  let c0_i32_135 : BitVec 32 := 0#32
  let v229 : BitVec 32 := Scalar.addi v228 c0_i32_135
  let v230 : Index := Scalar.indexCast v229
  let c0_136 : Index := 0#32
  let c128_137 : Index := 128#32
  ![v230.toNat, 0, 128]
def k0_off12 (i : grid0.Coords) (k0_t16 : Fin (k0_t16_loop i).trips) : Fin 3 → Nat :=
  let c0_i32_43 : BitVec 32 := 0#32
  let c1_i32_45 : BitVec 32 := 1#32
  let arg13 : BitVec 32 := Scf.iv c0_i32_43 c1_i32_45 k0_t16
  let c1_i32_138 : BitVec 32 := 1#32
  let v236 : BitVec 32 := Scalar.muli arg13 c1_i32_138
  let c0_i32_139 : BitVec 32 := 0#32
  let v237 : BitVec 32 := Scalar.addi v236 c0_i32_139
  let v238 : Index := Scalar.indexCast v237
  let c0_140 : Index := 0#32
  let c256_141 : Index := 256#32
  ![v238.toNat, 0, 256]
def k0_off13 (i : grid0.Coords) (k0_t16 : Fin (k0_t16_loop i).trips) : Fin 3 → Nat :=
  let c0_i32_43 : BitVec 32 := 0#32
  let c1_i32_45 : BitVec 32 := 1#32
  let arg13 : BitVec 32 := Scf.iv c0_i32_43 c1_i32_45 k0_t16
  let c1_i32_142 : BitVec 32 := 1#32
  let v244 : BitVec 32 := Scalar.muli arg13 c1_i32_142
  let c0_i32_143 : BitVec 32 := 0#32
  let v245 : BitVec 32 := Scalar.addi v244 c0_i32_143
  let v246 : Index := Scalar.indexCast v245
  let c0_144 : Index := 0#32
  let c384_145 : Index := 384#32
  ![v246.toNat, 0, 384]
@[reducible] def k0_t17_loop (i : grid0.Coords) : Scf.Loop 32 :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let v88 : BitVec 32 := Scalar.addi c0_i32_43 v87
  let c1_i32_46 : BitVec 32 := 1#32
  ⟨v91, v88, c1_i32_46⟩
def k0_off14 (i : grid0.Coords) (k0_t17 : Fin (k0_t17_loop i).trips) : Fin 3 → Nat :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_46 : BitVec 32 := 1#32
  let arg13 : BitVec 32 := Scf.iv v91 c1_i32_46 k0_t17
  let v198 : Index := Scalar.indexCast arg13
  let c0_124 : Index := 0#32
  let c0_125 : Index := 0#32
  ![v198.toNat, 0, 0]
def k0_off15 (i : grid0.Coords) (k0_t17 : Fin (k0_t17_loop i).trips) : Fin 3 → Nat :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_46 : BitVec 32 := 1#32
  let arg13 : BitVec 32 := Scf.iv v91 c1_i32_46 k0_t17
  let c1_i32_130 : BitVec 32 := 1#32
  let v220 : BitVec 32 := Scalar.muli arg13 c1_i32_130
  let c0_i32_131 : BitVec 32 := 0#32
  let v221 : BitVec 32 := Scalar.addi v220 c0_i32_131
  let v222 : Index := Scalar.indexCast v221
  let c0_132 : Index := 0#32
  let c0_133 : Index := 0#32
  ![v222.toNat, 0, 0]
def k0_off16 (i : grid0.Coords) (k0_t17 : Fin (k0_t17_loop i).trips) : Fin 3 → Nat :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_46 : BitVec 32 := 1#32
  let arg13 : BitVec 32 := Scf.iv v91 c1_i32_46 k0_t17
  let c1_i32_134 : BitVec 32 := 1#32
  let v228 : BitVec 32 := Scalar.muli arg13 c1_i32_134
  let c0_i32_135 : BitVec 32 := 0#32
  let v229 : BitVec 32 := Scalar.addi v228 c0_i32_135
  let v230 : Index := Scalar.indexCast v229
  let c0_136 : Index := 0#32
  let c128_137 : Index := 128#32
  ![v230.toNat, 0, 128]
def k0_off17 (i : grid0.Coords) (k0_t17 : Fin (k0_t17_loop i).trips) : Fin 3 → Nat :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_46 : BitVec 32 := 1#32
  let arg13 : BitVec 32 := Scf.iv v91 c1_i32_46 k0_t17
  let c1_i32_138 : BitVec 32 := 1#32
  let v236 : BitVec 32 := Scalar.muli arg13 c1_i32_138
  let c0_i32_139 : BitVec 32 := 0#32
  let v237 : BitVec 32 := Scalar.addi v236 c0_i32_139
  let v238 : Index := Scalar.indexCast v237
  let c0_140 : Index := 0#32
  let c256_141 : Index := 256#32
  ![v238.toNat, 0, 256]
def k0_off18 (i : grid0.Coords) (k0_t17 : Fin (k0_t17_loop i).trips) : Fin 3 → Nat :=
  let c0_i32_43 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v87 : BitVec 32 := Scalar.subi v20 c0_i32_43
  let c1_i32_44 : BitVec 32 := 1#32
  let v89 : BitVec 32 := Scalar.divsi v87 c1_i32_44
  let v90 : BitVec 32 := Scalar.muli v89 c1_i32_44
  let v91 : BitVec 32 := Scalar.addi c0_i32_43 v90
  let c1_i32_46 : BitVec 32 := 1#32
  let arg13 : BitVec 32 := Scf.iv v91 c1_i32_46 k0_t17
  let c1_i32_142 : BitVec 32 := 1#32
  let v244 : BitVec 32 := Scalar.muli arg13 c1_i32_142
  let c0_i32_143 : BitVec 32 := 0#32
  let v245 : BitVec 32 := Scalar.addi v244 c0_i32_143
  let v246 : Index := Scalar.indexCast v245
  let c0_144 : Index := 0#32
  let c384_145 : Index := 384#32
  ![v246.toNat, 0, 384]
@[reducible] def k0_t18_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let c1_i32_90 : BitVec 32 := 1#32
  ⟨c0_i32_88, v158, c1_i32_90⟩
def k0_mult3 (i : grid0.Coords) (k0_t18 : Fin (k0_t18_loop i).trips) : BitVec 32 :=
  let c0_i32_124 : BitVec 32 := 0#32
  let c0_i32_88 : BitVec 32 := 0#32
  let c1_i32_90 : BitVec 32 := 1#32
  let arg13 : BitVec 32 := Scf.iv c0_i32_88 c1_i32_90 k0_t18
  let v198 : BitVec 32 := Scalar.addi c0_i32_124 arg13
  let c512_i32_125 : BitVec 32 := 512#32
  let v199 : BitVec 32 := Scalar.muli v198 c512_i32_125
  v199
def k0_off19 (i : grid0.Coords) (k0_t18 : Fin (k0_t18_loop i).trips) : Fin 3 → Nat :=
  let c0_126 : Index := 0#32
  let c0_i32_124 : BitVec 32 := 0#32
  let c0_i32_88 : BitVec 32 := 0#32
  let c1_i32_90 : BitVec 32 := 1#32
  let arg13 : BitVec 32 := Scf.iv c0_i32_88 c1_i32_90 k0_t18
  let v198 : BitVec 32 := Scalar.addi c0_i32_124 arg13
  let c512_i32_125 : BitVec 32 := 512#32
  let v199 : BitVec 32 := Scalar.muli v198 c512_i32_125
  let v200 : BitVec 32 := v199
  let v201 : Index := Scalar.indexCast v200
  let c0_127 : Index := 0#32
  ![0, v201.toNat, 0]
def k0_off20 (i : grid0.Coords) (k0_t18 : Fin (k0_t18_loop i).trips) : Fin 3 → Nat :=
  let c0_i32_124 : BitVec 32 := 0#32
  let c0_i32_88 : BitVec 32 := 0#32
  let c1_i32_90 : BitVec 32 := 1#32
  let arg13 : BitVec 32 := Scf.iv c0_i32_88 c1_i32_90 k0_t18
  let v198 : BitVec 32 := Scalar.addi c0_i32_124 arg13
  let v205 : Index := Scalar.indexCast v198
  let c0_129 : Index := 0#32
  let c0_130 : Index := 0#32
  ![v205.toNat, 0, 0]
def k0_off21 (i : grid0.Coords) (k0_t18 : Fin (k0_t18_loop i).trips) : Fin 2 → Nat :=
  let c0_i32_124 : BitVec 32 := 0#32
  let c0_i32_88 : BitVec 32 := 0#32
  let c1_i32_90 : BitVec 32 := 1#32
  let arg13 : BitVec 32 := Scf.iv c0_i32_88 c1_i32_90 k0_t18
  let v198 : BitVec 32 := Scalar.addi c0_i32_124 arg13
  let c512_i32_125 : BitVec 32 := 512#32
  let v199 : BitVec 32 := Scalar.muli v198 c512_i32_125
  let v200 : BitVec 32 := v199
  let v411 : Index := Scalar.indexCast v200
  let c0_213 : Index := 0#32
  ![v411.toNat, 0]
@[reducible] def k0_t19_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let v155 : BitVec 32 := Scalar.addi c0_i32_88 v154
  let c1_i32_91 : BitVec 32 := 1#32
  ⟨v158, v155, c1_i32_91⟩
def k0_mult4 (i : grid0.Coords) (k0_t19 : Fin (k0_t19_loop i).trips) : BitVec 32 :=
  let c0_i32_124 : BitVec 32 := 0#32
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let c1_i32_91 : BitVec 32 := 1#32
  let arg13 : BitVec 32 := Scf.iv v158 c1_i32_91 k0_t19
  let v198 : BitVec 32 := Scalar.addi c0_i32_124 arg13
  let c512_i32_125 : BitVec 32 := 512#32
  let v199 : BitVec 32 := Scalar.muli v198 c512_i32_125
  v199
def k0_off22 (i : grid0.Coords) (k0_t19 : Fin (k0_t19_loop i).trips) : Fin 3 → Nat :=
  let c0_126 : Index := 0#32
  let c0_i32_124 : BitVec 32 := 0#32
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let c1_i32_91 : BitVec 32 := 1#32
  let arg13 : BitVec 32 := Scf.iv v158 c1_i32_91 k0_t19
  let v198 : BitVec 32 := Scalar.addi c0_i32_124 arg13
  let c512_i32_125 : BitVec 32 := 512#32
  let v199 : BitVec 32 := Scalar.muli v198 c512_i32_125
  let v200 : BitVec 32 := v199
  let v201 : Index := Scalar.indexCast v200
  let c0_127 : Index := 0#32
  ![0, v201.toNat, 0]
def k0_off23 (i : grid0.Coords) (k0_t19 : Fin (k0_t19_loop i).trips) : Fin 3 → Nat :=
  let c0_i32_124 : BitVec 32 := 0#32
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let c1_i32_91 : BitVec 32 := 1#32
  let arg13 : BitVec 32 := Scf.iv v158 c1_i32_91 k0_t19
  let v198 : BitVec 32 := Scalar.addi c0_i32_124 arg13
  let v205 : Index := Scalar.indexCast v198
  let c0_129 : Index := 0#32
  let c0_130 : Index := 0#32
  ![v205.toNat, 0, 0]
def k0_off24 (i : grid0.Coords) (k0_t19 : Fin (k0_t19_loop i).trips) : Fin 2 → Nat :=
  let c0_i32_124 : BitVec 32 := 0#32
  let c0_i32_88 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_77 : BitVec 32 := 1#32
  let v141 : BitVec 32 := Scalar.muli v20 c1_i32_77
  let v154 : BitVec 32 := Scalar.subi v141 c0_i32_88
  let c1_i32_89 : BitVec 32 := 1#32
  let v156 : BitVec 32 := Scalar.divsi v154 c1_i32_89
  let v157 : BitVec 32 := Scalar.muli v156 c1_i32_89
  let v158 : BitVec 32 := Scalar.addi c0_i32_88 v157
  let c1_i32_91 : BitVec 32 := 1#32
  let arg13 : BitVec 32 := Scf.iv v158 c1_i32_91 k0_t19
  let v198 : BitVec 32 := Scalar.addi c0_i32_124 arg13
  let c512_i32_125 : BitVec 32 := 512#32
  let v199 : BitVec 32 := Scalar.muli v198 c512_i32_125
  let v200 : BitVec 32 := v199
  let v411 : Index := Scalar.indexCast v200
  let c0_213 : Index := 0#32
  ![v411.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2.lean ====
abbrev S4x4096x1024 : Shape := ⟨3, ![4, 4096, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x1024 : Shape := ⟨3, ![4, 4096, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x2608 : Shape := ⟨2, ![1024, 2608]⟩
abbrev S16 : Shape := ⟨1, ![16]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S16384x1024 : Shape := ⟨2, ![16384, 1024]⟩
abbrev S1024x1024 : Shape := ⟨2, ![1024, 1024]⟩
abbrev S1024x256 : Shape := ⟨2, ![1024, 256]⟩
abbrev S1024x48 : Shape := ⟨2, ![1024, 48]⟩
abbrev S1024x80 : Shape := ⟨2, ![1024, 80]⟩
abbrev S1024x16x64 : Shape := ⟨3, ![1024, 16, 64]⟩
abbrev S16x1 : Shape := ⟨2, ![16, 1]⟩
abbrev S1024x2688 : Shape := ⟨2, ![1024, 2688]⟩
abbrev S16384x256 : Shape := ⟨2, ![16384, 256]⟩
abbrev S16384x128 : Shape := ⟨2, ![16384, 128]⟩
abbrev S512x1024 : Shape := ⟨2, ![512, 1024]⟩
abbrev S512x128 : Shape := ⟨2, ![512, 128]⟩
abbrev S512x256 : Shape := ⟨2, ![512, 256]⟩
abbrev S512x2688 : Shape := ⟨2, ![512, 2688]⟩

abbrev nBuf : Space → Nat
  | .hbm => 62
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1024x2608, .f32⟩
  | .hbm, ⟨2, _⟩ => ⟨S16, .i32⟩
  | .hbm, ⟨3, _⟩ => ⟨S16, .i1⟩
  | .hbm, ⟨4, _⟩ => ⟨S4096, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S4096x32, .f32⟩
  | .hbm, ⟨23, _⟩ => ⟨S4096x64, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x64, .f32⟩
  | .hbm, ⟨28, _⟩ => ⟨S4096x128, .f32⟩
  | .hbm, ⟨29, _⟩ => ⟨S_, .f32⟩
  | .hbm, ⟨30, _⟩ => ⟨S4096x64, .f32⟩
  | .hbm, ⟨31, _⟩ => ⟨S4096x128, .f32⟩
  | .hbm, ⟨32, _⟩ => ⟨S16384x1024, .f32⟩
  | .hbm, ⟨33, _⟩ => ⟨S1024x1024, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S1024x48, .f32⟩
  | .hbm, ⟨41, _⟩ => ⟨S_, .f32⟩
  | .hbm, ⟨42, _⟩ => ⟨S1024x80, .f32⟩
  | .hbm, ⟨43, _⟩ => ⟨S1024x16x64, .f32⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S16x1, .i32⟩
  | .hbm, ⟨49, _⟩ => ⟨S1024x16x64, .f32⟩
  | .hbm, ⟨50, _⟩ => ⟨S1024x1024, .f32⟩
  | .hbm, ⟨51, _⟩ => ⟨S1024x2688, .f32⟩
  | .hbm, ⟨52, _⟩ => ⟨S1024x2688, .bf16⟩
  | .hbm, ⟨53, _⟩ => ⟨S16384x1024, .bf16⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x128, .f32⟩
  | .hbm, ⟨61, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x2688, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x128, .f32⟩
  | .local _ .vmem, ⟨22, _⟩ => ⟨S512x128, .f32⟩
  | .local _ .vmem, ⟨23, _⟩ => ⟨S512x1024, .bf16⟩
  | .local _ .vmem, ⟨24, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev main_v43_3 : Ref sig .tc := ⟨.hbm, 56, rfl⟩
abbrev main_v43_4 : Ref sig .tc := ⟨.hbm, 57, rfl⟩
abbrev main_v43_5 : Ref sig .tc := ⟨.hbm, 58, rfl⟩
abbrev main_v43_6 : Ref sig .tc := ⟨.hbm, 59, rfl⟩
abbrev main_v43_7 : Ref sig .tc := ⟨.hbm, 60, rfl⟩
abbrev main_v43_8 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x4096x1024 : Shape := ⟨3, ![4, 4096, 1024]⟩
abbrev S1024x2608 : Shape := ⟨2, ![1024, 2608]⟩
abbrev S4096 : Shape := ⟨1, ![4096]⟩
abbrev S4x4096x2608 : Shape := ⟨3, ![4, 4096, 2608]⟩
abbrev S4x4096x256 : Shape := ⟨3, ![4, 4096, 256]⟩
abbrev S4x4096x48 : Shape := ⟨3, ![4, 4096, 48]⟩
abbrev S4x4096x16x64 : Shape := ⟨4, ![4, 4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x2x2x4x64 : Shape := ⟨6, ![4, 4096, 2, 2, 4, 64]⟩
abbrev S4x4096x2x4x2x64 : Shape := ⟨6, ![4, 4096, 2, 4, 2, 64]⟩
abbrev S4x4096x4x64 : Shape := ⟨4, ![4, 4096, 4, 64]⟩
abbrev S4x4096x4x32 : Shape := ⟨4, ![4, 4096, 4, 32]⟩
abbrev S16384x256 : Shape := ⟨2, ![16384, 256]⟩
abbrev S16384x48 : Shape := ⟨2, ![16384, 48]⟩
abbrev S16384x128 : Shape := ⟨2, ![16384, 128]⟩
abbrev S16384x1024 : Shape := ⟨2, ![16384, 1024]⟩

abbrev nBuf : Space → Nat
  | .hbm => 167
  | .vmem => 0
  | .smem => 0
  | _ => 0

abbrev hbmTy0_0 (i : Nat) : BufTy := match i % 128 with
  | 0 => ⟨S4x4096x1024, .f32⟩
  | 1 => ⟨S1024x2608, .f32⟩
  | 2 => ⟨S4096, .i32⟩
  | 3 => ⟨S4x4096x2608, .f32⟩
  | 4 => ⟨S4x4096x1024, .f32⟩
  | 5 => ⟨S4x4096x256, .f32⟩
  | 6 => ⟨S4x4096x256, .f32⟩
  | 7 => ⟨S4x4096x256, .f32⟩
  | 8 => ⟨S4x4096x256, .f32⟩
  | 9 => ⟨S4x4096x256, .f32⟩
  | 10 => ⟨S4x4096x256, .f32⟩
  | 11 => ⟨S4x4096x48, .f32⟩
  | 12 => ⟨S4x4096x16x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S1x4096x1x32, .f32⟩
  | 29 => ⟨S4096x32, .f32⟩
  | 30 => ⟨S1x4096x1x32, .f32⟩
  | 31 => ⟨S4x4096x16x32, .f32⟩
  | 32 => ⟨S4x4096x16x32, .f32⟩
  | 33 => ⟨S4x4096x16x32, .f32⟩
  | 34 => ⟨S4x4096x16x32, .f32⟩
  | 35 => ⟨S4x4096x16x32, .f32⟩
  | 36 => ⟨S4x4096x16x32, .f32⟩
  | 37 => ⟨S4x4096x16x32, .f32⟩
  | 38 => ⟨S4x4096x16x32, .f32⟩
  | 39 => ⟨S4x4096x16x32, .f32⟩
  | 40 => ⟨S4x4096x16x32, .f32⟩
  | 41 => ⟨S4x4096x16x32, .f32⟩
  | 42 => ⟨S4x4096x16x32, .f32⟩
  | 43 => ⟨S4x4096x16x64, .f32⟩
  | 44 => ⟨S_, .f32⟩
  | 45 => ⟨S4x4096x16x64, .f32⟩
  | 46 => ⟨S4x4096x16x64, .f32⟩
  | 47 => ⟨S4x4096x2x2x4x64, .f32⟩
  | 48 => ⟨S4x4096x2x4x2x64, .f32⟩
  | 49 => ⟨S4x4096x4x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S4096, .f32⟩
  | 59 => ⟨S4096x1, .f32⟩
  | 60 => ⟨S1x32, .f32⟩
  | 61 => ⟨S4096x32, .f32⟩
  | 62 => ⟨S4096x32, .f32⟩
  | 63 => ⟨S4096x32, .f32⟩
  | 64 => ⟨S4096x32, .f32⟩
  | 65 => ⟨S1x4096x1x32, .f32⟩
  | 66 => ⟨S4096x32, .f32⟩
  | 67 => ⟨S1x4096x1x32, .f32⟩
  | 68 => ⟨S4x4096x4x32, .f32⟩
  | 69 => ⟨S4x4096x4x32, .f32⟩
  | 70 => ⟨S4x4096x4x32, .f32⟩
  | 71 => ⟨S4x4096x4x32, .f32⟩
  | 72 => ⟨S4x4096x4x32, .f32⟩
  | 73 => ⟨S4x4096x4x32, .f32⟩
  | 74 => ⟨S4x4096x4x32, .f32⟩
  | 75 => ⟨S4x4096x4x32, .f32⟩
  | 76 => ⟨S4x4096x4x32, .f32⟩
  | 77 => ⟨S4x4096x4x32, .f32⟩
  | 78 => ⟨S4x4096x4x32, .f32⟩
  | 79 => ⟨S4x4096x4x32, .f32⟩
  | 80 => ⟨S4x4096x4x64, .f32⟩
  | 81 => ⟨S16384x256, .f32⟩
  | 82 => ⟨S4x4096x4x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S4096, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x32, .f32⟩
  | 98 => ⟨S1x4096x1x32, .f32⟩
  | 99 => ⟨S4096x32, .f32⟩
  | 100 => ⟨S1x4096x1x32, .f32⟩
  | 101 => ⟨S4x4096x4x32, .f32⟩
  | 102 => ⟨S4x4096x4x32, .f32⟩
  | 103 => ⟨S4x4096x4x32, .f32⟩
  | 104 => ⟨S4x4096x4x32, .f32⟩
  | 105 => ⟨S4x4096x4x32, .f32⟩
  | 106 => ⟨S4x4096x4x32, .f32⟩
  | 107 => ⟨S4x4096x4x32, .f32⟩
  | 108 => ⟨S4x4096x4x32, .f32⟩
  | 109 => ⟨S4x4096x4x32, .f32⟩
  | 110 => ⟨S4x4096x4x32, .f32⟩
  | 111 => ⟨S4x4096x4x32, .f32⟩
  | 112 => ⟨S4x4096x4x32, .f32⟩
  | 113 => ⟨S4x4096x4x64, .f32⟩
  | 114 => ⟨S16384x256, .f32⟩
  | 115 => ⟨S4x4096x4x64, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S4096, .f32⟩
  | 125 => ⟨S4096x1, .f32⟩
  | 126 => ⟨S1x32, .f32⟩
  | 127 => ⟨S4096x32, .f32⟩
  | _ => ⟨S4x4096x1024, .f32⟩

abbrev hbmTy0_1 (i : Nat) : BufTy := match i % 128 with
  | 0 => ⟨S4096x32, .f32⟩
  | 1 => ⟨S4096x32, .f32⟩
  | 2 => ⟨S4096x32, .f32⟩
  | 3 => ⟨S1x4096x1x32, .f32⟩
  | 4 => ⟨S4096x32, .f32⟩
  | 5 => ⟨S1x4096x1x32, .f32⟩
  | 6 => ⟨S4x4096x4x32, .f32⟩
  | 7 => ⟨S4x4096x4x32, .f32⟩
  | 8 => ⟨S4x4096x4x32, .f32⟩
  | 9 => ⟨S4x4096x4x32, .f32⟩
  | 10 => ⟨S4x4096x4x32, .f32⟩
  | 11 => ⟨S4x4096x4x32, .f32⟩
  | 12 => ⟨S4x4096x4x32, .f32⟩
  | 13 => ⟨S4x4096x4x32, .f32⟩
  | 14 => ⟨S4x4096x4x32, .f32⟩
  | 15 => ⟨S4x4096x4x32, .f32⟩
  | 16 => ⟨S4x4096x4x32, .f32⟩
  | 17 => ⟨S4x4096x4x32, .f32⟩
  | 18 => ⟨S4x4096x4x64, .f32⟩
  | 19 => ⟨S16384x256, .f32⟩
  | 20 => ⟨S16384x256, .f32⟩
  | 21 => ⟨S16384x256, .f32⟩
  | 22 => ⟨S16384x256, .f32⟩
  | 23 => ⟨S16384x48, .f32⟩
  | 24 => ⟨S_, .i32⟩
  | 25 => ⟨S_, .f32⟩
  | 26 => ⟨S16384x128, .f32⟩
  | 27 => ⟨S16384x128, .f32⟩
  | 28 => ⟨S16384x128, .f32⟩
  | 29 => ⟨S_, .f32⟩
  | 30 => ⟨S16384x128, .f32⟩
  | 31 => ⟨S16384x128, .f32⟩
  | 32 => ⟨S_, .f32⟩
  | 33 => ⟨S16384x128, .f32⟩
  | 34 => ⟨S16384x128, .f32⟩
  | 35 => ⟨S16384x1024, .f32⟩
  | 36 => ⟨S16384x1024, .f32⟩
  | 37 => ⟨S16384x1024, .bf16⟩
  | 38 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_4 : Ref sig .tc := ⟨.hbm, 85, rfl⟩
abbrev main_v78 : Ref sig .tc := ⟨.hbm, 86, rfl⟩
abbrev main_v79 : Ref sig .tc := ⟨.hbm, 87, rfl⟩
abbrev main_cst_5 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_cst_6 : Ref sig .tc := ⟨.hbm, 118, rfl⟩
abbrev main_v109 : Ref sig .tc := ⟨.hbm, 119, rfl⟩
abbrev main_v110 : Ref sig .tc := ⟨.hbm, 120, rfl⟩
abbrev main_cst_7 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_c : Ref sig .tc := ⟨.hbm, 152, rfl⟩
abbrev main_call0_v0 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_cst_8 : Ref sig .tc := ⟨.hbm, 157, rfl⟩
abbrev main_v144 : Ref sig .tc := ⟨.hbm, 158, rfl⟩
abbrev main_v145 : Ref sig .tc := ⟨.hbm, 159, rfl⟩
abbrev main_cst_9 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x2628 : Shape := ⟨2, ![1024, 2628]⟩
abbrev S3x512 : Shape := ⟨2, ![3, 512]⟩
abbrev S8 : Shape := ⟨1, ![8]⟩
abbrev S_ : Shape := ⟨0, ![]⟩
abbrev S8x512 : Shape := ⟨2, ![8, 512]⟩
abbrev S16384x1024 : Shape := ⟨2, ![16384, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x60 : Shape := ⟨2, ![1024, 60]⟩
abbrev S1024x8x64 : Shape := ⟨3, ![1024, 8, 64]⟩
abbrev S8x1 : Shape := ⟨2, ![8, 1]⟩
abbrev S1024x2688 : Shape := ⟨2, ![1024, 2688]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S16384x512 : Shape := ⟨2, ![16384, 512]⟩
abbrev S16384x256 : Shape := ⟨2, ![16384, 256]⟩
abbrev S16384x128 : Shape := ⟨2, ![16384, 128]⟩
abbrev S256x512 : Shape := ⟨2, ![256, 512]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S520x512 : Shape := ⟨2, ![520, 512]⟩
abbrev S512x2688 : Shape := ⟨2, ![512, 2688]⟩
abbrev S1x512 : Shape := ⟨2, ![1, 512]⟩

abbrev nBuf : Space → Nat
  | .hbm => 67
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S1024x2628, .f32⟩
  | .hbm, ⟨2, _⟩ => ⟨S3x512, .f32⟩
  | .hbm, ⟨3, _⟩ => ⟨S8, .i32⟩
  | .hbm, ⟨4, _⟩ => ⟨S8, .i1⟩
  | .hbm, ⟨5, _⟩ => ⟨S_, .i32⟩
  | .hbm, ⟨6, _⟩ => ⟨S_, .f32⟩
  | .hbm, ⟨7, _⟩ => ⟨S8x512, .f32⟩
  | .hbm, ⟨8, _⟩ => ⟨S16384x1024, .f32⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x256, .f32⟩
  | .hbm, ⟨13, _⟩ => ⟨S1024x64, .f32⟩
  | .hbm, ⟨14, _⟩ => ⟨S1024x4, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x60, .f32⟩
  | .hbm, ⟨20, _⟩ => ⟨S1024x8x64, .f32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S8x1, .i32⟩
  | .hbm, ⟨26, _⟩ => ⟨S1024x8x64, .f32⟩
  | .hbm, ⟨27, _⟩ => ⟨S1024x512, .f32⟩
  | .hbm, ⟨28, _⟩ => ⟨S1024x2688, .f32⟩
  | .hbm, ⟨29, _⟩ => ⟨S1024x2688, .bf16⟩
  | .hbm, ⟨30, _⟩ => ⟨S4096, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096, .f32⟩
  | .hbm, ⟨40, _⟩ => ⟨S4096x1, .f32⟩
  | .hbm, ⟨41, _⟩ => ⟨S1x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x64, .f32⟩
  | .hbm, ⟨48, _⟩ => ⟨S4096x32, .f32⟩
  | .hbm, ⟨49, _⟩ => ⟨S4096x64, .f32⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S4096x64, .f32⟩
  | .hbm, ⟨54, _⟩ => ⟨S4096x128, .f32⟩
  | .hbm, ⟨55, _⟩ => ⟨S_, .f32⟩
  | .hbm, ⟨56, _⟩ => ⟨S4096x64, .f32⟩
  | .hbm, ⟨57, _⟩ => ⟨S4096x128, .f32⟩
  | .hbm, ⟨58, _⟩ => ⟨S16384x512, .bf16⟩
  | .hbm, ⟨59, _⟩ => ⟨S16384x256, .bf16⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S16384x256, .bf16⟩
  | .hbm, ⟨64, _⟩ => ⟨S16384x128, .bf16⟩
  | .hbm, ⟨65, _⟩ => ⟨S16384x512, .bf16⟩
  | .hbm, ⟨66, _⟩ => ⟨S256x512, .f32⟩
  | .local _ .vmem, ⟨0, _⟩ => ⟨S512x1024, .f32⟩
  | .local _ .vmem, ⟨1, _⟩ => ⟨S512x1024, .f32⟩
  | .local _ .vmem, ⟨2, _⟩ => ⟨S1024x2688, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x256, .bf16⟩
  | .local _ .vmem, ⟨23, _⟩ => ⟨S512x256, .bf16⟩
  | .local _ .vmem, ⟨24, _⟩ => ⟨S512x128, .bf16⟩
  | .local _ .vmem, ⟨25, _⟩ => ⟨S512x128, .bf16⟩
  | .local _ .vmem, ⟨26, _⟩ => ⟨S512x512, .bf16⟩
  | .local _ .vmem, ⟨27, _⟩ => ⟨S512x512, .bf16⟩
  | .local _ .vmem, ⟨28, _⟩ => ⟨S8x512, .f32⟩
  | .local _ .vmem, ⟨29, _⟩ => ⟨S8x512, .f32⟩
  | .local _ .vmem, ⟨30, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev main_v45_4 : Ref sig .tc := ⟨.hbm, 62, rfl⟩
abbrev main_v45_5 : Ref sig .tc := ⟨.hbm, 63, rfl⟩
abbrev main_v45_6 : Ref sig .tc := ⟨.hbm, 64, rfl⟩
abbrev main_v45_7 : Ref sig .tc := ⟨.hbm, 65, rfl⟩
abbrev main_v45_8 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4x4096x1024 : Shape := ⟨3, ![4, 4096, 1024]⟩
abbrev S1024x2628 : Shape := ⟨2, ![1024, 2628]⟩
abbrev S3x512 : Shape := ⟨2, ![3, 512]⟩
abbrev S4096 : Shape := ⟨1, ![4096]⟩
abbrev S4x4096x2628 : Shape := ⟨3, ![4, 4096, 2628]⟩
abbrev S4x4096x512 : Shape := ⟨3, ![4, 4096, 512]⟩
abbrev S4x4096x128 : Shape := ⟨3, ![4, 4096, 128]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x8x64 : Shape := ⟨4, ![4, 4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x4096x2x4x64 : Shape := ⟨5, ![4, 4096, 2, 4, 64]⟩
abbrev S4x4096x4x2x64 : Shape := ⟨5, ![4, 4096, 4, 2, 64]⟩
abbrev S16384x512 : Shape := ⟨2, ![16384, 512]⟩
abbrev S4x4096x4x64 : Shape := ⟨4, ![4, 4096, 4, 64]⟩
abbrev S4x4096x4x32 : Shape := ⟨4, ![4, 4096, 4, 32]⟩
abbrev S16384x256 : Shape := ⟨2, ![16384, 256]⟩
abbrev S4x4096x2x64 : Shape := ⟨4, ![4, 4096, 2, 64]⟩
abbrev S4x4096x2x32 : Shape := ⟨4, ![4, 4096, 2, 32]⟩
abbrev S16384x128 : Shape := ⟨2, ![16384, 128]⟩
abbrev S4x4096x1x64 : Shape := ⟨4, ![4, 4096, 1, 64]⟩
abbrev S4x4096x1x32 : Shape := ⟨4, ![4, 4096, 1, 32]⟩
abbrev S16384x64 : Shape := ⟨2, ![16384, 64]⟩
abbrev S16384x4 : Shape := ⟨2, ![16384, 4]⟩
abbrev S16384x68 : Shape := ⟨2, ![16384, 68]⟩
abbrev S4x2x512 : Shape := ⟨3, ![4, 2, 512]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S32x512x512 : Shape := ⟨3, ![32, 512, 512]⟩
abbrev S32x8x512 : Shape := ⟨3, ![32, 8, 512]⟩
abbrev S256x512 : Shape := ⟨2, ![256, 512]⟩

abbrev nBuf : Space → Nat
  | .hbm => 199
  | .vmem => 0
  | .smem => 0
  | _ => 0

abbrev hbmTy0_0 (i : Nat) : BufTy := match i % 128 with
  | 0 => ⟨S4x4096x1024, .f32⟩
  | 1 => ⟨S1024x2628, .f32⟩
  | 2 => ⟨S3x512, .f32⟩
  | 3 => ⟨S4096, .i32⟩
  | 4 => ⟨S4x4096x2628, .f32⟩
  | 5 => ⟨S4x4096x512, .f32⟩
  | 6 => ⟨S4x4096x128, .f32⟩
  | 7 => ⟨S4x4096x128, .f32⟩
  | 8 => ⟨S4x4096x256, .f32⟩
  | 9 => ⟨S4x4096x64, .f32⟩
  | 10 => ⟨S4x4096x4, .f32⟩
  | 11 => ⟨S4x4096x512, .f32⟩
  | 12 => ⟨S4x4096x512, .f32⟩
  | 13 => ⟨S4x4096x512, .f32⟩
  | 14 => ⟨S4x4096x8x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S1x4096x1x32, .f32⟩
  | 31 => ⟨S4096x32, .f32⟩
  | 32 => ⟨S1x4096x1x32, .f32⟩
  | 33 => ⟨S4x4096x8x32, .f32⟩
  | 34 => ⟨S4x4096x8x32, .f32⟩
  | 35 => ⟨S4x4096x8x32, .f32⟩
  | 36 => ⟨S4x4096x8x32, .f32⟩
  | 37 => ⟨S4x4096x8x32, .f32⟩
  | 38 => ⟨S4x4096x8x32, .f32⟩
  | 39 => ⟨S4x4096x8x32, .f32⟩
  | 40 => ⟨S4x4096x8x32, .f32⟩
  | 41 => ⟨S4x4096x8x32, .f32⟩
  | 42 => ⟨S4x4096x8x32, .f32⟩
  | 43 => ⟨S4x4096x8x32, .f32⟩
  | 44 => ⟨S4x4096x8x32, .f32⟩
  | 45 => ⟨S4x4096x8x64, .f32⟩
  | 46 => ⟨S_, .f32⟩
  | 47 => ⟨S4x4096x8x64, .f32⟩
  | 48 => ⟨S4x4096x8x64, .f32⟩
  | 49 => ⟨S4x4096x2x4x64, .f32⟩
  | 50 => ⟨S4x4096x4x2x64, .f32⟩
  | 51 => ⟨S16384x512, .f32⟩
  | 52 => ⟨S4x4096x4x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4096, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x32, .f32⟩
  | 68 => ⟨S1x4096x1x32, .f32⟩
  | 69 => ⟨S4096x32, .f32⟩
  | 70 => ⟨S1x4096x1x32, .f32⟩
  | 71 => ⟨S4x4096x4x32, .f32⟩
  | 72 => ⟨S4x4096x4x32, .f32⟩
  | 73 => ⟨S4x4096x4x32, .f32⟩
  | 74 => ⟨S4x4096x4x32, .f32⟩
  | 75 => ⟨S4x4096x4x32, .f32⟩
  | 76 => ⟨S4x4096x4x32, .f32⟩
  | 77 => ⟨S4x4096x4x32, .f32⟩
  | 78 => ⟨S4x4096x4x32, .f32⟩
  | 79 => ⟨S4x4096x4x32, .f32⟩
  | 80 => ⟨S4x4096x4x32, .f32⟩
  | 81 => ⟨S4x4096x4x32, .f32⟩
  | 82 => ⟨S4x4096x4x32, .f32⟩
  | 83 => ⟨S4x4096x4x64, .f32⟩
  | 84 => ⟨S_, .f32⟩
  | 85 => ⟨S4x4096x4x64, .f32⟩
  | 86 => ⟨S4x4096x4x64, .f32⟩
  | 87 => ⟨S16384x256, .f32⟩
  | 88 => ⟨S4x4096x2x64, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S4096, .f32⟩
  | 98 => ⟨S4096x1, .f32⟩
  | 99 => ⟨S1x32, .f32⟩
  | 100 => ⟨S4096x32, .f32⟩
  | 101 => ⟨S4096x32, .f32⟩
  | 102 => ⟨S4096x32, .f32⟩
  | 103 => ⟨S4096x32, .f32⟩
  | 104 => ⟨S1x4096x1x32, .f32⟩
  | 105 => ⟨S4096x32, .f32⟩
  | 106 => ⟨S1x4096x1x32, .f32⟩
  | 107 => ⟨S4x4096x2x32, .f32⟩
  | 108 => ⟨S4x4096x2x32, .f32⟩
  | 109 => ⟨S4x4096x2x32, .f32⟩
  | 110 => ⟨S4x4096x2x32, .f32⟩
  | 111 => ⟨S4x4096x2x32, .f32⟩
  | 112 => ⟨S4x4096x2x32, .f32⟩
  | 113 => ⟨S4x4096x2x32, .f32⟩
  | 114 => ⟨S4x4096x2x32, .f32⟩
  | 115 => ⟨S4x4096x2x32, .f32⟩
  | 116 => ⟨S4x4096x2x32, .f32⟩
  | 117 => ⟨S4x4096x2x32, .f32⟩
  | 118 => ⟨S4x4096x2x32, .f32⟩
  | 119 => ⟨S4x4096x2x64, .f32⟩
  | 120 => ⟨S16384x128, .f32⟩
  | 121 => ⟨S16384x128, .f32⟩
  | 122 => ⟨S4x4096x1x64, .f32⟩
  | 123 => ⟨S32, .f32⟩
  | 124 => ⟨S32, .f32⟩
  | 125 => ⟨S_, .f32⟩
  | 126 => ⟨S32, .f32⟩
  | 127 => ⟨S32, .f32⟩
  | _ => ⟨S4x4096x1024, .f32⟩

abbrev hbmTy0_1 (i : Nat) : BufTy := match i % 128 with
  | 0 => ⟨S_, .f32⟩
  | 1 => ⟨S32, .f32⟩
  | 2 => ⟨S32, .f32⟩
  | 3 => ⟨S4096, .f32⟩
  | 4 => ⟨S4096x1, .f32⟩
  | 5 => ⟨S1x32, .f32⟩
  | 6 => ⟨S4096x32, .f32⟩
  | 7 => ⟨S4096x32, .f32⟩
  | 8 => ⟨S4096x32, .f32⟩
  | 9 => ⟨S4096x32, .f32⟩
  | 10 => ⟨S1x4096x1x32, .f32⟩
  | 11 => ⟨S4096x32, .f32⟩
  | 12 => ⟨S1x4096x1x32, .f32⟩
  | 13 => ⟨S4x4096x1x32, .f32⟩
  | 14 => ⟨S4x4096x1x32, .f32⟩
  | 15 => ⟨S4x4096x1x32, .f32⟩
  | 16 => ⟨S4x4096x1x32, .f32⟩
  | 17 => ⟨S4x4096x1x32, .f32⟩
  | 18 => ⟨S4x4096x1x32, .f32⟩
  | 19 => ⟨S4x4096x1x32, .f32⟩
  | 20 => ⟨S4x4096x1x32, .f32⟩
  | 21 => ⟨S4x4096x1x32, .f32⟩
  | 22 => ⟨S4x4096x1x32, .f32⟩
  | 23 => ⟨S4x4096x1x32, .f32⟩
  | 24 => ⟨S4x4096x1x32, .f32⟩
  | 25 => ⟨S4x4096x1x64, .f32⟩
  | 26 => ⟨S16384x64, .f32⟩
  | 27 => ⟨S16384x4, .f32⟩
  | 28 => ⟨S_, .f32⟩
  | 29 => ⟨S16384x4, .f32⟩
  | 30 => ⟨S16384x4, .f32⟩
  | 31 => ⟨S16384x68, .f32⟩
  | 32 => ⟨S_, .i32⟩
  | 33 => ⟨S_, .f32⟩
  | 34 => ⟨S16384x128, .f32⟩
  | 35 => ⟨S4x4096x512, .f32⟩
  | 36 => ⟨S_, .f32⟩
  | 37 => ⟨S4x2x512, .f32⟩
  | 38 => ⟨S4x4098x512, .f32⟩
  | 39 => ⟨S4x4096x512, .f32⟩
  | 40 => ⟨S1x512, .f32⟩
  | 41 => ⟨S512, .f32⟩
  | 42 => ⟨S1x1x512, .f32⟩
  | 43 => ⟨S4x4096x512, .f32⟩
  | 44 => ⟨S4x4096x512, .f32⟩
  | 45 => ⟨S4x4096x512, .f32⟩
  | 46 => ⟨S1x512, .f32⟩
  | 47 => ⟨S512, .f32⟩
  | 48 => ⟨S1x1x512, .f32⟩
  | 49 => ⟨S4x4096x512, .f32⟩
  | 50 => ⟨S4x4096x512, .f32⟩
  | 51 => ⟨S4x4096x512, .f32⟩
  | 52 => ⟨S4x4096x512, .f32⟩
  | 53 => ⟨S1x512, .f32⟩
  | 54 => ⟨S512, .f32⟩
  | 55 => ⟨S1x1x512, .f32⟩
  | 56 => ⟨S4x4096x512, .f32⟩
  | 57 => ⟨S4x4096x512, .f32⟩
  | 58 => ⟨S4x4096x512, .f32⟩
  | 59 => ⟨S32x512x512, .f32⟩
  | 60 => ⟨S32x8x512, .f32⟩
  | 61 => ⟨S256x512, .f32⟩
  | 62 => ⟨S16384x256, .f32⟩
  | 63 => ⟨S16384x128, .f32⟩
  | 64 => ⟨S16384x512, .bf16⟩
  | 65 => ⟨S16384x256, .bf16⟩
  | 66 => ⟨S16384x256, .bf16⟩
  | 67 => ⟨S16384x128, .bf16⟩
  | 68 => ⟨S4x4096x512, .f32⟩
  | 69 => ⟨S16384x512, .f32⟩
  | 70 => ⟨S16384x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_2 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_4 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_5 : Ref sig .tc := ⟨.hbm, 91, rfl⟩
abbrev main_v82 : Ref sig .tc := ⟨.hbm, 92, rfl⟩
abbrev main_v83 : Ref sig .tc := ⟨.hbm, 93, rfl⟩
abbrev main_cst_6 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_cst_7 : Ref sig .tc := ⟨.hbm, 125, rfl⟩
abbrev main_v114 : Ref sig .tc := ⟨.hbm, 126, rfl⟩
abbrev main_v115 : Ref sig .tc := ⟨.hbm, 127, rfl⟩
abbrev main_cst_8 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_cst_9 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_c : Ref sig .tc := ⟨.hbm, 160, rfl⟩
abbrev main_call0_v0 : Ref sig .tc := ⟨.hbm, 161, rfl⟩
abbrev main_v146 : Ref sig .tc := ⟨.hbm, 162, rfl⟩
abbrev main_v147 : Ref sig .tc := ⟨.hbm, 163, rfl⟩
abbrev main_cst_10 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩

abbrev nD : Nat := 1
abbrev τ : Topo := Topo.v7x

variable {F : FTy → Type} [FloatOps F]
-- ==== Kernel5.lean ====
abbrev S4x4096x1024 : Shape := ⟨3, ![4, 4096, 1024]⟩
abbrev S16384x512 : Shape := ⟨2, ![16384, 512]⟩
abbrev S1024x1024 : Shape := ⟨2, ![1024, 1024]⟩
abbrev S1024 : Shape := ⟨1, ![1024]⟩
abbrev S8 : Shape := ⟨1, ![8]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S16384x1024 : Shape := ⟨2, ![16384, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8, .i32⟩
  | .hbm, ⟨7, _⟩ => ⟨S8, .i1⟩
  | .hbm, ⟨8, _⟩ => ⟨S512x1024, .f32⟩
  | .hbm, ⟨9, _⟩ => ⟨S8x64x1024, .f32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S8x1, .i32⟩
  | .hbm, ⟨15, _⟩ => ⟨S8x64x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S1024x1024, .bf16⟩
  | .hbm, ⟨20, _⟩ => ⟨S16384x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x4096x1024 : Shape := ⟨3, ![4, 4096, 1024]⟩
abbrev S16384x512 : Shape := ⟨2, ![16384, 512]⟩
abbrev S1024x1024 : Shape := ⟨2, ![1024, 1024]⟩
abbrev S1024 : Shape := ⟨1, ![1024]⟩
abbrev S16384x4x2x64 : Shape := ⟨4, ![16384, 4, 2, 64]⟩
abbrev S16384x2x4x64 : Shape := ⟨4, ![16384, 2, 4, 64]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x512, .f32⟩
  | .hbm, ⟨7, _⟩ => ⟨S16384x4x2x64, .f32⟩
  | .hbm, ⟨8, _⟩ => ⟨S16384x2x4x64, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel6.lean ====
abbrev S4x4096x1024 : Shape := ⟨3, ![4, 4096, 1024]⟩
abbrev S16384x1024 : Shape := ⟨2, ![16384, 1024]⟩
abbrev S1024x1024 : Shape := ⟨2, ![1024, 1024]⟩
abbrev S1024 : Shape := ⟨1, ![1024]⟩
abbrev S16 : Shape := ⟨1, ![16]⟩
abbrev S16x64x1024 : Shape := ⟨3, ![16, 64, 1024]⟩
abbrev S_ : Shape := ⟨0, ![]⟩
abbrev S16x1 : Shape := ⟨2, ![16, 1]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16, .i32⟩
  | .hbm, ⟨6, _⟩ => ⟨S16, .i1⟩
  | .hbm, ⟨7, _⟩ => ⟨S16x64x1024, .f32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x64x1024, .f32⟩
  | .hbm, ⟨14, _⟩ => ⟨S1024x1024, .f32⟩
  | .hbm, ⟨15, _⟩ => ⟨S1024x1024, .bf16⟩
  | .hbm, ⟨16, _⟩ => ⟨S16384x1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x4096x1024 : Shape := ⟨3, ![4, 4096, 1024]⟩
abbrev S16384x1024 : Shape := ⟨2, ![16384, 1024]⟩
abbrev S1024x1024 : Shape := ⟨2, ![1024, 1024]⟩
abbrev S1024 : Shape := ⟨1, ![1024]⟩
abbrev S16384x2x4x2x64 : Shape := ⟨5, ![16384, 2, 4, 2, 64]⟩
abbrev S16384x2x2x4x64 : Shape := ⟨5, ![16384, 2, 2, 4, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x2x4x2x64, .f32⟩
  | .hbm, ⟨7, _⟩ => ⟨S16384x2x2x4x64, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel7.lean ====
abbrev S128x4x1024 : Shape := ⟨3, ![128, 4, 1024]⟩
abbrev S1024x2608 : Shape := ⟨2, ![1024, 2608]⟩
abbrev S16 : Shape := ⟨1, ![16]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x128 : Shape := ⟨2, ![512, 128]⟩
abbrev S512x1024 : Shape := ⟨2, ![512, 1024]⟩
abbrev S1024x1024 : Shape := ⟨2, ![1024, 1024]⟩
abbrev S1024x256 : Shape := ⟨2, ![1024, 256]⟩
abbrev S1024x48 : Shape := ⟨2, ![1024, 48]⟩
abbrev S1024x80 : Shape := ⟨2, ![1024, 80]⟩
abbrev S1024x16x64 : Shape := ⟨3, ![1024, 16, 64]⟩
abbrev S16x1 : Shape := ⟨2, ![16, 1]⟩
abbrev S1024x2688 : Shape := ⟨2, ![1024, 2688]⟩
abbrev S512x256 : Shape := ⟨2, ![512, 256]⟩
abbrev S512x2688 : Shape := ⟨2, ![512, 2688]⟩

abbrev nBuf : Space → Nat
  | .hbm => 87
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S1024x2608, .f32⟩
  | .hbm, ⟨2, _⟩ => ⟨S16, .i32⟩
  | .hbm, ⟨3, _⟩ => ⟨S16, .i1⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S512, .f32⟩
  | .hbm, ⟨39, _⟩ => ⟨S512x1, .f32⟩
  | .hbm, ⟨40, _⟩ => ⟨S1x32, .f32⟩
  | .hbm, ⟨41, _⟩ => ⟨S512x32, .f32⟩
  | .hbm, ⟨42, _⟩ => ⟨S512x32, .f32⟩
  | .hbm, ⟨43, _⟩ => ⟨S512x32, .f32⟩
  | .hbm, ⟨44, _⟩ => ⟨S512x32, .f32⟩
  | .hbm, ⟨45, _⟩ => ⟨S512x32, .f32⟩
  | .hbm, ⟨46, _⟩ => ⟨S512x64, .f32⟩
  | .hbm, ⟨47, _⟩ => ⟨S512x32, .f32⟩
  | .hbm, ⟨48, _⟩ => ⟨S512x64, .f32⟩
  | .hbm, ⟨49, _⟩ => ⟨S512x128, .f32⟩
  | .hbm, ⟨50, _⟩ => ⟨S512x128, .f32⟩
  | .hbm, ⟨51, _⟩ => ⟨S_, .f32⟩
  | .hbm, ⟨52, _⟩ => ⟨S512x64, .f32⟩
  | .hbm, ⟨53, _⟩ => ⟨S512x128, .f32⟩
  | .hbm, ⟨54, _⟩ => ⟨S_, .f32⟩
  | .hbm, ⟨55, _⟩ => ⟨S512x64, .f32⟩
  | .hbm, ⟨56, _⟩ => ⟨S512x128, .f32⟩
  | .hbm, ⟨57, _⟩ => ⟨S512x1024, .f32⟩
  | .hbm, ⟨58, _⟩ => ⟨S1024x1024, .f32⟩
  | .hbm, ⟨59, _⟩ => ⟨S1024x256, .f32⟩
  | .hbm, ⟨60, _⟩ => ⟨S1024x256, .f32⟩
  | .hbm, ⟨61, _⟩ => ⟨S1024x256, .f32⟩
  | .hbm, ⟨62, _⟩ => ⟨S1024x256, .f32⟩
  | .hbm, ⟨63, _⟩ => ⟨S1024x256, .f32⟩
  | .hbm, ⟨64, _⟩ => ⟨S1024x256, .f32⟩
  | .hbm, ⟨65, _⟩ => ⟨S1024x48, .f32⟩
  | .hbm, ⟨66, _⟩ => ⟨S_, .f32⟩
  | .hbm, ⟨67, _⟩ => ⟨S1024x80, .f32⟩
  | .hbm, ⟨68, _⟩ => ⟨S1024x16x64, .f32⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S16x1, .i32⟩
  | .hbm, ⟨74, _⟩ => ⟨S1024x16x64, .f32⟩
  | .hbm, ⟨75, _⟩ => ⟨S1024x1024, .f32⟩
  | .hbm, ⟨76, _⟩ => ⟨S1024x2688, .f32⟩
  | .hbm, ⟨77, _⟩ => ⟨S1024x2688, .bf16⟩
  | .hbm, ⟨78, _⟩ => ⟨S512x1024, .bf16⟩
  | .hbm, ⟨79, _⟩ => ⟨S512x256, .f32⟩
  | .hbm, ⟨80, _⟩ => ⟨S512x256, .f32⟩
  | .hbm, ⟨81, _⟩ => ⟨S512x256, .f32⟩
  | .hbm, ⟨82, _⟩ => ⟨S512x256, .f32⟩
  | .hbm, ⟨83, _⟩ => ⟨S512x256, .f32⟩
  | .hbm, ⟨84, _⟩ => ⟨S512x256, .f32⟩
  | .hbm, ⟨85, _⟩ => ⟨S512x128, .f32⟩
  | .hbm, ⟨86, _⟩ => ⟨S512x1024, .bf16⟩
  | .local _ .vmem, ⟨0, _⟩ => ⟨S512x1024, .f32⟩
  | .local _ .vmem, ⟨1, _⟩ => ⟨S1024x2688, .bf16⟩
  | .local _ .vmem, ⟨2, _⟩ => ⟨S512x128, .f32⟩
  | .local _ .vmem, ⟨3, _⟩ => ⟨S512x128, .f32⟩
  | .local _ .vmem, ⟨4, _⟩ => ⟨S512x1024, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x128, .f32⟩
  | .local _ .vmem, ⟨12, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_2 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46_0 : Ref sig .tc := ⟨.hbm, 78, rfl⟩
abbrev main_v46_1 : Ref sig .tc := ⟨.hbm, 79, rfl⟩
abbrev main_v46_2 : Ref sig .tc := ⟨.hbm, 80, rfl⟩
abbrev main_v46_3 : Ref sig .tc := ⟨.hbm, 81, rfl⟩
abbrev main_v46_4 : Ref sig .tc := ⟨.hbm, 82, rfl⟩
abbrev main_v46_5 : Ref sig .tc := ⟨.hbm, 83, rfl⟩
abbrev main_v46_6 : Ref sig .tc := ⟨.hbm, 84, rfl⟩
abbrev main_v46_7 : Ref sig .tc := ⟨.hbm, 85, rfl⟩
abbrev main_v46_8 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference7Ideal.lean ====
abbrev S128x4x1024 : Shape := ⟨3, ![128, 4, 1024]⟩
abbrev S1024x2608 : Shape := ⟨2, ![1024, 2608]⟩
abbrev S4 : Shape := ⟨1, ![4]⟩
abbrev S_ : Shape := ⟨0, ![]⟩
abbrev S128x4x2608 : Shape := ⟨3, ![128, 4, 2608]⟩
abbrev S128x4x256 : Shape := ⟨3, ![128, 4, 256]⟩
abbrev S128x4x48 : Shape := ⟨3, ![128, 4, 48]⟩
abbrev S128x4x16x64 : Shape := ⟨4, ![128, 4, 16, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x16x32 : Shape := ⟨4, ![128, 4, 16, 32]⟩
abbrev S128x4x2x2x4x64 : Shape := ⟨6, ![128, 4, 2, 2, 4, 64]⟩
abbrev S128x4x2x4x2x64 : Shape := ⟨6, ![128, 4, 2, 4, 2, 64]⟩
abbrev S128x4x4x64 : Shape := ⟨4, ![128, 4, 4, 64]⟩
abbrev S128x4x4x32 : Shape := ⟨4, ![128, 4, 4, 32]⟩
abbrev S512x256 : Shape := ⟨2, ![512, 256]⟩
abbrev S512x48 : Shape := ⟨2, ![512, 48]⟩
abbrev S512x128 : Shape := ⟨2, ![512, 128]⟩
abbrev S512x1024 : Shape := ⟨2, ![512, 1024]⟩

abbrev nBuf : Space → Nat
  | .hbm => 170
  | .vmem => 0
  | .smem => 0
  | _ => 0

abbrev hbmTy0_0 (i : Nat) : BufTy := match i % 128 with
  | 0 => ⟨S128x4x1024, .f32⟩
  | 1 => ⟨S1024x2608, .f32⟩
  | 2 => ⟨S4, .i32⟩
  | 3 => ⟨S_, .i32⟩
  | 4 => ⟨S4, .i32⟩
  | 5 => ⟨S4, .i32⟩
  | 6 => ⟨S128x4x2608, .f32⟩
  | 7 => ⟨S128x4x1024, .f32⟩
  | 8 => ⟨S128x4x256, .f32⟩
  | 9 => ⟨S128x4x256, .f32⟩
  | 10 => ⟨S128x4x256, .f32⟩
  | 11 => ⟨S128x4x256, .f32⟩
  | 12 => ⟨S128x4x256, .f32⟩
  | 13 => ⟨S128x4x256, .f32⟩
  | 14 => ⟨S128x4x48, .f32⟩
  | 15 => ⟨S128x4x16x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4, .f32⟩
  | 25 => ⟨S4x1, .f32⟩
  | 26 => ⟨S1x32, .f32⟩
  | 27 => ⟨S4x32, .f32⟩
  | 28 => ⟨S4x32, .f32⟩
  | 29 => ⟨S4x32, .f32⟩
  | 30 => ⟨S4x32, .f32⟩
  | 31 => ⟨S1x4x1x32, .f32⟩
  | 32 => ⟨S4x32, .f32⟩
  | 33 => ⟨S1x4x1x32, .f32⟩
  | 34 => ⟨S128x4x16x32, .f32⟩
  | 35 => ⟨S128x4x16x32, .f32⟩
  | 36 => ⟨S128x4x16x32, .f32⟩
  | 37 => ⟨S128x4x16x32, .f32⟩
  | 38 => ⟨S128x4x16x32, .f32⟩
  | 39 => ⟨S128x4x16x32, .f32⟩
  | 40 => ⟨S128x4x16x32, .f32⟩
  | 41 => ⟨S128x4x16x32, .f32⟩
  | 42 => ⟨S128x4x16x32, .f32⟩
  | 43 => ⟨S128x4x16x32, .f32⟩
  | 44 => ⟨S128x4x16x32, .f32⟩
  | 45 => ⟨S128x4x16x32, .f32⟩
  | 46 => ⟨S128x4x16x64, .f32⟩
  | 47 => ⟨S_, .f32⟩
  | 48 => ⟨S128x4x16x64, .f32⟩
  | 49 => ⟨S128x4x16x64, .f32⟩
  | 50 => ⟨S128x4x2x2x4x64, .f32⟩
  | 51 => ⟨S128x4x2x4x2x64, .f32⟩
  | 52 => ⟨S128x4x4x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4, .f32⟩
  | 62 => ⟨S4x1, .f32⟩
  | 63 => ⟨S1x32, .f32⟩
  | 64 => ⟨S4x32, .f32⟩
  | 65 => ⟨S4x32, .f32⟩
  | 66 => ⟨S4x32, .f32⟩
  | 67 => ⟨S4x32, .f32⟩
  | 68 => ⟨S1x4x1x32, .f32⟩
  | 69 => ⟨S4x32, .f32⟩
  | 70 => ⟨S1x4x1x32, .f32⟩
  | 71 => ⟨S128x4x4x32, .f32⟩
  | 72 => ⟨S128x4x4x32, .f32⟩
  | 73 => ⟨S128x4x4x32, .f32⟩
  | 74 => ⟨S128x4x4x32, .f32⟩
  | 75 => ⟨S128x4x4x32, .f32⟩
  | 76 => ⟨S128x4x4x32, .f32⟩
  | 77 => ⟨S128x4x4x32, .f32⟩
  | 78 => ⟨S128x4x4x32, .f32⟩
  | 79 => ⟨S128x4x4x32, .f32⟩
  | 80 => ⟨S128x4x4x32, .f32⟩
  | 81 => ⟨S128x4x4x32, .f32⟩
  | 82 => ⟨S128x4x4x32, .f32⟩
  | 83 => ⟨S128x4x4x64, .f32⟩
  | 84 => ⟨S512x256, .f32⟩
  | 85 => ⟨S128x4x4x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S4, .f32⟩
  | 95 => ⟨S4x1, .f32⟩
  | 96 => ⟨S1x32, .f32⟩
  | 97 => ⟨S4x32, .f32⟩
  | 98 => ⟨S4x32, .f32⟩
  | 99 => ⟨S4x32, .f32⟩
  | 100 => ⟨S4x32, .f32⟩
  | 101 => ⟨S1x4x1x32, .f32⟩
  | 102 => ⟨S4x32, .f32⟩
  | 103 => ⟨S1x4x1x32, .f32⟩
  | 104 => ⟨S128x4x4x32, .f32⟩
  | 105 => ⟨S128x4x4x32, .f32⟩
  | 106 => ⟨S128x4x4x32, .f32⟩
  | 107 => ⟨S128x4x4x32, .f32⟩
  | 108 => ⟨S128x4x4x32, .f32⟩
  | 109 => ⟨S128x4x4x32, .f32⟩
  | 110 => ⟨S128x4x4x32, .f32⟩
  | 111 => ⟨S128x4x4x32, .f32⟩
  | 112 => ⟨S128x4x4x32, .f32⟩
  | 113 => ⟨S128x4x4x32, .f32⟩
  | 114 => ⟨S128x4x4x32, .f32⟩
  | 115 => ⟨S128x4x4x32, .f32⟩
  | 116 => ⟨S128x4x4x64, .f32⟩
  | 117 => ⟨S512x256, .f32⟩
  | 118 => ⟨S128x4x4x64, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S4, .f32⟩
  | _ => ⟨S128x4x1024, .f32⟩

abbrev hbmTy0_1 (i : Nat) : BufTy := match i % 128 with
  | 0 => ⟨S4x1, .f32⟩
  | 1 => ⟨S1x32, .f32⟩
  | 2 => ⟨S4x32, .f32⟩
  | 3 => ⟨S4x32, .f32⟩
  | 4 => ⟨S4x32, .f32⟩
  | 5 => ⟨S4x32, .f32⟩
  | 6 => ⟨S1x4x1x32, .f32⟩
  | 7 => ⟨S4x32, .f32⟩
  | 8 => ⟨S1x4x1x32, .f32⟩
  | 9 => ⟨S128x4x4x32, .f32⟩
  | 10 => ⟨S128x4x4x32, .f32⟩
  | 11 => ⟨S128x4x4x32, .f32⟩
  | 12 => ⟨S128x4x4x32, .f32⟩
  | 13 => ⟨S128x4x4x32, .f32⟩
  | 14 => ⟨S128x4x4x32, .f32⟩
  | 15 => ⟨S128x4x4x32, .f32⟩
  | 16 => ⟨S128x4x4x32, .f32⟩
  | 17 => ⟨S128x4x4x32, .f32⟩
  | 18 => ⟨S128x4x4x32, .f32⟩
  | 19 => ⟨S128x4x4x32, .f32⟩
  | 20 => ⟨S128x4x4x32, .f32⟩
  | 21 => ⟨S128x4x4x64, .f32⟩
  | 22 => ⟨S512x256, .f32⟩
  | 23 => ⟨S512x256, .f32⟩
  | 24 => ⟨S512x256, .f32⟩
  | 25 => ⟨S512x256, .f32⟩
  | 26 => ⟨S512x48, .f32⟩
  | 27 => ⟨S_, .i32⟩
  | 28 => ⟨S_, .f32⟩
  | 29 => ⟨S512x128, .f32⟩
  | 30 => ⟨S512x128, .f32⟩
  | 31 => ⟨S512x128, .f32⟩
  | 32 => ⟨S_, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S512x1024, .f32⟩
  | 39 => ⟨S512x1024, .f32⟩
  | 40 => ⟨S512x1024, .bf16⟩
  | 41 => ⟨S512x1024, .bf16⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_2 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_4 : Ref sig .tc := ⟨.hbm, 88, rfl⟩
abbrev main_v80 : Ref sig .tc := ⟨.hbm, 89, rfl⟩
abbrev main_v81 : Ref sig .tc := ⟨.hbm, 90, rfl⟩
abbrev main_cst_5 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_cst_6 : Ref sig .tc := ⟨.hbm, 121, rfl⟩
abbrev main_v111 : Ref sig .tc := ⟨.hbm, 122, rfl⟩
abbrev main_v112 : Ref sig .tc := ⟨.hbm, 123, rfl⟩
abbrev main_cst_7 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_c_8 : Ref sig .tc := ⟨.hbm, 155, rfl⟩
abbrev main_call0_v0 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_cst_9 : Ref sig .tc := ⟨.hbm, 160, rfl⟩
abbrev main_v146 : Ref sig .tc := ⟨.hbm, 161, rfl⟩
abbrev main_v147 : Ref sig .tc := ⟨.hbm, 162, rfl⟩
abbrev main_cst_10 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩

abbrev nD : Nat := 1
abbrev τ : Topo := Topo.v7x

variable {F : FTy → Type} [FloatOps F]
-- ==== Kernel8.lean ====
abbrev S128x4x1024 : Shape := ⟨3, ![128, 4, 1024]⟩
abbrev S1024x2628 : Shape := ⟨2, ![1024, 2628]⟩
abbrev S3x512 : Shape := ⟨2, ![3, 512]⟩
abbrev S128x2x512 : Shape := ⟨3, ![128, 2, 512]⟩
abbrev S8 : Shape := ⟨1, ![8]⟩
abbrev S_ : Shape := ⟨0, ![]⟩
abbrev S8x512 : Shape := ⟨2, ![8, 512]⟩
abbrev S4 : Shape := ⟨1, ![4]⟩
abbrev S4x1 : Shape := ⟨2, ![4, 1]⟩
abbrev S128x4x512 : Shape := ⟨3, ![128, 4, 512]⟩
abbrev S512x512 : Shape := ⟨2, ![512, 512]⟩
abbrev S512x1024 : Shape := ⟨2, ![512, 1024]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x60 : Shape := ⟨2, ![1024, 60]⟩
abbrev S1024x8x64 : Shape := ⟨3, ![1024, 8, 64]⟩
abbrev S8x1 : Shape := ⟨2, ![8, 1]⟩
abbrev S1024x2688 : Shape := ⟨2, ![1024, 2688]⟩
abbrev S512 : Shape := ⟨1, ![512]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S512x128 : Shape := ⟨2, ![512, 128]⟩
abbrev S512x256 : Shape := ⟨2, ![512, 256]⟩
abbrev S520x512 : Shape := ⟨2, ![520, 512]⟩
abbrev S512x2688 : Shape := ⟨2, ![512, 2688]⟩
abbrev S1x512 : Shape := ⟨2, ![1, 512]⟩

abbrev nBuf : Space → Nat
  | .hbm => 142
  | .vmem => 19
  | .smem => 0
  | _ => 0

abbrev hbmTy0_0 (i : Nat) : BufTy := match i % 128 with
  | 0 => ⟨S128x4x1024, .f32⟩
  | 1 => ⟨S1024x2628, .f32⟩
  | 2 => ⟨S3x512, .f32⟩
  | 3 => ⟨S128x2x512, .f32⟩
  | 4 => ⟨S8, .i32⟩
  | 5 => ⟨S8, .i1⟩
  | 6 => ⟨S_, .i32⟩
  | 7 => ⟨S_, .f32⟩
  | 8 => ⟨S8x512, .f32⟩
  | 9 => ⟨S4, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S_, .i32⟩
  | 17 => ⟨S_, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S_, .i32⟩
  | 25 => ⟨S4, .i32⟩
  | 26 => ⟨S4, .i1⟩
  | 27 => ⟨S_, .i32⟩
  | 28 => ⟨S4, .i32⟩
  | 29 => ⟨S4, .i32⟩
  | 30 => ⟨S4, .i32⟩
  | 31 => ⟨S4x1, .i32⟩
  | 32 => ⟨S128x4x512, .f32⟩
  | 33 => ⟨S512x512, .f32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S_, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S4x1, .i32⟩
  | 56 => ⟨S128x4x512, .f32⟩
  | 57 => ⟨S512x512, .f32⟩
  | 58 => ⟨S512x1024, .f32⟩
  | 59 => ⟨S1024x512, .f32⟩
  | 60 => ⟨S1024x128, .f32⟩
  | 61 => ⟨S1024x128, .f32⟩
  | 62 => ⟨S1024x256, .f32⟩
  | 63 => ⟨S1024x64, .f32⟩
  | 64 => ⟨S1024x4, .f32⟩
  | 65 => ⟨S1024x512, .f32⟩
  | 66 => ⟨S1024x512, .f32⟩
  | 67 => ⟨S1024x512, .f32⟩
  | 68 => ⟨S_, .f32⟩
  | 69 => ⟨S1024x60, .f32⟩
  | 70 => ⟨S1024x8x64, .f32⟩
  | 71 => ⟨S_, .i32⟩
  | 72 => ⟨S8, .i32⟩
  | 73 => ⟨S8, .i32⟩
  | 74 => ⟨S8, .i32⟩
  | 75 => ⟨S8x1, .i32⟩
  | 76 => ⟨S1024x8x64, .f32⟩
  | 77 => ⟨S1024x512, .f32⟩
  | 78 => ⟨S1024x2688, .f32⟩
  | 79 => ⟨S1024x2688, .bf16⟩
  | 80 => ⟨S512, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S512, .i32⟩
  | 88 => ⟨S512, .i32⟩
  | 89 => ⟨S_, .i32⟩
  | 90 => ⟨S512, .i32⟩
  | 91 => ⟨S512, .i1⟩
  | 92 => ⟨S_, .i32⟩
  | 93 => ⟨S512, .i32⟩
  | 94 => ⟨S512, .i1⟩
  | 95 => ⟨S_, .i32⟩
  | 96 => ⟨S_, .i1⟩
  | 97 => ⟨S512, .i1⟩
  | 98 => ⟨S512, .i1⟩
  | 99 => ⟨S512, .i1⟩
  | 100 => ⟨S512, .i32⟩
  | 101 => ⟨S512, .i32⟩
  | 102 => ⟨S512, .i32⟩
  | 103 => ⟨S_, .i32⟩
  | 104 => ⟨S512, .i32⟩
  | 105 => ⟨S512, .i32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S512, .f32⟩
  | 115 => ⟨S512x1, .f32⟩
  | 116 => ⟨S1x32, .f32⟩
  | 117 => ⟨S512x32, .f32⟩
  | 118 => ⟨S512x32, .f32⟩
  | 119 => ⟨S512x32, .f32⟩
  | 120 => ⟨S512x32, .f32⟩
  | 121 => ⟨S512x32, .f32⟩
  | 122 => ⟨S512x64, .f32⟩
  | 123 => ⟨S512x32, .f32⟩
  | 124 => ⟨S512x64, .f32⟩
  | 125 => ⟨S512x128, .f32⟩
  | 126 => ⟨S512x128, .f32⟩
  | 127 => ⟨S_, .f32⟩
  | _ => ⟨S128x4x1024, .f32⟩

abbrev hbmTy0_1 (i : Nat) : BufTy := match i % 128 with
  | 0 => ⟨S512x64, .f32⟩
  | 1 => ⟨S512x128, .f32⟩
  | 2 => ⟨S_, .f32⟩
  | 3 => ⟨S512x64, .f32⟩
  | 4 => ⟨S512x128, .f32⟩
  | 5 => ⟨S512x512, .bf16⟩
  | 6 => ⟨S512x256, .bf16⟩
  | 7 => ⟨S512x128, .f32⟩
  | 8 => ⟨S512x128, .f32⟩
  | 9 => ⟨S512x128, .f32⟩
  | 10 => ⟨S512x256, .bf16⟩
  | 11 => ⟨S512x128, .bf16⟩
  | 12 => ⟨S512x512, .bf16⟩
  | 13 => ⟨S512x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1024x2688, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x256, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .bf16⟩
  | .local _ .vmem, ⟨15, _⟩ => ⟨S512x128, .bf16⟩
  | .local _ .vmem, ⟨16, _⟩ => ⟨S512x512, .bf16⟩
  | .local _ .vmem, ⟨17, _⟩ => ⟨S512x512, .f32⟩
  | .local _ .vmem, ⟨18, _⟩ => ⟨S520x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_c_3 : Ref sig .tc := ⟨.hbm, 13, rfl⟩
abbrev main_v4 : Ref sig .tc := ⟨.hbm, 14, rfl⟩
abbrev main_v5 : Ref sig .tc := ⟨.hbm, 15, rfl⟩
abbrev main_c_4 : Ref sig .tc := ⟨.hbm, 16, rfl⟩
abbrev main_c_5 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v6 : Ref sig .tc := ⟨.hbm, 23, rfl⟩
abbrev main_c_6 : Ref sig .tc := ⟨.hbm, 24, rfl⟩
abbrev main_v7 : Ref sig .tc := ⟨.hbm, 25, rfl⟩
abbrev main_v8 : Ref sig .tc := ⟨.hbm, 26, rfl⟩
abbrev main_c_7 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_8 : Ref sig .tc := ⟨.hbm, 34, rfl⟩
abbrev main_v15 : Ref sig .tc := ⟨.hbm, 35, rfl⟩
abbrev main_v16 : Ref sig .tc := ⟨.hbm, 36, rfl⟩
abbrev main_c_9 : Ref sig .tc := ⟨.hbm, 37, rfl⟩
abbrev main_v17 : Ref sig .tc := ⟨.hbm, 38, rfl⟩
abbrev main_v18 : Ref sig .tc := ⟨.hbm, 39, rfl⟩
abbrev main_c_10 : Ref sig .tc := ⟨.hbm, 40, rfl⟩
abbrev main_c_11 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v19 : Ref sig .tc := ⟨.hbm, 47, rfl⟩
abbrev main_c_12 : Ref sig .tc := ⟨.hbm, 48, rfl⟩
abbrev main_v20 : Ref sig .tc := ⟨.hbm, 49, rfl⟩
abbrev main_v21 : Ref sig .tc := ⟨.hbm, 50, rfl⟩
abbrev main_c_13 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst : Ref sig .tc := ⟨.hbm, 68, rfl⟩
abbrev main_v38 : Ref sig .tc := ⟨.hbm, 69, rfl⟩
abbrev main_v39 : Ref sig .tc := ⟨.hbm, 70, rfl⟩
abbrev main_c_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_1 : Ref sig .tc := ⟨.hbm, 89, rfl⟩
abbrev main_call3_v5 : Ref sig .tc := ⟨.hbm, 90, rfl⟩
abbrev main_call3_v6 : Ref sig .tc := ⟨.hbm, 91, rfl⟩
abbrev main_call3_c_2 : Ref sig .tc := ⟨.hbm, 92, rfl⟩
abbrev main_call3_v7 : Ref sig .tc := ⟨.hbm, 93, rfl⟩
abbrev main_call3_v8 : Ref sig .tc := ⟨.hbm, 94, rfl⟩
abbrev main_call3_c_3 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_v49 : Ref sig .tc := ⟨.hbm, 102, rfl⟩
abbrev main_c_16 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_17 : Ref sig .tc := ⟨.hbm, 108, rfl⟩
abbrev main_v54 : Ref sig .tc := ⟨.hbm, 109, rfl⟩
abbrev main_v55 : Ref sig .tc := ⟨.hbm, 110, rfl⟩
abbrev main_cst_18 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_19 : Ref sig .tc := ⟨.hbm, 127, rfl⟩
abbrev main_v71 : Ref sig .tc := ⟨.hbm, 128, rfl⟩
abbrev main_v72 : Ref sig .tc := ⟨.hbm, 129, rfl⟩
abbrev main_cst_20 : Ref sig .tc := ⟨.hbm, 130, rfl⟩
abbrev main_v73 : Ref sig .tc := ⟨.hbm, 131, rfl⟩
abbrev main_v74 : Ref sig .tc := ⟨.hbm, 132, rfl⟩
abbrev main_v75_0 : Ref sig .tc := ⟨.hbm, 133, rfl⟩
abbrev main_v75_1 : Ref sig .tc := ⟨.hbm, 134, rfl⟩
abbrev main_v75_2 : Ref sig .tc := ⟨.hbm, 135, rfl⟩
abbrev main_v75_3 : Ref sig .tc := ⟨.hbm, 136, rfl⟩
abbrev main_v75_4 : Ref sig .tc := ⟨.hbm, 137, rfl⟩
abbrev main_v75_5 : Ref sig .tc := ⟨.hbm, 138, rfl⟩
abbrev main_v75_6 : Ref sig .tc := ⟨.hbm, 139, rfl⟩
abbrev main_v75_7 : Ref sig .tc := ⟨.hbm, 140, rfl⟩
abbrev main_v75_8 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== Reference8Ideal.lean ====
abbrev S128x4x1024 : Shape := ⟨3, ![128, 4, 1024]⟩
abbrev S1024x2628 : Shape := ⟨2, ![1024, 2628]⟩
abbrev S3x512 : Shape := ⟨2, ![3, 512]⟩
abbrev S128x2x512 : Shape := ⟨3, ![128, 2, 512]⟩
abbrev S4 : Shape := ⟨1, ![4]⟩
abbrev S_ : Shape := ⟨0, ![]⟩
abbrev S128x4x2628 : Shape := ⟨3, ![128, 4, 2628]⟩
abbrev S128x4x512 : Shape := ⟨3, ![128, 4, 512]⟩
abbrev S128x4x128 : Shape := ⟨3, ![128, 4, 128]⟩
abbrev S128x4x256 : Shape := ⟨3, ![128, 4, 256]⟩
abbrev S128x4x64 : Shape := ⟨3, ![128, 4, 64]⟩
abbrev S128x4x4 : Shape := ⟨3, ![128, 4, 4]⟩
abbrev S128x4x2x64 : Shape := ⟨4, ![128, 4, 2, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x2x32 : Shape := ⟨4, ![128, 4, 2, 32]⟩
abbrev S512x128 : Shape := ⟨2, ![512, 128]⟩
abbrev S128x4x1x64 : Shape := ⟨4, ![128, 4, 1, 64]⟩
abbrev S128x4x1x32 : Shape := ⟨4, ![128, 4, 1, 32]⟩
abbrev S512x64 : Shape := ⟨2, ![512, 64]⟩
abbrev S512x4 : Shape := ⟨2, ![512, 4]⟩
abbrev S512x68 : Shape := ⟨2, ![512, 68]⟩
abbrev S512x512 : Shape := ⟨2, ![512, 512]⟩

abbrev nBuf : Space → Nat
  | .hbm => 95
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024x2628, .f32⟩
  | .hbm, ⟨2, _⟩ => ⟨S3x512, .f32⟩
  | .hbm, ⟨3, _⟩ => ⟨S128x2x512, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S128x4x2628, .f32⟩
  | .hbm, ⟨9, _⟩ => ⟨S128x4x512, .f32⟩
  | .hbm, ⟨10, _⟩ => ⟨S128x4x128, .f32⟩
  | .hbm, ⟨11, _⟩ => ⟨S128x4x128, .f32⟩
  | .hbm, ⟨12, _⟩ => ⟨S128x4x256, .f32⟩
  | .hbm, ⟨13, _⟩ => ⟨S128x4x64, .f32⟩
  | .hbm, ⟨14, _⟩ => ⟨S128x4x4, .f32⟩
  | .hbm, ⟨15, _⟩ => ⟨S128x4x512, .f32⟩
  | .hbm, ⟨16, _⟩ => ⟨S128x4x512, .f32⟩
  | .hbm, ⟨17, _⟩ => ⟨S128x4x512, .f32⟩
  | .hbm, ⟨18, _⟩ => ⟨S128x4x2x64, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4, .f32⟩
  | .hbm, ⟨28, _⟩ => ⟨S4x1, .f32⟩
  | .hbm, ⟨29, _⟩ => ⟨S1x32, .f32⟩
  | .hbm, ⟨30, _⟩ => ⟨S4x32, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S1x4x1x32, .f32⟩
  | .hbm, ⟨35, _⟩ => ⟨S4x32, .f32⟩
  | .hbm, ⟨36, _⟩ => ⟨S1x4x1x32, .f32⟩
  | .hbm, ⟨37, _⟩ => ⟨S128x4x2x32, .f32⟩
  | .hbm, ⟨38, _⟩ => ⟨S128x4x2x32, .f32⟩
  | .hbm, ⟨39, _⟩ => ⟨S128x4x2x32, .f32⟩
  | .hbm, ⟨40, _⟩ => ⟨S128x4x2x32, .f32⟩
  | .hbm, ⟨41, _⟩ => ⟨S128x4x2x32, .f32⟩
  | .hbm, ⟨42, _⟩ => ⟨S128x4x2x32, .f32⟩
  | .hbm, ⟨43, _⟩ => ⟨S128x4x2x32, .f32⟩
  | .hbm, ⟨44, _⟩ => ⟨S128x4x2x32, .f32⟩
  | .hbm, ⟨45, _⟩ => ⟨S128x4x2x32, .f32⟩
  | .hbm, ⟨46, _⟩ => ⟨S128x4x2x32, .f32⟩
  | .hbm, ⟨47, _⟩ => ⟨S128x4x2x32, .f32⟩
  | .hbm, ⟨48, _⟩ => ⟨S128x4x2x32, .f32⟩
  | .hbm, ⟨49, _⟩ => ⟨S128x4x2x64, .f32⟩
  | .hbm, ⟨50, _⟩ => ⟨S512x128, .f32⟩
  | .hbm, ⟨51, _⟩ => ⟨S512x128, .f32⟩
  | .hbm, ⟨52, _⟩ => ⟨S128x4x1x64, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S4, .f32⟩
  | .hbm, ⟨62, _⟩ => ⟨S4x1, .f32⟩
  | .hbm, ⟨63, _⟩ => ⟨S1x32, .f32⟩
  | .hbm, ⟨64, _⟩ => ⟨S4x32, .f32⟩
  | .hbm, ⟨65, _⟩ => ⟨S4x32, .f32⟩
  | .hbm, ⟨66, _⟩ => ⟨S4x32, .f32⟩
  | .hbm, ⟨67, _⟩ => ⟨S4x32, .f32⟩
  | .hbm, ⟨68, _⟩ => ⟨S1x4x1x32, .f32⟩
  | .hbm, ⟨69, _⟩ => ⟨S4x32, .f32⟩
  | .hbm, ⟨70, _⟩ => ⟨S1x4x1x32, .f32⟩
  | .hbm, ⟨71, _⟩ => ⟨S128x4x1x32, .f32⟩
  | .hbm, ⟨72, _⟩ => ⟨S128x4x1x32, .f32⟩
  | .hbm, ⟨73, _⟩ => ⟨S128x4x1x32, .f32⟩
  | .hbm, ⟨74, _⟩ => ⟨S128x4x1x32, .f32⟩
  | .hbm, ⟨75, _⟩ => ⟨S128x4x1x32, .f32⟩
  | .hbm, ⟨76, _⟩ => ⟨S128x4x1x32, .f32⟩
  | .hbm, ⟨77, _⟩ => ⟨S128x4x1x32, .f32⟩
  | .hbm, ⟨78, _⟩ => ⟨S128x4x1x32, .f32⟩
  | .hbm, ⟨79, _⟩ => ⟨S128x4x1x32, .f32⟩
  | .hbm, ⟨80, _⟩ => ⟨S128x4x1x32, .f32⟩
  | .hbm, ⟨81, _⟩ => ⟨S128x4x1x32, .f32⟩
  | .hbm, ⟨82, _⟩ => ⟨S128x4x1x32, .f32⟩
  | .hbm, ⟨83, _⟩ => ⟨S128x4x1x64, .f32⟩
  | .hbm, ⟨84, _⟩ => ⟨S512x64, .f32⟩
  | .hbm, ⟨85, _⟩ => ⟨S512x4, .f32⟩
  | .hbm, ⟨86, _⟩ => ⟨S_, .f32⟩
  | .hbm, ⟨87, _⟩ => ⟨S512x4, .f32⟩
  | .hbm, ⟨88, _⟩ => ⟨S512x4, .f32⟩
  | .hbm, ⟨89, _⟩ => ⟨S512x68, .f32⟩
  | .hbm, ⟨90, _⟩ => ⟨S_, .i32⟩
  | .hbm, ⟨91, _⟩ => ⟨S_, .f32⟩
  | .hbm, ⟨92, _⟩ => ⟨S512x128, .f32⟩
  | .hbm, ⟨93, _⟩ => ⟨S128x4x512, .f32⟩
  | .hbm, ⟨94, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_3 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_c_4 : Ref sig .tc := ⟨.hbm, 90, rfl⟩
abbrev main_call0_v0 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== Kernel9.lean ====
abbrev S128x4x1024 : Shape := ⟨3, ![128, 4, 1024]⟩
abbrev S512x512 : Shape := ⟨2, ![512, 512]⟩
abbrev S1024x1024 : Shape := ⟨2, ![1024, 1024]⟩
abbrev S1024 : Shape := ⟨1, ![1024]⟩
abbrev S8 : Shape := ⟨1, ![8]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S1x1024 : Shape := ⟨2, ![1, 1024]⟩
abbrev S512 : Shape := ⟨1, ![512]⟩
abbrev S512x1 : Shape := ⟨2, ![512, 1]⟩

abbrev nBuf : Space → Nat
  | .hbm => 24
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8, .i32⟩
  | .hbm, ⟨7, _⟩ => ⟨S8, .i1⟩
  | .hbm, ⟨8, _⟩ => ⟨S512x1024, .f32⟩
  | .hbm, ⟨9, _⟩ => ⟨S8x64x1024, .f32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S8x1, .i32⟩
  | .hbm, ⟨15, _⟩ => ⟨S8x64x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S1024x1024, .bf16⟩
  | .hbm, ⟨20, _⟩ => ⟨S512x1024, .f32⟩
  | .hbm, ⟨21, _⟩ => ⟨S1x1024, .f32⟩
  | .hbm, ⟨22, _⟩ => ⟨S1x1024, .f32⟩
  | .hbm, ⟨23, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S128x4x1024 : Shape := ⟨3, ![128, 4, 1024]⟩
abbrev S512x512 : Shape := ⟨2, ![512, 512]⟩
abbrev S1024x1024 : Shape := ⟨2, ![1024, 1024]⟩
abbrev S1024 : Shape := ⟨1, ![1024]⟩
abbrev S512x4x2x64 : Shape := ⟨4, ![512, 4, 2, 64]⟩
abbrev S512x2x4x64 : Shape := ⟨4, ![512, 2, 4, 64]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x512, .f32⟩
  | .hbm, ⟨7, _⟩ => ⟨S512x4x2x64, .f32⟩
  | .hbm, ⟨8, _⟩ => ⟨S512x2x4x64, .f32⟩
  | .hbm, ⟨9, _⟩ => ⟨S512x512, .f32⟩
  | .hbm, ⟨10, _⟩ => ⟨S512x512, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512, .f32⟩
  | .hbm, ⟨20, _⟩ => ⟨S512x1, .f32⟩
  | .hbm, ⟨21, _⟩ => ⟨S_, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512, .f32⟩
  | .hbm, ⟨29, _⟩ => ⟨S512x1, .f32⟩
  | .hbm, ⟨30, _⟩ => ⟨S_, .f32⟩
  | .hbm, ⟨31, _⟩ => ⟨S512x1, .f32⟩
  | .hbm, ⟨32, _⟩ => ⟨S512x1, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S512x1, .f32⟩
  | .hbm, ⟨39, _⟩ => ⟨S512x1024, .f32⟩
  | .hbm, ⟨40, _⟩ => ⟨S512x1024, .f32⟩
  | .hbm, ⟨41, _⟩ => ⟨S1x1024, .f32⟩
  | .hbm, ⟨42, _⟩ => ⟨S512x1024, .f32⟩
  | .hbm, ⟨43, _⟩ => ⟨S512x1024, .f32⟩
  | .hbm, ⟨44, _⟩ => ⟨S1x1024, .f32⟩
  | .hbm, ⟨45, _⟩ => ⟨S512x1024, .f32⟩
  | .hbm, ⟨46, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel10.lean ====
abbrev S128x4x1024 : Shape := ⟨3, ![128, 4, 1024]⟩
abbrev S512x1024 : Shape := ⟨2, ![512, 1024]⟩
abbrev S1024x1024 : Shape := ⟨2, ![1024, 1024]⟩
abbrev S1024 : Shape := ⟨1, ![1024]⟩
abbrev S16 : Shape := ⟨1, ![16]⟩
abbrev S16x64x1024 : Shape := ⟨3, ![16, 64, 1024]⟩
abbrev S_ : Shape := ⟨0, ![]⟩
abbrev S16x1 : Shape := ⟨2, ![16, 1]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S512x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16, .i32⟩
  | .hbm, ⟨6, _⟩ => ⟨S16, .i1⟩
  | .hbm, ⟨7, _⟩ => ⟨S16x64x1024, .f32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x64x1024, .f32⟩
  | .hbm, ⟨14, _⟩ => ⟨S1024x1024, .f32⟩
  | .hbm, ⟨15, _⟩ => ⟨S1024x1024, .bf16⟩
  | .hbm, ⟨16, _⟩ => ⟨S512x1024, .f32⟩
  | .hbm, ⟨17, _⟩ => ⟨S1x1024, .f32⟩
  | .hbm, ⟨18, _⟩ => ⟨S1x1024, .f32⟩
  | .hbm, ⟨19, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S128x4x1024 : Shape := ⟨3, ![128, 4, 1024]⟩
abbrev S512x1024 : Shape := ⟨2, ![512, 1024]⟩
abbrev S1024x1024 : Shape := ⟨2, ![1024, 1024]⟩
abbrev S1024 : Shape := ⟨1, ![1024]⟩
abbrev S512x2x4x2x64 : Shape := ⟨5, ![512, 2, 4, 2, 64]⟩
abbrev S512x2x2x4x64 : Shape := ⟨5, ![512, 2, 2, 4, 64]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S512x1024, .f32⟩
  | .hbm, ⟨6, _⟩ => ⟨S512x2x4x2x64, .f32⟩
  | .hbm, ⟨7, _⟩ => ⟨S512x2x2x4x64, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S_, .f32⟩
  | .hbm, ⟨19, _⟩ => ⟨S512x1, .f32⟩
  | .hbm, ⟨20, _⟩ => ⟨S512x1, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x1024, .f32⟩
  | .hbm, ⟨37, _⟩ => ⟨S512x1024, .f32⟩
  | .hbm, ⟨38, _⟩ => ⟨S1x1024, .f32⟩
  | .hbm, ⟨39, _⟩ => ⟨S512x1024, .f32⟩
  | .hbm, ⟨40, _⟩ => ⟨S512x1024, .f32⟩
  | .hbm, ⟨41, _⟩ => ⟨S1x1024, .f32⟩
  | .hbm, ⟨42, _⟩ => ⟨S512x1024, .f32⟩
  | .hbm, ⟨43, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel11.lean ====
abbrev S128x4x1024 : Shape := ⟨3, ![128, 4, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S1x1024 : Shape := ⟨2, ![1, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S512x1024, .f32⟩
  | .local _ .vmem, ⟨0, _⟩ => ⟨S512x1024, .f32⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1408x1024, .bf16⟩
  | .local _ .vmem, ⟨6, _⟩ => ⟨S1408x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference11Ideal.lean ====
abbrev S128x4x1024 : Shape := ⟨3, ![128, 4, 1024]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S_ : Shape := ⟨0, ![]⟩
abbrev S512x2816 : Shape := ⟨2, ![512, 2816]⟩
abbrev S512 : Shape := ⟨1, ![512]⟩
abbrev S512x1 : Shape := ⟨2, ![512, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x2816, .f32⟩
  | .hbm, ⟨11, _⟩ => ⟨S512x2816, .f32⟩
  | .hbm, ⟨12, _⟩ => ⟨S512x2816, .f32⟩
  | .hbm, ⟨13, _⟩ => ⟨S_, .f32⟩
  | .hbm, ⟨14, _⟩ => ⟨S512x2816, .f32⟩
  | .hbm, ⟨15, _⟩ => ⟨S512x2816, .f32⟩
  | .hbm, ⟨16, _⟩ => ⟨S_, .f32⟩
  | .hbm, ⟨17, _⟩ => ⟨S512x2816, .f32⟩
  | .hbm, ⟨18, _⟩ => ⟨S512x2816, .f32⟩
  | .hbm, ⟨19, _⟩ => ⟨S512x2816, .f32⟩
  | .hbm, ⟨20, _⟩ => ⟨S512x2816, .f32⟩
  | .hbm, ⟨21, _⟩ => ⟨S512x2816, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S512x1024, .f32⟩
  | .hbm, ⟨46, _⟩ => ⟨S512x1024, .f32⟩
  | .hbm, ⟨47, _⟩ => ⟨S1x1024, .f32⟩
  | .hbm, ⟨48, _⟩ => ⟨S512x1024, .f32⟩
  | .hbm, ⟨49, _⟩ => ⟨S512x1024, .f32⟩
  | .hbm, ⟨50, _⟩ => ⟨S1x1024, .f32⟩
  | .hbm, ⟨51, _⟩ => ⟨S512x1024, .f32⟩
  | .hbm, ⟨52, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Safe.lean ====
/- Programs that stay inside what they hold: a rule per program former, for a frame that states no value.
   `Safe H c p` says that from the resources `H` the program `p` runs and gives `H` back, whatever it returns.
   A load needs `H` to give out the buffer it reads and take it back (`Reads`); a store needs `H` to take the
   buffer back at any contents (`Writes`). Loops and conditionals preserve `Safe` with nothing stated of what
   they carry. -/
module

public import proofs.«01_k».proof.Proof.Gen.Kernel.Skeleton
public import proofs.«01_k».proof.Proof.Gen.Kernel.Frame

@[expose] public section

noncomputable section

namespace Cert.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

/-- From `H` the program runs and gives `H` back. -/
def Safe (H : sProp 𝕄) (c : Dev nD) {α : Type} (p : Prog (TpuEff nD τ sig (Elt F) Λ₀ .tc) α) : Prop :=
  H ⊢ wp frame (wpE (defs₀ (F := F)) Variants.none (c : Thread nD τ) none) Set.univ p (fun _ => H)

/-- `H` gives the memref out, in elements of its buffer that include it, at some contents and takes it back at the same. -/
def Reads (H : sProp 𝕄) (c : Dev nD) {sp : Space} {s : Shape} {e : EltTy} (m : Memref sig .tc sp s e) : Prop :=
  H ⊢ iprop(∃ S f, ⌜m.view.set ⊆ S⌝ ∗ (m.view.loc (c : Thread nD τ) ↦[S]{fullShare} f)
    ∗ ((m.view.loc (c : Thread nD τ) ↦[S]{fullShare} f) -∗ H))

/-- `H` gives the memref out at some contents and takes it back at any. -/
def Writes (H : sProp 𝕄) (c : Dev nD) {sp : Space} {s : Shape} {e : EltTy} (m : Memref sig .tc sp s e) : Prop :=
  H ⊢ iprop(∃ f, (m.view.loc (c : Thread nD τ) ↦[m.view.set]{fullShare} f)
    ∗ (∀ f', (m.view.loc (c : Thread nD τ) ↦[m.view.set]{fullShare} f') -∗ H))

theorem Safe.pure {H : sProp 𝕄} {c : Dev nD} {α : Type} (a : α) : Safe (F := F) H c (Pure.pure a) := by
  unfold Safe
  show H ⊢ wp frame (wpE (defs₀ (F := F)) Variants.none (c : Thread nD τ) none) Set.univ (.ret a) (fun _ => H)
  rw [wp_ret]
  iintro HH
  imodintro
  iexact HH

theorem Safe.bind {H : sProp 𝕄} {c : Dev nD} {α β : Type} {p : Prog (TpuEff nD τ sig (Elt F) Λ₀ .tc) α} {k : α → Prog (TpuEff nD τ sig (Elt F) Λ₀ .tc) β}
    (hp : Safe (F := F) H c p) (hk : ∀ a, Safe (F := F) H c (k a)) : Safe (F := F) H c (p >>= k) := by
  unfold Safe at *
  rw [wp_bind]
  exact hp.trans (wp_mono _ _ _ hk)

theorem Safe.load {H : sProp 𝕄} {c : Dev nD} {cs : CoreSpace} {s : Shape} {e : EltTy} {m : Memref sig .tc cs s e} (hm : Reads (F := F) H c m)
    (r : LoadRect s) (hl : m.view.LoadsAt r) : Safe (F := F) H c (Prog.lift (.load m r hl)) := by
  unfold Safe
  refine hm.trans ?_
  iintro ⟨%S, %f, %hS, Hf, Hback⟩
  iapply (wp_load (defs := defs₀ (F := F)) Variants.none (c : Thread nD τ) none Set.univ (m := m) ((View.setOn_subset_set _ _).trans hS)) $$ Hf
  iintro Hf
  rw [wp_ret]
  imodintro
  iapply Hback
  iexact Hf

theorem Safe.store {H : sProp 𝕄} {c : Dev nD} {cs : CoreSpace} {s : Shape} {e : EltTy} {m : Memref sig .tc cs s e} (hm : Writes (F := F) H c m)
    (r : Rect s) (w : r.shape.Idx → Elt F e) (Mk : Finset r.shape.Idx) (hx : (m.access r).Stores Mk)
    (hms : Mk = Finset.univ ∨ ∀ a, r.stride a = 1) : Safe (F := F) H c (Prog.lift (.store m r w Mk hx hms)) := by
  unfold Safe
  refine hm.trans ?_
  iintro ⟨%f, Hf, Hback⟩
  iapply (wp_store (defs := defs₀ (F := F)) Variants.none (c : Thread nD τ) none Set.univ (m := m) (r := r) (Mk := Mk) ((View.setOn_subset_set _ _).trans (View.set_slice_subset _ _))) $$ Hf
  iintro Hf
  rw [wp_ret]
  imodintro
  iapply Hback
  iexact Hf

theorem Safe.loop {H : sProp 𝕄} {c : Dev nD} {n : Nat} {σ : Type} (l : Scf.Loop n) (hok : l.OK) (init : σ)
    {body : Fin l.trips → σ → Prog (TpuEff nD τ sig (Elt F) Λ₀ .tc) σ} (hb : ∀ k acc, Safe (F := F) H c (body k acc)) :
    Safe (F := F) H c (Scf.Loop.for l hok init body) := by
  unfold Safe at *
  refine BIBase.Entails.trans ?_ (Scf.wp_for frame (wpE (defs₀ (F := F)) Variants.none (c : Thread nD τ) none) Set.univ l.lb l.ub l.st hok init body
    (fun _ _ => H) (fun k acc => hb k acc))
  iintro HH
  isplitl [HH]
  · iexact HH
  · iintro %acc HH
    iexact HH

theorem Safe.dite {H : sProp 𝕄} {c : Dev nD} {α : Type} {P : Prop} [Decidable P] {p : P → Prog (TpuEff nD τ sig (Elt F) Λ₀ .tc) α} {q : ¬ P → Prog (TpuEff nD τ sig (Elt F) Λ₀ .tc) α}
    (hp : ∀ h, Safe (F := F) H c (p h)) (hq : ∀ h, Safe (F := F) H c (q h)) : Safe (F := F) H c (if h : P then p h else q h) := by
  by_cases h : P
  · rw [dif_pos h]; exact hp h
  · rw [dif_neg h]; exact hq h

theorem Safe.ite {H : sProp 𝕄} {c : Dev nD} {α : Type} {P : Prop} [Decidable P] {p q : Prog (TpuEff nD τ sig (Elt F) Λ₀ .tc) α}
    (hp : Safe (F := F) H c p) (hq : Safe (F := F) H c q) : Safe (F := F) H c (if P then p else q) := by
  by_cases h : P
  · rw [if_pos h]; exact hp
  · rw [if_neg h]; exact hq

theorem Writes.reads {H : sProp 𝕄} {c : Dev nD} {sp : Space} {s : Shape} {e : EltTy} {m : Memref sig .tc sp s e} (hm : Writes (F := F) H c m) : Reads (F := F) H c m := by
  unfold Writes Reads at *
  refine hm.trans ?_
  iintro ⟨%f, Hf, Hback⟩
  iexists m.view.set, f
  isplitr
  · ipureintro; exact Finset.Subset.refl _
  isplitl [Hf]
  · iexact Hf
  · iintro Hf
    iapply Hback
    iexact Hf

theorem Reads.of_owns {c : Dev nD} {sp : Space} {s : Shape} {e : EltTy} (m : Memref sig .tc sp s e) (X : Vec F s e) :
    Reads (F := F) (owns c m fullShare X) c m := by
  unfold Reads owns
  iintro ⟨%f, %hf, Hf⟩
  iexists m.view.set, f
  isplitr
  · ipureintro; exact Finset.Subset.refl _
  isplitl [Hf]
  · iexact Hf
  · iintro Hf
    iexists f
    isplitr
    · ipureintro; exact hf
    · iexact Hf

theorem Writes.of_owns {c : Dev nD} {sp : Space} {s : Shape} {e : EltTy} (m : Memref sig .tc sp s e) :
    Writes (F := F) iprop(∃ X, owns c m fullShare X) c m := by
  unfold Writes owns
  iintro ⟨%X, %f, %hf, Hf⟩
  iexists f
  isplitl [Hf]
  · iexact Hf
  · iintro %f' Hf
    iexists (m.view.read (Elt F) f'), f'
    isplitr
    · ipureintro; rfl
    · iexact Hf

theorem Reads.left {A B : sProp 𝕄} {c : Dev nD} {sp : Space} {s : Shape} {e : EltTy} {m : Memref sig .tc sp s e}
    (h : Reads (F := F) A c m) : Reads (F := F) iprop(A ∗ B) c m := by
  unfold Reads at *
  iintro ⟨HA, HB⟩
  ihave HA := h $$ HA
  icases HA with ⟨%S, %f, %hS, Hf, Hback⟩
  iexists S, f
  isplitr
  · ipureintro; exact hS
  isplitl [Hf]
  · iexact Hf
  · iintro Hf
    isplitr [HB]
    · iapply Hback; iexact Hf
    · iexact HB

theorem Reads.right {A B : sProp 𝕄} {c : Dev nD} {sp : Space} {s : Shape} {e : EltTy} {m : Memref sig .tc sp s e}
    (h : Reads (F := F) B c m) : Reads (F := F) iprop(A ∗ B) c m := by
  unfold Reads at *
  iintro ⟨HA, HB⟩
  ihave HB := h $$ HB
  icases HB with ⟨%S, %f, %hS, Hf, Hback⟩
  iexists S, f
  isplitr
  · ipureintro; exact hS
  isplitl [Hf]
  · iexact Hf
  · iintro Hf
    isplitl [HA]
    · iexact HA
    · iapply Hback; iexact Hf

/-- What can be read can be read through a slice of it with unit axes dropped. -/
theorem Reads.sliced {H : sProp 𝕄} {c : Dev nD} {sp : Space} {s s' : Shape} {e : EltTy} {m : Memref sig .tc sp s e}
    (h : Reads (F := F) H c m) {R : Rect s} {hR : ∀ a, R.stride a = 1} {hs : R.shape.Squeezes s'} :
    Reads (F := F) H c ((m.slice R hR).squeeze s' hs) := by
  unfold Reads at *
  refine h.trans ?_
  iintro ⟨%S, %f, %hS, Hf, Hback⟩
  iexists S, f
  isplitr
  · ipureintro
    exact (View.set_reshape _ _).le.trans ((View.set_slice_subset _ _).trans hS)
  isplitl [Hf]
  · iexact Hf
  · iexact Hback

theorem Writes.left {A B : sProp 𝕄} {c : Dev nD} {sp : Space} {s : Shape} {e : EltTy} {m : Memref sig .tc sp s e}
    (h : Writes (F := F) A c m) : Writes (F := F) iprop(A ∗ B) c m := by
  unfold Writes at *
  iintro ⟨HA, HB⟩
  ihave HA := h $$ HA
  icases HA with ⟨%f, Hf, Hback⟩
  iexists f
  isplitl [Hf]
  · iexact Hf
  · iintro %f' Hf
    isplitr [HB]
    · iapply Hback; iexact Hf
    · iexact HB

theorem Writes.right {A B : sProp 𝕄} {c : Dev nD} {sp : Space} {s : Shape} {e : EltTy} {m : Memref sig .tc sp s e}
    (h : Writes (F := F) B c m) : Writes (F := F) iprop(A ∗ B) c m := by
  unfold Writes at *
  iintro ⟨HA, HB⟩
  ihave HB := h $$ HB
  icases HB with ⟨%f, Hf, Hback⟩
  iexists f
  isplitl [Hf]
  · iexact Hf
  · iintro %f' Hf
    isplitl [HA]
    · iexact HA
    · iapply Hback; iexact Hf

/-- The eleven buffers of the kernel's body: five inputs at contents kept, the output and the five scratch buffers at some contents. -/
def Hold (c : Dev nD) (arg2 : Memref sig .tc .vmem S1x256x512 .bf16) (arg3 : Memref sig .tc .vmem S1x256x256 .bf16) (arg4 : Memref sig .tc .vmem S1x256x128 .f32) (arg5 : Memref sig .tc .vmem S1x4096x128 .bf16) (arg6 : Memref sig .tc .vmem S1x4096x256 .bf16) (arg7 : Memref sig .tc .vmem S1x256x512 .bf16) (arg8 : Memref sig .tc .vmem S8x512x256 .i32) (arg9 : Memref sig .tc .vmem S8x256x512 .f32) (arg10 arg11 arg12 : Memref sig .tc .vmem S2048x128 .f32)
    (x2 : Vec F S1x256x512 .bf16) (x3 : Vec F S1x256x256 .bf16) (x4 : Vec F S1x256x128 .f32) (x5 : Vec F S1x4096x128 .bf16) (x6 : Vec F S1x4096x256 .bf16) : sProp 𝕄 :=
  iprop(owns c arg2 fullShare x2 ∗ owns c arg3 fullShare x3 ∗ owns c arg4 fullShare x4 ∗ owns c arg5 fullShare x5 ∗ owns c arg6 fullShare x6
    ∗ (∃ X, owns c arg7 fullShare X) ∗ (∃ X, owns c arg8 fullShare X) ∗ (∃ X, owns c arg9 fullShare X) ∗ (∃ X, owns c arg10 fullShare X)
    ∗ (∃ X, owns c arg11 fullShare X) ∗ (∃ X, owns c arg12 fullShare X))

section HoldArgs
variable (c : Dev nD) (arg2 : Memref sig .tc .vmem S1x256x512 .bf16) (arg3 : Memref sig .tc .vmem S1x256x256 .bf16) (arg4 : Memref sig .tc .vmem S1x256x128 .f32) (arg5 : Memref sig .tc .vmem S1x4096x128 .bf16) (arg6 : Memref sig .tc .vmem S1x4096x256 .bf16) (arg7 : Memref sig .tc .vmem S1x256x512 .bf16) (arg8 : Memref sig .tc .vmem S8x512x256 .i32) (arg9 : Memref sig .tc .vmem S8x256x512 .f32) (arg10 arg11 arg12 : Memref sig .tc .vmem S2048x128 .f32)
    (x2 : Vec F S1x256x512 .bf16) (x3 : Vec F S1x256x256 .bf16) (x4 : Vec F S1x256x128 .f32) (x5 : Vec F S1x4096x128 .bf16) (x6 : Vec F S1x4096x256 .bf16)

theorem reads2 : Reads (F := F) (Hold (F := F) c arg2 arg3 arg4 arg5 arg6 arg7 arg8 arg9 arg10 arg11 arg12 x2 x3 x4 x5 x6) c arg2 := by unfold Hold; exact (Reads.left (Reads.of_owns _ _))

theorem reads3 : Reads (F := F) (Hold (F := F) c arg2 arg3 arg4 arg5 arg6 arg7 arg8 arg9 arg10 arg11 arg12 x2 x3 x4 x5 x6) c arg3 := by unfold Hold; exact (Reads.right (Reads.left (Reads.of_owns _ _)))

theorem reads4 : Reads (F := F) (Hold (F := F) c arg2 arg3 arg4 arg5 arg6 arg7 arg8 arg9 arg10 arg11 arg12 x2 x3 x4 x5 x6) c arg4 := by unfold Hold; exact (Reads.right (Reads.right (Reads.left (Reads.of_owns _ _))))

theorem reads5 : Reads (F := F) (Hold (F := F) c arg2 arg3 arg4 arg5 arg6 arg7 arg8 arg9 arg10 arg11 arg12 x2 x3 x4 x5 x6) c arg5 := by unfold Hold; exact (Reads.right (Reads.right (Reads.right (Reads.left (Reads.of_owns _ _)))))

theorem reads6 : Reads (F := F) (Hold (F := F) c arg2 arg3 arg4 arg5 arg6 arg7 arg8 arg9 arg10 arg11 arg12 x2 x3 x4 x5 x6) c arg6 := by unfold Hold; exact (Reads.right (Reads.right (Reads.right (Reads.right (Reads.left (Reads.of_owns _ _))))))

theorem writes7 : Writes (F := F) (Hold (F := F) c arg2 arg3 arg4 arg5 arg6 arg7 arg8 arg9 arg10 arg11 arg12 x2 x3 x4 x5 x6) c arg7 := by unfold Hold; exact (Writes.right (Writes.right (Writes.right (Writes.right (Writes.right (Writes.left (Writes.of_owns _)))))))

theorem reads7 : Reads (F := F) (Hold (F := F) c arg2 arg3 arg4 arg5 arg6 arg7 arg8 arg9 arg10 arg11 arg12 x2 x3 x4 x5 x6) c arg7 := (writes7 c arg2 arg3 arg4 arg5 arg6 arg7 arg8 arg9 arg10 arg11 arg12 x2 x3 x4 x5 x6).reads

theorem writes8 : Writes (F := F) (Hold (F := F) c arg2 arg3 arg4 arg5 arg6 arg7 arg8 arg9 arg10 arg11 arg12 x2 x3 x4 x5 x6) c arg8 := by unfold Hold; exact (Writes.right (Writes.right (Writes.right (Writes.right (Writes.right (Writes.right (Writes.left (Writes.of_owns _))))))))

theorem reads8 : Reads (F := F) (Hold (F := F) c arg2 arg3 arg4 arg5 arg6 arg7 arg8 arg9 arg10 arg11 arg12 x2 x3 x4 x5 x6) c arg8 := (writes8 c arg2 arg3 arg4 arg5 arg6 arg7 arg8 arg9 arg10 arg11 arg12 x2 x3 x4 x5 x6).reads

theorem writes9 : Writes (F := F) (Hold (F := F) c arg2 arg3 arg4 arg5 arg6 arg7 arg8 arg9 arg10 arg11 arg12 x2 x3 x4 x5 x6) c arg9 := by unfold Hold; exact (Writes.right (Writes.right (Writes.right (Writes.right (Writes.right (Writes.right (Writes.right (Writes.left (Writes.of_owns _)))))))))

theorem reads9 : Reads (F := F) (Hold (F := F) c arg2 arg3 arg4 arg5 arg6 arg7 arg8 arg9 arg10 arg11 arg12 x2 x3 x4 x5 x6) c arg9 := (writes9 c arg2 arg3 arg4 arg5 arg6 arg7 arg8 arg9 arg10 arg11 arg12 x2 x3 x4 x5 x6).reads

theorem writes10 : Writes (F := F) (Hold (F := F) c arg2 arg3 arg4 arg5 arg6 arg7 arg8 arg9 arg10 arg11 arg12 x2 x3 x4 x5 x6) c arg10 := by unfold Hold; exact (Writes.right (Writes.right (Writes.right (Writes.right (Writes.right (Writes.right (Writes.right (Writes.right (Writes.left (Writes.of_owns _))))))))))

theorem reads10 : Reads (F := F) (Hold (F := F) c arg2 arg3 arg4 arg5 arg6 arg7 arg8 arg9 arg10 arg11 arg12 x2 x3 x4 x5 x6) c arg10 := (writes10 c arg2 arg3 arg4 arg5 arg6 arg7 arg8 arg9 arg10 arg11 arg12 x2 x3 x4 x5 x6).reads

theorem writes11 : Writes (F := F) (Hold (F := F) c arg2 arg3 arg4 arg5 arg6 arg7 arg8 arg9 arg10 arg11 arg12 x2 x3 x4 x5 x6) c arg11 := by unfold Hold; exact (Writes.right (Writes.right (Writes.right (Writes.right (Writes.right (Writes.right (Writes.right (Writes.right (Writes.right (Writes.left (Writes.of_owns _)))))))))))

theorem reads11 : Reads (F := F) (Hold (F := F) c arg2 arg3 arg4 arg5 arg6 arg7 arg8 arg9 arg10 arg11 arg12 x2 x3 x4 x5 x6) c arg11 := (writes11 c arg2 arg3 arg4 arg5 arg6 arg7 arg8 arg9 arg10 arg11 arg12 x2 x3 x4 x5 x6).reads

theorem writes12 : Writes (F := F) (Hold (F := F) c arg2 arg3 arg4 arg5 arg6 arg7 arg8 arg9 arg10 arg11 arg12 x2 x3 x4 x5 x6) c arg12 := by unfold Hold; exact (Writes.right (Writes.right (Writes.right (Writes.right (Writes.right (Writes.right (Writes.right (Writes.right (Writes.right (Writes.right (Writes.of_owns _)))))))))))

theorem reads12 : Reads (F := F) (Hold (F := F) c arg2 arg3 arg4 arg5 arg6 arg7 arg8 arg9 arg10 arg11 arg12 x2 x3 x4 x5 x6) c arg12 := (writes12 c arg2 arg3 arg4 arg5 arg6 arg7 arg8 arg9 arg10 arg11 arg12 x2 x3 x4 x5 x6).reads

end HoldArgs

end Cert.Dsa

end
-- ==== Proof.SafeA.lean ====
/- Each part of the attention kernel's body keeps what it holds: every buffer it reads stays readable and every buffer it
   writes stays writable, whatever the values are. One statement for each part, each by the rules of Safe. -/
module

public import proofs.«01_k».proof.Proof.Safe
@[expose] public section

noncomputable section

namespace Cert.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

variable (c : Dev nD) (i : grid0.Coords)
    (arg2 : Memref sig .tc .vmem S1x256x512 .bf16) (harg2 : arg2.IsWhole) (arg3 : Memref sig .tc .vmem S1x256x256 .bf16) (harg3 : arg3.IsWhole) (arg4 : Memref sig .tc .vmem S1x256x128 .f32) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x512 .bf16) (harg7 : arg7.IsWhole) (arg8 : Memref sig .tc .vmem S8x512x256 .i32) (harg8 : arg8.IsWhole) (arg9 : Memref sig .tc .vmem S8x256x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole)
    (x2 : Vec F S1x256x512 .bf16) (x3 : Vec F S1x256x256 .bf16) (x4 : Vec F S1x256x128 .f32) (x5 : Vec F S1x4096x128 .bf16) (x6 : Vec F S1x4096x256 .bf16)

theorem safe_part35  :
    Safe (F := F) (Hold (F := F) c arg2 arg3 arg4 arg5 arg6 arg7 arg8 arg9 arg10 arg11 arg12 x2 x3 x4 x5 x6) c (k0_part35 i arg2 harg2 arg3 harg3 arg4 harg4 arg5 harg5 arg6 harg6 arg7 harg7 arg8 harg8 arg9 harg9 arg10 harg10 arg11 harg11 arg12 harg12 ) := by
  rw [k0_part35_eq_skeleton]
  unfold k0_part35_skel
  repeat' first
    | with_reducible exact Safe.pure _
    | with_reducible refine Safe.bind ?_ (fun _ => ?_)
    | with_reducible exact Safe.load (reads3 c arg2 arg3 arg4 arg5 arg6 arg7 arg8 arg9 arg10 arg11 arg12 x2 x3 x4 x5 x6) _ _

theorem safe_t10 (arg1 : BitVec 32) (v20 : BitVec 32) (v23 : IVec S256x128 1) (v24 : IVec S256x128 1) (v30 : FVec F S256x128 .bf16) (v36 : FVec F S256x128 .bf16) (k0_h1 : ¬k0_cond1 i = 1#1) kk acc :
    Safe (F := F) (Hold (F := F) c arg2 arg3 arg4 arg5 arg6 arg7 arg8 arg9 arg10 arg11 arg12 x2 x3 x4 x5 x6) c (k0_t10_body i arg2 harg2 arg3 harg3 arg4 harg4 arg5 harg5 arg6 harg6 arg7 harg7 arg8 harg8 arg9 harg9 arg10 harg10 arg11 harg11 arg12 harg12 arg1 v20 v23 v24 v30 v36 k0_h1 kk acc) := by
  unfold k0_t10_body
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part1 (v49 : FVec F S1024x128 .bf16) (v52 : FVec F S128x256 .f32) (c0_i32_26 : BitVec 32) (c1_i32_28 : BitVec 32) (k0_t1 : Fin (k0_t1_loop i).trips) :
    Safe (F := F) (Hold (F := F) c arg2 arg3 arg4 arg5 arg6 arg7 arg8 arg9 arg10 arg11 arg12 x2 x3 x4 x5 x6) c (k0_part1 i arg2 harg2 arg3 harg3 arg4 harg4 arg5 harg5 arg6 harg6 arg7 harg7 arg8 harg8 arg9 harg9 arg10 harg10 arg11 harg11 arg12 harg12 v49 v52 c0_i32_26 c1_i32_28 k0_t1) := by
  rw [k0_part1_eq_skeleton]
  unfold k0_part1_skel
  repeat' first
    | with_reducible exact Safe.pure _
    | with_reducible refine Safe.bind ?_ (fun _ => ?_)
    | with_reducible exact Safe.load (reads5 c arg2 arg3 arg4 arg5 arg6 arg7 arg8 arg9 arg10 arg11 arg12 x2 x3 x4 x5 x6) _ _

theorem safe_t1 (arg1 : BitVec 32) (v20 : BitVec 32) (v23 : IVec S256x128 1) (v24 : IVec S256x128 1) (v30 : FVec F S256x128 .bf16) (v36 : FVec F S256x128 .bf16) (v37 : Vec F S1x256x128 .bf16) (v43 : Vec F S1x256x128 .bf16) (v50 : Vec F S1x256x128 .f32) kk acc :
    Safe (F := F) (Hold (F := F) c arg2 arg3 arg4 arg5 arg6 arg7 arg8 arg9 arg10 arg11 arg12 x2 x3 x4 x5 x6) c (k0_t1_body i arg2 harg2 arg3 harg3 arg4 harg4 arg5 harg5 arg6 harg6 arg7 harg7 arg8 harg8 arg9 harg9 arg10 harg10 arg11 harg11 arg12 harg12 arg1 v20 v23 v24 v30 v36 v37 v43 v50 kk acc) := by
  unfold k0_t1_body
  repeat' first
    | with_reducible exact Safe.pure _
    | with_reducible apply safe_part1
    | with_reducible refine Safe.bind ?_ (fun _ => ?_)
    | with_reducible exact Safe.load (reads8 c arg2 arg3 arg4 arg5 arg6 arg7 arg8 arg9 arg10 arg11 arg12 x2 x3 x4 x5 x6) _ _
    | with_reducible exact Safe.store (writes8 c arg2 arg3 arg4 arg5 arg6 arg7 arg8 arg9 arg10 arg11 arg12 x2 x3 x4 x5 x6) _ _ _ _ _

theorem safe_part2 (v49 : FVec F S1024x128 .bf16) (v52 : FVec F S128x256 .f32) (v62 : BitVec 32) (c1_i32_29 : BitVec 32) (k0_t2 : Fin (k0_t2_loop i).trips) :
    Safe (F := F) (Hold (F := F) c arg2 arg3 arg4 arg5 arg6 arg7 arg8 arg9 arg10 arg11 arg12 x2 x3 x4 x5 x6) c (k0_part2 i arg2 harg2 arg3 harg3 arg4 harg4 arg5 harg5 arg6 harg6 arg7 harg7 arg8 harg8 arg9 harg9 arg10 harg10 arg11 harg11 arg12 harg12 v49 v52 v62 c1_i32_29 k0_t2) := by
  rw [k0_part2_eq_skeleton]
  unfold k0_part2_skel
  repeat' first
    | with_reducible exact Safe.pure _
    | with_reducible refine Safe.bind ?_ (fun _ => ?_)
    | with_reducible exact Safe.load (reads5 c arg2 arg3 arg4 arg5 arg6 arg7 arg8 arg9 arg10 arg11 arg12 x2 x3 x4 x5 x6) _ _

theorem safe_t2 (arg1 : BitVec 32) (v20 : BitVec 32) (v23 : IVec S256x128 1) (v24 : IVec S256x128 1) (v30 : FVec F S256x128 .bf16) (v36 : FVec F S256x128 .bf16) (v37 : Vec F S1x256x128 .bf16) (v43 : Vec F S1x256x128 .bf16) (v50 : Vec F S1x256x128 .f32) (v62 : BitVec 32) kk acc :
    Safe (F := F) (Hold (F := F) c arg2 arg3 arg4 arg5 arg6 arg7 arg8 arg9 arg10 arg11 arg12 x2 x3 x4 x5 x6) c (k0_t2_body i arg2 harg2 arg3 harg3 arg4 harg4 arg5 harg5 arg6 harg6 arg7 harg7 arg8 harg8 arg9 harg9 arg10 harg10 arg11 harg11 arg12 harg12 arg1 v20 v23 v24 v30 v36 v37 v43 v50 v62 kk acc) := by
  unfold k0_t2_body
  repeat' first
    | with_reducible exact Safe.pure _
    | with_reducible apply safe_part2
    | with_reducible refine Safe.bind ?_ (fun _ => ?_)
    | with_reducible exact Safe.load (reads8 c arg2 arg3 arg4 arg5 arg6 arg7 arg8 arg9 arg10 arg11 arg12 x2 x3 x4 x5 x6) _ _
    | with_reducible exact Safe.store (writes8 c arg2 arg3 arg4 arg5 arg6 arg7 arg8 arg9 arg10 arg11 arg12 x2 x3 x4 x5 x6) _ _ _ _ _

theorem safe_part3 (c0_i32_136 : BitVec 32) (c1_i32_137 : BitVec 32) (k0_t3 : Fin k0_t3_loop.trips) (arg14 : IVec S1x256 32) :
    Safe (F := F) (Hold (F := F) c arg2 arg3 arg4 arg5 arg6 arg7 arg8 arg9 arg10 arg11 arg12 x2 x3 x4 x5 x6) c (k0_part3 i arg2 harg2 arg3 harg3 arg4 harg4 arg5 harg5 arg6 harg6 arg7 harg7 arg8 harg8 arg9 harg9 arg10 harg10 arg11 harg11 arg12 harg12 c0_i32_136 c1_i32_137 k0_t3 arg14) := by
  rw [k0_part3_eq_skeleton]
  unfold k0_part3_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part4 (v223 : IVec S1x256 32) (v250 : FVec F S8x256 .f32) (v264 : FVec F S64x256 .f32) (v265 : FVec F S64x256 .f32) :
    Safe (F := F) (Hold (F := F) c arg2 arg3 arg4 arg5 arg6 arg7 arg8 arg9 arg10 arg11 arg12 x2 x3 x4 x5 x6) c (k0_part4 i arg2 harg2 arg3 harg3 arg4 harg4 arg5 harg5 arg6 harg6 arg7 harg7 arg8 harg8 arg9 harg9 arg10 harg10 arg11 harg11 arg12 harg12 v223 v250 v264 v265) := by
  rw [k0_part4_eq_skeleton]
  unfold k0_part4_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part5 (v223 : IVec S1x256 32) (v302 : FVec F S8x256 .f32) (v315 : FVec F S128x256 .f32) :
    Safe (F := F) (Hold (F := F) c arg2 arg3 arg4 arg5 arg6 arg7 arg8 arg9 arg10 arg11 arg12 x2 x3 x4 x5 x6) c (k0_part5 i arg2 harg2 arg3 harg3 arg4 harg4 arg5 harg5 arg6 harg6 arg7 harg7 arg8 harg8 arg9 harg9 arg10 harg10 arg11 harg11 arg12 harg12 v223 v302 v315) := by
  rw [k0_part5_eq_skeleton]
  unfold k0_part5_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part6 (v223 : IVec S1x256 32) (v354 : FVec F S8x256 .f32) (v364 : FVec F S256x256 .f32) (v365 : FVec F S128x256 .f32) :
    Safe (F := F) (Hold (F := F) c arg2 arg3 arg4 arg5 arg6 arg7 arg8 arg9 arg10 arg11 arg12 x2 x3 x4 x5 x6) c (k0_part6 i arg2 harg2 arg3 harg3 arg4 harg4 arg5 harg5 arg6 harg6 arg7 harg7 arg8 harg8 arg9 harg9 arg10 harg10 arg11 harg11 arg12 harg12 v223 v354 v364 v365) := by
  rw [k0_part6_eq_skeleton]
  unfold k0_part6_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t3 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : k0_cond7 i = 1#1) kk acc :
    Safe (F := F) (Hold (F := F) c arg2 arg3 arg4 arg5 arg6 arg7 arg8 arg9 arg10 arg11 arg12 x2 x3 x4 x5 x6) c (k0_t3_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 k0_h4 k0_h5 k0_h6 k0_h7 kk acc) := by
  unfold k0_t3_body
  repeat' first
    | with_reducible exact Safe.pure _
    | with_reducible apply safe_part3
    | with_reducible apply safe_part4
    | with_reducible apply safe_part5
    | with_reducible apply safe_part6
    | with_reducible refine Safe.bind ?_ (fun _ => ?_)

theorem safe_part7 (c0_i32_136 : BitVec 32) (c1_i32_137 : BitVec 32) (k0_t4 : Fin k0_t4_loop.trips) (arg14 : IVec S1x256 32) :
    Safe (F := F) (Hold (F := F) c arg2 arg3 arg4 arg5 arg6 arg7 arg8 arg9 arg10 arg11 arg12 x2 x3 x4 x5 x6) c (k0_part7 i arg2 harg2 arg3 harg3 arg4 harg4 arg5 harg5 arg6 harg6 arg7 harg7 arg8 harg8 arg9 harg9 arg10 harg10 arg11 harg11 arg12 harg12 c0_i32_136 c1_i32_137 k0_t4 arg14) := by
  rw [k0_part7_eq_skeleton]
  unfold k0_part7_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part8 (v223 : IVec S1x256 32) (v250 : FVec F S8x256 .f32) (v264 : FVec F S64x256 .f32) (v265 : FVec F S64x256 .f32) :
    Safe (F := F) (Hold (F := F) c arg2 arg3 arg4 arg5 arg6 arg7 arg8 arg9 arg10 arg11 arg12 x2 x3 x4 x5 x6) c (k0_part8 i arg2 harg2 arg3 harg3 arg4 harg4 arg5 harg5 arg6 harg6 arg7 harg7 arg8 harg8 arg9 harg9 arg10 harg10 arg11 harg11 arg12 harg12 v223 v250 v264 v265) := by
  rw [k0_part8_eq_skeleton]
  unfold k0_part8_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part9 (v223 : IVec S1x256 32) (v302 : FVec F S8x256 .f32) (v315 : FVec F S128x256 .f32) :
    Safe (F := F) (Hold (F := F) c arg2 arg3 arg4 arg5 arg6 arg7 arg8 arg9 arg10 arg11 arg12 x2 x3 x4 x5 x6) c (k0_part9 i arg2 harg2 arg3 harg3 arg4 harg4 arg5 harg5 arg6 harg6 arg7 harg7 arg8 harg8 arg9 harg9 arg10 harg10 arg11 harg11 arg12 harg12 v223 v302 v315) := by
  rw [k0_part9_eq_skeleton]
  unfold k0_part9_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t4 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : ¬k0_cond7 i = 1#1) kk acc :
    Safe (F := F) (Hold (F := F) c arg2 arg3 arg4 arg5 arg6 arg7 arg8 arg9 arg10 arg11 arg12 x2 x3 x4 x5 x6) c (k0_t4_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 k0_h4 k0_h5 k0_h6 k0_h7 kk acc) := by
  unfold k0_t4_body
  repeat' first
    | with_reducible exact Safe.pure _
    | with_reducible apply safe_part7
    | with_reducible apply safe_part8
    | with_reducible apply safe_part9
    | with_reducible refine Safe.bind ?_ (fun _ => ?_)
    | with_reducible exact Safe.load (reads8 c arg2 arg3 arg4 arg5 arg6 arg7 arg8 arg9 arg10 arg11 arg12 x2 x3 x4 x5 x6) _ _

theorem safe_part10 (c0_i32_134 : BitVec 32) (c1_i32_135 : BitVec 32) (k0_t5 : Fin k0_t5_loop.trips) (arg14 : IVec S1x256 32) :
    Safe (F := F) (Hold (F := F) c arg2 arg3 arg4 arg5 arg6 arg7 arg8 arg9 arg10 arg11 arg12 x2 x3 x4 x5 x6) c (k0_part10 i arg2 harg2 arg3 harg3 arg4 harg4 arg5 harg5 arg6 harg6 arg7 harg7 arg8 harg8 arg9 harg9 arg10 harg10 arg11 harg11 arg12 harg12 c0_i32_134 c1_i32_135 k0_t5 arg14) := by
  rw [k0_part10_eq_skeleton]
  unfold k0_part10_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part11 (v220 : IVec S1x256 32) (v247 : FVec F S8x256 .f32) (v261 : FVec F S64x256 .f32) (v262 : FVec F S64x256 .f32) :
    Safe (F := F) (Hold (F := F) c arg2 arg3 arg4 arg5 arg6 arg7 arg8 arg9 arg10 arg11 arg12 x2 x3 x4 x5 x6) c (k0_part11 i arg2 harg2 arg3 harg3 arg4 harg4 arg5 harg5 arg6 harg6 arg7 harg7 arg8 harg8 arg9 harg9 arg10 harg10 arg11 harg11 arg12 harg12 v220 v247 v261 v262) := by
  rw [k0_part11_eq_skeleton]
  unfold k0_part11_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part12 (v220 : IVec S1x256 32) (v299 : FVec F S8x256 .f32) (v312 : FVec F S128x256 .f32) :
    Safe (F := F) (Hold (F := F) c arg2 arg3 arg4 arg5 arg6 arg7 arg8 arg9 arg10 arg11 arg12 x2 x3 x4 x5 x6) c (k0_part12 i arg2 harg2 arg3 harg3 arg4 harg4 arg5 harg5 arg6 harg6 arg7 harg7 arg8 harg8 arg9 harg9 arg10 harg10 arg11 harg11 arg12 harg12 v220 v299 v312) := by
  rw [k0_part12_eq_skeleton]
  unfold k0_part12_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t5 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : k0_cond3 i = 1#1) (k0_h4 : k0_cond4 i = 1#1) (k0_h5 : k0_cond5 i = 1#1) (k0_h6 : ¬k0_cond6 i = 1#1) kk acc :
    Safe (F := F) (Hold (F := F) c arg2 arg3 arg4 arg5 arg6 arg7 arg8 arg9 arg10 arg11 arg12 x2 x3 x4 x5 x6) c (k0_t5_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 k0_h4 k0_h5 k0_h6 kk acc) := by
  unfold k0_t5_body
  repeat' first
    | with_reducible exact Safe.pure _
    | with_reducible apply safe_part10
    | with_reducible apply safe_part11
    | with_reducible apply safe_part12
    | with_reducible refine Safe.bind ?_ (fun _ => ?_)

theorem safe_part13 (c0_i32_132 : BitVec 32) (c1_i32_133 : BitVec 32) (k0_t6 : Fin k0_t6_loop.trips) (arg14 : IVec S1x256 32) :
    Safe (F := F) (Hold (F := F) c arg2 arg3 arg4 arg5 arg6 arg7 arg8 arg9 arg10 arg11 arg12 x2 x3 x4 x5 x6) c (k0_part13 i arg2 harg2 arg3 harg3 arg4 harg4 arg5 harg5 arg6 harg6 arg7 harg7 arg8 harg8 arg9 harg9 arg10 harg10 arg11 harg11 arg12 harg12 c0_i32_132 c1_i32_133 k0_t6 arg14) := by
  rw [k0_part13_eq_skeleton]
  unfold k0_part13_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part14 (v217 : IVec S1x256 32) (v244 : FVec F S8x256 .f32) (v258 : FVec F S64x256 .f32) (v259 : FVec F S64x256 .f32) :
    Safe (F := F) (Hold (F := F) c arg2 arg3 arg4 arg5 arg6 arg7 arg8 arg9 arg10 arg11 arg12 x2 x3 x4 x5 x6) c (k0_part14 i arg2 harg2 arg3 harg3 arg4 harg4 arg5 harg5 arg6 harg6 arg7 harg7 arg8 harg8 arg9 harg9 arg10 harg10 arg11 harg11 arg12 harg12 v217 v244 v258 v259) := by
  rw [k0_part14_eq_skeleton]
  unfold k0_part14_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t6 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : k0_cond3 i = 1#1) (k0_h4 : k0_cond4 i = 1#1) (k0_h5 : ¬k0_cond5 i = 1#1) kk acc :
    Safe (F := F) (Hold (F := F) c arg2 arg3 arg4 arg5 arg6 arg7 arg8 arg9 arg10 arg11 arg12 x2 x3 x4 x5 x6) c (k0_t6_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 k0_h4 k0_h5 kk acc) := by
  unfold k0_t6_body
  repeat' first
    | with_reducible exact Safe.pure _
    | with_reducible apply safe_part13
    | with_reducible apply safe_part14
    | with_reducible refine Safe.bind ?_ (fun _ => ?_)
    | with_reducible exact Safe.load (reads8 c arg2 arg3 arg4 arg5 arg6 arg7 arg8 arg9 arg10 arg11 arg12 x2 x3 x4 x5 x6) _ _

theorem safe_part15 (c0_i32_130 : BitVec 32) (c1_i32_131 : BitVec 32) (k0_t7 : Fin k0_t7_loop.trips) (arg14 : IVec S1x256 32) :
    Safe (F := F) (Hold (F := F) c arg2 arg3 arg4 arg5 arg6 arg7 arg8 arg9 arg10 arg11 arg12 x2 x3 x4 x5 x6) c (k0_part15 i arg2 harg2 arg3 harg3 arg4 harg4 arg5 harg5 arg6 harg6 arg7 harg7 arg8 harg8 arg9 harg9 arg10 harg10 arg11 harg11 arg12 harg12 c0_i32_130 c1_i32_131 k0_t7 arg14) := by
  rw [k0_part15_eq_skeleton]
  unfold k0_part15_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_part16 (v214 : IVec S1x256 32) (v241 : FVec F S8x256 .f32) (v255 : FVec F S64x256 .f32) (v256 : FVec F S64x256 .f32) :
    Safe (F := F) (Hold (F := F) c arg2 arg3 arg4 arg5 arg6 arg7 arg8 arg9 arg10 arg11 arg12 x2 x3 x4 x5 x6) c (k0_part16 i arg2 harg2 arg3 harg3 arg4 harg4 arg5 harg5 arg6 harg6 arg7 harg7 arg8 harg8 arg9 harg9 arg10 harg10 arg11 harg11 arg12 harg12 v214 v241 v255 v256) := by
  rw [k0_part16_eq_skeleton]
  unfold k0_part16_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t7 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : k0_cond3 i = 1#1) (k0_h4 : ¬k0_cond4 i = 1#1) kk acc :
    Safe (F := F) (Hold (F := F) c arg2 arg3 arg4 arg5 arg6 arg7 arg8 arg9 arg10 arg11 arg12 x2 x3 x4 x5 x6) c (k0_t7_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 k0_h4 kk acc) := by
  unfold k0_t7_body
  repeat' first
    | with_reducible exact Safe.pure _
    | with_reducible apply safe_part15
    | with_reducible apply safe_part16
    | with_reducible refine Safe.bind ?_ (fun _ => ?_)

theorem safe_part17 (c0_i32_128 : BitVec 32) (c1_i32_129 : BitVec 32) (k0_t8 : Fin k0_t8_loop.trips) (arg14 : IVec S1x256 32) :
    Safe (F := F) (Hold (F := F) c arg2 arg3 arg4 arg5 arg6 arg7 arg8 arg9 arg10 arg11 arg12 x2 x3 x4 x5 x6) c (k0_part17 i arg2 harg2 arg3 harg3 arg4 harg4 arg5 harg5 arg6 harg6 arg7 harg7 arg8 harg8 arg9 harg9 arg10 harg10 arg11 harg11 arg12 harg12 c0_i32_128 c1_i32_129 k0_t8 arg14) := by
  rw [k0_part17_eq_skeleton]
  unfold k0_part17_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t8 (arg1 : BitVec 32) (v20 : BitVec 32) (v23 : IVec S256x128 1) (v24 : IVec S256x128 1) (v30 : FVec F S256x128 .bf16) (v36 : FVec F S256x128 .bf16) (k0_h1 : k0_cond1 i = 1#1) (k0_h2 : k0_cond2 i = 1#1) (k0_h3 : ¬k0_cond3 i = 1#1) kk acc :
    Safe (F := F) (Hold (F := F) c arg2 arg3 arg4 arg5 arg6 arg7 arg8 arg9 arg10 arg11 arg12 x2 x3 x4 x5 x6) c (k0_t8_body i arg2 harg2 arg3 harg3 arg4 harg4 arg5 harg5 arg6 harg6 arg7 harg7 arg8 harg8 arg9 harg9 arg10 harg10 arg11 harg11 arg12 harg12 arg1 v20 v23 v24 v30 v36 k0_h1 k0_h2 k0_h3 kk acc) := by
  unfold k0_t8_body
  repeat' first
    | with_reducible exact Safe.pure _
    | with_reducible apply safe_part17
    | with_reducible refine Safe.bind ?_ (fun _ => ?_)
    | with_reducible exact Safe.load (reads8 c arg2 arg3 arg4 arg5 arg6 arg7 arg8 arg9 arg10 arg11 arg12 x2 x3 x4 x5 x6) _ _

theorem safe_part18 (c0_i32_126 : BitVec 32) (c1_i32_127 : BitVec 32) (k0_t9 : Fin k0_t9_loop.trips) (arg14 : IVec S1x256 32) :
    Safe (F := F) (Hold (F := F) c arg2 arg3 arg4 arg5 arg6 arg7 arg8 arg9 arg10 arg11 arg12 x2 x3 x4 x5 x6) c (k0_part18 i arg2 harg2 arg3 harg3 arg4 harg4 arg5 harg5 arg6 harg6 arg7 harg7 arg8 harg8 arg9 harg9 arg10 harg10 arg11 harg11 arg12 harg12 c0_i32_126 c1_i32_127 k0_t9 arg14) := by
  rw [k0_part18_eq_skeleton]
  unfold k0_part18_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t9 (arg1 : BitVec 32) (v20 : BitVec 32) (v23 : IVec S256x128 1) (v24 : IVec S256x128 1) (v30 : FVec F S256x128 .bf16) (v36 : FVec F S256x128 .bf16) (k0_h1 : k0_cond1 i = 1#1) (k0_h2 : ¬k0_cond2 i = 1#1) kk acc :
    Safe (F := F) (Hold (F := F) c arg2 arg3 arg4 arg5 arg6 arg7 arg8 arg9 arg10 arg11 arg12 x2 x3 x4 x5 x6) c (k0_t9_body i arg2 harg2 arg3 harg3 arg4 harg4 arg5 harg5 arg6 harg6 arg7 harg7 arg8 harg8 arg9 harg9 arg10 harg10 arg11 harg11 arg12 harg12 arg1 v20 v23 v24 v30 v36 k0_h1 k0_h2 kk acc) := by
  unfold k0_t9_body
  repeat' first
    | with_reducible exact Safe.pure _
    | with_reducible apply safe_part18
    | with_reducible refine Safe.bind ?_ (fun _ => ?_)

theorem safe_t11 (v20 : BitVec 32) (v23 : IVec S256x128 1) (v63 : IVec S512x256 32) (v70_0 : IVec S1x256 32) (v70_1 : FVec F S1x256 .f32) (cst_35 : F .f32) kk acc :
    Safe (F := F) (Hold (F := F) c arg2 arg3 arg4 arg5 arg6 arg7 arg8 arg9 arg10 arg11 arg12 x2 x3 x4 x5 x6) c (k0_t11_body i arg2 harg2 arg3 harg3 arg4 harg4 arg5 harg5 arg6 harg6 arg7 harg7 arg8 harg8 arg9 harg9 arg10 harg10 arg11 harg11 arg12 harg12 v20 v23 v63 v70_0 v70_1 cst_35 kk acc) := by
  unfold k0_t11_body
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t12 (v20 : BitVec 32) (v23 : IVec S256x128 1) (v63 : IVec S512x256 32) (v70_0 : IVec S1x256 32) (v70_1 : FVec F S1x256 .f32) (cst_35 : F .f32) kk acc :
    Safe (F := F) (Hold (F := F) c arg2 arg3 arg4 arg5 arg6 arg7 arg8 arg9 arg10 arg11 arg12 x2 x3 x4 x5 x6) c (k0_t12_body i arg2 harg2 arg3 harg3 arg4 harg4 arg5 harg5 arg6 harg6 arg7 harg7 arg8 harg8 arg9 harg9 arg10 harg10 arg11 harg11 arg12 harg12 v20 v23 v63 v70_0 v70_1 cst_35 kk acc) := by
  unfold k0_t12_body
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t14 (v20 : BitVec 32) (v23 : IVec S256x128 1) (v63 : IVec S512x256 32) (v70_0 : IVec S1x256 32) (v70_1 : FVec F S1x256 .f32) (cst_35 : F .f32) (k0_t13 : Fin k0_t13_loop.trips) (arg14 : IVec S1x256 32) kk acc :
    Safe (F := F) (Hold (F := F) c arg2 arg3 arg4 arg5 arg6 arg7 arg8 arg9 arg10 arg11 arg12 x2 x3 x4 x5 x6) c (k0_t14_body i arg2 harg2 arg3 harg3 arg4 harg4 arg5 harg5 arg6 harg6 arg7 harg7 arg8 harg8 arg9 harg9 arg10 harg10 arg11 harg11 arg12 harg12 v20 v23 v63 v70_0 v70_1 cst_35 k0_t13 arg14 kk acc) := by
  unfold k0_t14_body
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t15 (v20 : BitVec 32) (v23 : IVec S256x128 1) (v63 : IVec S512x256 32) (v70_0 : IVec S1x256 32) (v70_1 : FVec F S1x256 .f32) (cst_35 : F .f32) (k0_t13 : Fin k0_t13_loop.trips) (arg14 : IVec S1x256 32) kk acc :
    Safe (F := F) (Hold (F := F) c arg2 arg3 arg4 arg5 arg6 arg7 arg8 arg9 arg10 arg11 arg12 x2 x3 x4 x5 x6) c (k0_t15_body i arg2 harg2 arg3 harg3 arg4 harg4 arg5 harg5 arg6 harg6 arg7 harg7 arg8 harg8 arg9 harg9 arg10 harg10 arg11 harg11 arg12 harg12 v20 v23 v63 v70_0 v70_1 cst_35 k0_t13 arg14 kk acc) := by
  unfold k0_t15_body
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _

theorem safe_t13 (v20 : BitVec 32) (v23 : IVec S256x128 1) (v63 : IVec S512x256 32) (v70_0 : IVec S1x256 32) (v70_1 : FVec F S1x256 .f32) (cst_35 : F .f32) (v205 : FVec F S8x256 .f32) kk acc :
    Safe (F := F) (Hold (F := F) c arg2 arg3 arg4 arg5 arg6 arg7 arg8 arg9 arg10 arg11 arg12 x2 x3 x4 x5 x6) c (k0_t13_body i arg2 harg2 arg3 harg3 arg4 harg4 arg5 harg5 arg6 harg6 arg7 harg7 arg8 harg8 arg9 harg9 arg10 harg10 arg11 harg11 arg12 harg12 v20 v23 v63 v70_0 v70_1 cst_35 v205 kk acc) := by
  unfold k0_t13_body
  repeat' first
    | with_reducible exact Safe.pure _
    | with_reducible apply safe_t14
    | with_reducible apply safe_t15
    | with_reducible refine Safe.loop _ _ _ (fun _ _ => ?_)
    | with_reducible refine Safe.bind ?_ (fun _ => ?_)

theorem safe_part19 (v63 : IVec S512x256 32) (v70_0 : IVec S1x256 32) (v86 : IVec S1x256 32) (c0_i32_43 : BitVec 32) (c1_i32_45 : BitVec 32) (k0_t16 : Fin (k0_t16_loop i).trips) :
    Safe (F := F) (Hold (F := F) c arg2 arg3 arg4 arg5 arg6 arg7 arg8 arg9 arg10 arg11 arg12 x2 x3 x4 x5 x6) c (k0_part19 i arg2 harg2 arg3 harg3 arg4 harg4 arg5 harg5 arg6 harg6 arg7 harg7 arg8 harg8 arg9 harg9 arg10 harg10 arg11 harg11 arg12 harg12 v63 v70_0 v86 c0_i32_43 c1_i32_45 k0_t16) := by
  rw [k0_part19_eq_skeleton]
  unfold k0_part19_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _
    | with_reducible exact Safe.load (reads9 c arg2 arg3 arg4 arg5 arg6 arg7 arg8 arg9 arg10 arg11 arg12 x2 x3 x4 x5 x6) _ _
    | with_reducible exact Safe.store (writes9 c arg2 arg3 arg4 arg5 arg6 arg7 arg8 arg9 arg10 arg11 arg12 x2 x3 x4 x5 x6) _ _ _ _ _

theorem safe_t16 (v20 : BitVec 32) (v23 : IVec S256x128 1) (v63 : IVec S512x256 32) (v70_0 : IVec S1x256 32) (v70_1 : FVec F S1x256 .f32) (cst_35 : F .f32) (v86 : IVec S1x256 32) kk acc :
    Safe (F := F) (Hold (F := F) c arg2 arg3 arg4 arg5 arg6 arg7 arg8 arg9 arg10 arg11 arg12 x2 x3 x4 x5 x6) c (k0_t16_body i arg2 harg2 arg3 harg3 arg4 harg4 arg5 harg5 arg6 harg6 arg7 harg7 arg8 harg8 arg9 harg9 arg10 harg10 arg11 harg11 arg12 harg12 v20 v23 v63 v70_0 v70_1 cst_35 v86 kk acc) := by
  unfold k0_t16_body
  repeat' first
    | with_reducible exact Safe.pure _
    | with_reducible apply safe_part19
    | with_reducible refine Safe.bind ?_ (fun _ => ?_)
    | with_reducible exact Safe.load (reads9 c arg2 arg3 arg4 arg5 arg6 arg7 arg8 arg9 arg10 arg11 arg12 x2 x3 x4 x5 x6) _ _
    | with_reducible exact Safe.store (writes9 c arg2 arg3 arg4 arg5 arg6 arg7 arg8 arg9 arg10 arg11 arg12 x2 x3 x4 x5 x6) _ _ _ _ _

theorem safe_part20 (v63 : IVec S512x256 32) (v70_0 : IVec S1x256 32) (v86 : IVec S1x256 32) (v91 : BitVec 32) (c1_i32_46 : BitVec 32) (k0_t17 : Fin (k0_t17_loop i).trips) :
    Safe (F := F) (Hold (F := F) c arg2 arg3 arg4 arg5 arg6 arg7 arg8 arg9 arg10 arg11 arg12 x2 x3 x4 x5 x6) c (k0_part20 i arg2 harg2 arg3 harg3 arg4 harg4 arg5 harg5 arg6 harg6 arg7 harg7 arg8 harg8 arg9 harg9 arg10 harg10 arg11 harg11 arg12 harg12 v63 v70_0 v86 v91 c1_i32_46 k0_t17) := by
  rw [k0_part20_eq_skeleton]
  unfold k0_part20_skel
  repeat' first
    | with_reducible exact Safe.pure _
    | with_reducible refine Safe.bind ?_ (fun _ => ?_)
    | with_reducible exact Safe.load (reads8 c arg2 arg3 arg4 arg5 arg6 arg7 arg8 arg9 arg10 arg11 arg12 x2 x3 x4 x5 x6) _ _
    | with_reducible exact Safe.load (reads9 c arg2 arg3 arg4 arg5 arg6 arg7 arg8 arg9 arg10 arg11 arg12 x2 x3 x4 x5 x6) _ _
    | with_reducible exact Safe.store (writes9 c arg2 arg3 arg4 arg5 arg6 arg7 arg8 arg9 arg10 arg11 arg12 x2 x3 x4 x5 x6) _ _ _ _ _

theorem safe_t17 (v20 : BitVec 32) (v23 : IVec S256x128 1) (v63 : IVec S512x256 32) (v70_0 : IVec S1x256 32) (v70_1 : FVec F S1x256 .f32) (cst_35 : F .f32) (v86 : IVec S1x256 32) (v91 : BitVec 32) kk acc :
    Safe (F := F) (Hold (F := F) c arg2 arg3 arg4 arg5 arg6 arg7 arg8 arg9 arg10 arg11 arg12 x2 x3 x4 x5 x6) c (k0_t17_body i arg2 harg2 arg3 harg3 arg4 harg4 arg5 harg5 arg6 harg6 arg7 harg7 arg8 harg8 arg9 harg9 arg10 harg10 arg11 harg11 arg12 harg12 v20 v23 v63 v70_0 v70_1 cst_35 v86 v91 kk acc) := by
  unfold k0_t17_body
  repeat' first
    | with_reducible exact Safe.pure _
    | with_reducible apply safe_part20
    | with_reducible refine Safe.bind ?_ (fun _ => ?_)
    | with_reducible exact Safe.load (reads9 c arg2 arg3 arg4 arg5 arg6 arg7 arg8 arg9 arg10 arg11 arg12 x2 x3 x4 x5 x6) _ _
    | with_reducible exact Safe.store (writes9 c arg2 arg3 arg4 arg5 arg6 arg7 arg8 arg9 arg10 arg11 arg12 x2 x3 x4 x5 x6) _ _ _ _ _

theorem safe_part37 (v20 : BitVec 32) (v23 : IVec S256x128 1) (v63 : IVec S512x256 32) (v70_0 : IVec S1x256 32) (v70_1 : FVec F S1x256 .f32) (cst_35 : F .f32) :
    Safe (F := F) (Hold (F := F) c arg2 arg3 arg4 arg5 arg6 arg7 arg8 arg9 arg10 arg11 arg12 x2 x3 x4 x5 x6) c (k0_part37 i arg2 harg2 arg3 harg3 arg4 harg4 arg5 harg5 arg6 harg6 arg7 harg7 arg8 harg8 arg9 harg9 arg10 harg10 arg11 harg11 arg12 harg12 v20 v23 v63 v70_0 v70_1 cst_35) := by
  rw [k0_part37_eq_skeleton]
  unfold k0_part37_skel
  dsimp only
  repeat' first
    | with_reducible exact Safe.pure _
    | with_reducible apply safe_t11
    | with_reducible apply safe_t12
    | with_reducible apply safe_t13
    | with_reducible apply safe_t16
    | with_reducible apply safe_t17
    | with_reducible refine Safe.loop _ _ _ (fun _ _ => ?_)
    | with_reducible refine Safe.dite (fun _ => ?_) (fun _ => ?_)
    | with_reducible refine Safe.ite ?_ ?_
    | with_reducible refine Safe.bind ?_ (fun _ => ?_)
    | with_reducible exact Safe.load (reads2 c arg2 arg3 arg4 arg5 arg6 arg7 arg8 arg9 arg10 arg11 arg12 x2 x3 x4 x5 x6) _ _

theorem safe_part38 (v20 : BitVec 32) (v23 : IVec S256x128 1) (v24 : IVec S256x128 1) (v97 : FVec F S256x128 .bf16) (v103 : FVec F S256x128 .bf16) (v105 : FVec F S256x128 .bf16) :
    Safe (F := F) (Hold (F := F) c arg2 arg3 arg4 arg5 arg6 arg7 arg8 arg9 arg10 arg11 arg12 x2 x3 x4 x5 x6) c (k0_part38 i arg2 harg2 arg3 harg3 arg4 harg4 arg5 harg5 arg6 harg6 arg7 harg7 arg8 harg8 arg9 harg9 arg10 harg10 arg11 harg11 arg12 harg12 v20 v23 v24 v97 v103 v105) := by
  rw [k0_part38_eq_skeleton]
  unfold k0_part38_skel
  repeat' first
    | with_reducible exact Safe.pure _
    | with_reducible refine Safe.bind ?_ (fun _ => ?_)
    | with_reducible exact Safe.load (reads2 c arg2 arg3 arg4 arg5 arg6 arg7 arg8 arg9 arg10 arg11 arg12 x2 x3 x4 x5 x6) _ _

theorem safe_part21 (v140 : FVec F S2048x128 .bf16) (c0_i32_88 : BitVec 32) (c1_i32_90 : BitVec 32) (k0_t18 : Fin (k0_t18_loop i).trips) :
    Safe (F := F) (Hold (F := F) c arg2 arg3 arg4 arg5 arg6 arg7 arg8 arg9 arg10 arg11 arg12 x2 x3 x4 x5 x6) c (k0_part21 i arg2 harg2 arg3 harg3 arg4 harg4 arg5 harg5 arg6 harg6 arg7 harg7 arg8 harg8 arg9 harg9 arg10 harg10 arg11 harg11 arg12 harg12 v140 c0_i32_88 c1_i32_90 k0_t18) := by
  rw [k0_part21_eq_skeleton]
  unfold k0_part21_skel
  repeat' first
    | with_reducible exact Safe.pure _
    | with_reducible refine Safe.bind ?_ (fun _ => ?_)
    | with_reducible exact Safe.load (reads6 c arg2 arg3 arg4 arg5 arg6 arg7 arg8 arg9 arg10 arg11 arg12 x2 x3 x4 x5 x6) _ _
    | with_reducible exact Safe.load (reads9 c arg2 arg3 arg4 arg5 arg6 arg7 arg8 arg9 arg10 arg11 arg12 x2 x3 x4 x5 x6) _ _
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part22 (v204 : FVec F S2048x512 .f32) (v207 : FVec F S256x512 .f32) (v234 : FVec F S256x512 .f32) (v235 : Vec F S256x128 .f32) :
    Safe (F := F) (Hold (F := F) c arg2 arg3 arg4 arg5 arg6 arg7 arg8 arg9 arg10 arg11 arg12 x2 x3 x4 x5 x6) c (k0_part22 i arg2 harg2 arg3 harg3 arg4 harg4 arg5 harg5 arg6 harg6 arg7 harg7 arg8 harg8 arg9 harg9 arg10 harg10 arg11 harg11 arg12 harg12 v204 v207 v234 v235) := by
  rw [k0_part22_eq_skeleton]
  unfold k0_part22_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part23 (v204 : FVec F S2048x512 .f32) (v207 : FVec F S256x512 .f32) (v264 : FVec F S256x128 .f32) (v269 : FVec F S256x512 .f32) (v275 : FVec F S256x128 .f32) :
    Safe (F := F) (Hold (F := F) c arg2 arg3 arg4 arg5 arg6 arg7 arg8 arg9 arg10 arg11 arg12 x2 x3 x4 x5 x6) c (k0_part23 i arg2 harg2 arg3 harg3 arg4 harg4 arg5 harg5 arg6 harg6 arg7 harg7 arg8 harg8 arg9 harg9 arg10 harg10 arg11 harg11 arg12 harg12 v204 v207 v264 v269 v275) := by
  rw [k0_part23_eq_skeleton]
  unfold k0_part23_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part24 (v204 : FVec F S2048x512 .f32) (v207 : FVec F S256x512 .f32) (v314 : FVec F S256x128 .f32) (v316 : FVec F S256x128 .f32) (v318 : FVec F S256x512 .f32) :
    Safe (F := F) (Hold (F := F) c arg2 arg3 arg4 arg5 arg6 arg7 arg8 arg9 arg10 arg11 arg12 x2 x3 x4 x5 x6) c (k0_part24 i arg2 harg2 arg3 harg3 arg4 harg4 arg5 harg5 arg6 harg6 arg7 harg7 arg8 harg8 arg9 harg9 arg10 harg10 arg11 harg11 arg12 harg12 v204 v207 v314 v316 v318) := by
  rw [k0_part24_eq_skeleton]
  unfold k0_part24_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part25 (v204 : FVec F S2048x512 .f32) (v207 : FVec F S256x512 .f32) :
    Safe (F := F) (Hold (F := F) c arg2 arg3 arg4 arg5 arg6 arg7 arg8 arg9 arg10 arg11 arg12 x2 x3 x4 x5 x6) c (k0_part25 i arg2 harg2 arg3 harg3 arg4 harg4 arg5 harg5 arg6 harg6 arg7 harg7 arg8 harg8 arg9 harg9 arg10 harg10 arg11 harg11 arg12 harg12 v204 v207) := by
  rw [k0_part25_eq_skeleton]
  unfold k0_part25_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part26 (k0_t18 : Fin (k0_t18_loop i).trips) (v200 : BitVec 32) (v216 : FVec F S256x128 .f32) (v232 : FVec F S256x512 .bf16) (v241 : FVec F S256x128 .f32) (v257 : FVec F S256x512 .bf16) (v266 : FVec F S256x128 .f32) (v282 : FVec F S256x512 .bf16) (v307 : FVec F S256x512 .bf16) (v332 : FVec F S256x512 .bf16) (v357 : FVec F S256x512 .bf16) (v382 : FVec F S256x512 .bf16) (v389 : FVec F S256x128 .f32) (v394 : FVec F S256x512 .f32) (v396 : FVec F S256x128 .f32) (v399 : FVec F S256x128 .f32) :
    Safe (F := F) (Hold (F := F) c arg2 arg3 arg4 arg5 arg6 arg7 arg8 arg9 arg10 arg11 arg12 x2 x3 x4 x5 x6) c (k0_part26 i arg2 harg2 arg3 harg3 arg4 harg4 arg5 harg5 arg6 harg6 arg7 harg7 arg8 harg8 arg9 harg9 arg10 harg10 arg11 harg11 arg12 harg12 k0_t18 v200 v216 v232 v241 v257 v266 v282 v307 v332 v357 v382 v389 v394 v396 v399) := by
  rw [k0_part26_eq_skeleton]
  unfold k0_part26_skel
  repeat' first
    | with_reducible exact Safe.pure _
    | with_reducible refine Safe.bind ?_ (fun _ => ?_)
    | with_reducible exact Safe.load (reads10 c arg2 arg3 arg4 arg5 arg6 arg7 arg8 arg9 arg10 arg11 arg12 x2 x3 x4 x5 x6) _ _
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes10 c arg2 arg3 arg4 arg5 arg6 arg7 arg8 arg9 arg10 arg11 arg12 x2 x3 x4 x5 x6) _ _ _ _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _
    | with_reducible exact Safe.load (Reads.sliced (reads6 c arg2 arg3 arg4 arg5 arg6 arg7 arg8 arg9 arg10 arg11 arg12 x2 x3 x4 x5 x6)) _ _

theorem safe_part27 (v291 : FVec F S256x128 .f32) (v316 : FVec F S256x128 .f32) (v341 : FVec F S256x128 .f32) (v366 : FVec F S256x128 .f32) (v391 : FVec F S256x128 .f32) (v413 : FVec F S2048x128 .f32) (v434 : FVec F S256x128 .f32) :
    Safe (F := F) (Hold (F := F) c arg2 arg3 arg4 arg5 arg6 arg7 arg8 arg9 arg10 arg11 arg12 x2 x3 x4 x5 x6) c (k0_part27 i arg2 harg2 arg3 harg3 arg4 harg4 arg5 harg5 arg6 harg6 arg7 harg7 arg8 harg8 arg9 harg9 arg10 harg10 arg11 harg11 arg12 harg12 v291 v316 v341 v366 v391 v413 v434) := by
  rw [k0_part27_eq_skeleton]
  unfold k0_part27_skel
  repeat' first
    | with_reducible exact Safe.pure _
    | with_reducible refine Safe.bind ?_ (fun _ => ?_)
    | with_reducible exact Safe.load (reads10 c arg2 arg3 arg4 arg5 arg6 arg7 arg8 arg9 arg10 arg11 arg12 x2 x3 x4 x5 x6) _ _
    | with_reducible exact Safe.store (writes10 c arg2 arg3 arg4 arg5 arg6 arg7 arg8 arg9 arg10 arg11 arg12 x2 x3 x4 x5 x6) _ _ _ _ _

theorem safe_t18 (v140 : FVec F S2048x128 .bf16) (v141 : BitVec 32) (v142 : FVec F S2048x128 .f32) kk acc :
    Safe (F := F) (Hold (F := F) c arg2 arg3 arg4 arg5 arg6 arg7 arg8 arg9 arg10 arg11 arg12 x2 x3 x4 x5 x6) c (k0_t18_body i arg2 harg2 arg3 harg3 arg4 harg4 arg5 harg5 arg6 harg6 arg7 harg7 arg8 harg8 arg9 harg9 arg10 harg10 arg11 harg11 arg12 harg12 v140 v141 v142 kk acc) := by
  unfold k0_t18_body
  repeat' first
    | with_reducible exact Safe.pure _
    | with_reducible apply safe_part21
    | with_reducible apply safe_part22
    | with_reducible apply safe_part23
    | with_reducible apply safe_part24
    | with_reducible apply safe_part25
    | with_reducible apply safe_part26
    | with_reducible apply safe_part27
    | with_reducible refine Safe.bind ?_ (fun _ => ?_)
    | with_reducible exact Safe.store (writes10 c arg2 arg3 arg4 arg5 arg6 arg7 arg8 arg9 arg10 arg11 arg12 x2 x3 x4 x5 x6) _ _ _ _ _

theorem safe_part28 (v140 : FVec F S2048x128 .bf16) (v158 : BitVec 32) (c1_i32_91 : BitVec 32) (k0_t19 : Fin (k0_t19_loop i).trips) :
    Safe (F := F) (Hold (F := F) c arg2 arg3 arg4 arg5 arg6 arg7 arg8 arg9 arg10 arg11 arg12 x2 x3 x4 x5 x6) c (k0_part28 i arg2 harg2 arg3 harg3 arg4 harg4 arg5 harg5 arg6 harg6 arg7 harg7 arg8 harg8 arg9 harg9 arg10 harg10 arg11 harg11 arg12 harg12 v140 v158 c1_i32_91 k0_t19) := by
  rw [k0_part28_eq_skeleton]
  unfold k0_part28_skel
  repeat' first
    | with_reducible exact Safe.pure _
    | with_reducible refine Safe.bind ?_ (fun _ => ?_)
    | with_reducible exact Safe.load (reads6 c arg2 arg3 arg4 arg5 arg6 arg7 arg8 arg9 arg10 arg11 arg12 x2 x3 x4 x5 x6) _ _
    | with_reducible exact Safe.load (reads9 c arg2 arg3 arg4 arg5 arg6 arg7 arg8 arg9 arg10 arg11 arg12 x2 x3 x4 x5 x6) _ _
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part29 (v204 : FVec F S2048x512 .f32) (v207 : FVec F S256x512 .f32) (v234 : FVec F S256x512 .f32) (v235 : Vec F S256x128 .f32) :
    Safe (F := F) (Hold (F := F) c arg2 arg3 arg4 arg5 arg6 arg7 arg8 arg9 arg10 arg11 arg12 x2 x3 x4 x5 x6) c (k0_part29 i arg2 harg2 arg3 harg3 arg4 harg4 arg5 harg5 arg6 harg6 arg7 harg7 arg8 harg8 arg9 harg9 arg10 harg10 arg11 harg11 arg12 harg12 v204 v207 v234 v235) := by
  rw [k0_part29_eq_skeleton]
  unfold k0_part29_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part30 (v204 : FVec F S2048x512 .f32) (v207 : FVec F S256x512 .f32) (v264 : FVec F S256x128 .f32) (v269 : FVec F S256x512 .f32) (v275 : FVec F S256x128 .f32) :
    Safe (F := F) (Hold (F := F) c arg2 arg3 arg4 arg5 arg6 arg7 arg8 arg9 arg10 arg11 arg12 x2 x3 x4 x5 x6) c (k0_part30 i arg2 harg2 arg3 harg3 arg4 harg4 arg5 harg5 arg6 harg6 arg7 harg7 arg8 harg8 arg9 harg9 arg10 harg10 arg11 harg11 arg12 harg12 v204 v207 v264 v269 v275) := by
  rw [k0_part30_eq_skeleton]
  unfold k0_part30_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part31 (v204 : FVec F S2048x512 .f32) (v207 : FVec F S256x512 .f32) (v314 : FVec F S256x128 .f32) (v316 : FVec F S256x128 .f32) (v318 : FVec F S256x512 .f32) :
    Safe (F := F) (Hold (F := F) c arg2 arg3 arg4 arg5 arg6 arg7 arg8 arg9 arg10 arg11 arg12 x2 x3 x4 x5 x6) c (k0_part31 i arg2 harg2 arg3 harg3 arg4 harg4 arg5 harg5 arg6 harg6 arg7 harg7 arg8 harg8 arg9 harg9 arg10 harg10 arg11 harg11 arg12 harg12 v204 v207 v314 v316 v318) := by
  rw [k0_part31_eq_skeleton]
  unfold k0_part31_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part32 (v204 : FVec F S2048x512 .f32) (v207 : FVec F S256x512 .f32) :
    Safe (F := F) (Hold (F := F) c arg2 arg3 arg4 arg5 arg6 arg7 arg8 arg9 arg10 arg11 arg12 x2 x3 x4 x5 x6) c (k0_part32 i arg2 harg2 arg3 harg3 arg4 harg4 arg5 harg5 arg6 harg6 arg7 harg7 arg8 harg8 arg9 harg9 arg10 harg10 arg11 harg11 arg12 harg12 v204 v207) := by
  rw [k0_part32_eq_skeleton]
  unfold k0_part32_skel
  repeat' first
    | with_reducible exact Safe.pure _
    | with_reducible refine Safe.bind ?_ (fun _ => ?_)
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

theorem safe_part33 (k0_t19 : Fin (k0_t19_loop i).trips) (v200 : BitVec 32) (v216 : FVec F S256x128 .f32) (v232 : FVec F S256x512 .bf16) (v241 : FVec F S256x128 .f32) (v257 : FVec F S256x512 .bf16) (v266 : FVec F S256x128 .f32) (v282 : FVec F S256x512 .bf16) (v307 : FVec F S256x512 .bf16) (v332 : FVec F S256x512 .bf16) (v357 : FVec F S256x512 .bf16) (v382 : FVec F S256x512 .bf16) (v389 : FVec F S256x128 .f32) (v394 : FVec F S256x512 .f32) (v396 : FVec F S256x128 .f32) (v399 : FVec F S256x128 .f32) :
    Safe (F := F) (Hold (F := F) c arg2 arg3 arg4 arg5 arg6 arg7 arg8 arg9 arg10 arg11 arg12 x2 x3 x4 x5 x6) c (k0_part33 i arg2 harg2 arg3 harg3 arg4 harg4 arg5 harg5 arg6 harg6 arg7 harg7 arg8 harg8 arg9 harg9 arg10 harg10 arg11 harg11 arg12 harg12 k0_t19 v200 v216 v232 v241 v257 v266 v282 v307 v332 v357 v382 v389 v394 v396 v399) := by
  rw [k0_part33_eq_skeleton]
  unfold k0_part33_skel
  repeat' first
    | with_reducible exact Safe.pure _
    | with_reducible refine Safe.bind ?_ (fun _ => ?_)
    | with_reducible exact Safe.load (reads10 c arg2 arg3 arg4 arg5 arg6 arg7 arg8 arg9 arg10 arg11 arg12 x2 x3 x4 x5 x6) _ _
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes10 c arg2 arg3 arg4 arg5 arg6 arg7 arg8 arg9 arg10 arg11 arg12 x2 x3 x4 x5 x6) _ _ _ _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _
    | with_reducible exact Safe.load (Reads.sliced (reads6 c arg2 arg3 arg4 arg5 arg6 arg7 arg8 arg9 arg10 arg11 arg12 x2 x3 x4 x5 x6)) _ _

theorem safe_part34 (v291 : FVec F S256x128 .f32) (v316 : FVec F S256x128 .f32) (v341 : FVec F S256x128 .f32) (v366 : FVec F S256x128 .f32) (v391 : FVec F S256x128 .f32) (v413 : FVec F S2048x128 .f32) (v434 : FVec F S256x128 .f32) :
    Safe (F := F) (Hold (F := F) c arg2 arg3 arg4 arg5 arg6 arg7 arg8 arg9 arg10 arg11 arg12 x2 x3 x4 x5 x6) c (k0_part34 i arg2 harg2 arg3 harg3 arg4 harg4 arg5 harg5 arg6 harg6 arg7 harg7 arg8 harg8 arg9 harg9 arg10 harg10 arg11 harg11 arg12 harg12 v291 v316 v341 v366 v391 v413 v434) := by
  rw [k0_part34_eq_skeleton]
  unfold k0_part34_skel
  repeat' first
    | with_reducible exact Safe.pure _
    | with_reducible refine Safe.bind ?_ (fun _ => ?_)
    | with_reducible exact Safe.load (reads10 c arg2 arg3 arg4 arg5 arg6 arg7 arg8 arg9 arg10 arg11 arg12 x2 x3 x4 x5 x6) _ _
    | with_reducible exact Safe.store (writes10 c arg2 arg3 arg4 arg5 arg6 arg7 arg8 arg9 arg10 arg11 arg12 x2 x3 x4 x5 x6) _ _ _ _ _

theorem safe_t19 (v140 : FVec F S2048x128 .bf16) (v141 : BitVec 32) (v142 : FVec F S2048x128 .f32) (v158 : BitVec 32) kk acc :
    Safe (F := F) (Hold (F := F) c arg2 arg3 arg4 arg5 arg6 arg7 arg8 arg9 arg10 arg11 arg12 x2 x3 x4 x5 x6) c (k0_t19_body i arg2 harg2 arg3 harg3 arg4 harg4 arg5 harg5 arg6 harg6 arg7 harg7 arg8 harg8 arg9 harg9 arg10 harg10 arg11 harg11 arg12 harg12 v140 v141 v142 v158 kk acc) := by
  unfold k0_t19_body
  repeat' first
    | with_reducible exact Safe.pure _
    | with_reducible apply safe_part28
    | with_reducible apply safe_part29
    | with_reducible apply safe_part30
    | with_reducible apply safe_part31
    | with_reducible apply safe_part32
    | with_reducible apply safe_part33
    | with_reducible apply safe_part34
    | with_reducible refine Safe.bind ?_ (fun _ => ?_)
    | with_reducible exact Safe.store (writes10 c arg2 arg3 arg4 arg5 arg6 arg7 arg8 arg9 arg10 arg11 arg12 x2 x3 x4 x5 x6) _ _ _ _ _

theorem safe_part39 (v140 : FVec F S2048x128 .bf16) (v141 : BitVec 32) (v142 : FVec F S2048x128 .f32) :
    Safe (F := F) (Hold (F := F) c arg2 arg3 arg4 arg5 arg6 arg7 arg8 arg9 arg10 arg11 arg12 x2 x3 x4 x5 x6) c (k0_part39 i arg2 harg2 arg3 harg3 arg4 harg4 arg5 harg5 arg6 harg6 arg7 harg7 arg8 harg8 arg9 harg9 arg10 harg10 arg11 harg11 arg12 harg12 v140 v141 v142) := by
  rw [k0_part39_eq_skeleton]
  unfold k0_part39_skel
  repeat' first
    | with_reducible exact Safe.pure _
    | with_reducible apply safe_t18
    | with_reducible apply safe_t19
    | with_reducible refine Safe.loop _ _ _ (fun _ _ => ?_)
    | with_reducible refine Safe.bind ?_ (fun _ => ?_)
    | with_reducible exact Safe.load (reads10 c arg2 arg3 arg4 arg5 arg6 arg7 arg8 arg9 arg10 arg11 arg12 x2 x3 x4 x5 x6) _ _
    | with_reducible exact Safe.load (reads11 c arg2 arg3 arg4 arg5 arg6 arg7 arg8 arg9 arg10 arg11 arg12 x2 x3 x4 x5 x6) _ _
    | with_reducible exact Safe.load (reads12 c arg2 arg3 arg4 arg5 arg6 arg7 arg8 arg9 arg10 arg11 arg12 x2 x3 x4 x5 x6) _ _
    | with_reducible exact Safe.store (writes10 c arg2 arg3 arg4 arg5 arg6 arg7 arg8 arg9 arg10 arg11 arg12 x2 x3 x4 x5 x6) _ _ _ _ _
    | with_reducible exact Safe.store (writes11 c arg2 arg3 arg4 arg5 arg6 arg7 arg8 arg9 arg10 arg11 arg12 x2 x3 x4 x5 x6) _ _ _ _ _
    | with_reducible exact Safe.store (writes12 c arg2 arg3 arg4 arg5 arg6 arg7 arg8 arg9 arg10 arg11 arg12 x2 x3 x4 x5 x6) _ _ _ _ _

end Cert.Dsa

end
-- ==== Proof.SafeB.lean ====
/- The remaining parts of the attention kernel's body, those with branches, and the body as a whole: it keeps what it
   holds, whichever branch the selected rows and the ties take. -/
module

public import proofs.«01_k».proof.Proof.SafeA
@[expose] public section

noncomputable section

namespace Cert.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

variable (c : Dev nD) (i : grid0.Coords)
    (arg2 : Memref sig .tc .vmem S1x256x512 .bf16) (harg2 : arg2.IsWhole) (arg3 : Memref sig .tc .vmem S1x256x256 .bf16) (harg3 : arg3.IsWhole) (arg4 : Memref sig .tc .vmem S1x256x128 .f32) (harg4 : arg4.IsWhole) (arg5 : Memref sig .tc .vmem S1x4096x128 .bf16) (harg5 : arg5.IsWhole) (arg6 : Memref sig .tc .vmem S1x4096x256 .bf16) (harg6 : arg6.IsWhole) (arg7 : Memref sig .tc .vmem S1x256x512 .bf16) (harg7 : arg7.IsWhole) (arg8 : Memref sig .tc .vmem S8x512x256 .i32) (harg8 : arg8.IsWhole) (arg9 : Memref sig .tc .vmem S8x256x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole)
    (x2 : Vec F S1x256x512 .bf16) (x3 : Vec F S1x256x256 .bf16) (x4 : Vec F S1x256x128 .f32) (x5 : Vec F S1x4096x128 .bf16) (x6 : Vec F S1x4096x256 .bf16)

theorem safe_part36 (arg1 : BitVec 32) (v20 : BitVec 32) (v23 : IVec S256x128 1) (v24 : IVec S256x128 1) (v30 : FVec F S256x128 .bf16) (v36 : FVec F S256x128 .bf16) :
    Safe (F := F) (Hold (F := F) c arg2 arg3 arg4 arg5 arg6 arg7 arg8 arg9 arg10 arg11 arg12 x2 x3 x4 x5 x6) c (k0_part36 i arg2 harg2 arg3 harg3 arg4 harg4 arg5 harg5 arg6 harg6 arg7 harg7 arg8 harg8 arg9 harg9 arg10 harg10 arg11 harg11 arg12 harg12 arg1 v20 v23 v24 v30 v36) := by
  rw [k0_part36_eq_skeleton]
  unfold k0_part36_skel
  refine Safe.bind (Safe.load (reads3 c arg2 arg3 arg4 arg5 arg6 arg7 arg8 arg9 arg10 arg11 arg12 x2 x3 x4 x5 x6) _ _) (fun v37 => ?_)
  refine Safe.bind (Safe.load (reads3 c arg2 arg3 arg4 arg5 arg6 arg7 arg8 arg9 arg10 arg11 arg12 x2 x3 x4 x5 x6) _ _) (fun v43 => ?_)
  refine Safe.bind (Safe.load (reads4 c arg2 arg3 arg4 arg5 arg6 arg7 arg8 arg9 arg10 arg11 arg12 x2 x3 x4 x5 x6) _ _) (fun v50 => ?_)
  extract_lets v58 v60 v61 v62 v63 cst j0 j1 j2 j3 j4 j5 j6
  with_reducible refine Safe.bind (Safe.loop _ _ _ fun _ _ => ?_) (fun _ => ?_)
  · with_reducible apply safe_t1
  with_reducible refine Safe.bind (Safe.loop _ _ _ fun _ _ => ?_) (fun _ => ?_)
  · with_reducible apply safe_t2
  have h0 : ∀ x, Safe (F := F) (Hold (F := F) c arg2 arg3 arg4 arg5 arg6 arg7 arg8 arg9 arg10 arg11 arg12 x2 x3 x4 x5 x6) c (j0 x) := fun ⟨_, _⟩ => Safe.pure _
  clear_value j0
  have h1 : ∀ x, Safe (F := F) (Hold (F := F) c arg2 arg3 arg4 arg5 arg6 arg7 arg8 arg9 arg10 arg11 arg12 x2 x3 x4 x5 x6) c (j1 x) := fun ⟨_, _⟩ => Safe.bind (Safe.pure _) h0
  clear_value j1
  have h2 : ∀ x, Safe (F := F) (Hold (F := F) c arg2 arg3 arg4 arg5 arg6 arg7 arg8 arg9 arg10 arg11 arg12 x2 x3 x4 x5 x6) c (j2 x) := fun ⟨_, _⟩ => Safe.bind (Safe.pure _) h1
  clear_value j2
  have h3 : ∀ x, Safe (F := F) (Hold (F := F) c arg2 arg3 arg4 arg5 arg6 arg7 arg8 arg9 arg10 arg11 arg12 x2 x3 x4 x5 x6) c (j3 x) := fun ⟨_, _⟩ => Safe.bind (Safe.pure _) h2
  clear_value j3
  have h4 : ∀ x, Safe (F := F) (Hold (F := F) c arg2 arg3 arg4 arg5 arg6 arg7 arg8 arg9 arg10 arg11 arg12 x2 x3 x4 x5 x6) c (j4 x) := fun ⟨_, _⟩ => Safe.bind (Safe.pure _) h3
  clear_value j4
  have h5 : ∀ x, Safe (F := F) (Hold (F := F) c arg2 arg3 arg4 arg5 arg6 arg7 arg8 arg9 arg10 arg11 arg12 x2 x3 x4 x5 x6) c (j5 x) := fun ⟨_, _⟩ => Safe.bind (Safe.pure _) h4
  clear_value j5
  have h6 : ∀ x, Safe (F := F) (Hold (F := F) c arg2 arg3 arg4 arg5 arg6 arg7 arg8 arg9 arg10 arg11 arg12 x2 x3 x4 x5 x6) c (j6 x) := fun ⟨_, _⟩ => Safe.bind (Safe.pure _) h5
  clear_value j6
  repeat' first
    | with_reducible refine Safe.dite (fun _ => ?_) (fun _ => ?_)
    | with_reducible refine Safe.bind (Safe.loop _ _ _ fun _ _ => safe_t10 c i arg2 harg2 arg3 harg3 arg4 harg4 arg5 harg5 arg6 harg6 arg7 harg7 arg8 harg8 arg9 harg9 arg10 harg10 arg11 harg11 arg12 harg12 x2 x3 x4 x5 x6 _ _ _ _ _ _ _ _ _) (fun _ => ?_)
    | with_reducible refine Safe.bind (Safe.loop _ _ _ fun _ _ => safe_t9 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _) (fun _ => ?_)
    | with_reducible refine Safe.bind (Safe.loop _ _ _ fun _ _ => safe_t8 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _) (fun _ => ?_)
    | with_reducible refine Safe.bind (Safe.loop _ _ _ fun _ _ => safe_t7 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _ _) (fun _ => ?_)
    | with_reducible refine Safe.bind (Safe.loop _ _ _ fun _ _ => safe_t6 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _ _ _) (fun _ => ?_)
    | with_reducible refine Safe.bind (Safe.loop _ _ _ fun _ _ => safe_t5 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _ _ _ _) (fun _ => ?_)
    | with_reducible refine Safe.bind (Safe.loop _ _ _ fun _ _ => safe_t4 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _ _ _ _ _) (fun _ => ?_)
    | with_reducible refine Safe.bind (Safe.loop _ _ _ fun _ _ => safe_t3 c i arg2 harg2 arg3 harg3 arg4 harg4 arg5 harg5 arg6 harg6 arg7 harg7 arg8 harg8 arg9 harg9 arg10 harg10 arg11 harg11 arg12 harg12 x2 x3 x4 x5 x6 _ _ _ _ _ _ _ _ _ _ _ _ _ _ _) (fun _ => ?_)
    | with_reducible refine Safe.bind (Safe.pure _) (fun _ => ?_)
    | with_reducible exact h0 _
    | with_reducible exact h1 _
    | with_reducible exact h2 _
    | with_reducible exact h3 _
    | with_reducible exact h4 _
    | with_reducible exact h5 _
    | with_reducible exact h6 _

theorem safe_part40  :
    Safe (F := F) (Hold (F := F) c arg2 arg3 arg4 arg5 arg6 arg7 arg8 arg9 arg10 arg11 arg12 x2 x3 x4 x5 x6) c (k0_part40 i arg2 harg2 arg3 harg3 arg4 harg4 arg5 harg5 arg6 harg6 arg7 harg7 arg8 harg8 arg9 harg9 arg10 harg10 arg11 harg11 arg12 harg12 ) := by
  rw [k0_part40_eq_skeleton]
  unfold k0_part40_skel
  repeat' first
    | with_reducible exact Safe.pure _
    | with_reducible apply safe_part35
    | with_reducible apply safe_part36
    | with_reducible apply safe_part37
    | with_reducible apply safe_part38
    | with_reducible apply safe_part39
    | with_reducible refine Safe.bind ?_ (fun _ => ?_)
    | with_reducible exact Safe.load (reads7 c arg2 arg3 arg4 arg5 arg6 arg7 arg8 arg9 arg10 arg11 arg12 x2 x3 x4 x5 x6) _ _
    | with_reducible exact Safe.load (reads10 c arg2 arg3 arg4 arg5 arg6 arg7 arg8 arg9 arg10 arg11 arg12 x2 x3 x4 x5 x6) _ _
    | with_reducible exact Safe.store (writes7 c arg2 arg3 arg4 arg5 arg6 arg7 arg8 arg9 arg10 arg11 arg12 x2 x3 x4 x5 x6) _ _ _ _ _

theorem safe_kernel  :
    Safe (F := F) (Hold (F := F) c arg2 arg3 arg4 arg5 arg6 arg7 arg8 arg9 arg10 arg11 arg12 x2 x3 x4 x5 x6) c (cc0__dsa_kernel i arg2 harg2 arg3 harg3 arg4 harg4 arg5 harg5 arg6 harg6 arg7 harg7 arg8 harg8 arg9 harg9 arg10 harg10 arg11 harg11 arg12 harg12 ) := by
  rw [cc0__dsa_kernel_eq_skeleton]
  unfold cc0__dsa_kernel_skel
  repeat' first
    | with_reducible exact Safe.pure _
    | with_reducible apply safe_part40
    | with_reducible refine Safe.bind ?_ (fun _ => ?_)
    | with_reducible exact Safe.store (writes7 c arg2 arg3 arg4 arg5 arg6 arg7 arg8 arg9 arg10 arg11 arg12 x2 x3 x4 x5 x6) _ _ _ _ _

end Cert.Dsa

end
-- ==== Proof.DsaFrame.lean ====
/- The frame of the attention call: its body keeps what it holds (`safe_kernel`), so with the output's contents
   and the scratch buffers' contents forgotten the call terminates, leaves its arguments as they were, and leaves
   every semaphore at zero. -/
module

public import proofs.«01_k».proof.Proof.SafeB
public import Idealize.ShloMosaic.Lib.Claim

@[expose] public section

noncomputable section

namespace Cert.Dsa

open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The window whose contents are not followed: the output. -/
def hidden : Fin 6 → Bool := fun w => w.val == 5

/-- The pipeline's data on core `c`: every input window keeps its block, the output's contents are not followed,
    the scratch buffers hold anything between points. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem data_after0 (c : Dev nD) (t : Fin cfg0.N) : (data m 0 c).after 0 t = iblk m c 0 t := by dsimp only [data]
theorem data_after1 (c : Dev nD) (t : Fin cfg0.N) : (data m 0 c).after 1 t = iblk m c 1 t := by dsimp only [data]
theorem data_after2 (c : Dev nD) (t : Fin cfg0.N) : (data m 0 c).after 2 t = iblk m c 2 t := by dsimp only [data]
theorem data_after3 (c : Dev nD) (t : Fin cfg0.N) : (data m 0 c).after 3 t = iblk m c 3 t := by dsimp only [data]
theorem data_after4 (c : Dev nD) (t : Fin cfg0.N) : (data m 0 c).after 4 t = iblk m c 4 t := by dsimp only [data]
theorem data_before0 (c : Dev nD) (t : Fin cfg0.N) (d) : (data m 0 c).before 0 t d = iblk m c 0 t :=
  before0_0_of m (data m 0 c) (data_A m c 0) (data_after0 m c) t d
theorem data_before1 (c : Dev nD) (t : Fin cfg0.N) (d) : (data m 0 c).before 1 t d = iblk m c 1 t :=
  before0_1_of m (data m 0 c) (data_A m c 1) (data_after1 m c) t d
theorem data_before2 (c : Dev nD) (t : Fin cfg0.N) (d) : (data m 0 c).before 2 t d = iblk m c 2 t :=
  before0_2_of m (data m 0 c) (data_A m c 2) (data_after2 m c) t d
theorem data_before3 (c : Dev nD) (t : Fin cfg0.N) (d) : (data m 0 c).before 3 t d = iblk m c 3 t :=
  before0_3_of m (data m 0 c) (data_A m c 3) (data_after3 m c) t d
theorem data_before4 (c : Dev nD) (t : Fin cfg0.N) (d) : (data m 0 c).before 4 t d = iblk m c 4 t :=
  before0_4_of m (data m 0 c) (data_A m c 4) (data_after4 m c) t d

/-- What the body starts from at point `t`. -/
def pre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare d))

/-- What it ends in. -/
def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (∃ d, owns (c : Thread nD τ) (win0_5.stage (cfg0.slots t 5)) fullShare d))

/-- What the launch hands the region, with the scratch operands as memrefs at some contents. -/
theorem rest_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)
          ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

theorem pre_post (c : Dev nD) (t : Fin cfg0.N) :
    pre m c t ⊢ wp frame (wpE (defs₀ (F := F)) Variants.none c none) Set.univ (bodyAt0 t) (fun _ => post m c t) := by
  unfold pre post bodyAt0
  simp only [data_before0, data_before1, data_before2, data_before3, data_before4]
  rw [show (data m 0 c).owesAt () t.succ = (data m 0 c).owesAt () t.castSucc from rfl]
  rw [show (data m 0 c).Φ t.succ = Pipeline.ΦA spec0 c from rfl, show (data m 0 c).Φ t.castSucc = Pipeline.ΦA spec0 c from rfl, rest_eq]
  rw [show (data m 0 c).leavesExact 0 t = owns (c : Thread nD τ) (win0_0.stage (cfg0.slots t 0)) fullShare (iblk m c 0 t) from rfl]
  rw [show (data m 0 c).leavesExact 1 t = owns (c : Thread nD τ) (win0_1.stage (cfg0.slots t 1)) fullShare (iblk m c 1 t) from rfl]
  rw [show (data m 0 c).leavesExact 2 t = owns (c : Thread nD τ) (win0_2.stage (cfg0.slots t 2)) fullShare (iblk m c 2 t) from rfl]
  rw [show (data m 0 c).leavesExact 3 t = owns (c : Thread nD τ) (win0_3.stage (cfg0.slots t 3)) fullShare (iblk m c 3 t) from rfl]
  rw [show (data m 0 c).leavesExact 4 t = owns (c : Thread nD τ) (win0_4.stage (cfg0.slots t 4)) fullShare (iblk m c 4 t) from rfl]
  have hk := safe_kernel c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t)
  unfold Safe at hk
  iintro ⟨⟨⟨S0, S1, S2, S3, S4⟩, Hg⟩, Ho, ⟨%d0, H0⟩, ⟨%d1, H1⟩, ⟨%d2, H2⟩, ⟨%d3, H3⟩, ⟨%d4, H4⟩, H5⟩
  iapply (wp_wand_r _ _ _)
  isplitl [S0 S1 S2 S3 S4 H0 H1 H2 H3 H4 H5]
  · iapply hk
    unfold Hold
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  · iintro %u HH
    unfold Hold
    icases HH with ⟨H0, H1, H2, H3, H4, H5, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      · iexact Hg
    isplitl [Ho]; · iexact Ho
    isplitl [H0]; · iexact H0
    isplitl [H1]; · iexact H1
    isplitl [H2]; · iexact H2
    isplitl [H3]; · iexact H3
    isplitl [H4]; · iexact H4
    iexact H5

theorem row (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ hidden := fun t => by
  rw [bigSep_W0, bigSep_W0, row]
  exact triple_restated (pre_post m c t) rfl .rfl fun _ => .rfl

set_option backward.isDefEq.respectTransparency.types false in
theorem ran : θ_run defs (onTc (τ := τ) (main (F := F))) (s₀ m ρ) (fun r => (Pipeline.RDat.FramePost (cfgs 0) (fun c => (data m 0 c).toRForget hidden) (V m)) r ∧ r.2.sem = fun _ => 0) :=
  Pipeline.θ_run_frame_forget (Q' := _) cfgs (data m) (0 : Fin 1) launch0 defs₀ Variants.none hidden m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame of the call: its arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1.arr_in c 0 rfl).trans ((data_A m c 0).trans (V_main_arg0 m c)),
      (h.1.arr_in c 1 rfl).trans ((data_A m c 1).trans (V_main_arg1 m c)),
      (h.1.arr_in c 2 rfl).trans ((data_A m c 2).trans (V_main_arg2 m c)),
      (h.1.arr_in c 3 rfl).trans ((data_A m c 3).trans (V_main_arg3 m c)),
      (h.1.arr_in c 4 rfl).trans ((data_A m c 4).trans (V_main_arg4 m c))⟩, h.2⟩) (ran m ρ)

end Cert.Dsa

end
-- ==== Proof.FfnStep.lean ====
/- What one grid point of the feed-forward call leaves behind, as a function of the blocks it reads. The grid is (row block,
   half of the hidden width). The first half's point rounds the row block and puts the first half's contribution to the
   product into the accumulator; the second half's point adds its own and writes the normalized rows. -/
module

public import proofs.«01_k».proof.Proof.Gen.Kernel2Ideal.Value

@[expose] public section

noncomputable section

namespace Cert.Ffn

open Cert.Kernel2Ideal Cert.Kernel2Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section Point

variable (c : Dev nD) (i : grid0.Coords)
  (a2 : Memref sig .tc .vmem S512x1024 .f32) (h2 : a2.IsWhole) (a3 : Memref sig .tc .vmem S1024x1408 .bf16) (h3 : a3.IsWhole)
  (a4 : Memref sig .tc .vmem S1024x1408 .bf16) (h4 : a4.IsWhole) (a5 : Memref sig .tc .vmem S1408x1024 .bf16) (h5 : a5.IsWhole)
  (a6 : Memref sig .tc .vmem S1x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S512x1024 .f32) (h10 : a10.IsWhole)
  (x0 : Vec F S512x1024 .f32) (x1 x2 : Vec F S1024x1408 .bf16) (x3 : Vec F S1408x1024 .bf16) (x4 x5 : Vec F S1x1024 .f32)

/-- The first half's point leaves the rounded row block in the first scratch. -/
theorem first_rows (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay1 x0 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero (S := S512x1024) off0]
  simp only [View.readAt_eq_ld, h2.read_unread, View.ld_unit_zero (S := S512x1024) off0]

/-- It leaves the first half's contribution, added to zero, in the accumulator. -/
theorem first_acc (hc0 : cond0_0 i) (hc1 : ¬cond0_1 i) :
    sout0_A_1 c i a2 h2 a3 h3 a4 h4 a5 h5 a6 h6 a7 h7 a8 h8 a9 h9 a10 h10 hc0 hc1 x0 x1 x2 x3 x4 x5
      = k0_pay3 (k0_pay1 x0) x1 x2 k0_pay2 x3 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S512x1024) off0, View.readCov_unit_zero (S := S512x1024) _ off0, View.readCov_unit_zero (S := S512x1024) _ off0]
  simp only [View.readAt_eq_ld, h2.read_unread, h3.read_unread, h4.read_unread, h5.read_unread,
    View.ld_unit_zero (S := S512x1024) off0, View.ld_unit_zero (S := S1024x1408) off0, View.ld_unit_zero (S := S1408x1024) off0]

/-- The second half's point leaves in the result's block the normalized sum of the row block and the whole product. -/
theorem second_out (hc0 : ¬cond0_0 i) (hc1 : cond0_1 i) (y : Vec F S512x1024 .bf16) (p : Vec F S512x1024 .f32) :
    out0_B_6 c i a2 h2 a3 h3 a4 h4 a5 h5 a6 h6 a7 h7 a8 h8 a9 h9 a10 h10 hc0 hc1 x0 x1 x2 x3 x4 x5 y p
      = k0_pay4 x0 (k0_pay3 y x1 x2 p x3) x4 x5 := by
  unfold out0_B_6
  rw [View.read_writes_eq_canon _ _ _ (cover0_B_6 c i a2 h2 a3 h3 a4 h4 a5 h5 a6 h6 a7 h7 a8 h8 a9 h9 a10 h10 hc0 hc1 x0 x1 x2 x3 x4 x5 y p)]
  unfold kernelRun0_B
  dsimp only
  sl_unfold_words
  rw [View.canon_unit_zero (S := S512x1024) off0, View.readCov_unit_zero (S := S512x1024) _ off0]
  simp only [View.readAt_eq_ld, h2.read_unread, h3.read_unread, h4.read_unread, h5.read_unread, h6.read_unread, h7.read_unread,
    h9.read_unread, h10.read_unread,
    View.ld_unit_zero (S := S512x1024) off0, View.ld_unit_zero (S := S1024x1408) off0, View.ld_unit_zero (S := S1408x1024) off0,
    View.ld_unit_zero (S := S1x1024) off0]

end Point

variable (m : (ℓ : Loc nD τ sig) → Buf (Elt F) ℓ)

/-- What the second half's point of a row block leaves in the result's block, from the blocks that the two points read. -/
theorem two_points (c : Dev nD) (s t : Fin cfg0.N) (hs : s.val % 2 = 0) (hst : t.val = s.val + 1) :
    (outsAt0 m c t.val t.isLt).1
      = k0_pay4 (iblk m c 0 t)
          (k0_pay3 (k0_pay1 (iblk m c 0 s)) (iblk m c 1 t) (iblk m c 2 t)
            (k0_pay3 (k0_pay1 (iblk m c 0 s)) (iblk m c 1 s) (iblk m c 2 s) k0_pay2 (iblk m c 3 s)) (iblk m c 3 t))
          (iblk m c 4 t) (iblk m c 5 t) := by
  have hA := outsAt0_A m c s hs (by omega)
  have hB := outsAt0_B m c t (by omega) (by omega)
  have e : ∀ h, outsAt0 m c (t.val - 1) h = outsAt0 m c s.val s.isLt := by
    have : t.val - 1 = s.val := by omega
    rw [this]; intro _; rfl
  rw [hB]
  dsimp only
  rw [second_out, e, hA]
  dsimp only
  rw [first_rows, first_acc]

end Cert.Ffn

end
-- ==== Proof.FfnMath.lean ====
/- The feed-forward layer of one row over the extended reals, and that the kernel's payloads and the reference's composed
   term are it. -/
module

public import proofs.«01_k».proof.Proof.Gen.Kernel2Ideal.Skeleton
public import proofs.«01_k».proof.Proof.Gen.Reference2Ideal.Run
public import Idealize.ShloMosaic.Lib.Pointwise
public import Idealize.ShloMosaic.Lib.IdealHost

@[expose] public section

noncomputable section

namespace Cert.Ffn

open Idealize.ShloMosaic Idealize.ShloMosaic.TcCoe Idealize.SL.Sem

/-! ## The mathematics of one row -/

/-- The weight of the residual: the number whose single-precision word is 1.6817929. -/
def alpha : EReal := Ideal.ofBits .f32 0x3FD744FD#32
/-- The width 1024 as an extended real. -/
def width : EReal := Ideal.ofBits .f32 0x44800000#32
/-- The number added to the variance. -/
def eps : EReal := Ideal.ofBits .f32 0x3727C5AC#32

/-- The mean of a row. -/
def mean (f : Fin 1024 → EReal) : EReal := Ideal.div (∑ k, f k) width

/-- The normalized row: the distance to the mean over the root of the variance, scaled and shifted. -/
def norm (f : Fin 1024 → EReal) (g b : EReal) (q : Fin 1024) : EReal :=
  (f q - mean f) * Ideal.rsqrt (Ideal.div (∑ k, (f k - mean f) * (f k - mean f)) width + eps) * g + b

/-- `h` over `1 + exp (-h)`. -/
def silu (h : EReal) : EReal := Ideal.div h (1 + Ideal.exp (-h))

/-- One hidden unit: the gate's dot with the row through `silu`, times the dot of the other weight. -/
def hidden (x wg wu : Fin 1024 → EReal) : EReal := silu (∑ d, x d * wg d) * ∑ d, x d * wu d

theorem exp_nonneg (x : EReal) : 0 ≤ Ideal.exp x := by
  induction x with
  | bot => exact le_refl _
  | top => exact le_top
  | coe r => exact EReal.coe_nonneg.mpr (Real.exp_pos r).le

/-- The other way to write `silu`: `h` times the reciprocal. -/
theorem silu_eq (h : EReal) : h * Ideal.div 1 (1 + Ideal.exp (-h)) = silu h := by
  refine Ideal.mul_one_div fun e => ?_
  have h1 : (1 : EReal) ≤ 1 + Ideal.exp (-h) := le_add_of_nonneg_right (exp_nonneg _)
  rw [e] at h1
  exact absurd h1 (by simp)

/-! ## The kernel's payloads -/

section Kernel
open Cert.Kernel2Ideal Cert.Kernel2Ideal.Gen

/-- The accumulator after a half of the hidden width: what it held plus that half's products. -/
theorem pay3_apply (x : Vec Ideal S512x1024 .bf16) (wg wu : Vec Ideal S1024x1408 .bf16) (a : Vec Ideal S512x1024 .f32)
    (wd : Vec Ideal S1408x1024 .bf16) (p : Fin 512) (q : Fin 1024) :
    k0_pay3 (F := Ideal) x wg wu a wd (ix2 p q)
      = a (ix2 p q) + ∑ k : Fin 1408, hidden (fun d => x (ix2 p d)) (fun d => wg (ix2 d k)) (fun d => wu (ix2 d k)) * wd (ix2 k q) := by
  pointwise [k0_pay3, hidden, silu]
  simp only [zero_sub]

/-- The written block: the normalized rows of the weighted residual plus the accumulator. -/
theorem pay4_apply (x a : Vec Ideal S512x1024 .f32) (g b : Vec Ideal S1x1024 .f32) (p : Fin 512) (q : Fin 1024) :
    k0_pay4 (F := Ideal) x a g b (ix2 p q)
      = norm (fun k => alpha * x (ix2 p k) + a (ix2 p k)) (g (ix2 0 q)) (b (ix2 0 q)) q := by
  pointwise [k0_pay4, norm, mean, alpha, width, eps]

theorem pay1_apply (x : Vec Ideal S512x1024 .f32) (p : Fin 512) (q : Fin 1024) : k0_pay1 (F := Ideal) x (ix2 p q) = x (ix2 p q) := by
  pointwise [k0_pay1]

theorem pay2_apply (p : Fin 512) (q : Fin 1024) : k0_pay2 (F := Ideal) (ix2 p q) = (0 : EReal) := by
  pointwise [k0_pay2]

end Kernel

/-! ## The reference's term -/

section Reference
open Cert.Reference2Ideal Cert.Reference2Ideal.Gen

/-- The reference's sum before it is normalized. -/
def refSum (x : FVec Ideal S16384x1024 .f32) (wg wu : FVec Ideal S1024x2816 .f32) (wd : FVec Ideal S2816x1024 .f32) : FVec Ideal S16384x1024 .f32 :=
  have h := Host.dotGeneral dot_S16384x1024_S1024x2816_S16384x2816_1_0_0_1_n_n none x wg
  have one := broadcastInDim S16384x2816 ![] bcast_S_S16384x2816 (constant (F := Ideal) S_ .f32 0x3F800000#32)
  addf (mulf (broadcastInDim S16384x1024 ![] bcast_S_S16384x1024 (constant S_ .f32 0x3FD744FD#32)) x)
    (Host.dotGeneral dot_S16384x2816_S2816x1024_S16384x1024_1_0_0_1_n_n none
      (mulf (mulf h (Host.divf one (addf one (Host.exp (Host.negf h)))))
        (Host.dotGeneral dot_S16384x1024_S1024x2816_S16384x2816_1_0_0_1_n_n none x wu)) wd)

/-- The reference's means of an array's rows, as a column. -/
def refMean (y : FVec Ideal S16384x1024 .f32) : FVec Ideal S16384x1 .f32 :=
  Host.divf (broadcastInDim S16384x1 ![0] bcast_S16384_S16384x1_0
      (Host.reduceAdd y (constant S_ .f32 0x00000000#32) reducesTo_S16384x1024_S16384_d1 h_S_))
    (broadcastInDim S16384x1 ![] bcast_S_S16384x1 (constant S_ .f32 0x44800000#32))

/-- The reference's normalization of an array's rows. -/
def refNorm (y : FVec Ideal S16384x1024 .f32) (g b : FVec Ideal S1024 .f32) : FVec Ideal S16384x1024 .f32 :=
  have e := subf y (broadcastInDim S16384x1024 ![0, 1] bcast_S16384x1_S16384x1024_0_1 (refMean y))
  addf (mulf (mulf e (broadcastInDim S16384x1024 ![0, 1] bcast_S16384x1_S16384x1024_0_1
      (Host.rsqrt (addf (refMean (mulf e e)) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

theorem refSum_apply (x : FVec Ideal S16384x1024 .f32) (wg wu : FVec Ideal S1024x2816 .f32) (wd : FVec Ideal S2816x1024 .f32)
    (r : Fin 16384) (q : Fin 1024) :
    refSum x wg wu wd (ix2 r q) = alpha * x (ix2 r q)
      + ∑ k : Fin 2816, hidden (fun d => x (ix2 r d)) (fun d => wg (ix2 d k)) (fun d => wu (ix2 d k)) * wd (ix2 k q) := by
  pointwise [refSum, hidden, alpha, ← silu_eq]

theorem refMean_apply (y : FVec Ideal S16384x1024 .f32) (r : Fin 16384) : refMean y (ix2 r 0) = mean (fun k => y (ix2 r k)) := by
  pointwise [refMean, mean, width]

theorem refNorm_apply (y : FVec Ideal S16384x1024 .f32) (g b : FVec Ideal S1024 .f32) (r : Fin 16384) (q : Fin 1024) :
    refNorm y g b (ix2 r q) = norm (fun k => y (ix2 r k)) (g (ix1 q)) (b (ix1 q)) q := by
  pointwise [refNorm, refMean, norm, mean, width, eps]

/-- The reference's composed term is the normalization of its sum. -/
theorem ref_eq (m : (ℓ : Loc nD τ sig) → Buf (Elt Ideal) ℓ) (c : Dev nD) :
    Cert.Reference2Ideal.Value.res_main_v32 m c
      = refNorm (refSum (shapeCast S16384x1024 (m ((c.tc : Thread nD τ).loc main_arg0)) shapeCasts_S4x4096x1024_S16384x1024)
          (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) := rfl

end Reference

end Cert.Ffn

end
-- ==== Proof.FfnValue.lean ====
/- The feed-forward call against its reference: what the windows read of the arguments, what the result's array holds after
   the run, and that both are the same function of the arguments. -/
module

public import proofs.«01_k».proof.Proof.FfnStep
public import proofs.«01_k».proof.Proof.FfnMath

@[expose] public section

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! ## The arrays that the windows read -/

/-- The rows: the first argument with its first two axes joined. -/
def rows : FVec Ideal S16384x1024 .f32 :=
  shapeCast S16384x1024 (m ((c : Thread nD τ).loc main_arg0)) shapeCasts_S4x4096x1024_S16384x1024

theorem entry_rows : V m c main_v0 = rows m c := by
  simp only [V, hostOps0]; after_results_simp <;> rfl
theorem entry_gate : V m c main_v1 = m ((c : Thread nD τ).loc main_arg1) := by
  simp only [V, hostOps0]; after_results_simp <;> rfl
theorem entry_up : V m c main_v2 = m ((c : Thread nD τ).loc main_arg2) := by
  simp only [V, hostOps0]; after_results_simp <;> rfl
theorem entry_down : V m c main_v3 = m ((c : Thread nD τ).loc main_arg3) := by
  simp only [V, hostOps0]; after_results_simp <;> rfl
theorem entry_scale : V m c main_v4 = shapeCast S1x1024 (m ((c : Thread nD τ).loc main_arg4)) shapeCasts_S1024_S1x1024 := by
  simp only [V, hostOps0]; after_results_simp <;> rfl
theorem entry_shift : V m c main_v5 = shapeCast S1x1024 (m ((c : Thread nD τ).loc main_arg5)) shapeCasts_S1024_S1x1024 := by
  simp only [V, hostOps0]; after_results_simp <;> rfl

/-! ## The windows' blocks -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = 0 ∧ win0_2.index t (1 : Fin 2) = t.val % 2 :=
  (by decide +kernel : ∀ t : Fin grid0.N, _)
theorem idx3 : ∀ t : Fin cfg0.N, win0_3.index t (0 : Fin 2) = t.val % 2 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Row `p` of a point's row block. -/
theorem blk0 (t : Fin cfg0.N) (p : Fin 512) (q : Fin 1024) (r : Fin 16384) (hr : r.val = t.val / 2 * 512 + p.val) :
    iblk m c 0 t (ix2 p q) = rows m c (ix2 r q) := by
  obtain ⟨e0, e1⟩ := idx0 t
  show V m c main_v0 (((cfg0.win 0).blk t).view.emb (ix2 p q)) = _
  rw [entry_rows]
  refine congrArg (rows m c) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- Column `k` of a point's half of the gate's weights. -/
theorem blk1 (t : Fin cfg0.N) (d : Fin 1024) (k : Fin 1408) (f : Fin 2816) (hf : f.val = t.val % 2 * 1408 + k.val) :
    iblk m c 1 t (ix2 d k) = m ((c : Thread nD τ).loc main_arg1) (ix2 d f) := by
  obtain ⟨e0, e1⟩ := idx1 t
  show V m c main_v1 (((cfg0.win 1).blk t).view.emb (ix2 d k)) = _
  rw [entry_gate]
  refine congrArg (m ((c : Thread nD τ).loc main_arg1)) (funext fun a => Fin.ext ?_)
  match a with
  | ⟨0, _⟩ => show win0_1.index t (0 : Fin 2) * 1024 + 1 * d.val = d.val; omega
  | ⟨1, _⟩ => show win0_1.index t (1 : Fin 2) * 1408 + 1 * k.val = f.val; omega

/-- Column `k` of a point's half of the other weights. -/
theorem blk2 (t : Fin cfg0.N) (d : Fin 1024) (k : Fin 1408) (f : Fin 2816) (hf : f.val = t.val % 2 * 1408 + k.val) :
    iblk m c 2 t (ix2 d k) = m ((c : Thread nD τ).loc main_arg2) (ix2 d f) := by
  obtain ⟨e0, e1⟩ := idx2 t
  show V m c main_v2 (((cfg0.win 2).blk t).view.emb (ix2 d k)) = _
  rw [entry_up]
  refine congrArg (m ((c : Thread nD τ).loc main_arg2)) (funext fun a => Fin.ext ?_)
  match a with
  | ⟨0, _⟩ => show win0_2.index t (0 : Fin 2) * 1024 + 1 * d.val = d.val; omega
  | ⟨1, _⟩ => show win0_2.index t (1 : Fin 2) * 1408 + 1 * k.val = f.val; omega

/-- Row `k` of a point's half of the weights back to the width. -/
theorem blk3 (t : Fin cfg0.N) (k : Fin 1408) (q : Fin 1024) (f : Fin 2816) (hf : f.val = t.val % 2 * 1408 + k.val) :
    iblk m c 3 t (ix2 k q) = m ((c : Thread nD τ).loc main_arg3) (ix2 f q) := by
  obtain ⟨e0, e1⟩ := idx3 t
  show V m c main_v3 (((cfg0.win 3).blk t).view.emb (ix2 k q)) = _
  rw [entry_down]
  refine congrArg (m ((c : Thread nD τ).loc main_arg3)) (funext fun a => Fin.ext ?_)
  match a with
  | ⟨0, _⟩ => show win0_3.index t (0 : Fin 2) * 1408 + 1 * k.val = f.val; omega
  | ⟨1, _⟩ => show win0_3.index t (1 : Fin 2) * 1024 + 1 * q.val = q.val; omega

theorem blk4 (t : Fin cfg0.N) (q : Fin 1024) : iblk m c 4 t (ix2 0 q) = m ((c : Thread nD τ).loc main_arg4) (ix1 q) := by
  obtain ⟨e0, e1⟩ := idx4 t
  show V m c main_v4 (((cfg0.win 4).blk t).view.emb (ix2 0 q)) = _
  have e : ((cfg0.win 4).blk t).view.emb (ix2 0 q) = (ix2 0 q : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [e, entry_scale]
  pointwise

theorem blk5 (t : Fin cfg0.N) (q : Fin 1024) : iblk m c 5 t (ix2 0 q) = m ((c : Thread nD τ).loc main_arg5) (ix1 q) := by
  obtain ⟨e0, e1⟩ := idx5 t
  show V m c main_v5 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_shift]
  pointwise

/-! ## The result's array after the run -/

/-- The term of hidden unit `f` in row `r`, column `q` of the product. -/
def unit (r : Fin 16384) (q : Fin 1024) (f : Fin 2816) : EReal :=
  hidden (fun d => rows m c (ix2 r d)) (fun d => m ((c : Thread nD τ).loc main_arg1) (ix2 d f))
      (fun d => m ((c : Thread nD τ).loc main_arg2) (ix2 d f))
    * m ((c : Thread nD τ).loc main_arg3) (ix2 f q)

/-- A point's half of the sum over the hidden units. -/
theorem half (t s : Fin cfg0.N) (hst : s.val / 2 = t.val / 2) (p : Fin 512) (q : Fin 1024) (r : Fin 16384)
    (hr : r.val = t.val / 2 * 512 + p.val) (e : Fin 1408 → Fin 2816) (he : ∀ k, (e k).val = t.val % 2 * 1408 + k.val) :
    ∑ k : Fin 1408, hidden (fun d => k0_pay1 (F := Ideal) (iblk m c 0 s) (ix2 p d)) (fun d => iblk m c 1 t (ix2 d k))
        (fun d => iblk m c 2 t (ix2 d k)) * iblk m c 3 t (ix2 k q)
      = ∑ k : Fin 1408, unit m c r q (e k) := by
  refine Finset.sum_congr rfl fun k _ => ?_
  unfold unit
  rw [blk3 m c t k q (e k) (he k)]
  refine congrArg (· * _) ?_
  have h0 : (fun d => k0_pay1 (F := Ideal) (iblk m c 0 s) (ix2 p d)) = fun d => rows m c (ix2 r d) :=
    funext fun d => (pay1_apply _ p d).trans (blk0 m c s p d r (by omega))
  have h1 : (fun d => iblk m c 1 t (ix2 d k)) = fun d => m ((c : Thread nD τ).loc main_arg1) (ix2 d (e k)) :=
    funext fun d => blk1 m c t d k (e k) (he k)
  have h2 : (fun d => iblk m c 2 t (ix2 d k)) = fun d => m ((c : Thread nD τ).loc main_arg2) (ix2 d (e k)) :=
    funext fun d => blk2 m c t d k (e k) (he k)
  rw [h0, h1, h2]

/-- What the second point of a row block writes at row `p`, column `q`. -/
theorem written (s t : Fin cfg0.N) (hs : s.val % 2 = 0) (hst : t.val = s.val + 1) (p : Fin 512) (q : Fin 1024) (r : Fin 16384)
    (hr : r.val = t.val / 2 * 512 + p.val) :
    (outsAt0 m c t.val t.isLt).1 (ix2 p q)
      = norm (fun k => alpha * rows m c (ix2 r k) + ∑ f, unit m c r k f)
          (m ((c : Thread nD τ).loc main_arg4) (ix1 q)) (m ((c : Thread nD τ).loc main_arg5) (ix1 q)) q := by
  rw [two_points m c s t hs hst, pay4_apply, blk4, blk5]
  refine congrArg (fun f => norm f _ _ q) (funext fun k => ?_)
  rw [blk0 m c t p k r hr, pay3_apply, pay3_apply, pay2_apply, zero_add,
    half m c s s rfl p k r (by omega) (Fin.castAdd 1408) (fun k => by simp [hs]),
    half m c t s (by omega) p k r hr (Fin.natAdd 1408) (fun k => by rw [show t.val % 2 = 1 by omega]; simp; omega)]
  exact congrArg (_ + ·) (Fin.sum_univ_add (a := 1408) (b := 1408) (unit m c r k)).symm

/-- The result's array after the run, row by row. -/
theorem array_eq (r : Fin 16384) (q : Fin 1024) :
    Cert.Kernel2Ideal.Value.G6 m c (ix2 r q)
      = norm (fun k => alpha * rows m c (ix2 r k) + ∑ f, unit m c r k f)
          (m ((c : Thread nD τ).loc main_arg4) (ix1 q)) (m ((c : Thread nD τ).loc main_arg5) (ix1 q)) q := by
  have hN : cfg0.N = 64 := N_0
  have hr := r.isLt
  have hq := q.isLt
  have hpt : Cert.Kernel2Ideal.Value.pt6Of (ix2 r q) = 2 * (r.val / 512) + 1 := by
    show 2 * (1 * (r.val / 512 - 0) + 1 * (q.val / 1024 - 0)) + 1 = _
    omega
  have hloc : Cert.Kernel2Ideal.Value.loc6Of (ix2 r q) = (ix2 ⟨r.val % 512, by omega⟩ q : S512x1024.Idx) := by
    funext a; apply Fin.ext
    match a with
    | ⟨0, _⟩ => rfl
    | ⟨1, _⟩ => show q.val % 1024 = q.val; omega
  have hlt : Cert.Kernel2Ideal.Value.pt6Of (ix2 r q) < cfg0.N := by omega
  unfold Cert.Kernel2Ideal.Value.G6
  rw [dif_pos hlt, ← Cert.Kernel2Ideal.Value.outsAt0_sweep, hloc]
  exact written m c ⟨2 * (r.val / 512), by omega⟩ ⟨_, hlt⟩ (by show 2 * (r.val / 512) % 2 = 0; omega) hpt _ q r
    (by show r.val = Cert.Kernel2Ideal.Value.pt6Of (ix2 r q) / 2 * 512 + r.val % 512; omega)

end Cert.Ffn

end
-- ==== Proof.ProjStep.lean ====
/- What one grid point of the projection call computes from the blocks it reads, element by element. -/
module

public import proofs.«01_k».proof.Proof.Gen.Kernel3Ideal.Skeleton
public import Idealize.ShloMosaic.Lib.Pointwise
public import Idealize.ShloMosaic.Lib.IdealHost

@[expose] public section

noncomputable section

namespace Cert.Proj

open Cert.Kernel3Ideal Cert.Kernel3Ideal.Gen Idealize.ShloMosaic Idealize.ShloMosaic.TcCoe Idealize.SL.Sem

/-- The scale of the queries: the head size's inverse root times the base-2 logarithm of e, as its single-precision word. -/
def qscale : EReal := Ideal.ofBits .f32 0x3E38AA3B#32

/-- The logistic function. -/
def logistic (x : EReal) : EReal := Ideal.div 1 (1 + Ideal.exp (-x))

/-- The product of a row with a column of the weights. -/
theorem pay1_apply (x : Vec Ideal S512x1024 .f32) (w : Vec Ideal S1024x2688 .bf16) (p : Fin 512) (n : Fin 2688) :
    k0_pay1 (F := Ideal) x w (ix2 p n) = ∑ d : Fin 1024, x (ix2 p d) * w (ix2 d n) := by
  pointwise [k0_pay1]

theorem pay3_apply (x : Vec Ideal S512x128 .f32) (p : Fin 512) (l : Fin 128) : k0_pay3 (F := Ideal) x (ix2 p l) = x (ix2 p l) := by
  pointwise [k0_pay3]

theorem pay4_apply (x : Vec Ideal S512x128 .f32) (p : Fin 512) (l : Fin 128) : k0_pay4 (F := Ideal) x (ix2 p l) = x (ix2 p l) := by
  pointwise [k0_pay4]

/-- The mask holds on the lanes of the first half of each head. -/
theorem mask_apply (p : Fin 512) (l : Fin 128) : k0_pay2 (ix2 p l) = if l.val % 64 < 32 then 1#1 else 0#1 := by
  have h : ∀ l : Fin 128, IntOp.cmpi CmpIPredicate.slt (IntOp.andi (BitVec.ofNat 32 l.val) 63#32) 32#32
      = if l.val % 64 < 32 then 1#1 else 0#1 := by decide +kernel
  pointwise [k0_pay2]
  exact h l

/-- A slab of 128 lanes turned: each lane times its cosine, plus the lane of the head's other half times its sine. -/
theorem turn_apply (v c s : FVec Ideal S512x128 .f32) (p : Fin 512) (l : Fin 128) :
    addf (mulf v c) (mulf (select k0_pay2 (dynamicRotate 1 96#32 none v rotates_S512x128_d1)
        (dynamicRotate 1 32#32 none v rotates_S512x128_d1)) s) (ix2 p l)
      = v (ix2 p l) * c (ix2 p l)
        + (if l.val % 64 < 32 then v (ix2 p ⟨(l.val + 128 - 96) % 128, by omega⟩)
            else v (ix2 p ⟨(l.val + 128 - 32) % 128, by omega⟩)) * s (ix2 p l) := by
  pointwise
  rw [mask_apply]
  split <;> rfl

/-- Column `n` of the product turned: the columns of a head are 64 apart, its halves 32. -/
def turned (y : FVec Ideal S512x2688 .f32) (c s : FVec Ideal S512x128 .f32) (p : Fin 512) (n : Fin 1792) : EReal :=
  y (ix2 p ⟨n.val, by omega⟩) * c (ix2 p ⟨n.val % 128, by omega⟩)
    + (if n.val % 64 < 32 then y (ix2 p ⟨n.val + 32, by omega⟩) else y (ix2 p ⟨n.val - 32, by omega⟩)) * s (ix2 p ⟨n.val % 128, by omega⟩)

/-- A turned slab is the turned columns from the slab's first on. -/
theorem slab_apply (y : FVec Ideal S512x2688 .f32) (c s : FVec Ideal S512x128 .f32) (o : Nat) (j : Nat) (ho : o = 128 * j) (hj : j < 14)
    (h : S512x2688.Slices ![0, o] S512x128) (p : Fin 512) (l : Fin 128) (n : Fin 1792) (hn : n.val = o + l.val) :
    addf (mulf (extractStridedSlice S512x128 ![0, o] y h) c)
        (mulf (select k0_pay2 (dynamicRotate 1 96#32 none (extractStridedSlice S512x128 ![0, o] y h) rotates_S512x128_d1)
          (dynamicRotate 1 32#32 none (extractStridedSlice S512x128 ![0, o] y h) rotates_S512x128_d1)) s) (ix2 p l)
      = turned y c s p n := by
  have hl := l.isLt
  have e : ∀ (k : Fin 128) (q : Fin 2688), q.val = o + k.val → extractStridedSlice S512x128 ![0, o] y h (ix2 p k) = y (ix2 p q) := by
    intro k q hq
    refine congrArg y (funext fun a => Fin.ext ?_)
    match a with
    | ⟨0, _⟩ => show 0 + p.val = p.val; omega
    | ⟨1, _⟩ => exact hq.symm
  rw [turn_apply, e l ⟨n.val, by omega⟩ hn]
  unfold turned
  have hm : (⟨n.val % 128, by omega⟩ : Fin 128) = l := Fin.ext (by show n.val % 128 = l.val; omega)
  have h64 : n.val % 64 = l.val % 64 := by omega
  rw [hm, h64]
  by_cases hc : l.val % 64 < 32
  · rw [if_pos hc, if_pos hc, e _ ⟨n.val + 32, by omega⟩ (by show n.val + 32 = o + (l.val + 128 - 96) % 128; omega)]
  · rw [if_neg hc, if_neg hc, e _ ⟨n.val - 32, by omega⟩ (by show n.val - 32 = o + (l.val + 128 - 32) % 128; omega)]

section Slabs

variable (x : Vec Ideal S512x1024 .f32) (w : Vec Ideal S1024x2688 .bf16) (tc ts : Vec Ideal S512x128 .f32)
  (y : FVec Ideal S512x2688 .f32) (c s : FVec Ideal S512x128 .f32) (p : Fin 512) (l : Fin 128) (n : Fin 1792)

theorem slab0 (hn : n.val = 0 + l.val) :
    k0_pay5 (F := Ideal) x w tc ts (ix2 p l) = turned (k0_pay1 x w) (k0_pay3 tc) (k0_pay4 ts) p n := by
  unfold k0_pay5; exact slab_apply (k0_pay1 x w) (k0_pay3 tc) (k0_pay4 ts) 0 0 rfl (by omega) _ p l n hn
theorem slab1 (hn : n.val = 128 + l.val) :
    k0_pay6 (F := Ideal) x w tc ts (ix2 p l) = turned (k0_pay1 x w) (k0_pay3 tc) (k0_pay4 ts) p n := by
  unfold k0_pay6; exact slab_apply (k0_pay1 x w) (k0_pay3 tc) (k0_pay4 ts) 128 1 rfl (by omega) _ p l n hn
theorem slab2 (hn : n.val = 256 + l.val) :
    k0_pay7 (F := Ideal) x w tc ts (ix2 p l) = turned (k0_pay1 x w) (k0_pay3 tc) (k0_pay4 ts) p n := by
  unfold k0_pay7; exact slab_apply (k0_pay1 x w) (k0_pay3 tc) (k0_pay4 ts) 256 2 rfl (by omega) _ p l n hn
theorem slab3 (hn : n.val = 384 + l.val) :
    k0_pay10 (F := Ideal) c s (k0_pay8 x w) (k0_pay9 x w) (ix2 p l) = turned (k0_pay1 x w) c s p n := by
  unfold k0_pay10 k0_pay9 k0_pay8; exact slab_apply (k0_pay1 x w) c s 384 3 rfl (by omega) _ p l n hn
theorem slab4 (hn : n.val = 512 + l.val) :
    k0_pay11 (F := Ideal) y k0_pay2 c s (ix2 p l) = turned y c s p n := by
  unfold k0_pay11; exact slab_apply y c s 512 4 rfl (by omega) _ p l n hn
theorem slab5 (hn : n.val = 640 + l.val) :
    k0_pay12 (F := Ideal) y k0_pay2 c s (ix2 p l) = turned y c s p n := by
  unfold k0_pay12; exact slab_apply y c s 640 5 rfl (by omega) _ p l n hn
theorem slab6 (hn : n.val = 768 + l.val) :
    k0_pay13 (F := Ideal) y k0_pay2 c s (ix2 p l) = turned y c s p n := by
  unfold k0_pay13; exact slab_apply y c s 768 6 rfl (by omega) _ p l n hn
theorem slab7 (hn : n.val = 896 + l.val) :
    k0_pay14 (F := Ideal) y k0_pay2 c s (ix2 p l) = turned y c s p n := by
  unfold k0_pay14; exact slab_apply y c s 896 7 rfl (by omega) _ p l n hn
theorem slab8 (hn : n.val = 1024 + l.val) :
    k0_pay15 (F := Ideal) y k0_pay2 c s (ix2 p l) = turned y c s p n := by
  unfold k0_pay15; exact slab_apply y c s 1024 8 rfl (by omega) _ p l n hn
theorem slab9 (hn : n.val = 1152 + l.val) :
    k0_pay16 (F := Ideal) y k0_pay2 c s (ix2 p l) = turned y c s p n := by
  unfold k0_pay16; exact slab_apply y c s 1152 9 rfl (by omega) _ p l n hn
theorem slab10 (hn : n.val = 1280 + l.val) :
    k0_pay19 (F := Ideal) k0_pay2 c s (k0_pay17 y) (k0_pay18 y) (ix2 p l) = turned y c s p n := by
  unfold k0_pay19 k0_pay18 k0_pay17; exact slab_apply y c s 1280 10 rfl (by omega) _ p l n hn
theorem slab11 (hn : n.val = 1408 + l.val) :
    k0_pay20 (F := Ideal) y k0_pay2 c s (ix2 p l) = turned y c s p n := by
  unfold k0_pay20; exact slab_apply y c s 1408 11 rfl (by omega) _ p l n hn
theorem slab12 (hn : n.val = 1536 + l.val) :
    k0_pay21 (F := Ideal) y k0_pay2 c s (ix2 p l) = turned y c s p n := by
  unfold k0_pay21; exact slab_apply y c s 1536 12 rfl (by omega) _ p l n hn
theorem slab13 (hn : n.val = 1664 + l.val) :
    k0_pay22 (F := Ideal) y k0_pay2 c s (ix2 p l) = turned y c s p n := by
  unfold k0_pay22; exact slab_apply y c s 1664 13 rfl (by omega) _ p l n hn

end Slabs

theorem pay35_apply (y : FVec Ideal S512x2688 .f32) (p : Fin 512) (n : Fin 128) :
    k0_pay35 (F := Ideal) y (ix2 p n) = logistic (y (ix2 p ⟨2560 + n.val, by omega⟩)) := by
  pointwise [k0_pay35, logistic]
  simp only [zero_sub]

/-- The attention's keys and values side by side: turned selected keys, selected values, turned window keys, window values. -/
def kvb (y : FVec Ideal S512x2688 .f32) (c s : FVec Ideal S512x128 .f32) (p : Fin 512) (n : Fin 1024) : EReal :=
  if h : n.val < 256 then turned y c s p ⟨1280 + n.val, by omega⟩
  else if h : n.val < 512 then y (ix2 p ⟨2048 + (n.val - 256), by omega⟩)
  else if h : n.val < 768 then turned y c s p ⟨1536 + (n.val - 512), by omega⟩
  else y (ix2 p ⟨2304 + (n.val - 768), by omega⟩)

theorem kvb_turned (y : FVec Ideal S512x2688 .f32) (c s : FVec Ideal S512x128 .f32) (p : Fin 512) (k : Fin 1792) (n : Fin 1024)
    (h : (n.val < 256 ∧ k.val = 1280 + n.val) ∨ (512 ≤ n.val ∧ n.val < 768 ∧ k.val = 1024 + n.val)) :
    turned y c s p k = kvb y c s p n := by
  unfold kvb
  rcases h with ⟨h, e⟩ | ⟨h, h', e⟩
  · rw [dif_pos h]; exact congrArg (turned y c s p) (Fin.ext e)
  · rw [dif_neg (by omega), dif_neg (by omega), dif_pos h']
    exact congrArg (turned y c s p) (Fin.ext (by show k.val = 1536 + (n.val - 512); omega))

theorem kvb_rest (y : FVec Ideal S512x2688 .f32) (c s : FVec Ideal S512x128 .f32) (p : Fin 512) (l : Fin 256) (o o' : Nat)
    (h : (o = 256 ∧ o' = 2048) ∨ (o = 768 ∧ o' = 2304)) (hs : S512x2688.Slices ![0, o'] S512x256) (n : Fin 1024) (hn : n.val = o + l.val) :
    extractStridedSlice S512x256 ![0, o'] y hs (ix2 p l) = kvb y c s p n := by
  have hl := l.isLt
  unfold kvb
  rcases h with ⟨h, e⟩ | ⟨h, e⟩
  · rw [dif_neg (by omega), dif_pos (by omega)]
    refine congrArg y (funext fun a => Fin.ext ?_)
    match a with
    | ⟨0, _⟩ => show 0 + p.val = p.val; omega
    | ⟨1, _⟩ => show o' + l.val = 2048 + (n.val - 256); omega
  · rw [dif_neg (by omega), dif_neg (by omega), dif_neg (by omega)]
    refine congrArg y (funext fun a => Fin.ext ?_)
    match a with
    | ⟨0, _⟩ => show 0 + p.val = p.val; omega
    | ⟨1, _⟩ => show o' + l.val = 2304 + (n.val - 768); omega

end Cert.Proj

end
-- ==== Proof.ProjBlock.lean ====
/- The blocks that one grid point of the projection call writes, as functions of the blocks it reads. -/
module

public import proofs.«01_k».proof.Proof.ProjStep
public import proofs.«01_k».proof.Proof.Gen.Kernel3Ideal.Value

@[expose] public section

noncomputable section

namespace Cert.Proj

open Cert.Kernel3Ideal Cert.Kernel3Ideal.Gen Idealize.ShloMosaic Idealize.ShloMosaic.TcCoe Idealize.SL.Sem

theorem off0 : (![0, 0] : Fin 2 → Nat) = fun _ => 0 := funext fun a => by fin_cases a <;> rfl

/-- A slab of `w` columns from column `o` on: where its local index lies in the block. -/
theorem slab_emb {b w : Nat} (o : Nat) (inb : ∀ a, (![0, o] : Fin 2 → Nat) a + (⟨2, ![512, w]⟩ : Shape).size a ≤ (⟨2, ![512, b]⟩ : Shape).size a)
    (p : Fin 512) (l : Fin w) (q : Fin b) (hq : q.val = o + l.val) :
    (Rect.unit (s := ⟨2, ![512, b]⟩) ![0, o] (⟨2, ![512, w]⟩ : Shape).size inb).emb (ix2 p l) = (ix2 p q : (⟨2, ![512, b]⟩ : Shape).Idx) := by
  funext a; apply Fin.ext
  match a with
  | ⟨0, _⟩ => show 0 + 1 * p.val = p.val; omega
  | ⟨1, _⟩ => show o + 1 * l.val = q.val; omega

section Point

variable (c : Dev nD) (i : grid0.Coords)
  (a1 : Memref sig .tc .vmem S512x1024 .f32) (h1 : a1.IsWhole)
  (a2 : Memref sig .tc .vmem S1024x2688 .bf16) (h2 : a2.IsWhole)
  (a3 : Memref sig .tc .vmem S512x128 .f32) (h3 : a3.IsWhole)
  (a4 : Memref sig .tc .vmem S512x128 .f32) (h4 : a4.IsWhole)
  (a5 : Memref sig .tc .vmem S512x1024 .bf16) (h5 : a5.IsWhole)
  (a6 : Memref sig .tc .vmem S512x256 .f32) (h6 : a6.IsWhole)
  (a7 : Memref sig .tc .vmem S512x256 .f32) (h7 : a7.IsWhole)
  (a8 : Memref sig .tc .vmem S512x256 .f32) (h8 : a8.IsWhole)
  (a9 : Memref sig .tc .vmem S512x256 .f32) (h9 : a9.IsWhole)
  (a10 : Memref sig .tc .vmem S512x256 .f32) (h10 : a10.IsWhole)
  (a11 : Memref sig .tc .vmem S512x256 .f32) (h11 : a11.IsWhole)
  (a12 : Memref sig .tc .vmem S512x128 .f32) (h12 : a12.IsWhole)
  (a13 : Memref sig .tc .vmem S512x1024 .bf16) (h13 : a13.IsWhole)
  (x0 : Vec Ideal S512x1024 .f32) (x1 : Vec Ideal S1024x2688 .bf16) (x2 x3 : Vec Ideal S512x128 .f32)

/-- The queries: the turned columns of the first 16 heads, scaled. -/
theorem block4 (p : Fin 512) (n : Fin 1024) :
    out0_A_4 c i a1 h1 a2 h2 a3 h3 a4 h4 a5 h5 a6 h6 a7 h7 a8 h8 a9 h9 a10 h10 a11 h11 a12 h12 a13 h13 x0 x1 x2 x3 (ix2 p n) = turned (k0_pay1 (F := Ideal) x0 x1) (k0_pay3 x2) (k0_pay4 x3) p ⟨n.val, Nat.lt_of_lt_of_le n.isLt (by decide)⟩ * qscale := by
  unfold out0_A_4
  rw [View.read_writes_eq_canon _ _ _ (cover0_A_4 c i a1 h1 a2 h2 a3 h3 a4 h4 a5 h5 a6 h6 a7 h7 a8 h8 a9 h9 a10 h10 a11 h11 a12 h12 a13 h13 x0 x1 x2 x3)]
  refine View.canon_apply_of_pieces (S := S512x1024) (fun y => turned (k0_pay1 (F := Ideal) x0 x1) (k0_pay3 x2) (k0_pay4 x3) (y 0) ⟨(y 1).val, Nat.lt_of_lt_of_le (y 1).isLt (by decide)⟩ * qscale) _ ?_ (ix2 p n)
    (cover0_A_4 c i a1 h1 a2 h2 a3 h3 a4 h4 a5 h5 a6 h6 a7 h7 a8 h8 a9 h9 a10 h10 a11 h11 a12 h12 a13 h13 x0 x1 x2 x3 (ix2 p n))
  unfold kernelRun0_A
  dsimp only
  sl_unfold_words
  simp only [View.readAt_eq_ld, h1.read_unread, h2.read_unread, h3.read_unread, h4.read_unread,
      View.ld_unit_zero (S := S512x1024) off0, View.ld_unit_zero (S := S1024x2688) off0, View.ld_unit_zero (S := S512x128) off0]
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · intro z
    obtain ⟨p, l, rfl⟩ : ∃ (p : Fin 512) (l : Fin 128), z = ix2 p l := ⟨z 0, z 1, eq_ix2 z⟩
    have hl := l.isLt
    rw [slab_emb 896 _ p l ⟨896 + l.val, by omega⟩ rfl]
    exact congrArg (· * qscale) (slab7 (k0_pay1 x0 x1) (k0_pay3 x2) (k0_pay4 x3) p l _ ((by show 896 + l.val = 896 + l.val; rfl)))
  · intro z
    obtain ⟨p, l, rfl⟩ : ∃ (p : Fin 512) (l : Fin 128), z = ix2 p l := ⟨z 0, z 1, eq_ix2 z⟩
    have hl := l.isLt
    rw [slab_emb 768 _ p l ⟨768 + l.val, by omega⟩ rfl]
    exact congrArg (· * qscale) (slab6 (k0_pay1 x0 x1) (k0_pay3 x2) (k0_pay4 x3) p l _ ((by show 768 + l.val = 768 + l.val; rfl)))
  · intro z
    obtain ⟨p, l, rfl⟩ : ∃ (p : Fin 512) (l : Fin 128), z = ix2 p l := ⟨z 0, z 1, eq_ix2 z⟩
    have hl := l.isLt
    rw [slab_emb 640 _ p l ⟨640 + l.val, by omega⟩ rfl]
    exact congrArg (· * qscale) (slab5 (k0_pay1 x0 x1) (k0_pay3 x2) (k0_pay4 x3) p l _ ((by show 640 + l.val = 640 + l.val; rfl)))
  · intro z
    obtain ⟨p, l, rfl⟩ : ∃ (p : Fin 512) (l : Fin 128), z = ix2 p l := ⟨z 0, z 1, eq_ix2 z⟩
    have hl := l.isLt
    rw [slab_emb 512 _ p l ⟨512 + l.val, by omega⟩ rfl]
    exact congrArg (· * qscale) (slab4 (k0_pay1 x0 x1) (k0_pay3 x2) (k0_pay4 x3) p l _ ((by show 512 + l.val = 512 + l.val; rfl)))
  · intro z
    obtain ⟨p, l, rfl⟩ : ∃ (p : Fin 512) (l : Fin 128), z = ix2 p l := ⟨z 0, z 1, eq_ix2 z⟩
    have hl := l.isLt
    rw [slab_emb 384 _ p l ⟨384 + l.val, by omega⟩ rfl]
    exact congrArg (· * qscale) (slab3 x0 x1 (k0_pay3 x2) (k0_pay4 x3) p l _ ((by show 384 + l.val = 384 + l.val; rfl)))
  · intro z
    obtain ⟨p, l, rfl⟩ : ∃ (p : Fin 512) (l : Fin 128), z = ix2 p l := ⟨z 0, z 1, eq_ix2 z⟩
    have hl := l.isLt
    rw [slab_emb 256 _ p l ⟨256 + l.val, by omega⟩ rfl]
    exact congrArg (· * qscale) (slab2 x0 x1 x2 x3 p l _ ((by show 256 + l.val = 256 + l.val; rfl)))
  · intro z
    obtain ⟨p, l, rfl⟩ : ∃ (p : Fin 512) (l : Fin 128), z = ix2 p l := ⟨z 0, z 1, eq_ix2 z⟩
    have hl := l.isLt
    rw [slab_emb 128 _ p l ⟨128 + l.val, by omega⟩ rfl]
    exact congrArg (· * qscale) (slab1 x0 x1 x2 x3 p l _ ((by show 128 + l.val = 128 + l.val; rfl)))
  · intro z
    obtain ⟨p, l, rfl⟩ : ∃ (p : Fin 512) (l : Fin 128), z = ix2 p l := ⟨z 0, z 1, eq_ix2 z⟩
    have hl := l.isLt
    rw [slab_emb 0 _ p l ⟨0 + l.val, by omega⟩ rfl]
    exact congrArg (· * qscale) (slab0 x0 x1 x2 x3 p l _ ((by show 0 + l.val = 0 + l.val; rfl)))

/-- The compressed keys: four heads of turned columns. -/
theorem block5 (p : Fin 512) (n : Fin 256) :
    out0_A_5 c i a1 h1 a2 h2 a3 h3 a4 h4 a5 h5 a6 h6 a7 h7 a8 h8 a9 h9 a10 h10 a11 h11 a12 h12 a13 h13 x0 x1 x2 x3 (ix2 p n) = turned (k0_pay1 (F := Ideal) x0 x1) (k0_pay3 x2) (k0_pay4 x3) p ⟨1024 + n.val, Nat.lt_of_lt_of_le (Nat.add_lt_add_left n.isLt 1024) (by decide)⟩ := by
  unfold out0_A_5
  rw [View.read_writes_eq_canon _ _ _ (cover0_A_5 c i a1 h1 a2 h2 a3 h3 a4 h4 a5 h5 a6 h6 a7 h7 a8 h8 a9 h9 a10 h10 a11 h11 a12 h12 a13 h13 x0 x1 x2 x3)]
  refine View.canon_apply_of_pieces (S := S512x256) (fun y => turned (k0_pay1 (F := Ideal) x0 x1) (k0_pay3 x2) (k0_pay4 x3) (y 0) ⟨1024 + (y 1).val, Nat.lt_of_lt_of_le (Nat.add_lt_add_left (y 1).isLt 1024) (by decide)⟩) _ ?_ (ix2 p n)
    (cover0_A_5 c i a1 h1 a2 h2 a3 h3 a4 h4 a5 h5 a6 h6 a7 h7 a8 h8 a9 h9 a10 h10 a11 h11 a12 h12 a13 h13 x0 x1 x2 x3 (ix2 p n))
  unfold kernelRun0_A
  dsimp only
  sl_unfold_words
  simp only [View.readAt_eq_ld, h1.read_unread, h2.read_unread, h3.read_unread, h4.read_unread,
      View.ld_unit_zero (S := S512x1024) off0, View.ld_unit_zero (S := S1024x2688) off0, View.ld_unit_zero (S := S512x128) off0]
  refine List.forall_mem_cons.2 ⟨?_, List.forall_mem_cons.2 ⟨?_, fun _ h => absurd h List.not_mem_nil⟩⟩
  · intro z
    obtain ⟨p, l, rfl⟩ : ∃ (p : Fin 512) (l : Fin 128), z = ix2 p l := ⟨z 0, z 1, eq_ix2 z⟩
    have hl := l.isLt
    rw [slab_emb 128 _ p l ⟨128 + l.val, by omega⟩ rfl]
    exact slab9 (k0_pay1 x0 x1) (k0_pay3 x2) (k0_pay4 x3) p l _ (by show 1024 + (128 + l.val) = 1152 + l.val; omega)
  · intro z
    obtain ⟨p, l, rfl⟩ : ∃ (p : Fin 512) (l : Fin 128), z = ix2 p l := ⟨z 0, z 1, eq_ix2 z⟩
    have hl := l.isLt
    rw [slab_emb 0 _ p l ⟨0 + l.val, by omega⟩ rfl]
    exact slab8 (k0_pay1 x0 x1) (k0_pay3 x2) (k0_pay4 x3) p l _ (by show 1024 + (0 + l.val) = 1024 + l.val; omega)

/-- The selected keys: four heads of turned columns. -/
theorem block6 (p : Fin 512) (n : Fin 256) :
    out0_A_6 c i a1 h1 a2 h2 a3 h3 a4 h4 a5 h5 a6 h6 a7 h7 a8 h8 a9 h9 a10 h10 a11 h11 a12 h12 a13 h13 x0 x1 x2 x3 (ix2 p n) = turned (k0_pay1 (F := Ideal) x0 x1) (k0_pay3 x2) (k0_pay4 x3) p ⟨1280 + n.val, Nat.lt_of_lt_of_le (Nat.add_lt_add_left n.isLt 1280) (by decide)⟩ := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 x0 x1 x2 x3)]
  refine View.canon_apply_of_pieces (S := S512x256) (fun y => turned (k0_pay1 (F := Ideal) x0 x1) (k0_pay3 x2) (k0_pay4 x3) (y 0) ⟨1280 + (y 1).val, Nat.lt_of_lt_of_le (Nat.add_lt_add_left (y 1).isLt 1280) (by decide)⟩) _ ?_ (ix2 p n)
    (cover0_A_6 c i a1 h1 a2 h2 a3 h3 a4 h4 a5 h5 a6 h6 a7 h7 a8 h8 a9 h9 a10 h10 a11 h11 a12 h12 a13 h13 x0 x1 x2 x3 (ix2 p n))
  unfold kernelRun0_A
  dsimp only
  sl_unfold_words
  simp only [View.readAt_eq_ld, h1.read_unread, h2.read_unread, h3.read_unread, h4.read_unread,
      View.ld_unit_zero (S := S512x1024) off0, View.ld_unit_zero (S := S1024x2688) off0, View.ld_unit_zero (S := S512x128) off0]
  refine List.forall_mem_cons.2 ⟨?_, List.forall_mem_cons.2 ⟨?_, fun _ h => absurd h List.not_mem_nil⟩⟩
  · intro z
    obtain ⟨p, l, rfl⟩ : ∃ (p : Fin 512) (l : Fin 128), z = ix2 p l := ⟨z 0, z 1, eq_ix2 z⟩
    have hl := l.isLt
    rw [slab_emb 128 _ p l ⟨128 + l.val, by omega⟩ rfl]
    exact slab11 (k0_pay1 x0 x1) (k0_pay3 x2) (k0_pay4 x3) p l _ (by show 1280 + (128 + l.val) = 1408 + l.val; omega)
  · intro z
    obtain ⟨p, l, rfl⟩ : ∃ (p : Fin 512) (l : Fin 128), z = ix2 p l := ⟨z 0, z 1, eq_ix2 z⟩
    have hl := l.isLt
    rw [slab_emb 0 _ p l ⟨0 + l.val, by omega⟩ rfl]
    exact slab10 (k0_pay1 x0 x1) (k0_pay3 x2) (k0_pay4 x3) p l _ (by show 1280 + (0 + l.val) = 1280 + l.val; omega)

/-- The window keys: four heads of turned columns. -/
theorem block7 (p : Fin 512) (n : Fin 256) :
    out0_A_7 c i a1 h1 a2 h2 a3 h3 a4 h4 a5 h5 a6 h6 a7 h7 a8 h8 a9 h9 a10 h10 a11 h11 a12 h12 a13 h13 x0 x1 x2 x3 (ix2 p n) = turned (k0_pay1 (F := Ideal) x0 x1) (k0_pay3 x2) (k0_pay4 x3) p ⟨1536 + n.val, Nat.lt_of_lt_of_le (Nat.add_lt_add_left n.isLt 1536) (by decide)⟩ := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 x0 x1 x2 x3)]
  refine View.canon_apply_of_pieces (S := S512x256) (fun y => turned (k0_pay1 (F := Ideal) x0 x1) (k0_pay3 x2) (k0_pay4 x3) (y 0) ⟨1536 + (y 1).val, Nat.lt_of_lt_of_le (Nat.add_lt_add_left (y 1).isLt 1536) (by decide)⟩) _ ?_ (ix2 p n)
    (cover0_A_7 c i a1 h1 a2 h2 a3 h3 a4 h4 a5 h5 a6 h6 a7 h7 a8 h8 a9 h9 a10 h10 a11 h11 a12 h12 a13 h13 x0 x1 x2 x3 (ix2 p n))
  unfold kernelRun0_A
  dsimp only
  sl_unfold_words
  simp only [View.readAt_eq_ld, h1.read_unread, h2.read_unread, h3.read_unread, h4.read_unread,
      View.ld_unit_zero (S := S512x1024) off0, View.ld_unit_zero (S := S1024x2688) off0, View.ld_unit_zero (S := S512x128) off0]
  refine List.forall_mem_cons.2 ⟨?_, List.forall_mem_cons.2 ⟨?_, fun _ h => absurd h List.not_mem_nil⟩⟩
  · intro z
    obtain ⟨p, l, rfl⟩ : ∃ (p : Fin 512) (l : Fin 128), z = ix2 p l := ⟨z 0, z 1, eq_ix2 z⟩
    have hl := l.isLt
    rw [slab_emb 128 _ p l ⟨128 + l.val, by omega⟩ rfl]
    exact slab13 (k0_pay1 x0 x1) (k0_pay3 x2) (k0_pay4 x3) p l _ (by show 1536 + (128 + l.val) = 1664 + l.val; omega)
  · intro z
    obtain ⟨p, l, rfl⟩ : ∃ (p : Fin 512) (l : Fin 128), z = ix2 p l := ⟨z 0, z 1, eq_ix2 z⟩
    have hl := l.isLt
    rw [slab_emb 0 _ p l ⟨0 + l.val, by omega⟩ rfl]
    exact slab12 (k0_pay1 x0 x1) (k0_pay3 x2) (k0_pay4 x3) p l _ (by show 1536 + (0 + l.val) = 1536 + l.val; omega)

/-- The compressed values: four heads of columns as they are. -/
theorem block8 (p : Fin 512) (n : Fin 256) :
    out0_A_8 c i a1 h1 a2 h2 a3 h3 a4 h4 a5 h5 a6 h6 a7 h7 a8 h8 a9 h9 a10 h10 a11 h11 a12 h12 a13 h13 x0 x1 x2 x3 (ix2 p n) = k0_pay1 (F := Ideal) x0 x1 (ix2 p ⟨1792 + n.val, Nat.lt_of_lt_of_le (Nat.add_lt_add_left n.isLt 1792) (by decide)⟩) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 x0 x1 x2 x3)]
  unfold kernelRun0_A
  dsimp only
  sl_unfold_words
  rw [View.canon_unit_zero (S := S512x256) off0]
  simp only [View.readAt_eq_ld, h1.read_unread, h2.read_unread, h3.read_unread, h4.read_unread,
      View.ld_unit_zero (S := S512x1024) off0, View.ld_unit_zero (S := S1024x2688) off0, View.ld_unit_zero (S := S512x128) off0]
  unfold k0_pay32
  refine congrArg (k0_pay1 x0 x1) (funext fun a => Fin.ext ?_)
  match a with
  | ⟨0, _⟩ => show 0 + p.val = p.val; omega
  | ⟨1, _⟩ => rfl

/-- The selected values: four heads of columns as they are. -/
theorem block9 (p : Fin 512) (n : Fin 256) :
    out0_A_9 c i a1 h1 a2 h2 a3 h3 a4 h4 a5 h5 a6 h6 a7 h7 a8 h8 a9 h9 a10 h10 a11 h11 a12 h12 a13 h13 x0 x1 x2 x3 (ix2 p n) = k0_pay1 (F := Ideal) x0 x1 (ix2 p ⟨2048 + n.val, Nat.lt_of_lt_of_le (Nat.add_lt_add_left n.isLt 2048) (by decide)⟩) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 x0 x1 x2 x3)]
  unfold kernelRun0_A
  dsimp only
  sl_unfold_words
  rw [View.canon_unit_zero (S := S512x256) off0]
  simp only [View.readAt_eq_ld, h1.read_unread, h2.read_unread, h3.read_unread, h4.read_unread,
      View.ld_unit_zero (S := S512x1024) off0, View.ld_unit_zero (S := S1024x2688) off0, View.ld_unit_zero (S := S512x128) off0]
  unfold k0_pay33
  refine congrArg (k0_pay1 x0 x1) (funext fun a => Fin.ext ?_)
  match a with
  | ⟨0, _⟩ => show 0 + p.val = p.val; omega
  | ⟨1, _⟩ => rfl

/-- The window values: four heads of columns as they are. -/
theorem block10 (p : Fin 512) (n : Fin 256) :
    out0_A_10 c i a1 h1 a2 h2 a3 h3 a4 h4 a5 h5 a6 h6 a7 h7 a8 h8 a9 h9 a10 h10 a11 h11 a12 h12 a13 h13 x0 x1 x2 x3 (ix2 p n) = k0_pay1 (F := Ideal) x0 x1 (ix2 p ⟨2304 + n.val, Nat.lt_of_lt_of_le (Nat.add_lt_add_left n.isLt 2304) (by decide)⟩) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 x0 x1 x2 x3)]
  unfold kernelRun0_A
  dsimp only
  sl_unfold_words
  rw [View.canon_unit_zero (S := S512x256) off0]
  simp only [View.readAt_eq_ld, h1.read_unread, h2.read_unread, h3.read_unread, h4.read_unread,
      View.ld_unit_zero (S := S512x1024) off0, View.ld_unit_zero (S := S1024x2688) off0, View.ld_unit_zero (S := S512x128) off0]
  unfold k0_pay34
  refine congrArg (k0_pay1 x0 x1) (funext fun a => Fin.ext ?_)
  match a with
  | ⟨0, _⟩ => show 0 + p.val = p.val; omega
  | ⟨1, _⟩ => rfl

/-- The gates: the logistic function of the last columns. -/
theorem block11 (p : Fin 512) (n : Fin 128) :
    out0_A_11 c i a1 h1 a2 h2 a3 h3 a4 h4 a5 h5 a6 h6 a7 h7 a8 h8 a9 h9 a10 h10 a11 h11 a12 h12 a13 h13 x0 x1 x2 x3 (ix2 p n) = logistic (k0_pay1 (F := Ideal) x0 x1 (ix2 p ⟨2560 + n.val, Nat.lt_of_lt_of_le (Nat.add_lt_add_left n.isLt 2560) (by decide)⟩)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 x0 x1 x2 x3)]
  unfold kernelRun0_A
  dsimp only
  sl_unfold_words
  rw [View.canon_unit_zero (S := S512x128) off0]
  simp only [View.readAt_eq_ld, h1.read_unread, h2.read_unread, h3.read_unread, h4.read_unread,
      View.ld_unit_zero (S := S512x1024) off0, View.ld_unit_zero (S := S1024x2688) off0, View.ld_unit_zero (S := S512x128) off0]
  exact pay35_apply _ p n

/-- The four keys and values of the attention, side by side. -/
theorem block12 (p : Fin 512) (n : Fin 1024) :
    out0_A_12 c i a1 h1 a2 h2 a3 h3 a4 h4 a5 h5 a6 h6 a7 h7 a8 h8 a9 h9 a10 h10 a11 h11 a12 h12 a13 h13 x0 x1 x2 x3 (ix2 p n) = kvb (k0_pay1 (F := Ideal) x0 x1) (k0_pay3 x2) (k0_pay4 x3) p n := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 x0 x1 x2 x3)]
  refine View.canon_apply_of_pieces (S := S512x1024) (fun y => kvb (k0_pay1 (F := Ideal) x0 x1) (k0_pay3 x2) (k0_pay4 x3) (y 0) (y 1)) _ ?_ (ix2 p n)
    (cover0_A_12 c i a1 h1 a2 h2 a3 h3 a4 h4 a5 h5 a6 h6 a7 h7 a8 h8 a9 h9 a10 h10 a11 h11 a12 h12 a13 h13 x0 x1 x2 x3 (ix2 p n))
  unfold kernelRun0_A
  dsimp only
  sl_unfold_words
  simp only [View.readAt_eq_ld, h1.read_unread, h2.read_unread, h3.read_unread, h4.read_unread,
      View.ld_unit_zero (S := S512x1024) off0, View.ld_unit_zero (S := S1024x2688) off0, View.ld_unit_zero (S := S512x128) off0]
  refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
  · intro z
    obtain ⟨p, l, rfl⟩ : ∃ (p : Fin 512) (l : Fin 256), z = ix2 p l := ⟨z 0, z 1, eq_ix2 z⟩
    have hl := l.isLt
    rw [slab_emb 768 _ p l ⟨768 + l.val, by omega⟩ rfl]
    exact kvb_rest (k0_pay1 x0 x1) _ _ p l 768 2304 (Or.inr ⟨rfl, rfl⟩) slices_S512x2688_o0_2304_S512x256 _ rfl
  · intro z
    obtain ⟨p, l, rfl⟩ : ∃ (p : Fin 512) (l : Fin 256), z = ix2 p l := ⟨z 0, z 1, eq_ix2 z⟩
    have hl := l.isLt
    rw [slab_emb 256 _ p l ⟨256 + l.val, by omega⟩ rfl]
    exact kvb_rest (k0_pay1 x0 x1) _ _ p l 256 2048 (Or.inl ⟨rfl, rfl⟩) slices_S512x2688_o0_2048_S512x256 _ rfl
  · intro z
    obtain ⟨p, l, rfl⟩ : ∃ (p : Fin 512) (l : Fin 128), z = ix2 p l := ⟨z 0, z 1, eq_ix2 z⟩
    have hl := l.isLt
    rw [slab_emb 640 _ p l ⟨640 + l.val, by omega⟩ rfl]
    exact (slab13 (k0_pay1 x0 x1) (k0_pay3 x2) (k0_pay4 x3) p l ⟨1664 + l.val, by omega⟩ (show 1664 + l.val = 1664 + l.val from rfl)).trans (kvb_turned _ _ _ p ⟨1664 + l.val, by omega⟩ ⟨640 + l.val, by omega⟩ (Or.inr ⟨by show 512 ≤ 640 + l.val; omega, by show 640 + l.val < 768; omega, by show 1664 + l.val = 1024 + (640 + l.val); omega⟩))
  · intro z
    obtain ⟨p, l, rfl⟩ : ∃ (p : Fin 512) (l : Fin 128), z = ix2 p l := ⟨z 0, z 1, eq_ix2 z⟩
    have hl := l.isLt
    rw [slab_emb 128 _ p l ⟨128 + l.val, by omega⟩ rfl]
    exact (slab11 (k0_pay1 x0 x1) (k0_pay3 x2) (k0_pay4 x3) p l ⟨1408 + l.val, by omega⟩ (show 1408 + l.val = 1408 + l.val from rfl)).trans (kvb_turned _ _ _ p ⟨1408 + l.val, by omega⟩ ⟨128 + l.val, by omega⟩ (Or.inl ⟨by show 128 + l.val < 256; omega, by show 1408 + l.val = 1280 + (128 + l.val); omega⟩))
  · intro z
    obtain ⟨p, l, rfl⟩ : ∃ (p : Fin 512) (l : Fin 128), z = ix2 p l := ⟨z 0, z 1, eq_ix2 z⟩
    have hl := l.isLt
    rw [slab_emb 512 _ p l ⟨512 + l.val, by omega⟩ rfl]
    exact (slab12 (k0_pay1 x0 x1) (k0_pay3 x2) (k0_pay4 x3) p l ⟨1536 + l.val, by omega⟩ (show 1536 + l.val = 1536 + l.val from rfl)).trans (kvb_turned _ _ _ p ⟨1536 + l.val, by omega⟩ ⟨512 + l.val, by omega⟩ (Or.inr ⟨by show 512 ≤ 512 + l.val; omega, by show 512 + l.val < 768; omega, by show 1536 + l.val = 1024 + (512 + l.val); omega⟩))
  · intro z
    obtain ⟨p, l, rfl⟩ : ∃ (p : Fin 512) (l : Fin 128), z = ix2 p l := ⟨z 0, z 1, eq_ix2 z⟩
    have hl := l.isLt
    rw [slab_emb 0 _ p l ⟨0 + l.val, by omega⟩ rfl]
    exact (slab10 (k0_pay1 x0 x1) (k0_pay3 x2) (k0_pay4 x3) p l ⟨1280 + l.val, by omega⟩ (show 1280 + l.val = 1280 + l.val from rfl)).trans (kvb_turned _ _ _ p ⟨1280 + l.val, by omega⟩ ⟨0 + l.val, by omega⟩ (Or.inl ⟨by show 0 + l.val < 256; omega, by show 1280 + l.val = 1280 + (0 + l.val); omega⟩))

end Point

end Cert.Proj

end
-- ==== Proof.ProjEntry.lean ====
/- What the windows of the projection call read: the rows, the weights with their columns put in the order of the results,
   and the tables of cosines and sines. -/
module

public import proofs.«01_k».proof.Proof.Gen.Kernel3Ideal.Value
public import Idealize.ShloMosaic.Lib.Pointwise
public import Idealize.ShloMosaic.Lib.IdealHost

@[expose] public section

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The angles: position times the inverse power of the lane. -/
def angles : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The table of cosines, twice over the two halves of a head. -/
def cosTable : FVec Ideal S4096x128 .f32 :=
  have t := concatenate S4096x64 1 [⟨S4096x32, Host.cos (F := Ideal) (φ := .f32) angles⟩, ⟨S4096x32, Host.cos (F := Ideal) (φ := .f32) angles⟩] concatenates_S4096x32_S4096x32_S4096x64_d1
  concatenate S4096x128 1 [⟨S4096x64, t⟩, ⟨S4096x64, t⟩] concatenates_S4096x64_S4096x64_S4096x128_d1

/-- The table of sines, negated on the first half of a head. -/
def sinTable : FVec Ideal S4096x128 .f32 :=
  have t := concatenate S4096x64 1 [⟨S4096x32, Host.negf (F := Ideal) (φ := .f32) (Host.sin (F := Ideal) (φ := .f32) angles)⟩, ⟨S4096x32, Host.sin (F := Ideal) (φ := .f32) angles⟩] concatenates_S4096x32_S4096x32_S4096x64_d1
  concatenate S4096x128 1 [⟨S4096x64, t⟩, ⟨S4096x64, t⟩] concatenates_S4096x64_S4096x64_S4096x128_d1

/-- The rows: the first argument with its first two axes joined. -/
def rows : FVec Ideal S16384x1024 .f32 :=
  shapeCast S16384x1024 (m ((c : Thread nD τ).loc main_arg0)) shapeCasts_S4x4096x1024_S16384x1024

/-- The starts that the heads of the queries are taken from. -/
def starts : IVec S16x1 32 :=
  have l : IVec S16 32 := fun i => lit0 (S16.rowMajor i)
  broadcastInDim S16x1 ![0] bcast_S16_S16x1_0
    (select (constantI S16 1 0#1) (addi l (broadcastInDim S16 ![] bcast_S_S16 (constantI S_ 32 16#32))) l)

/-- The queries' columns with the heads in the order of the result. -/
def heads (w : FVec Ideal S1024x2608 .f32) : FVec Ideal S1024x16x64 .f32 :=
  Host.gather gather_S1024x16x64_S16x1_S1024x16x64_02_1_n_n_1_1_1024164
    (shapeCast S1024x16x64 (extractStridedSlice S1024x1024 ![0, 0] w slices_S1024x2608_S1024x1024_0_0) shapeCasts_S1024x1024_S1024x16x64) starts

/-- The weights with their columns in the order of the results, and zero columns behind. -/
def weights (w : FVec Ideal S1024x2608 .f32) : FVec Ideal S1024x2688 .bf16 :=
  truncf .bf16 (concatenate S1024x2688 1
    [⟨S1024x1024, shapeCast S1024x1024 (heads w) shapeCasts_S1024x16x64_S1024x1024⟩,
     ⟨S1024x256, extractStridedSlice S1024x256 ![0, 1024] w slices_S1024x2608_S1024x256_0_1024⟩,
     ⟨S1024x256, extractStridedSlice S1024x256 ![0, 1536] w slices_S1024x2608_S1024x256_0_1536⟩,
     ⟨S1024x256, extractStridedSlice S1024x256 ![0, 2048] w slices_S1024x2608_S1024x256_0_2048⟩,
     ⟨S1024x256, extractStridedSlice S1024x256 ![0, 1280] w slices_S1024x2608_S1024x256_0_1280⟩,
     ⟨S1024x256, extractStridedSlice S1024x256 ![0, 1792] w slices_S1024x2608_S1024x256_0_1792⟩,
     ⟨S1024x256, extractStridedSlice S1024x256 ![0, 2304] w slices_S1024x2608_S1024x256_0_2304⟩,
     ⟨S1024x48, extractStridedSlice S1024x48 ![0, 2560] w slices_S1024x2608_S1024x48_0_2560⟩,
     ⟨S1024x80, broadcastInDim S1024x80 ![] bcast_S_S1024x80 (constant S_ .f32 0x00000000#32)⟩]
    concatenates_S1024x1024_S1024x256_S1024x256_S1024x256_S1024x256_S1024x256_S1024x256_S1024x48_S1024x80_S1024x2688_d1) bitsLt_bf16_f32

theorem entry_rows : V m c main_v24 = rows m c := by
  simp only [V, hostOps0]; after_results_simp <;> rfl
theorem entry_weights : V m c main_v42 = weights (m ((c : Thread nD τ).loc main_arg1)) := by
  simp only [V, hostOps0]; after_results_simp <;> rfl
theorem entry_cos : V m c main_v18 = cosTable := by
  simp only [V, hostOps0]; after_results_simp <;> rfl
theorem entry_sin : V m c main_v19 = sinTable := by
  simp only [V, hostOps0]; after_results_simp <;> rfl

/-- The head that the result has at place `j`: the eight heads of a half in pairs, four apart. -/
def headAt (j : Nat) : Nat := 8 * (j / 8) + 4 * (j % 2) + j % 8 / 2

/-- The column of the argument that stands at column `n` of the weights in the order of the results. -/
def source (n : Nat) : Nat :=
  if n < 1024 then 64 * headAt (n / 64) + n % 64
  else if n < 1280 then n else if n < 1536 then n + 256 else if n < 1792 then n + 512
  else if n < 2048 then n - 512 else if n < 2304 then n - 256 else n

theorem starts_apply (j : Fin 16) : starts (ix2 j 0) = lit0 j := by
  have h : S16.rowMajor (ix1 j) = j := Fin.ext (Shape.rowMajor_val_one _)
  pointwise [starts]
  rw [h]

theorem start_nat (j : Fin 16) : min (lit0 j).toInt.toNat (16 - 1) = headAt j.val := by
  have h : ∀ j : Fin 16, min (lit0 j).toInt.toNat (16 - 1) = headAt j.val := by decide +kernel
  exact h j

theorem headAt_lt (j : Nat) (h : j < 16) : headAt j < 16 := by unfold headAt; omega

/-- The gathered heads: head `headAt j` at place `j`. -/
theorem gather_apply (x : FVec Ideal S1024x16x64 .f32) (d : Fin 1024) (j : Fin 16) (l : Fin 64) :
    Host.gather gather_S1024x16x64_S16x1_S1024x16x64_02_1_n_n_1_1_1024164 x starts (ix3 d j l)
      = x (ix3 d ⟨headAt j.val, headAt_lt _ j.isLt⟩ l) := by
  unfold Host.gather
  congr 1
  funext a
  refine Fin.ext ?_
  show (gather_S1024x16x64_S16x1_S1024x16x64_02_1_n_n_1_1_1024164).start (ix3 d j l) starts a
      + (gather_S1024x16x64_S16x1_S1024x16x64_02_1_n_n_1_1_1024164).batchCoord (ix3 d j l) a
      + (gather_S1024x16x64_S16x1_S1024x16x64_02_1_n_n_1_1_1024164).offCoord (ix3 d j l) a = _
  rw [GatherDims.batchCoord_eq_zero _ _ _ List.not_mem_nil]
  match a with
  | ⟨0, _⟩ =>
    show (gather_S1024x16x64_S16x1_S1024x16x64_02_1_n_n_1_1_1024164).start (ix3 d j l) starts 0 + 0
      + (gather_S1024x16x64_S16x1_S1024x16x64_02_1_n_n_1_1_1024164).offCoord (ix3 d j l) 0 = d.val
    unfold GatherDims.start
    rw [dif_neg (show ¬(0 : Fin 3) ∈ (gather_S1024x16x64_S16x1_S1024x16x64_02_1_n_n_1_1_1024164).startIndexMap by decide)]
    unfold GatherDims.offCoord
    rw [dif_pos (show (0 : Fin 3) ∈ (gather_S1024x16x64_S16x1_S1024x16x64_02_1_n_n_1_1_1024164).sKept by decide)]
    exact (Nat.zero_add _).trans rfl
  | ⟨1, _⟩ =>
    have hsi : (gather_S1024x16x64_S16x1_S1024x16x64_02_1_n_n_1_1_1024164).siIdx (ix3 d j l)
        ⟨List.idxOf (1 : Fin 3) (gather_S1024x16x64_S16x1_S1024x16x64_02_1_n_n_1_1_1024164).startIndexMap,
          List.idxOf_lt_length_iff.2 (List.mem_singleton.mpr rfl)⟩ = ix2 j 0 := by
      funext b; refine Fin.ext ?_
      match b with
      | ⟨0, _⟩ => rfl
      | ⟨1, _⟩ => rfl
    show (gather_S1024x16x64_S16x1_S1024x16x64_02_1_n_n_1_1_1024164).start (ix3 d j l) starts 1 + 0
      + (gather_S1024x16x64_S16x1_S1024x16x64_02_1_n_n_1_1_1024164).offCoord (ix3 d j l) 1 = headAt j.val
    rw [GatherDims.offCoord_eq_zero _ _ _ (fun h => ((GatherDims.mem_sKept _ _).mp h).1 (List.mem_singleton.mpr rfl))]
    unfold GatherDims.start
    rw [dif_pos (show (1 : Fin 3) ∈ (gather_S1024x16x64_S16x1_S1024x16x64_02_1_n_n_1_1_1024164).startIndexMap from List.mem_singleton.mpr rfl),
      hsi, starts_apply]
    exact start_nat j
  | ⟨2, _⟩ =>
    show (gather_S1024x16x64_S16x1_S1024x16x64_02_1_n_n_1_1_1024164).start (ix3 d j l) starts 2 + 0
      + (gather_S1024x16x64_S16x1_S1024x16x64_02_1_n_n_1_1_1024164).offCoord (ix3 d j l) 2 = l.val
    unfold GatherDims.start
    rw [dif_neg (show ¬(2 : Fin 3) ∈ (gather_S1024x16x64_S16x1_S1024x16x64_02_1_n_n_1_1_1024164).startIndexMap by decide)]
    unfold GatherDims.offCoord
    rw [dif_pos (show (2 : Fin 3) ∈ (gather_S1024x16x64_S16x1_S1024x16x64_02_1_n_n_1_1_1024164).sKept by decide)]
    exact (Nat.zero_add _).trans rfl

theorem heads_apply (w : FVec Ideal S1024x2608 .f32) (d : Fin 1024) (j : Fin 16) (l : Fin 64) (k : Fin 2608)
    (hk : k.val = 64 * headAt j.val + l.val) : heads w (ix3 d j l) = w (ix2 d k) := by
  unfold heads
  rw [gather_apply]
  have hj := headAt_lt _ j.isLt
  pointwise
  exact congrArg (fun q => w (ix2 d q)) (Fin.ext (by simp only [hk]; omega))

theorem cos_apply (t : Fin 4096) (l : Fin 128) : cosTable (ix2 t l) = Ideal.cos (angles (ix2 t ⟨l.val % 32, by omega⟩)) := by
  pointwise [cosTable]
  split <;> split <;> exact congrArg (fun q => Ideal.cos (angles (ix2 t q))) (Fin.ext (by simp only; omega))

theorem sin_apply (t : Fin 4096) (l : Fin 128) : sinTable (ix2 t l)
    = if l.val % 64 < 32 then -Ideal.sin (angles (ix2 t ⟨l.val % 32, by omega⟩)) else Ideal.sin (angles (ix2 t ⟨l.val % 32, by omega⟩)) := by
  have hl := l.isLt
  have hp : l.val % 64 < 32 → (-Ideal.sin (angles (ix2 t ⟨l.val % 32, by omega⟩)) : EReal)
      = if l.val % 64 < 32 then -Ideal.sin (angles (ix2 t ⟨l.val % 32, by omega⟩)) else Ideal.sin (angles (ix2 t ⟨l.val % 32, by omega⟩)) :=
    fun h => (if_pos h).symm
  have hn : ¬l.val % 64 < 32 → (Ideal.sin (angles (ix2 t ⟨l.val % 32, by omega⟩)) : EReal)
      = if l.val % 64 < 32 then -Ideal.sin (angles (ix2 t ⟨l.val % 32, by omega⟩)) else Ideal.sin (angles (ix2 t ⟨l.val % 32, by omega⟩)) :=
    fun h => (if_neg h).symm
  by_cases h0 : l.val < 64 <;> by_cases h1 : l.val % 64 < 32
  · refine Eq.trans ?_ (hp h1)
    pointwise [sinTable]
    refine (dif_pos h0).trans ((dif_pos (show l.val < 32 by omega)).trans ?_)
    exact congrArg (fun q => -Ideal.sin (angles (ix2 t q))) (Fin.ext (by show l.val = l.val % 32; omega))
  · refine Eq.trans ?_ (hn h1)
    pointwise [sinTable]
    refine (dif_pos h0).trans ((dif_neg (show ¬l.val < 32 by omega)).trans ?_)
    exact congrArg (fun q => Ideal.sin (angles (ix2 t q))) (Fin.ext (by show l.val - 32 = l.val % 32; omega))
  · refine Eq.trans ?_ (hp h1)
    pointwise [sinTable]
    refine (dif_neg h0).trans ((dif_pos (show l.val - 64 < 32 by omega)).trans ?_)
    exact congrArg (fun q => -Ideal.sin (angles (ix2 t q))) (Fin.ext (by show l.val - 64 = l.val % 32; omega))
  · refine Eq.trans ?_ (hn h1)
    pointwise [sinTable]
    refine (dif_neg h0).trans ((dif_neg (show ¬l.val - 64 < 32 by omega)).trans ?_)
    exact congrArg (fun q => Ideal.sin (angles (ix2 t q))) (Fin.ext (by show l.val - 64 - 32 = l.val % 32; omega))

theorem weights_apply (w : FVec Ideal S1024x2608 .f32) (d : Fin 1024) (n : Fin 2688) (k : Fin 2608) (hn : n.val < 2608)
    (hk : k.val = source n.val) : weights w (ix2 d n) = w (ix2 d k) := by
  unfold source at hk
  pointwise [weights]
  split
  · rename_i h
    rw [if_pos h] at hk
    exact heads_apply w d _ _ k hk
  · rename_i h
    rw [if_neg h] at hk
    repeat' split
    all_goals first
      | (exfalso; omega)
      | (refine congrArg (fun q => w (ix2 d q)) (Fin.ext ?_); simp only; split_ifs at hk <;> omega)

theorem weights_zero (w : FVec Ideal S1024x2608 .f32) (d : Fin 1024) (n : Fin 2688) (hn : 2608 ≤ n.val) : weights w (ix2 d n) = (0 : EReal) := by
  pointwise [weights]
  repeat' split
  all_goals first
    | rfl
    | (exfalso; omega)

end Cert.Proj

end
-- ==== Proof.ProjMath.lean ====
/- The projection of one row over the extended reals: its columns, and the columns of a head turned by the row's angles; and
   that the reference's terms are these. -/
module

public import proofs.«01_k».proof.Proof.Gen.Reference3Ideal.Run
public import Idealize.ShloMosaic.Lib.Pointwise
public import Idealize.ShloMosaic.Lib.IdealHost

@[expose] public section

noncomputable section

namespace Cert.Proj

open Cert.Reference3Ideal Cert.Reference3Ideal.Gen Idealize.ShloMosaic Idealize.ShloMosaic.TcCoe Idealize.SL.Sem

/-! ## The mathematics of one row -/

/-- The columns of a head turned by the angles: lane `l` of the first half against lane `l + 32` of the second. -/
def turn (f : Fin 2608 → EReal) (a : Fin 32 → EReal) (k : Fin 2560) : EReal :=
  if k.val % 64 < 32 then f ⟨k.val, by omega⟩ * Ideal.cos (a ⟨k.val % 32, by omega⟩) - f ⟨k.val + 32, by omega⟩ * Ideal.sin (a ⟨k.val % 32, by omega⟩)
  else f ⟨k.val, by omega⟩ * Ideal.cos (a ⟨k.val % 32, by omega⟩) + f ⟨k.val - 32, by omega⟩ * Ideal.sin (a ⟨k.val % 32, by omega⟩)

/-- Column `k` of row `r` of the product. -/
def col (x : FVec Ideal S4x4096x1024 .f32) (w : FVec Ideal S1024x2608 .f32) (r : Fin 16384) (k : Fin 2608) : EReal :=
  ∑ d : Fin 1024, x (ix3 ⟨r.val / 4096, by omega⟩ ⟨r.val % 4096, by omega⟩ d) * w (ix2 d k)

/-! ## The reference's terms -/

/-- The reference's angles. -/
def refAngles : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The product of the rows with the weights. -/
def prod (x : FVec Ideal S4x4096x1024 .f32) (w : FVec Ideal S1024x2608 .f32) : FVec Ideal S4x4096x2608 .f32 :=
  Host.dotGeneral dot_S4x4096x1024_S1024x2608_S4x4096x2608_2_0_01_1_n_n none x w

theorem prod_apply (x : FVec Ideal S4x4096x1024 .f32) (w : FVec Ideal S1024x2608 .f32) (b : Fin 4) (t : Fin 4096) (k : Fin 2608)
    (r : Fin 16384) (hb : b.val = r.val / 4096) (ht : t.val = r.val % 4096) : prod x w (ix3 b t k) = col x w r k := by
  rw [show b = ⟨r.val / 4096, by omega⟩ from Fin.ext hb, show t = ⟨r.val % 4096, by omega⟩ from Fin.ext ht]
  pointwise [prod]
  rfl

/-- The angles' table laid over the rows and the four heads of the keys. -/
def wide4 (a : FVec Ideal S4096x32 .f32) : FVec Ideal S4x4096x4x32 .f32 :=
  broadcastInDim S4x4096x4x32 ![0, 1, 2, 3] bcast_S1x4096x1x32_S4x4096x4x32_0_1_2_3 (broadcastInDim S1x4096x1x32 ![1, 3] bcast_S4096x32_S1x4096x1x32_1_3 a)

/-- The first half of the four heads of the keys. -/
def lower4 (y : FVec Ideal S4x4096x4x64 .f32) : FVec Ideal S4x4096x4x32 .f32 := extractStridedSlice S4x4096x4x32 ![0, 0, 0, 0] y slices_S4x4096x4x64_S4x4096x4x32_0_0_0_0
/-- The second half of the four heads of the keys. -/
def upper4 (y : FVec Ideal S4x4096x4x64 .f32) : FVec Ideal S4x4096x4x32 .f32 := extractStridedSlice S4x4096x4x32 ![0, 0, 0, 32] y slices_S4x4096x4x64_S4x4096x4x32_0_0_0_32
/-- The first half, turned. -/
def front4 (y : FVec Ideal S4x4096x4x64 .f32) : FVec Ideal S4x4096x4x32 .f32 := subf (mulf (lower4 y) (wide4 (Host.cos (F := Ideal) (φ := .f32) refAngles))) (mulf (upper4 y) (wide4 (Host.sin (F := Ideal) (φ := .f32) refAngles)))
/-- The second half, turned. -/
def back4 (y : FVec Ideal S4x4096x4x64 .f32) : FVec Ideal S4x4096x4x32 .f32 := addf (mulf (upper4 y) (wide4 (Host.cos (F := Ideal) (φ := .f32) refAngles))) (mulf (lower4 y) (wide4 (Host.sin (F := Ideal) (φ := .f32) refAngles)))

theorem front4_apply (y : FVec Ideal S4x4096x4x64 .f32) (b : Fin 4) (t : Fin 4096) (h : Fin 4) (l : Fin 32) :
    front4 y (ix4 b t h l) = y (ix4 b t h ⟨l.val, by omega⟩) * Ideal.cos (refAngles (ix2 t l))
      - y (ix4 b t h ⟨32 + l.val, by omega⟩) * Ideal.sin (refAngles (ix2 t l)) := by
  pointwise [front4, wide4, lower4, upper4]
theorem back4_apply (y : FVec Ideal S4x4096x4x64 .f32) (b : Fin 4) (t : Fin 4096) (h : Fin 4) (l : Fin 32) :
    back4 y (ix4 b t h l) = y (ix4 b t h ⟨32 + l.val, by omega⟩) * Ideal.cos (refAngles (ix2 t l))
      + y (ix4 b t h ⟨l.val, by omega⟩) * Ideal.sin (refAngles (ix2 t l)) := by
  pointwise [back4, wide4, lower4, upper4]

/-- The four heads of the keys, their halves turned by the angles. -/
def turn4 (y : FVec Ideal S4x4096x4x64 .f32) : FVec Ideal S4x4096x4x64 .f32 :=
  concatenate S4x4096x4x64 3 [⟨S4x4096x4x32, front4 y⟩, ⟨S4x4096x4x32, back4 y⟩] concatenates_S4x4096x4x32_S4x4096x4x32_S4x4096x4x64_d3

theorem turn4_low (y : FVec Ideal S4x4096x4x64 .f32) (b : Fin 4) (t : Fin 4096) (h : Fin 4) (l : Fin 64) (hl : l.val < 32) :
    turn4 y (ix4 b t h l) = y (ix4 b t h l) * Ideal.cos (refAngles (ix2 t ⟨l.val, hl⟩))
      - y (ix4 b t h ⟨l.val + 32, by omega⟩) * Ideal.sin (refAngles (ix2 t ⟨l.val, hl⟩)) := by
  have e : (⟨l.val + 32, by omega⟩ : Fin 64) = ⟨32 + l.val, by omega⟩ := Fin.ext (Nat.add_comm _ _)
  rw [e]
  refine Eq.trans ?_ (front4_apply y b t h ⟨l.val, hl⟩)
  pointwise [turn4]
  exact dif_pos hl

theorem turn4_high (y : FVec Ideal S4x4096x4x64 .f32) (b : Fin 4) (t : Fin 4096) (h : Fin 4) (l : Fin 64) (hl : ¬l.val < 32) :
    turn4 y (ix4 b t h l) = y (ix4 b t h l) * Ideal.cos (refAngles (ix2 t ⟨l.val - 32, by omega⟩))
      + y (ix4 b t h ⟨l.val - 32, by omega⟩) * Ideal.sin (refAngles (ix2 t ⟨l.val - 32, by omega⟩)) := by
  have e : (⟨32 + (l.val - 32), by omega⟩ : Fin 64) = l := Fin.ext (by show 32 + (l.val - 32) = l.val; omega)
  refine Eq.trans ?_ ((back4_apply y b t h ⟨l.val - 32, by omega⟩).trans (by rw [e]))
  pointwise [turn4]
  exact dif_neg hl

/-- The angles' table laid over the rows and the sixteen heads of the queries. -/
def wide16 (a : FVec Ideal S4096x32 .f32) : FVec Ideal S4x4096x16x32 .f32 :=
  broadcastInDim S4x4096x16x32 ![0, 1, 2, 3] bcast_S1x4096x1x32_S4x4096x16x32_0_1_2_3 (broadcastInDim S1x4096x1x32 ![1, 3] bcast_S4096x32_S1x4096x1x32_1_3 a)

/-- The first half of the sixteen heads of the queries. -/
def lower16 (y : FVec Ideal S4x4096x16x64 .f32) : FVec Ideal S4x4096x16x32 .f32 := extractStridedSlice S4x4096x16x32 ![0, 0, 0, 0] y slices_S4x4096x16x64_S4x4096x16x32_0_0_0_0
/-- The second half of the sixteen heads of the queries. -/
def upper16 (y : FVec Ideal S4x4096x16x64 .f32) : FVec Ideal S4x4096x16x32 .f32 := extractStridedSlice S4x4096x16x32 ![0, 0, 0, 32] y slices_S4x4096x16x64_S4x4096x16x32_0_0_0_32
/-- The first half, turned. -/
def front16 (y : FVec Ideal S4x4096x16x64 .f32) : FVec Ideal S4x4096x16x32 .f32 := subf (mulf (lower16 y) (wide16 (Host.cos (F := Ideal) (φ := .f32) refAngles))) (mulf (upper16 y) (wide16 (Host.sin (F := Ideal) (φ := .f32) refAngles)))
/-- The second half, turned. -/
def back16 (y : FVec Ideal S4x4096x16x64 .f32) : FVec Ideal S4x4096x16x32 .f32 := addf (mulf (upper16 y) (wide16 (Host.cos (F := Ideal) (φ := .f32) refAngles))) (mulf (lower16 y) (wide16 (Host.sin (F := Ideal) (φ := .f32) refAngles)))

theorem front16_apply (y : FVec Ideal S4x4096x16x64 .f32) (b : Fin 4) (t : Fin 4096) (h : Fin 16) (l : Fin 32) :
    front16 y (ix4 b t h l) = y (ix4 b t h ⟨l.val, by omega⟩) * Ideal.cos (refAngles (ix2 t l))
      - y (ix4 b t h ⟨32 + l.val, by omega⟩) * Ideal.sin (refAngles (ix2 t l)) := by
  pointwise [front16, wide16, lower16, upper16]
theorem back16_apply (y : FVec Ideal S4x4096x16x64 .f32) (b : Fin 4) (t : Fin 4096) (h : Fin 16) (l : Fin 32) :
    back16 y (ix4 b t h l) = y (ix4 b t h ⟨32 + l.val, by omega⟩) * Ideal.cos (refAngles (ix2 t l))
      + y (ix4 b t h ⟨l.val, by omega⟩) * Ideal.sin (refAngles (ix2 t l)) := by
  pointwise [back16, wide16, lower16, upper16]

/-- The sixteen heads of the queries, their halves turned by the angles. -/
def turn16 (y : FVec Ideal S4x4096x16x64 .f32) : FVec Ideal S4x4096x16x64 .f32 :=
  concatenate S4x4096x16x64 3 [⟨S4x4096x16x32, front16 y⟩, ⟨S4x4096x16x32, back16 y⟩] concatenates_S4x4096x16x32_S4x4096x16x32_S4x4096x16x64_d3

theorem turn16_low (y : FVec Ideal S4x4096x16x64 .f32) (b : Fin 4) (t : Fin 4096) (h : Fin 16) (l : Fin 64) (hl : l.val < 32) :
    turn16 y (ix4 b t h l) = y (ix4 b t h l) * Ideal.cos (refAngles (ix2 t ⟨l.val, hl⟩))
      - y (ix4 b t h ⟨l.val + 32, by omega⟩) * Ideal.sin (refAngles (ix2 t ⟨l.val, hl⟩)) := by
  have e : (⟨l.val + 32, by omega⟩ : Fin 64) = ⟨32 + l.val, by omega⟩ := Fin.ext (Nat.add_comm _ _)
  rw [e]
  refine Eq.trans ?_ (front16_apply y b t h ⟨l.val, hl⟩)
  pointwise [turn16]
  exact dif_pos hl

theorem turn16_high (y : FVec Ideal S4x4096x16x64 .f32) (b : Fin 4) (t : Fin 4096) (h : Fin 16) (l : Fin 64) (hl : ¬l.val < 32) :
    turn16 y (ix4 b t h l) = y (ix4 b t h l) * Ideal.cos (refAngles (ix2 t ⟨l.val - 32, by omega⟩))
      + y (ix4 b t h ⟨l.val - 32, by omega⟩) * Ideal.sin (refAngles (ix2 t ⟨l.val - 32, by omega⟩)) := by
  have e : (⟨32 + (l.val - 32), by omega⟩ : Fin 64) = l := Fin.ext (by show 32 + (l.val - 32) = l.val; omega)
  refine Eq.trans ?_ ((back16_apply y b t h ⟨l.val - 32, by omega⟩).trans (by rw [e]))
  pointwise [turn16]
  exact dif_neg hl

/-- The angles of row `r`. -/
def rowAngles (r : Fin 16384) (l : Fin 32) : EReal := refAngles (ix2 ⟨r.val % 4096, by omega⟩ l)

theorem turn_low (f : Fin 2608 → EReal) (a : Fin 32 → EReal) (k : Fin 2560) (l : Nat) (h : k.val % 64 = l) (hl : l < 32) :
    turn f a k = f ⟨k.val, by omega⟩ * Ideal.cos (a ⟨l, hl⟩) - f ⟨k.val + 32, by omega⟩ * Ideal.sin (a ⟨l, hl⟩) := by
  have e : (⟨k.val % 32, by omega⟩ : Fin 32) = ⟨l, hl⟩ := Fin.ext (by show k.val % 32 = l; omega)
  unfold turn
  rw [if_pos (by omega), e]

theorem turn_high (f : Fin 2608 → EReal) (a : Fin 32 → EReal) (k : Fin 2560) (l : Nat) (h : k.val % 64 = l) (hl : ¬l < 32) :
    turn f a k = f ⟨k.val, by omega⟩ * Ideal.cos (a ⟨l - 32, by omega⟩) + f ⟨k.val - 32, by omega⟩ * Ideal.sin (a ⟨l - 32, by omega⟩) := by
  have e : (⟨k.val % 32, by omega⟩ : Fin 32) = ⟨l - 32, by omega⟩ := Fin.ext (by show k.val % 32 = l - 32; omega)
  unfold turn
  rw [if_neg (by omega), e]

/-- The key columns of the result: the heads turned. -/
def keys (y : FVec Ideal S4x4096x256 .f32) : FVec Ideal S16384x256 .f32 :=
  shapeCast S16384x256 (turn4 (shapeCast S4x4096x4x64 y shapeCasts_S4x4096x256_S4x4096x4x64)) shapeCasts_S4x4096x4x64_S16384x256

theorem keys_apply (y : FVec Ideal S4x4096x256 .f32) (f : Fin 2608 → EReal) (o : Nat) (ho : o % 64 = 0) (hb : o + 256 ≤ 2560)
    (r : Fin 16384) (n : Fin 256)
    (hy : ∀ k : Fin 256, y (ix3 ⟨r.val / 4096, by omega⟩ ⟨r.val % 4096, by omega⟩ k) = f ⟨o + k.val, by omega⟩) :
    keys y (ix2 r n) = turn f (rowAngles r) ⟨o + n.val, by omega⟩ := by
  have hc : ∀ (l : Fin 64) (k : Fin 2608), k.val = o + (n.val / 64 * 64 + l.val) →
      shapeCast S4x4096x4x64 y shapeCasts_S4x4096x256_S4x4096x4x64
      (ix4 ⟨r.val / 4096, by omega⟩ ⟨r.val % 4096, by omega⟩ ⟨n.val / 64, by omega⟩ l) = f k := by
    intro l k hk
    rw [show k = ⟨o + (n.val / 64 * 64 + l.val), by omega⟩ from Fin.ext hk]
    refine Eq.trans ?_ (hy ⟨n.val / 64 * 64 + l.val, by omega⟩)
    pointwise
  have hk : keys y (ix2 r n) = turn4 (shapeCast S4x4096x4x64 y shapeCasts_S4x4096x256_S4x4096x4x64)
      (ix4 ⟨r.val / 4096, by omega⟩ ⟨r.val % 4096, by omega⟩ ⟨n.val / 64, by omega⟩ ⟨n.val % 64, by omega⟩) := by
    pointwise [keys]
  rw [hk]
  by_cases h : n.val % 64 < 32
  · rw [turn4_low _ _ _ _ _ h, hc _ ⟨o + n.val, by omega⟩ (by simp only; omega), hc _ ⟨o + n.val + 32, by omega⟩ (by simp only; omega),
      turn_low f (rowAngles r) ⟨o + n.val, by omega⟩ (n.val % 64) (by simp only; omega) h]
    rfl
  · rw [turn4_high _ _ _ _ _ h, hc _ ⟨o + n.val, by omega⟩ (by simp only; omega), hc _ ⟨o + n.val - 32, by omega⟩ (by simp only; omega),
      turn_high f (rowAngles r) ⟨o + n.val, by omega⟩ (n.val % 64) (by simp only; omega) h]
    rfl

/-- The query columns of the result: the heads turned and scaled, and the eight heads of a half put in pairs, four apart. -/
def queries (y : FVec Ideal S4x4096x1024 .f32) : FVec Ideal S16384x1024 .bf16 :=
  truncf .bf16 (shapeCast S16384x1024 (transpose S4x4096x2x4x2x64 [0, 1, 2, 4, 3, 5]
    (shapeCast S4x4096x2x2x4x64 (mulf (turn16 (shapeCast S4x4096x16x64 y shapeCasts_S4x4096x1024_S4x4096x16x64))
      (broadcastInDim S4x4096x16x64 ![] bcast_S_S4x4096x16x64 (constant S_ .f32 0x3E38AA3B#32))) shapeCasts_S4x4096x16x64_S4x4096x2x2x4x64)
    transposes_S4x4096x2x2x4x64_S4x4096x2x4x2x64_0_1_2_4_3_5) shapeCasts_S4x4096x2x4x2x64_S16384x1024) bitsLt_bf16_f32

theorem queries_apply (y : FVec Ideal S4x4096x1024 .f32) (f : Fin 2608 → EReal) (r : Fin 16384) (n : Fin 1024) (k : Fin 2560)
    (hk : k.val = 64 * (8 * (n.val / 512) + 4 * (n.val / 64 % 2) + n.val / 64 % 8 / 2) + n.val % 64)
    (hy : ∀ k : Fin 1024, y (ix3 ⟨r.val / 4096, by omega⟩ ⟨r.val % 4096, by omega⟩ k) = f ⟨k.val, by omega⟩) :
    queries y (ix2 r n) = turn f (rowAngles r) k * Ideal.ofBits .f32 0x3E38AA3B#32 := by
  have hc : ∀ (h : Fin 16) (l : Fin 64) (k : Fin 2608), k.val = h.val * 64 + l.val →
      shapeCast S4x4096x16x64 y shapeCasts_S4x4096x1024_S4x4096x16x64
      (ix4 ⟨r.val / 4096, by omega⟩ ⟨r.val % 4096, by omega⟩ h l) = f k := by
    intro h l k hk
    rw [show k = ⟨h.val * 64 + l.val, by omega⟩ from Fin.ext hk]
    refine Eq.trans ?_ (hy ⟨h.val * 64 + l.val, by omega⟩)
    pointwise
  have hq : queries y (ix2 r n) = turn16 (shapeCast S4x4096x16x64 y shapeCasts_S4x4096x1024_S4x4096x16x64)
      (ix4 ⟨r.val / 4096, by omega⟩ ⟨r.val % 4096, by omega⟩ ⟨8 * (n.val / 512) + 4 * (n.val / 64 % 2) + n.val / 64 % 8 / 2, by omega⟩ ⟨n.val % 64, by omega⟩)
      * Ideal.ofBits .f32 0x3E38AA3B#32 := by
    pointwise [queries]
    refine congrArg (fun h => turn16 (shapeCast S4x4096x16x64 y shapeCasts_S4x4096x1024_S4x4096x16x64)
      (ix4 ⟨r.val / 4096, by omega⟩ ⟨r.val % 4096, by omega⟩ h ⟨n.val % 64, by omega⟩) * Ideal.ofBits .f32 0x3E38AA3B#32) (Fin.ext ?_)
    show n.val / 512 * 8 + n.val / 64 % 2 * 4 + n.val / 128 % 4 = 8 * (n.val / 512) + 4 * (n.val / 64 % 2) + n.val / 64 % 8 / 2
    have e1 : n.val / 128 = n.val / 64 / 2 := (Nat.div_div_eq_div_mul n.val 64 2).symm
    have e2 : n.val / 512 = n.val / 64 / 8 := (Nat.div_div_eq_div_mul n.val 64 8).symm
    have e3 : ∀ j : Fin 16, j.val / 8 * 8 + j.val % 2 * 4 + j.val / 2 % 4 = 8 * (j.val / 8) + 4 * (j.val % 2) + j.val % 8 / 2 := by decide
    rw [e1, e2]
    exact e3 ⟨n.val / 64, by omega⟩
  rw [hq]
  refine congrArg (· * _) ?_
  by_cases h : n.val % 64 < 32
  · rw [turn16_low _ _ _ _ _ h, hc _ _ ⟨k.val, by omega⟩ (by simp only; omega), hc _ _ ⟨k.val + 32, by omega⟩ (by simp only; omega),
      turn_low f (rowAngles r) k (n.val % 64) (by omega) h]
    rfl
  · rw [turn16_high _ _ _ _ _ h, hc _ _ ⟨k.val, by omega⟩ (by simp only; omega), hc _ _ ⟨k.val - 32, by omega⟩ (by simp only; omega),
      turn_high f (rowAngles r) k (n.val % 64) (by omega) h]
    rfl

/-! ## The reference's results at an index -/

variable (x : FVec Ideal S4x4096x1024 .f32) (w : FVec Ideal S1024x2608 .f32)

theorem slice1024 (r : Fin 16384) (k : Fin 256) :
    (extractStridedSlice S4x4096x256 ![0, 0, 1024] (prod x w) slices_S4x4096x2608_S4x4096x256_0_0_1024) (ix3 ⟨r.val / 4096, by omega⟩ ⟨r.val % 4096, by omega⟩ k) = col x w r ⟨1024 + k.val, by omega⟩ := by
  refine Eq.trans ?_ (prod_apply x w ⟨r.val / 4096, by omega⟩ ⟨r.val % 4096, by omega⟩ ⟨1024 + k.val, by omega⟩ r rfl rfl)
  pointwise

theorem slice1280 (r : Fin 16384) (k : Fin 256) :
    (extractStridedSlice S4x4096x256 ![0, 0, 1280] (prod x w) slices_S4x4096x2608_S4x4096x256_0_0_1280) (ix3 ⟨r.val / 4096, by omega⟩ ⟨r.val % 4096, by omega⟩ k) = col x w r ⟨1280 + k.val, by omega⟩ := by
  refine Eq.trans ?_ (prod_apply x w ⟨r.val / 4096, by omega⟩ ⟨r.val % 4096, by omega⟩ ⟨1280 + k.val, by omega⟩ r rfl rfl)
  pointwise

theorem slice1536 (r : Fin 16384) (k : Fin 256) :
    (extractStridedSlice S4x4096x256 ![0, 0, 1536] (prod x w) slices_S4x4096x2608_S4x4096x256_0_0_1536) (ix3 ⟨r.val / 4096, by omega⟩ ⟨r.val % 4096, by omega⟩ k) = col x w r ⟨1536 + k.val, by omega⟩ := by
  refine Eq.trans ?_ (prod_apply x w ⟨r.val / 4096, by omega⟩ ⟨r.val % 4096, by omega⟩ ⟨1536 + k.val, by omega⟩ r rfl rfl)
  pointwise

theorem slice1792 (r : Fin 16384) (k : Fin 256) :
    (extractStridedSlice S4x4096x256 ![0, 0, 1792] (prod x w) slices_S4x4096x2608_S4x4096x256_0_0_1792) (ix3 ⟨r.val / 4096, by omega⟩ ⟨r.val % 4096, by omega⟩ k) = col x w r ⟨1792 + k.val, by omega⟩ := by
  refine Eq.trans ?_ (prod_apply x w ⟨r.val / 4096, by omega⟩ ⟨r.val % 4096, by omega⟩ ⟨1792 + k.val, by omega⟩ r rfl rfl)
  pointwise

theorem slice2048 (r : Fin 16384) (k : Fin 256) :
    (extractStridedSlice S4x4096x256 ![0, 0, 2048] (prod x w) slices_S4x4096x2608_S4x4096x256_0_0_2048) (ix3 ⟨r.val / 4096, by omega⟩ ⟨r.val % 4096, by omega⟩ k) = col x w r ⟨2048 + k.val, by omega⟩ := by
  refine Eq.trans ?_ (prod_apply x w ⟨r.val / 4096, by omega⟩ ⟨r.val % 4096, by omega⟩ ⟨2048 + k.val, by omega⟩ r rfl rfl)
  pointwise

theorem slice2304 (r : Fin 16384) (k : Fin 256) :
    (extractStridedSlice S4x4096x256 ![0, 0, 2304] (prod x w) slices_S4x4096x2608_S4x4096x256_0_0_2304) (ix3 ⟨r.val / 4096, by omega⟩ ⟨r.val % 4096, by omega⟩ k) = col x w r ⟨2304 + k.val, by omega⟩ := by
  refine Eq.trans ?_ (prod_apply x w ⟨r.val / 4096, by omega⟩ ⟨r.val % 4096, by omega⟩ ⟨2304 + k.val, by omega⟩ r rfl rfl)
  pointwise

/-- The keys of the compressed branch. -/
def keys1024 : FVec Ideal S16384x256 .f32 := keys (extractStridedSlice S4x4096x256 ![0, 0, 1024] (prod x w) slices_S4x4096x2608_S4x4096x256_0_0_1024)

theorem keys1024_apply (r : Fin 16384) (n : Fin 256) : keys1024 x w (ix2 r n) = turn (col x w r) (rowAngles r) ⟨1024 + n.val, by omega⟩ :=
  keys_apply _ (col x w r) 1024 (by decide) (by decide) r n (fun k => slice1024 x w r k)

/-- The keys of the selected branch. -/
def keys1536 : FVec Ideal S16384x256 .f32 := keys (extractStridedSlice S4x4096x256 ![0, 0, 1536] (prod x w) slices_S4x4096x2608_S4x4096x256_0_0_1536)

theorem keys1536_apply (r : Fin 16384) (n : Fin 256) : keys1536 x w (ix2 r n) = turn (col x w r) (rowAngles r) ⟨1536 + n.val, by omega⟩ :=
  keys_apply _ (col x w r) 1536 (by decide) (by decide) r n (fun k => slice1536 x w r k)

/-- The keys of the window branch. -/
def keys2048 : FVec Ideal S16384x256 .f32 := keys (extractStridedSlice S4x4096x256 ![0, 0, 2048] (prod x w) slices_S4x4096x2608_S4x4096x256_0_0_2048)

theorem keys2048_apply (r : Fin 16384) (n : Fin 256) : keys2048 x w (ix2 r n) = turn (col x w r) (rowAngles r) ⟨2048 + n.val, by omega⟩ :=
  keys_apply _ (col x w r) 2048 (by decide) (by decide) r n (fun k => slice2048 x w r k)

/-- The values of the compressed branch. -/
def values1280 : FVec Ideal S16384x256 .f32 := shapeCast S16384x256 (extractStridedSlice S4x4096x256 ![0, 0, 1280] (prod x w) slices_S4x4096x2608_S4x4096x256_0_0_1280) shapeCasts_S4x4096x256_S16384x256

theorem values1280_apply (r : Fin 16384) (n : Fin 256) : values1280 x w (ix2 r n) = col x w r ⟨1280 + n.val, by omega⟩ := by
  refine Eq.trans ?_ (slice1280 x w r n)
  pointwise [values1280]

/-- The values of the selected branch. -/
def values1792 : FVec Ideal S16384x256 .f32 := shapeCast S16384x256 (extractStridedSlice S4x4096x256 ![0, 0, 1792] (prod x w) slices_S4x4096x2608_S4x4096x256_0_0_1792) shapeCasts_S4x4096x256_S16384x256

theorem values1792_apply (r : Fin 16384) (n : Fin 256) : values1792 x w (ix2 r n) = col x w r ⟨1792 + n.val, by omega⟩ := by
  refine Eq.trans ?_ (slice1792 x w r n)
  pointwise [values1792]

/-- The values of the window branch. -/
def values2304 : FVec Ideal S16384x256 .f32 := shapeCast S16384x256 (extractStridedSlice S4x4096x256 ![0, 0, 2304] (prod x w) slices_S4x4096x2608_S4x4096x256_0_0_2304) shapeCasts_S4x4096x256_S16384x256

theorem values2304_apply (r : Fin 16384) (n : Fin 256) : values2304 x w (ix2 r n) = col x w r ⟨2304 + n.val, by omega⟩ := by
  refine Eq.trans ?_ (slice2304 x w r n)
  pointwise [values2304]

/-- The queries. -/
def queries0 : FVec Ideal S16384x1024 .bf16 := queries (extractStridedSlice S4x4096x1024 ![0, 0, 0] (prod x w) slices_S4x4096x2608_S4x4096x1024_0_0_0)

theorem queries0_apply (r : Fin 16384) (n : Fin 1024) (k : Fin 2560)
    (hk : k.val = 64 * (8 * (n.val / 512) + 4 * (n.val / 64 % 2) + n.val / 64 % 8 / 2) + n.val % 64) :
    queries0 x w (ix2 r n) = turn (col x w r) (rowAngles r) k * Ideal.ofBits .f32 0x3E38AA3B#32 := by
  refine queries_apply _ (col x w r) r n k hk fun k => ?_
  refine Eq.trans ?_ (prod_apply x w ⟨r.val / 4096, by omega⟩ ⟨r.val % 4096, by omega⟩ ⟨k.val, by omega⟩ r rfl rfl)
  pointwise

/-- The gates' logits, and zeros in the lanes past the 48th. -/
def logits : FVec Ideal S16384x128 .f32 :=
  pad S16384x128 ![0, 0] ![0, 80] ![0, 0] (shapeCast S16384x48 (extractStridedSlice S4x4096x48 ![0, 0, 2560] (prod x w) slices_S4x4096x2608_S4x4096x48_0_0_2560) shapeCasts_S4x4096x48_S16384x48) (sitofp .f32 (constantI S_ 32 0#32)) pads_S16384x48_S16384x128_000_0800 h_S_

/-- The gates. -/
def gates : FVec Ideal S16384x128 .f32 :=
  Host.divf (broadcastInDim S16384x128 ![] bcast_S_S16384x128 (constant S_ .f32 0x3F800000#32)) (addf (broadcastInDim S16384x128 ![] bcast_S_S16384x128 (constant S_ .f32 0x3F800000#32)) (Host.exp (Host.negf (logits x w))))

theorem logits_gate (r : Fin 16384) (n : Fin 128) (h : n.val < 48) : logits x w (ix2 r n) = col x w r ⟨2560 + n.val, by omega⟩ := by
  refine Eq.trans ?_ (prod_apply x w ⟨r.val / 4096, by omega⟩ ⟨r.val % 4096, by omega⟩ ⟨2560 + n.val, by omega⟩ r rfl rfl)
  pointwise [logits]
  exact dif_pos h

theorem logits_zero (r : Fin 16384) (n : Fin 128) (h : ¬n.val < 48) : logits x w (ix2 r n) = (0 : EReal) := by
  pointwise [logits]
  refine (dif_neg h).trans ?_
  show (((0#32 : BitVec 32).toInt : ℝ) : EReal) = 0
  simp

theorem gates_apply (r : Fin 16384) (n : Fin 128) :
    gates x w (ix2 r n) = Ideal.div 1 (1 + Ideal.exp (-(logits x w (ix2 r n)))) := by
  pointwise [gates]

/-- The keys and the values of the two branches side by side. -/
def both : FVec Ideal S16384x1024 .bf16 :=
  truncf .bf16 (concatenate S16384x1024 1 [⟨S16384x256, keys1536 x w⟩, ⟨S16384x256, values1792 x w⟩, ⟨S16384x256, keys2048 x w⟩, ⟨S16384x256, values2304 x w⟩]
    concatenates_S16384x256_S16384x256_S16384x256_S16384x256_S16384x1024_d1) bitsLt_bf16_f32

theorem both_apply (r : Fin 16384) (n : Fin 1024) :
    both x w (ix2 r n) = if h : n.val < 256 then keys1536 x w (ix2 r ⟨n.val, h⟩) else if h : n.val < 512 then values1792 x w (ix2 r ⟨n.val - 256, by omega⟩)
      else if h : n.val < 768 then keys2048 x w (ix2 r ⟨n.val - 512, by omega⟩) else values2304 x w (ix2 r ⟨n.val - 768, by omega⟩) := by
  pointwise [both]
  by_cases h0 : n.val < 256
  · rw [dif_pos h0, dif_pos h0]
  refine (dif_neg h0).trans (Eq.trans ?_ (dif_neg h0).symm)
  by_cases h1 : n.val < 512
  · rw [dif_pos (show n.val - 256 < 256 by omega), dif_pos h1]
  refine (dif_neg (show ¬n.val - 256 < 256 by omega)).trans (Eq.trans ?_ (dif_neg h1).symm)
  by_cases h2 : n.val < 768
  · refine (dif_pos (show n.val - 256 - 256 < 256 by omega)).trans (Eq.trans ?_ (dif_pos h2).symm)
    exact congrArg (fun q => keys2048 x w (ix2 r q)) (Fin.ext (by show n.val - 256 - 256 = n.val - 512; omega))
  refine (dif_neg (show ¬n.val - 256 - 256 < 256 by omega)).trans (Eq.trans ?_ (dif_neg h2).symm)
  exact congrArg (fun q => values2304 x w (ix2 r q)) (Fin.ext (by show n.val - 256 - 256 - 256 = n.val - 768; omega))

/-! ## The results of the reference's run -/

variable (m : (ℓ : Loc nD τ sig) → Buf (Elt Ideal) ℓ) (c : Dev nD)

theorem ref_queries : Value.res_out0 m c = queries0 (m ((c.tc : Thread nD τ).loc main_arg0)) (m ((c.tc : Thread nD τ).loc main_arg1)) := rfl
theorem ref_keys1024 : Value.res_out1 m c = keys1024 (m ((c.tc : Thread nD τ).loc main_arg0)) (m ((c.tc : Thread nD τ).loc main_arg1)) := rfl
theorem ref_keys1536 : Value.res_out2 m c = keys1536 (m ((c.tc : Thread nD τ).loc main_arg0)) (m ((c.tc : Thread nD τ).loc main_arg1)) := rfl
theorem ref_keys2048 : Value.res_out3 m c = keys2048 (m ((c.tc : Thread nD τ).loc main_arg0)) (m ((c.tc : Thread nD τ).loc main_arg1)) := rfl
theorem ref_both : Value.res_out8 m c = both (m ((c.tc : Thread nD τ).loc main_arg0)) (m ((c.tc : Thread nD τ).loc main_arg1)) := rfl

end Cert.Proj

end
-- ==== Proof.ProjValue.lean ====
/- The projection call's arrays after the run, row by row: what the windows read of the arguments, what a grid point writes,
   and where it stands. -/
module

public import proofs.«01_k».proof.Proof.ProjBlock
public import proofs.«01_k».proof.Proof.ProjEntry
public import proofs.«01_k».proof.Proof.ProjMath

@[expose] public section

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The windows' blocks -/

theorem joined (x : FVec Ideal S4x4096x1024 .f32) (r : Fin 16384) (d : Fin 1024) :
    shapeCast S16384x1024 x shapeCasts_S4x4096x1024_S16384x1024 (ix2 r d) = x (ix3 ⟨r.val / 4096, by omega⟩ ⟨r.val % 4096, by omega⟩ d) := by
  pointwise

theorem rows_apply (r : Fin 16384) (d : Fin 1024) :
    rows m c (ix2 r d) = (m ((c : Thread nD τ).loc main_arg0)) (ix3 ⟨r.val / 4096, by omega⟩ ⟨r.val % 4096, by omega⟩ d) :=
  joined _ r d

theorem angles_row (r : Fin 16384) (l : Fin 32) : angles (ix2 ⟨r.val % 4096, by omega⟩ l) = rowAngles r l := rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = t.val % 8 ∧ win0_3.index t (1 : Fin 2) = 0 :=
  (by decide +kernel : ∀ t : Fin grid0.N, _)

/-- Row `p` of a point's row block. -/
theorem blk0 (t : Fin cfg0.N) (p : Fin 512) (q : Fin 1024) (r : Fin 16384) (hr : r.val = t.val * 512 + p.val) :
    iblk m c 0 t (ix2 p q) = rows m c (ix2 r q) := by
  obtain ⟨e0, e1⟩ := idx0 t
  show V m c main_v24 (((cfg0.win 0).blk t).view.emb (ix2 p q)) = _
  rw [entry_rows]
  refine congrArg (rows m c) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- The weights, whole at every point. -/
theorem blk1 (t : Fin cfg0.N) (d : Fin 1024) (n : Fin 2688) : iblk m c 1 t (ix2 d n) = weights (m ((c : Thread nD τ).loc main_arg1)) (ix2 d n) := by
  obtain ⟨e0, e1⟩ := idx1 t
  show V m c main_v42 (((cfg0.win 1).blk t).view.emb (ix2 d n)) = _
  rw [entry_weights]
  refine congrArg (weights _) (funext fun a => Fin.ext ?_)
  match a with
  | ⟨0, _⟩ => show win0_1.index t (0 : Fin 2) * 1024 + 1 * d.val = d.val; omega
  | ⟨1, _⟩ => show win0_1.index t (1 : Fin 2) * 2688 + 1 * n.val = n.val; omega

/-- The cosines of row `p` of a point's row block. -/
theorem blk2 (t : Fin cfg0.N) (p : Fin 512) (l : Fin 128) (r : Fin 16384) (hr : r.val = t.val * 512 + p.val) :
    iblk m c 2 t (ix2 p l) = cosTable (ix2 ⟨r.val % 4096, by omega⟩ l) := by
  obtain ⟨e0, e1⟩ := idx2 t
  show V m c main_v18 (((cfg0.win 2).blk t).view.emb (ix2 p l)) = _
  rw [entry_cos]
  refine congrArg cosTable (funext fun a => Fin.ext ?_)
  match a with
  | ⟨0, _⟩ => show win0_2.index t (0 : Fin 2) * 512 + 1 * p.val = r.val % 4096; omega
  | ⟨1, _⟩ => show win0_2.index t (1 : Fin 2) * 128 + 1 * l.val = l.val; omega

/-- The sines of row `p` of a point's row block. -/
theorem blk3 (t : Fin cfg0.N) (p : Fin 512) (l : Fin 128) (r : Fin 16384) (hr : r.val = t.val * 512 + p.val) :
    iblk m c 3 t (ix2 p l) = sinTable (ix2 ⟨r.val % 4096, by omega⟩ l) := by
  obtain ⟨e0, e1⟩ := idx3 t
  show V m c main_v19 (((cfg0.win 3).blk t).view.emb (ix2 p l)) = _
  rw [entry_sin]
  refine congrArg sinTable (funext fun a => Fin.ext ?_)
  match a with
  | ⟨0, _⟩ => show win0_3.index t (0 : Fin 2) * 512 + 1 * p.val = r.val % 4096; omega
  | ⟨1, _⟩ => show win0_3.index t (1 : Fin 2) * 128 + 1 * l.val = l.val; omega

/-! ## What a point computes -/

/-- The columns' order keeps a lane's place in its head and the two halves of a head 32 apart. -/
theorem source_lane (n : Nat) (hn : n < 1792) : source n < 2560 ∧ source n % 64 = n % 64
    ∧ (n % 64 < 32 → source (n + 32) = source n + 32) ∧ (¬n % 64 < 32 → source (n - 32) = source n - 32) := by
  have h : ∀ n : Fin 1792, source n.val < 2560 ∧ source n.val % 64 = n.val % 64
      ∧ (n.val % 64 < 32 → source (n.val + 32) = source n.val + 32) ∧ (¬n.val % 64 < 32 → source (n.val - 32) = source n.val - 32) := by
    decide +kernel
  exact h ⟨n, hn⟩

/-- The six blocks of 256 columns behind the queries, and the gates. -/
theorem source_block (n k : Nat) (h : (1024 ≤ n ∧ n < 1280 ∧ k = n) ∨ (1280 ≤ n ∧ n < 1536 ∧ k = n + 256) ∨ (1536 ≤ n ∧ n < 1792 ∧ k = n + 512)
    ∨ (1792 ≤ n ∧ n < 2048 ∧ k = n - 512) ∨ (2048 ≤ n ∧ n < 2304 ∧ k = n - 256) ∨ (2304 ≤ n ∧ k = n)) : source n = k := by
  unfold source
  split_ifs <;> omega

/-- A column of the product at row `p` of the block. -/
theorem product (t : Fin cfg0.N) (p : Fin 512) (r : Fin 16384) (hr : r.val = t.val * 512 + p.val) (n : Fin 2688) (k : Fin 2608)
    (hn : n.val < 2608) (hk : k.val = source n.val) :
    k0_pay1 (F := Ideal) (iblk m c 0 t) (iblk m c 1 t) (ix2 p n) = col (m ((c : Thread nD τ).loc main_arg0)) (m ((c : Thread nD τ).loc main_arg1)) r k := by
  rw [pay1_apply]
  unfold col
  refine Finset.sum_congr rfl fun d _ => ?_
  rw [blk0 m c t p d r hr, blk1, weights_apply _ d n k hn hk, rows_apply]

/-- The columns behind are zero. -/
theorem product_zero (t : Fin cfg0.N) (p : Fin 512) (n : Fin 2688) (hn : 2608 ≤ n.val) :
    k0_pay1 (F := Ideal) (iblk m c 0 t) (iblk m c 1 t) (ix2 p n) = (0 : EReal) := by
  rw [pay1_apply]
  refine Finset.sum_eq_zero fun d _ => ?_
  rw [blk1, weights_zero _ d n hn]
  exact mul_zero (M₀ := EReal) _

/-- A turned column at row `p` of the block. -/
theorem turned_eq (t : Fin cfg0.N) (p : Fin 512) (r : Fin 16384) (hr : r.val = t.val * 512 + p.val) (n : Fin 1792) (k : Fin 2560)
    (hk : k.val = source n.val) :
    turned (k0_pay1 (F := Ideal) (iblk m c 0 t) (iblk m c 1 t)) (k0_pay3 (iblk m c 2 t)) (k0_pay4 (iblk m c 3 t)) p n
      = turn (col (m ((c : Thread nD τ).loc main_arg0)) (m ((c : Thread nD τ).loc main_arg1)) r) (rowAngles r) k := by
  obtain ⟨hlt, hlane, hup, hdown⟩ := source_lane n.val n.isLt
  have hl : (⟨n.val % 128 % 32, by omega⟩ : Fin 32) = ⟨k.val % 32, by omega⟩ := Fin.ext (by show n.val % 128 % 32 = k.val % 32; omega)
  unfold turned
  rw [pay3_apply, pay4_apply, blk2 m c t p _ r hr, blk3 m c t p _ r hr, cos_apply, sin_apply,
    product m c t p r hr ⟨n.val, by omega⟩ ⟨k.val, by omega⟩ (by simp only; omega) hk]
  by_cases h : n.val % 64 < 32
  · rw [if_pos h, if_pos (show n.val % 128 % 64 < 32 by omega),
      product m c t p r hr ⟨n.val + 32, by omega⟩ ⟨k.val + 32, by omega⟩ (by simp only; omega) (by simp only; omega)]
    unfold turn
    rw [if_pos (show k.val % 64 < 32 by omega), hl, angles_row, mul_neg, ← sub_eq_add_neg]
  · rw [if_neg h, if_neg (show ¬n.val % 128 % 64 < 32 by omega),
      product m c t p r hr ⟨n.val - 32, by omega⟩ ⟨k.val - 32, by omega⟩ (by simp only; omega) (by simp only; omega)]
    unfold turn
    rw [if_neg (show ¬k.val % 64 < 32 by omega), hl, angles_row]

/-! ## The arrays after the run -/

theorem idx4 : ∀ t : Fin cfg0.N, win0_4.index t (0 : Fin 2) = t.val ∧ win0_4.index t (1 : Fin 2) = 0 :=
  (by decide +kernel : ∀ t : Fin grid0.N, _)
theorem flush4 : ∀ t : Fin cfg0.N, (cfg0.win 4).flush t = true :=
  (by decide +kernel : ∀ t : Fin grid0.N, (win0_4).flush t = true)

/-- The queries. -/
theorem array4 (r : Fin 16384) (n : Fin 1024) (k : Fin 2560)
    (hk : k.val = 64 * (8 * (n.val / 512) + 4 * (n.val / 64 % 2) + n.val / 64 % 8 / 2) + n.val % 64) : (dats m 0 c).arrAt 4 cfg0.N (ix2 r n) = turn (col (m ((c : Thread nD τ).loc main_arg0)) (m ((c : Thread nD τ).loc main_arg1)) r) (rowAngles r) k * Ideal.ofBits .f32 0x3E38AA3B#32 := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx4 t
  have he : ((cfg0.win 4).blk t).view.emb (ix2 p n) = (ix2 r n : S16384x1024.Idx) := by
    funext a; apply Fin.ext
    match a with
    | ⟨0, _⟩ => show win0_4.index t (0 : Fin 2) * 512 + 1 * p.val = r.val; omega
    | ⟨1, _⟩ => show win0_4.index t (1 : Fin 2) * 1024 + 1 * n.val = n.val; omega
  have hb := congrFun ((Value.blocks4 m c t (flush4 t)).trans (Value.flushed4_A m c t)) (ix2 p n)
  refine Eq.trans (congrArg ((dats m 0 c).arrAt 4 cfg0.N) he.symm) (hb.trans ?_)
  refine Eq.trans (block4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  refine congrArg (· * _) (turned_eq m c t p r hrt _ k ?_)
  have e2 : n.val / 512 = n.val / 64 / 8 := (Nat.div_div_eq_div_mul n.val 64 8).symm
  show k.val = source n.val
  unfold source headAt
  rw [if_pos n.isLt, hk, e2]

theorem idx5 : ∀ t : Fin cfg0.N, win0_5.index t (0 : Fin 2) = t.val ∧ win0_5.index t (1 : Fin 2) = 0 :=
  (by decide +kernel : ∀ t : Fin grid0.N, _)
theorem flush5 : ∀ t : Fin cfg0.N, (cfg0.win 5).flush t = true :=
  (by decide +kernel : ∀ t : Fin grid0.N, (win0_5).flush t = true)

/-- The keys of the compressed branch. -/
theorem array5 (r : Fin 16384) (n : Fin 256) : (dats m 0 c).arrAt 5 cfg0.N (ix2 r n) = turn (col (m ((c : Thread nD τ).loc main_arg0)) (m ((c : Thread nD τ).loc main_arg1)) r) (rowAngles r) ⟨1024 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx5 t
  have he : ((cfg0.win 5).blk t).view.emb (ix2 p n) = (ix2 r n : S16384x256.Idx) := by
    funext a; apply Fin.ext
    match a with
    | ⟨0, _⟩ => show win0_5.index t (0 : Fin 2) * 512 + 1 * p.val = r.val; omega
    | ⟨1, _⟩ => show win0_5.index t (1 : Fin 2) * 256 + 1 * n.val = n.val; omega
  have hb := congrFun ((Value.blocks5 m c t (flush5 t)).trans (Value.flushed5_A m c t)) (ix2 p n)
  refine Eq.trans (congrArg ((dats m 0 c).arrAt 5 cfg0.N) he.symm) (hb.trans ?_)
  refine Eq.trans (block5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact turned_eq m c t p r hrt _ _ (by show 1024 + n.val = source (1024 + n.val); exact (source_block _ _ (by omega)).symm)

theorem idx6 : ∀ t : Fin cfg0.N, win0_6.index t (0 : Fin 2) = t.val ∧ win0_6.index t (1 : Fin 2) = 0 :=
  (by decide +kernel : ∀ t : Fin grid0.N, _)
theorem flush6 : ∀ t : Fin cfg0.N, (cfg0.win 6).flush t = true :=
  (by decide +kernel : ∀ t : Fin grid0.N, (win0_6).flush t = true)

/-- The keys of the selected branch. -/
theorem array6 (r : Fin 16384) (n : Fin 256) : (dats m 0 c).arrAt 6 cfg0.N (ix2 r n) = turn (col (m ((c : Thread nD τ).loc main_arg0)) (m ((c : Thread nD τ).loc main_arg1)) r) (rowAngles r) ⟨1536 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx6 t
  have he : ((cfg0.win 6).blk t).view.emb (ix2 p n) = (ix2 r n : S16384x256.Idx) := by
    funext a; apply Fin.ext
    match a with
    | ⟨0, _⟩ => show win0_6.index t (0 : Fin 2) * 512 + 1 * p.val = r.val; omega
    | ⟨1, _⟩ => show win0_6.index t (1 : Fin 2) * 256 + 1 * n.val = n.val; omega
  have hb := congrFun ((Value.blocks6 m c t (flush6 t)).trans (Value.flushed6_A m c t)) (ix2 p n)
  refine Eq.trans (congrArg ((dats m 0 c).arrAt 6 cfg0.N) he.symm) (hb.trans ?_)
  refine Eq.trans (block6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact turned_eq m c t p r hrt _ _ (by show 1536 + n.val = source (1280 + n.val); exact (source_block _ _ (by omega)).symm)

theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)

/-- The keys of the window branch. -/
theorem array7 (r : Fin 16384) (n : Fin 256) : (dats m 0 c).arrAt 7 cfg0.N (ix2 r n) = turn (col (m ((c : Thread nD τ).loc main_arg0)) (m ((c : Thread nD τ).loc main_arg1)) r) (rowAngles r) ⟨2048 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx7 t
  have he : ((cfg0.win 7).blk t).view.emb (ix2 p n) = (ix2 r n : S16384x256.Idx) := by
    funext a; apply Fin.ext
    match a with
    | ⟨0, _⟩ => show win0_7.index t (0 : Fin 2) * 512 + 1 * p.val = r.val; omega
    | ⟨1, _⟩ => show win0_7.index t (1 : Fin 2) * 256 + 1 * n.val = n.val; omega
  have hb := congrFun ((Value.blocks7 m c t (flush7 t)).trans (Value.flushed7_A m c t)) (ix2 p n)
  refine Eq.trans (congrArg ((dats m 0 c).arrAt 7 cfg0.N) he.symm) (hb.trans ?_)
  refine Eq.trans (block7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact turned_eq m c t p r hrt _ _ (by show 2048 + n.val = source (1536 + n.val); exact (source_block _ _ (by omega)).symm)

theorem idx8 : ∀ t : Fin cfg0.N, win0_8.index t (0 : Fin 2) = t.val ∧ win0_8.index t (1 : Fin 2) = 0 :=
  (by decide +kernel : ∀ t : Fin grid0.N, _)
theorem flush8 : ∀ t : Fin cfg0.N, (cfg0.win 8).flush t = true :=
  (by decide +kernel : ∀ t : Fin grid0.N, (win0_8).flush t = true)

/-- The values of the compressed branch. -/
theorem array8 (r : Fin 16384) (n : Fin 256) : (dats m 0 c).arrAt 8 cfg0.N (ix2 r n) = col (m ((c : Thread nD τ).loc main_arg0)) (m ((c : Thread nD τ).loc main_arg1)) r ⟨1280 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx8 t
  have he : ((cfg0.win 8).blk t).view.emb (ix2 p n) = (ix2 r n : S16384x256.Idx) := by
    funext a; apply Fin.ext
    match a with
    | ⟨0, _⟩ => show win0_8.index t (0 : Fin 2) * 512 + 1 * p.val = r.val; omega
    | ⟨1, _⟩ => show win0_8.index t (1 : Fin 2) * 256 + 1 * n.val = n.val; omega
  have hb := congrFun ((Value.blocks8 m c t (flush8 t)).trans (Value.flushed8_A m c t)) (ix2 p n)
  refine Eq.trans (congrArg ((dats m 0 c).arrAt 8 cfg0.N) he.symm) (hb.trans ?_)
  refine Eq.trans (block8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact product m c t p r hrt _ _ (by show 1792 + n.val < 2608; omega) (by show 1280 + n.val = source (1792 + n.val); exact (source_block _ _ (by omega)).symm)

theorem idx9 : ∀ t : Fin cfg0.N, win0_9.index t (0 : Fin 2) = t.val ∧ win0_9.index t (1 : Fin 2) = 0 :=
  (by decide +kernel : ∀ t : Fin grid0.N, _)
theorem flush9 : ∀ t : Fin cfg0.N, (cfg0.win 9).flush t = true :=
  (by decide +kernel : ∀ t : Fin grid0.N, (win0_9).flush t = true)

/-- The values of the selected branch. -/
theorem array9 (r : Fin 16384) (n : Fin 256) : (dats m 0 c).arrAt 9 cfg0.N (ix2 r n) = col (m ((c : Thread nD τ).loc main_arg0)) (m ((c : Thread nD τ).loc main_arg1)) r ⟨1792 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx9 t
  have he : ((cfg0.win 9).blk t).view.emb (ix2 p n) = (ix2 r n : S16384x256.Idx) := by
    funext a; apply Fin.ext
    match a with
    | ⟨0, _⟩ => show win0_9.index t (0 : Fin 2) * 512 + 1 * p.val = r.val; omega
    | ⟨1, _⟩ => show win0_9.index t (1 : Fin 2) * 256 + 1 * n.val = n.val; omega
  have hb := congrFun ((Value.blocks9 m c t (flush9 t)).trans (Value.flushed9_A m c t)) (ix2 p n)
  refine Eq.trans (congrArg ((dats m 0 c).arrAt 9 cfg0.N) he.symm) (hb.trans ?_)
  refine Eq.trans (block9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact product m c t p r hrt _ _ (by show 2048 + n.val < 2608; omega) (by show 1792 + n.val = source (2048 + n.val); exact (source_block _ _ (by omega)).symm)

theorem idx10 : ∀ t : Fin cfg0.N, win0_10.index t (0 : Fin 2) = t.val ∧ win0_10.index t (1 : Fin 2) = 0 :=
  (by decide +kernel : ∀ t : Fin grid0.N, _)
theorem flush10 : ∀ t : Fin cfg0.N, (cfg0.win 10).flush t = true :=
  (by decide +kernel : ∀ t : Fin grid0.N, (win0_10).flush t = true)

/-- The values of the window branch. -/
theorem array10 (r : Fin 16384) (n : Fin 256) : (dats m 0 c).arrAt 10 cfg0.N (ix2 r n) = col (m ((c : Thread nD τ).loc main_arg0)) (m ((c : Thread nD τ).loc main_arg1)) r ⟨2304 + n.val, by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx10 t
  have he : ((cfg0.win 10).blk t).view.emb (ix2 p n) = (ix2 r n : S16384x256.Idx) := by
    funext a; apply Fin.ext
    match a with
    | ⟨0, _⟩ => show win0_10.index t (0 : Fin 2) * 512 + 1 * p.val = r.val; omega
    | ⟨1, _⟩ => show win0_10.index t (1 : Fin 2) * 256 + 1 * n.val = n.val; omega
  have hb := congrFun ((Value.blocks10 m c t (flush10 t)).trans (Value.flushed10_A m c t)) (ix2 p n)
  refine Eq.trans (congrArg ((dats m 0 c).arrAt 10 cfg0.N) he.symm) (hb.trans ?_)
  refine Eq.trans (block10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  exact product m c t p r hrt _ _ (by show 2304 + n.val < 2608; omega) (by show 2304 + n.val = source (2304 + n.val); exact (source_block _ _ (by omega)).symm)

theorem idx11 : ∀ t : Fin cfg0.N, win0_11.index t (0 : Fin 2) = t.val ∧ win0_11.index t (1 : Fin 2) = 0 :=
  (by decide +kernel : ∀ t : Fin grid0.N, _)
theorem flush11 : ∀ t : Fin cfg0.N, (cfg0.win 11).flush t = true :=
  (by decide +kernel : ∀ t : Fin grid0.N, (win0_11).flush t = true)

/-- The gates. -/
theorem array11 (r : Fin 16384) (n : Fin 128) : (dats m 0 c).arrAt 11 cfg0.N (ix2 r n) = logistic (if h : n.val < 48 then col (m ((c : Thread nD τ).loc main_arg0)) (m ((c : Thread nD τ).loc main_arg1)) r ⟨2560 + n.val, by omega⟩ else 0) := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx11 t
  have he : ((cfg0.win 11).blk t).view.emb (ix2 p n) = (ix2 r n : S16384x128.Idx) := by
    funext a; apply Fin.ext
    match a with
    | ⟨0, _⟩ => show win0_11.index t (0 : Fin 2) * 512 + 1 * p.val = r.val; omega
    | ⟨1, _⟩ => show win0_11.index t (1 : Fin 2) * 128 + 1 * n.val = n.val; omega
  have hb := congrFun ((Value.blocks11 m c t (flush11 t)).trans (Value.flushed11_A m c t)) (ix2 p n)
  refine Eq.trans (congrArg ((dats m 0 c).arrAt 11 cfg0.N) he.symm) (hb.trans ?_)
  refine Eq.trans (block11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  refine congrArg logistic ?_
  by_cases h : n.val < 48
  · rw [dif_pos h]
    exact product m c t p r hrt _ _ (by show 2560 + n.val < 2608; omega) (by show 2560 + n.val = source (2560 + n.val); exact (source_block _ _ (by omega)).symm)
  · rw [dif_neg h]
    exact product_zero m c t p _ (by show 2608 ≤ 2560 + n.val; omega)

theorem idx12 : ∀ t : Fin cfg0.N, win0_12.index t (0 : Fin 2) = t.val ∧ win0_12.index t (1 : Fin 2) = 0 :=
  (by decide +kernel : ∀ t : Fin grid0.N, _)
theorem flush12 : ∀ t : Fin cfg0.N, (cfg0.win 12).flush t = true :=
  (by decide +kernel : ∀ t : Fin grid0.N, (win0_12).flush t = true)

/-- The keys and the values of the two branches side by side. -/
theorem array12 (r : Fin 16384) (n : Fin 1024) : (dats m 0 c).arrAt 12 cfg0.N (ix2 r n) = if h : n.val < 256 then turn (col (m ((c : Thread nD τ).loc main_arg0)) (m ((c : Thread nD τ).loc main_arg1)) r) (rowAngles r) ⟨1536 + n.val, by omega⟩
      else if h : n.val < 512 then col (m ((c : Thread nD τ).loc main_arg0)) (m ((c : Thread nD τ).loc main_arg1)) r ⟨1792 + (n.val - 256), by omega⟩
      else if h : n.val < 768 then turn (col (m ((c : Thread nD τ).loc main_arg0)) (m ((c : Thread nD τ).loc main_arg1)) r) (rowAngles r) ⟨2048 + (n.val - 512), by omega⟩
      else col (m ((c : Thread nD τ).loc main_arg0)) (m ((c : Thread nD τ).loc main_arg1)) r ⟨2304 + (n.val - 768), by omega⟩ := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx12 t
  have he : ((cfg0.win 12).blk t).view.emb (ix2 p n) = (ix2 r n : S16384x1024.Idx) := by
    funext a; apply Fin.ext
    match a with
    | ⟨0, _⟩ => show win0_12.index t (0 : Fin 2) * 512 + 1 * p.val = r.val; omega
    | ⟨1, _⟩ => show win0_12.index t (1 : Fin 2) * 1024 + 1 * n.val = n.val; omega
  have hb := congrFun ((Value.blocks12 m c t (flush12 t)).trans (Value.flushed12_A m c t)) (ix2 p n)
  refine Eq.trans (congrArg ((dats m 0 c).arrAt 12 cfg0.N) he.symm) (hb.trans ?_)
  refine Eq.trans (block12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) p n) ?_
  unfold kvb
  by_cases h0 : n.val < 256
  · rw [dif_pos h0, dif_pos h0]
    exact turned_eq m c t p r hrt _ _ (by show 1536 + n.val = source (1280 + n.val); exact (source_block _ _ (by omega)).symm)
  rw [dif_neg h0, dif_neg h0]
  by_cases h1 : n.val < 512
  · rw [dif_pos h1, dif_pos h1]
    exact product m c t p r hrt _ _ (by show 2048 + (n.val - 256) < 2608; omega) (by show 1792 + (n.val - 256) = source (2048 + (n.val - 256)); exact (source_block _ _ (by omega)).symm)
  rw [dif_neg h1, dif_neg h1]
  by_cases h2 : n.val < 768
  · rw [dif_pos h2, dif_pos h2]
    exact turned_eq m c t p r hrt _ _ (by show 2048 + (n.val - 512) = source (1536 + (n.val - 512)); exact (source_block _ _ (by omega)).symm)
  rw [dif_neg h2, dif_neg h2]
  exact product m c t p r hrt _ _ (by show 2304 + (n.val - 768) < 2608; omega) (by show 2304 + (n.val - 768) = source (2304 + (n.val - 768)); exact (source_block _ _ (by omega)).symm)

end Cert.Proj

end
-- ==== Proof.ProjEqual.lean ====
/- The projection call's arrays are the reference's results from the same arguments. -/
module

public import proofs.«01_k».proof.Proof.ProjValue

@[expose] public section

noncomputable section

namespace Cert.Proj

open Cert.Kernel3Ideal Cert.Kernel3Ideal.Gen Idealize.ShloMosaic Idealize.ShloMosaic.TcCoe Idealize.SL.Sem

variable (m : (ℓ : Loc nD τ sig) → Buf (Elt Ideal) ℓ) (c : Dev nD)

theorem equal4 : (dats m 0 c).arrAt 4 cfg0.N = queries0 (m ((c : Thread nD τ).loc main_arg0)) (m ((c : Thread nD τ).loc main_arg1)) := by
  funext i
  obtain ⟨r, n, rfl⟩ : ∃ (r : Fin 16384) (n : Fin 1024), i = ix2 r n := ⟨i 0, i 1, eq_ix2 i⟩
  have hn := n.isLt
  have hk : 64 * (8 * (n.val / 512) + 4 * (n.val / 64 % 2) + n.val / 64 % 8 / 2) + n.val % 64 < 2560 := by omega
  exact (array4 m c r n ⟨_, hk⟩ rfl).trans (queries0_apply _ _ r n ⟨_, hk⟩ rfl).symm

theorem equal5 : (dats m 0 c).arrAt 5 cfg0.N = keys1024 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array5 m c r n).trans (keys1024_apply _ _ r n).symm

theorem equal6 : (dats m 0 c).arrAt 6 cfg0.N = keys1536 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array6 m c r n).trans (keys1536_apply _ _ r n).symm

theorem equal7 : (dats m 0 c).arrAt 7 cfg0.N = keys2048 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array7 m c r n).trans (keys2048_apply _ _ r n).symm

theorem equal8 : (dats m 0 c).arrAt 8 cfg0.N = values1280 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array8 m c r n).trans (values1280_apply _ _ r n).symm

theorem equal9 : (dats m 0 c).arrAt 9 cfg0.N = values1792 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array9 m c r n).trans (values1792_apply _ _ r n).symm

theorem equal10 : (dats m 0 c).arrAt 10 cfg0.N = values2304 (m ((c : Thread nD τ).loc main_arg0)) (m ((c : Thread nD τ).loc main_arg1)) := by
  funext i
  obtain ⟨r, n, rfl⟩ : ∃ (r : Fin 16384) (n : Fin 256), i = ix2 r n := ⟨i 0, i 1, eq_ix2 i⟩
  exact (array10 m c r n).trans (values2304_apply _ _ r n).symm

theorem equal11 : (dats m 0 c).arrAt 11 cfg0.N = gates (m ((c : Thread nD τ).loc main_arg0)) (m ((c : Thread nD τ).loc main_arg1)) := by
  funext i
  obtain ⟨r, n, rfl⟩ : ∃ (r : Fin 16384) (n : Fin 128), i = ix2 r n := ⟨i 0, i 1, eq_ix2 i⟩
  refine (array11 m c r n).trans ((gates_apply _ _ r n).trans ?_).symm
  refine congrArg logistic ?_
  by_cases h : n.val < 48
  · rw [dif_pos h]
    exact logits_gate _ _ r n h
  · rw [dif_neg h]
    exact logits_zero _ _ r n h

theorem equal12 : (dats m 0 c).arrAt 12 cfg0.N = both (m ((c : Thread nD τ).loc main_arg0)) (m ((c : Thread nD τ).loc main_arg1)) := by
  funext i
  obtain ⟨r, n, rfl⟩ : ∃ (r : Fin 16384) (n : Fin 1024), i = ix2 r n := ⟨i 0, i 1, eq_ix2 i⟩
  refine (array12 m c r n).trans ((both_apply _ _ r n).trans ?_).symm
  by_cases h0 : n.val < 256
  · rw [dif_pos h0, dif_pos h0]
    exact keys1536_apply _ _ r _
  rw [dif_neg h0, dif_neg h0]
  by_cases h1 : n.val < 512
  · rw [dif_pos h1, dif_pos h1]
    exact values1792_apply _ _ r _
  rw [dif_neg h1, dif_neg h1]
  by_cases h2 : n.val < 768
  · rw [dif_pos h2, dif_pos h2]
    exact keys2048_apply _ _ r _
  rw [dif_neg h2, dif_neg h2]
  exact values2304_apply _ _ r _

end Cert.Proj

end
-- ==== Proof.MixStep.lean ====
/- What one grid point of the attention-and-convolution layers' projection call computes from the blocks it reads, element by
   element. The turned slabs are those of the other projection call, stated once there. -/
module

public import proofs.«01_k».proof.Proof.ProjStep
public import proofs.«01_k».proof.Proof.Gen.Kernel4Ideal.Skeleton

@[expose] public section

noncomputable section

namespace Cert.Mix

open Cert.Kernel4Ideal Cert.Kernel4Ideal.Gen Idealize.ShloMosaic Idealize.ShloMosaic.TcCoe Idealize.SL.Sem

/-- The scale of the indexer's queries, as its single-precision word. -/
def iscale : EReal := Ideal.ofBits .f32 0x3E000000#32

/-- The product of a row with a column of the weights. -/
theorem pay4_apply (x : Vec Ideal S512x1024 .f32) (w : Vec Ideal S1024x2688 .bf16) (p : Fin 512) (n : Fin 2688) :
    k0_pay4 (F := Ideal) x w (ix2 p n) = ∑ d : Fin 1024, x (ix2 p d) * w (ix2 d n) := by
  pointwise [k0_pay4]

theorem pay6_apply (x : Vec Ideal S512x128 .f32) (p : Fin 512) (l : Fin 128) : k0_pay6 (F := Ideal) x (ix2 p l) = x (ix2 p l) := by
  pointwise [k0_pay6]

theorem pay7_apply (x : Vec Ideal S512x128 .f32) (p : Fin 512) (l : Fin 128) : k0_pay7 (F := Ideal) x (ix2 p l) = x (ix2 p l) := by
  pointwise [k0_pay7]

section Slabs

variable (x : Vec Ideal S512x1024 .f32) (w : Vec Ideal S1024x2688 .bf16) (tc ts : Vec Ideal S512x128 .f32)
  (y : FVec Ideal S512x2688 .f32) (c s : FVec Ideal S512x128 .f32) (p : Fin 512) (l : Fin 128) (n : Fin 1792)

theorem slab0 (hn : n.val = 0 + l.val) :
    k0_pay8 (F := Ideal) x w tc ts (ix2 p l) = Proj.turned (k0_pay4 x w) (k0_pay6 tc) (k0_pay7 ts) p n := by
  unfold k0_pay8; exact Proj.slab_apply (k0_pay4 x w) (k0_pay6 tc) (k0_pay7 ts) 0 0 rfl (by omega) _ p l n hn
theorem slab1 (hn : n.val = 128 + l.val) :
    k0_pay9 (F := Ideal) x w tc ts (ix2 p l) = Proj.turned (k0_pay4 x w) (k0_pay6 tc) (k0_pay7 ts) p n := by
  unfold k0_pay9; exact Proj.slab_apply (k0_pay4 x w) (k0_pay6 tc) (k0_pay7 ts) 128 1 rfl (by omega) _ p l n hn
theorem slab2 (hn : n.val = 256 + l.val) :
    k0_pay10 (F := Ideal) x w tc ts (ix2 p l) = Proj.turned (k0_pay4 x w) (k0_pay6 tc) (k0_pay7 ts) p n := by
  unfold k0_pay10; exact Proj.slab_apply (k0_pay4 x w) (k0_pay6 tc) (k0_pay7 ts) 256 2 rfl (by omega) _ p l n hn
theorem slab3 (hn : n.val = 384 + l.val) :
    k0_pay13 (F := Ideal) c s (k0_pay11 x w) (k0_pay12 x w) (ix2 p l) = Proj.turned (k0_pay4 x w) c s p n := by
  unfold k0_pay13 k0_pay12 k0_pay11; exact Proj.slab_apply (k0_pay4 x w) c s 384 3 rfl (by omega) _ p l n hn
theorem slab4 (hn : n.val = 512 + l.val) :
    k0_pay14 (F := Ideal) y k0_pay5 c s (ix2 p l) = Proj.turned y c s p n := by
  unfold k0_pay14; exact Proj.slab_apply y c s 512 4 rfl (by omega) _ p l n hn
theorem slab5 (hn : n.val = 640 + l.val) :
    k0_pay15 (F := Ideal) y k0_pay5 c s (ix2 p l) = Proj.turned y c s p n := by
  unfold k0_pay15; exact Proj.slab_apply y c s 640 5 rfl (by omega) _ p l n hn
theorem slab6 (hn : n.val = 768 + l.val) :
    k0_pay16 (F := Ideal) y k0_pay5 c s (ix2 p l) = Proj.turned y c s p n := by
  unfold k0_pay16; exact Proj.slab_apply y c s 768 6 rfl (by omega) _ p l n hn
theorem slab7 (hn : n.val = 896 + l.val) :
    k0_pay17 (F := Ideal) y k0_pay5 tc ts (ix2 p l) = Proj.turned y (k0_pay6 tc) (k0_pay7 ts) p n := by
  unfold k0_pay17; exact Proj.slab_apply y (k0_pay6 tc) (k0_pay7 ts) 896 7 rfl (by omega) _ p l n hn

end Slabs

/-- A slab of 128 columns of the product. -/
theorem pay22_apply (y : FVec Ideal S512x2688 .f32) (p : Fin 512) (l : Fin 128) :
    k0_pay22 (F := Ideal) y (ix2 p l) = y (ix2 p ⟨1024 + l.val, by omega⟩) := by
  pointwise [k0_pay22]

/-- The indexer's keys twice over: the lanes past the 64th are those before. -/
theorem pay28_apply (v : FVec Ideal S512x128 .f32) (p : Fin 512) (l : Fin 128) :
    k0_pay28 (F := Ideal) (iota .tc S512x128 32 [1] iota_S512x128_d1_w32) v k0_pay27 (ix2 p l) = v (ix2 p ⟨l.val % 64, by omega⟩) := by
  have h : ∀ l : Fin 128, IntOp.cmpi CmpIPredicate.slt (BitVec.ofNat 32 l.val) 64#32 = if l.val < 64 then 1#1 else 0#1 := by decide +kernel
  pointwise [k0_pay28, k0_pay27]
  rw [h]
  by_cases hl : l.val < 64
  · rw [if_pos hl]
    exact congrArg (fun q => v (ix2 p q)) (Fin.ext (by show l.val = l.val % 64; omega))
  · rw [if_neg hl]
    exact congrArg (fun q => v (ix2 p q)) (Fin.ext (by show (l.val + 128 - 64) % 128 = l.val % 64; omega))

/-- The convolution's gate. -/
theorem pay29_apply (y : FVec Ideal S512x2688 .f32) (p : Fin 512) (q : Fin 512) :
    k0_pay29 (F := Ideal) y (ix2 p q) = y (ix2 p ⟨1152 + q.val, by omega⟩) := by
  pointwise [k0_pay29]

/-- The convolution's input: the product of two slabs. -/
theorem pay30_apply (y : FVec Ideal S512x2688 .f32) (p : Fin 512) (q : Fin 512) :
    k0_pay30 (F := Ideal) y (ix2 p q) = y (ix2 p ⟨1664 + q.val, by omega⟩) * y (ix2 p ⟨2176 + q.val, by omega⟩) := by
  pointwise [k0_pay30]

theorem pay1_apply (u : FVec Ideal S512x512 .f32) (p : Fin 512) (q : Fin 512) : k0_pay1 (F := Ideal) u (ix2 p q) = u (ix2 p q) := by
  pointwise [k0_pay1]

theorem pay3_apply (u : FVec Ideal S512x512 .f32) (p : Fin 8) (q : Fin 512) :
    k0_pay3 (F := Ideal) u (ix2 p q) = u (ix2 ⟨504 + p.val, by omega⟩ q) := by
  pointwise [k0_pay3]

theorem pay31_apply (p : Fin 8) (q : Fin 512) : k0_pay31 (F := Ideal) (ix2 p q) = (0 : EReal) := by
  pointwise [k0_pay31]

theorem pay32_apply (u : Vec Ideal S8x512 .f32) (p : Fin 8) (q : Fin 512) : k0_pay32 (F := Ideal) u (ix2 p q) = u (ix2 p q) := by
  pointwise [k0_pay32]

/-- The gated convolution, from its input and the input one and two rows before. -/
theorem pay2_apply (g u : FVec Ideal S512x512 .f32) (w : Vec Ideal S8x512 .f32) (u1 u2 : Vec Ideal S512x512 .f32) (p : Fin 512) (q : Fin 512) :
    k0_pay2 (F := Ideal) g u w u1 u2 (ix2 p q)
      = g (ix2 p q) * (u (ix2 p q) * w (ix2 2 q) + u1 (ix2 p q) * w (ix2 1 q) + u2 (ix2 p q) * w (ix2 0 q)) := by
  pointwise [k0_pay2]

end Cert.Mix

end
-- ==== Proof.MixBlock.lean ====
/- The blocks that one grid point of the attention-and-convolution layers' projection call writes, as functions of the blocks it
   reads. A point that begins a sequence and one that carries it on write the same blocks, but for the convolution's. -/
module

public import proofs.«01_k».proof.Proof.MixStep
public import proofs.«01_k».proof.Proof.ProjBlock
public import proofs.«01_k».proof.Proof.Gen.Kernel4Ideal.Value

@[expose] public section

noncomputable section

namespace Cert.Mix

open Cert.Kernel4Ideal Cert.Kernel4Ideal.Gen Idealize.ShloMosaic Idealize.ShloMosaic.TcCoe Idealize.SL.Sem

/-- The buffer of the convolution's input: eight rows from before, and the block's rows behind them. -/
def buffer (u : FVec Ideal S512x512 .f32) (top : FVec Ideal S8x512 .f32) (y : S520x512.Idx) : EReal :=
  if h : 8 ≤ (y 0).val then u (ix2 ⟨(y 0).val - 8, Nat.sub_lt_right_of_lt_add h (y 0).isLt⟩ (y 1))
    else top (ix2 ⟨(y 0).val, Nat.lt_of_not_le h⟩ (y 1))

/-- The two stores into the buffer leave it so. -/
theorem buffer_canon (u : FVec Ideal S512x512 .f32) (top : FVec Ideal S8x512 .f32)
    (inb : ∀ a, (![8, 0] : Fin 2 → Nat) a + (![512, 512] : Fin 2 → Nat) a ≤ S520x512.size a)
    (inb' : ∀ a, (![0, 0] : Fin 2 → Nat) a + S8x512.size a ≤ S520x512.size a) (y : S520x512.Idx) :
    View.canon (Val := Elt Ideal) (e := .f32) [⟨Rect.unit (s := S520x512) ![8, 0] ![512, 512] inb, u⟩, ⟨Rect.unit (s := S520x512) ![0, 0] S8x512.size inb', top⟩] y = buffer u top y := by
  obtain ⟨p, q, rfl⟩ : ∃ (p : Fin 520) (q : Fin 512), y = ix2 p q := ⟨y 0, y 1, eq_ix2 y⟩
  refine View.canon_apply_of_pieces (S := S520x512) (Val := Elt Ideal) (e := .f32) (buffer u top) _ ?_ _ ?_
  · refine List.forall_mem_cons.2 ⟨?_, List.forall_mem_cons.2 ⟨?_, fun _ h => absurd h List.not_mem_nil⟩⟩
    · intro z
      refine Eq.trans ?_ (dif_pos (show 8 ≤ 8 + 1 * (z 0).val by omega)).symm
      refine congrArg u (funext fun a => Fin.ext ?_)
      match a with
      | ⟨0, _⟩ => show (z 0).val = 8 + 1 * (z 0).val - 8; omega
      | ⟨1, _⟩ => show (z 1).val = 0 + 1 * (z 1).val; omega
    · intro z
      have hz : (z 0).val < 8 := (z 0).isLt
      refine Eq.trans ?_ (dif_neg (show ¬8 ≤ 0 + 1 * (z 0).val by omega)).symm
      refine congrArg top (funext fun a => Fin.ext ?_)
      match a with
      | ⟨0, _⟩ => show (z 0).val = 0 + 1 * (z 0).val; omega
      | ⟨1, _⟩ => show (z 1).val = 0 + 1 * (z 1).val; omega
  · have hp := p.isLt
    have hq := q.isLt
    by_cases h : 8 ≤ p.val
    · refine ⟨_, List.mem_cons_self, (Rect.mem_set_unit (inb := inb)).2 fun a => ?_⟩
      match a with
      | ⟨0, _⟩ => exact ⟨h, hp⟩
      | ⟨1, _⟩ => exact ⟨Nat.zero_le _, by show q.val < 0 + 512; omega⟩
    · refine ⟨_, List.mem_cons_of_mem _ List.mem_cons_self, (Rect.mem_set_unit (inb := inb')).2 fun a => ?_⟩
      match a with
      | ⟨0, _⟩ => exact ⟨Nat.zero_le _, by show p.val < 0 + 8; omega⟩
      | ⟨1, _⟩ => exact ⟨Nat.zero_le _, by show q.val < 0 + 512; omega⟩

/-- What the buffer's first rows are at a point that carries its sequence on: the last rows of the point before. -/
def last8 (xs : Vec Ideal S520x512 .f32) : Vec Ideal S8x512 .f32 := fun y => xs (ix2 ⟨512 + (y 0).val, Nat.add_lt_add_left (y 0).isLt 512⟩ (y 1))

/-- The convolution's block: the gate times the three taps of the buffer. -/
def conv (y : FVec Ideal S512x2688 .f32) (top : FVec Ideal S8x512 .f32) (w : Vec Ideal S8x512 .f32) (p q : Fin 512) : EReal :=
  y (ix2 p ⟨1152 + q.val, by omega⟩)
    * (k0_pay30 y (ix2 p q) * w (ix2 2 q)
      + buffer (k0_pay1 (k0_pay30 y)) top (ix2 ⟨7 + p.val, by omega⟩ q) * w (ix2 1 q)
      + buffer (k0_pay1 (k0_pay30 y)) top (ix2 ⟨6 + p.val, by omega⟩ q) * w (ix2 0 q))

theorem conv_block (y : FVec Ideal S512x2688 .f32) (top : FVec Ideal S8x512 .f32) (w : Vec Ideal S8x512 .f32)
    (v : View sig .tc .vmem S520x512 .f32) (p q : Fin 512)
    (inb : ∀ a, (![8, 0] : Fin 2 → Nat) a + (![512, 512] : Fin 2 → Nat) a ≤ S520x512.size a)
    (inb' : ∀ a, (![0, 0] : Fin 2 → Nat) a + S8x512.size a ≤ S520x512.size a)
    (i7 : ∀ a, (![7, 0] : Fin 2 → Nat) a + (![512, 512] : Fin 2 → Nat) a ≤ S520x512.size a)
    (i6 : ∀ a, (![6, 0] : Fin 2 → Nat) a + (![512, 512] : Fin 2 → Nat) a ≤ S520x512.size a) :
    k0_pay2 (F := Ideal) (k0_pay29 y) (k0_pay30 y) w
      (v.readCov (Val := Elt Ideal) [⟨Rect.unit (s := S520x512) ![8, 0] ![512, 512] inb, k0_pay1 (k0_pay30 y)⟩, ⟨Rect.unit (s := S520x512) ![0, 0] S8x512.size inb', top⟩]
        (Rect.unit (s := S520x512) ![7, 0] ![512, 512] i7).toLoadRect)
      (v.readCov (Val := Elt Ideal) [⟨Rect.unit (s := S520x512) ![8, 0] ![512, 512] inb, k0_pay1 (k0_pay30 y)⟩, ⟨Rect.unit (s := S520x512) ![0, 0] S8x512.size inb', top⟩]
        (Rect.unit (s := S520x512) ![6, 0] ![512, 512] i6).toLoadRect) (ix2 p q)
      = conv y top w p q := by
  refine (pay2_apply _ _ _ _ _ p q).trans ?_
  rw [pay29_apply, View.readCov_eq_canon', View.readCov_eq_canon']
  unfold conv
  have e : ∀ (o : Nat) (ho : o ≤ 8) (i : ∀ a, (![o, 0] : Fin 2 → Nat) a + (![512, 512] : Fin 2 → Nat) a ≤ S520x512.size a),
      (Rect.unit (s := S520x512) ![o, 0] ![512, 512] i).toLoadRect.idx (ix2 p q) = (ix2 ⟨o + p.val, by omega⟩ q : S520x512.Idx) := by
    intro o ho i
    funext a; apply Fin.ext
    match a with
    | ⟨0, _⟩ => show o + 1 * p.val = o + p.val; omega
    | ⟨1, _⟩ => show 0 + 1 * q.val = q.val; omega
  exact congrArg (y (ix2 p ⟨1152 + q.val, by omega⟩) * ·) (congrArg₂ (· + ·)
    (congrArg (k0_pay30 y (ix2 p q) * w (ix2 2 q) + · * w (ix2 1 q)) ((buffer_canon _ top inb inb' _).trans (congrArg _ (e 7 (by omega) i7))))
    (congrArg (· * w (ix2 0 q)) ((buffer_canon _ top inb inb' _).trans (congrArg _ (e 6 (by omega) i6)))))

/-- The keys and the values side by side. -/
def kvb (y : FVec Ideal S512x2688 .f32) (c s : FVec Ideal S512x128 .f32) (p : Fin 512) (n : Fin 256) : EReal :=
  if n.val < 128 then Proj.turned y c s p ⟨512 + n.val, by omega⟩ else y (ix2 p ⟨896 + n.val, by omega⟩)

theorem kvb_low (y : FVec Ideal S512x2688 .f32) (c s : FVec Ideal S512x128 .f32) (p : Fin 512) (n : Fin 256) (h : n.val < 128) :
    kvb y c s p n = Proj.turned y c s p ⟨512 + n.val, by omega⟩ := if_pos h

theorem kvb_high (y : FVec Ideal S512x2688 .f32) (c s : FVec Ideal S512x128 .f32) (p : Fin 512) (n : Fin 256) (h : ¬n.val < 128) :
    kvb y c s p n = y (ix2 p ⟨896 + n.val, by omega⟩) := if_neg h

section Point

variable (c : Dev nD) (i : grid0.Coords)
  (a1 : Memref sig .tc .vmem S512x1024 .f32) (h1 : a1.IsWhole)
  (a2 : Memref sig .tc .vmem S1024x2688 .bf16) (h2 : a2.IsWhole)
  (a3 : Memref sig .tc .vmem S512x128 .f32) (h3 : a3.IsWhole)
  (a4 : Memref sig .tc .vmem S512x128 .f32) (h4 : a4.IsWhole)
  (a5 : Memref sig .tc .vmem S512x128 .f32) (h5 : a5.IsWhole)
  (a6 : Memref sig .tc .vmem S512x128 .f32) (h6 : a6.IsWhole)
  (a7 : Memref sig .tc .vmem S8x512 .f32) (h7 : a7.IsWhole)
  (a8 : Memref sig .tc .vmem S512x512 .bf16) (h8 : a8.IsWhole)
  (a9 : Memref sig .tc .vmem S512x256 .bf16) (h9 : a9.IsWhole)
  (a10 : Memref sig .tc .vmem S512x128 .f32) (h10 : a10.IsWhole)
  (a11 : Memref sig .tc .vmem S512x128 .f32) (h11 : a11.IsWhole)
  (a12 : Memref sig .tc .vmem S512x128 .f32) (h12 : a12.IsWhole)
  (a13 : Memref sig .tc .vmem S512x256 .bf16) (h13 : a13.IsWhole)
  (a14 : Memref sig .tc .vmem S512x128 .bf16) (h14 : a14.IsWhole)
  (a15 : Memref sig .tc .vmem S512x512 .bf16) (h15 : a15.IsWhole)
  (a16 : Memref sig .tc .vmem S8x512 .f32) (h16 : a16.IsWhole)
  (a17 : Memref sig .tc .vmem S520x512 .f32) (h17 : a17.IsWhole)
  (x0 : Vec Ideal S512x1024 .f32) (x1 : Vec Ideal S1024x2688 .bf16) (x2 x3 x4 x5 : Vec Ideal S512x128 .f32) (x6 : Vec Ideal S8x512 .f32)

section Begin

variable (hA : cond0_0 i) (hA' : ¬cond0_1 i)

/-- The queries: the turned columns of the first eight heads, scaled. -/
theorem block7 (p : Fin 512) (n : Fin 512) :
    out0_A_7 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = Proj.turned (k0_pay4 (F := Ideal) x0 x1) (k0_pay6 x2) (k0_pay7 x3) p ⟨n.val, Nat.lt_of_lt_of_le n.isLt (by decide)⟩ * Proj.qscale := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  refine View.canon_apply_of_pieces (S := S512x512) (fun y => Proj.turned (k0_pay4 (F := Ideal) x0 x1) (k0_pay6 x2) (k0_pay7 x3) (y 0) ⟨(y 1).val, Nat.lt_of_lt_of_le (y 1).isLt (by decide)⟩ * Proj.qscale) _ ?_ (ix2 p n)
    (cover0_A_7 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n))
  unfold kernelRun0_A
  dsimp only
  sl_unfold_words
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  refine List.forall_mem_cons.2 ⟨?_, List.forall_mem_cons.2 ⟨?_, List.forall_mem_cons.2 ⟨?_, List.forall_mem_cons.2 ⟨?_, fun _ h => absurd h List.not_mem_nil⟩⟩⟩⟩
  · intro z
    obtain ⟨p, l, rfl⟩ : ∃ (p : Fin 512) (l : Fin 128), z = ix2 p l := ⟨z 0, z 1, eq_ix2 z⟩
    rw [Proj.slab_emb 384 _ p l ⟨384 + l.val, by omega⟩ rfl]
    exact congrArg (· * Proj.qscale) (slab3 x0 x1 (k0_pay6 x2) (k0_pay7 x3) p l _ (rfl))
  · intro z
    obtain ⟨p, l, rfl⟩ : ∃ (p : Fin 512) (l : Fin 128), z = ix2 p l := ⟨z 0, z 1, eq_ix2 z⟩
    rw [Proj.slab_emb 256 _ p l ⟨256 + l.val, by omega⟩ rfl]
    exact congrArg (· * Proj.qscale) (slab2 x0 x1 x2 x3 p l _ (rfl))
  · intro z
    obtain ⟨p, l, rfl⟩ : ∃ (p : Fin 512) (l : Fin 128), z = ix2 p l := ⟨z 0, z 1, eq_ix2 z⟩
    rw [Proj.slab_emb 128 _ p l ⟨128 + l.val, by omega⟩ rfl]
    exact congrArg (· * Proj.qscale) (slab1 x0 x1 x2 x3 p l _ (rfl))
  · intro z
    obtain ⟨p, l, rfl⟩ : ∃ (p : Fin 512) (l : Fin 128), z = ix2 p l := ⟨z 0, z 1, eq_ix2 z⟩
    rw [Proj.slab_emb 0 _ p l ⟨0 + l.val, by omega⟩ rfl]
    exact congrArg (· * Proj.qscale) (slab0 x0 x1 x2 x3 p l _ (rfl))

/-- The indexer's queries: four heads of turned columns, scaled. -/
theorem block8 (p : Fin 512) (n : Fin 256) :
    out0_A_8 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = Proj.turned (k0_pay4 (F := Ideal) x0 x1) (k0_pay6 x2) (k0_pay7 x3) p ⟨640 + n.val, Nat.lt_of_lt_of_le (Nat.add_lt_add_left n.isLt 640) (by decide)⟩ * iscale := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  refine View.canon_apply_of_pieces (S := S512x256) (fun y => Proj.turned (k0_pay4 (F := Ideal) x0 x1) (k0_pay6 x2) (k0_pay7 x3) (y 0) ⟨640 + (y 1).val, Nat.lt_of_lt_of_le (Nat.add_lt_add_left (y 1).isLt 640) (by decide)⟩ * iscale) _ ?_ (ix2 p n)
    (cover0_A_8 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n))
  unfold kernelRun0_A
  dsimp only
  sl_unfold_words
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  refine List.forall_mem_cons.2 ⟨?_, List.forall_mem_cons.2 ⟨?_, fun _ h => absurd h List.not_mem_nil⟩⟩
  · intro z
    obtain ⟨p, l, rfl⟩ : ∃ (p : Fin 512) (l : Fin 128), z = ix2 p l := ⟨z 0, z 1, eq_ix2 z⟩
    rw [Proj.slab_emb 128 _ p l ⟨128 + l.val, by omega⟩ rfl]
    exact congrArg (· * iscale) (slab6 (k0_pay4 (F := Ideal) x0 x1) (k0_pay6 x2) (k0_pay7 x3) p l _ (by show 640 + (128 + l.val) = 768 + l.val; omega))
  · intro z
    obtain ⟨p, l, rfl⟩ : ∃ (p : Fin 512) (l : Fin 128), z = ix2 p l := ⟨z 0, z 1, eq_ix2 z⟩
    rw [Proj.slab_emb 0 _ p l ⟨0 + l.val, by omega⟩ rfl]
    exact congrArg (· * iscale) (slab5 (k0_pay4 (F := Ideal) x0 x1) (k0_pay6 x2) (k0_pay7 x3) p l _ (by show 640 + (0 + l.val) = 640 + l.val; omega))

/-- The keys and the values side by side. -/
theorem block12 (p : Fin 512) (n : Fin 256) :
    out0_A_12 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = kvb (k0_pay4 (F := Ideal) x0 x1) (k0_pay6 x2) (k0_pay7 x3) p n := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  refine View.canon_apply_of_pieces (S := S512x256) (fun y => kvb (k0_pay4 (F := Ideal) x0 x1) (k0_pay6 x2) (k0_pay7 x3) (y 0) (y 1)) _ ?_ (ix2 p n)
    (cover0_A_12 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n))
  unfold kernelRun0_A
  dsimp only
  sl_unfold_words
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  refine List.forall_mem_cons.2 ⟨?_, List.forall_mem_cons.2 ⟨?_, fun _ h => absurd h List.not_mem_nil⟩⟩
  · intro z
    obtain ⟨p, l, rfl⟩ : ∃ (p : Fin 512) (l : Fin 128), z = ix2 p l := ⟨z 0, z 1, eq_ix2 z⟩
    rw [Proj.slab_emb 128 _ p l ⟨128 + l.val, by omega⟩ rfl]
    exact ((pay22_apply (k0_pay4 (F := Ideal) x0 x1) p l).trans (congrArg (fun q => (k0_pay4 (F := Ideal) x0 x1) (ix2 p q)) (show (⟨1024 + l.val, by omega⟩ : Fin 2688) = ⟨896 + (128 + l.val), by omega⟩ from Fin.ext (by show 1024 + l.val = 896 + (128 + l.val); omega)))).trans (kvb_high _ _ _ p ⟨128 + l.val, by omega⟩ (by show ¬128 + l.val < 128; omega)).symm
  · intro z
    obtain ⟨p, l, rfl⟩ : ∃ (p : Fin 512) (l : Fin 128), z = ix2 p l := ⟨z 0, z 1, eq_ix2 z⟩
    rw [Proj.slab_emb 0 _ p l ⟨0 + l.val, by omega⟩ rfl]
    exact (slab4 (k0_pay4 (F := Ideal) x0 x1) (k0_pay6 x2) (k0_pay7 x3) p l ⟨512 + (0 + l.val), by omega⟩ (by show 512 + (0 + l.val) = 512 + l.val; omega)).trans (kvb_low _ _ _ p ⟨0 + l.val, by omega⟩ (by show 0 + l.val < 128; omega)).symm

/-- The keys: two heads of turned columns. -/
theorem block9 (p : Fin 512) (n : Fin 128) :
    out0_A_9 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = Proj.turned (k0_pay4 (F := Ideal) x0 x1) (k0_pay6 x2) (k0_pay7 x3) p ⟨512 + n.val, Nat.lt_of_lt_of_le (Nat.add_lt_add_left n.isLt 512) (by decide)⟩ := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S512x128) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact slab4 (k0_pay4 (F := Ideal) x0 x1) (k0_pay6 x2) (k0_pay7 x3) p n _ rfl

/-- The values: two heads of columns as they are. -/
theorem block10 (p : Fin 512) (n : Fin 128) :
    out0_A_10 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = (k0_pay4 (F := Ideal) x0 x1) (ix2 p ⟨1024 + n.val, Nat.lt_of_lt_of_le (Nat.add_lt_add_left n.isLt 1024) (by decide)⟩) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S512x128) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact pay22_apply (k0_pay4 (F := Ideal) x0 x1) p n

/-- The indexer's key and its weights: turned and scaled by the tables of their own. -/
theorem block11 (p : Fin 512) (n : Fin 128) :
    out0_A_11 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = Proj.turned (k0_pay4 (F := Ideal) x0 x1) (k0_pay6 x4) (k0_pay7 x5) p ⟨896 + n.val, Nat.lt_of_lt_of_le (Nat.add_lt_add_left n.isLt 896) (by decide)⟩ := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S512x128) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact slab7 x4 x5 (k0_pay4 (F := Ideal) x0 x1) p n _ rfl

/-- The indexer's key twice over. -/
theorem block13 (p : Fin 512) (n : Fin 128) :
    out0_A_13 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = Proj.turned (k0_pay4 (F := Ideal) x0 x1) (k0_pay6 x4) (k0_pay7 x5) p ⟨896 + n.val % 64, by omega⟩ := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S512x128) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact (pay28_apply _ p n).trans (slab7 x4 x5 (k0_pay4 (F := Ideal) x0 x1) p ⟨n.val % 64, by omega⟩ _ rfl)

/-- The last eight rows of the convolution's input. -/
theorem block15 (p : Fin 8) (n : Fin 512) :
    out0_A_15 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = k0_pay30 (k0_pay4 (F := Ideal) x0 x1) (ix2 ⟨504 + p.val, by omega⟩ n) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S8x512) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact pay3_apply _ p n

/-- The gated convolution of a sequence's first block. -/
theorem block14 (p : Fin 512) (n : Fin 512) :
    out0_A_14 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 (ix2 p n)
      = conv (k0_pay4 (F := Ideal) x0 x1) (k0_pay31 (F := Ideal)) x6 p n := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  rw [View.canon_unit_zero (S := S512x512) Proj.off0]
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact conv_block (k0_pay4 (F := Ideal) x0 x1) _ x6 _ p n _ _ _ _

/-- The buffer that the first block of a sequence leaves. -/
theorem buffer_begin (y : S520x512.Idx) :
    sout0_A_0 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 y = buffer (k0_pay1 (k0_pay30 (k0_pay4 (F := Ideal) x0 x1))) (k0_pay31 (F := Ideal)) y := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6)]
  unfold kernelRun0_A
  dsimp only
  sl_unfold_words
  simp only [View.readAt_eq_ld, h1.read_unread, h2.read_unread, h3.read_unread, h4.read_unread, h5.read_unread, h6.read_unread,
      h7.read_unread, View.ld_unit_zero (S := S512x1024) Proj.off0, View.ld_unit_zero (S := S1024x2688) Proj.off0,
      View.ld_unit_zero (S := S512x128) Proj.off0, View.ld_unit_zero (S := S8x512) Proj.off0]
  exact buffer_canon _ _ _ _ y

end Begin

section Carry

variable (hB : ¬cond0_0 i) (hB' : cond0_1 i) (xs : Vec Ideal S520x512 .f32)

/-- The other blocks of a point that carries its sequence on are those of a point that begins one. -/
theorem same (i' : grid0.Coords) (hA : cond0_0 i') (hA' : ¬cond0_1 i') :
    out0_B_7 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_7 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_8 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_8 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_9 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_9 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_10 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_10 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_11 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_11 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_12 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_12 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_13 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_13 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6
      ∧ out0_B_15 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs = out0_A_15 c i' a1 h1 a2 h2 a3 h3 a4 h4 a5 h5 a6 h6 a7 h7 a8 h8 a9 h9 a10 h10 a11 h11 a12 h12 a13 h13 a14 h14 a15 h15 a16 h16 a17 h17 hA hA' x0 x1 x2 x3 x4 x5 x6 := by
  unfold out0_B_7 out0_A_7 out0_B_8 out0_A_8 out0_B_9 out0_A_9 out0_B_10 out0_A_10 out0_B_11 out0_A_11 out0_B_12 out0_A_12 out0_B_13 out0_A_13 out0_B_15 out0_A_15 kernelRun0_B kernelRun0_A
  dsimp only
  sl_unfold_words
  exact ⟨rfl, rfl, rfl, rfl, rfl, rfl, rfl, rfl⟩

/-- The gated convolution of a later block of a sequence. -/
theorem block14_carry (p n : Fin 512) :
    out0_B_14 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs (ix2 p n)
      = conv (k0_pay4 (F := Ideal) x0 x1) (k0_pay32 (last8 xs)) x6 p n := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs)]
  unfold kernelRun0_B
  dsimp only
  sl_unfold_words
  rw [View.canon_unit_zero (S := S512x512) Proj.off0]
  simp only [View.readAt_eq_ld, h1.read_unread, h2.read_unread, h3.read_unread, h4.read_unread, h5.read_unread, h6.read_unread,
      h7.read_unread, h17.read_unread, View.ld_unit_zero (S := S512x1024) Proj.off0, View.ld_unit_zero (S := S1024x2688) Proj.off0,
      View.ld_unit_zero (S := S512x128) Proj.off0, View.ld_unit_zero (S := S8x512) Proj.off0]
  rw [show View.ld xs (Rect.unit (s := S520x512) ![512, 0] S8x512.size inb_S520x512_S8x512_512_0) = last8 xs from funext fun z => congrArg xs (funext fun a => Fin.ext (by
    match a with
    | ⟨0, _⟩ => show 512 + 1 * (z 0).val = 512 + (z 0).val; omega
    | ⟨1, _⟩ => show 0 + 1 * (z 1).val = (z 1).val; omega))]
  exact conv_block (k0_pay4 (F := Ideal) x0 x1) _ x6 _ p n _ _ _ _

/-- The buffer that a later block of a sequence leaves. -/
theorem buffer_carry (y : S520x512.Idx) :
    sout0_B_0 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs y = buffer (k0_pay1 (k0_pay30 (k0_pay4 (F := Ideal) x0 x1))) (k0_pay32 (last8 xs)) y := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hB hB' x0 x1 x2 x3 x4 x5 x6 xs)]
  unfold kernelRun0_B
  dsimp only
  sl_unfold_words
  simp only [View.readAt_eq_ld, h1.read_unread, h2.read_unread, h3.read_unread, h4.read_unread, h5.read_unread, h6.read_unread,
      h7.read_unread, h17.read_unread, View.ld_unit_zero (S := S512x1024) Proj.off0, View.ld_unit_zero (S := S1024x2688) Proj.off0,
      View.ld_unit_zero (S := S512x128) Proj.off0, View.ld_unit_zero (S := S8x512) Proj.off0]
  rw [show View.ld xs (Rect.unit (s := S520x512) ![512, 0] S8x512.size inb_S520x512_S8x512_512_0) = last8 xs from funext fun z => congrArg xs (funext fun a => Fin.ext (by
    match a with
    | ⟨0, _⟩ => show 512 + 1 * (z 0).val = 512 + (z 0).val; omega
    | ⟨1, _⟩ => show 0 + 1 * (z 1).val = (z 1).val; omega))]
  exact buffer_canon _ _ _ _ y

end Carry

end Point

end Cert.Mix

end
-- ==== Proof.MixEntry.lean ====
/- What the windows of the attention-and-convolution layers' projection call read: the rows, the weights with their columns put
   in the order of the results, the tables of cosines and sines, and the taps of the convolution. -/
module

public import proofs.«01_k».proof.Proof.ProjEntry
public import proofs.«01_k».proof.Proof.Gen.Kernel4Ideal.Value

@[expose] public section

noncomputable section

namespace Cert.Mix

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- A half, as its single-precision word: the scale of the indexer's weights. -/
def half : EReal := Ideal.ofBits .f32 0x3F000000#32

/-- The table of cosines on the first 64 lanes, a half on the others. -/
def halfCos : FVec Ideal S4096x128 .f32 :=
  concatenate S4096x128 1 [⟨S4096x64, concatenate S4096x64 1 [⟨S4096x32, Host.cos (F := Ideal) (φ := .f32) Proj.angles⟩, ⟨S4096x32, Host.cos (F := Ideal) (φ := .f32) Proj.angles⟩] concatenates_S4096x32_S4096x32_S4096x64_d1⟩,
    ⟨S4096x64, broadcastInDim S4096x64 ![] bcast_S_S4096x64 (constant (F := Ideal) S_ .f32 0x3F000000#32)⟩] concatenates_S4096x64_S4096x64_S4096x128_d1

/-- The table of sines on the first 64 lanes, nothing on the others. -/
def halfSin : FVec Ideal S4096x128 .f32 :=
  concatenate S4096x128 1 [⟨S4096x64, concatenate S4096x64 1 [⟨S4096x32, Host.negf (F := Ideal) (φ := .f32) (Host.sin (F := Ideal) (φ := .f32) Proj.angles)⟩, ⟨S4096x32, Host.sin (F := Ideal) (φ := .f32) Proj.angles⟩] concatenates_S4096x32_S4096x32_S4096x64_d1⟩,
    ⟨S4096x64, broadcastInDim S4096x64 ![] bcast_S_S4096x64 (constant (F := Ideal) S_ .f32 0x00000000#32)⟩] concatenates_S4096x64_S4096x64_S4096x128_d1

/-- The rows: the first argument with its first two axes joined. -/
def rows (x : FVec Ideal S4x4096x1024 .f32) : FVec Ideal S16384x1024 .f32 :=
  shapeCast S16384x1024 x shapeCasts_S4x4096x1024_S16384x1024

/-- The taps of the convolution, with zero rows behind them. -/
def taps (w : FVec Ideal S3x512 .f32) : FVec Ideal S8x512 .f32 :=
  pad S8x512 ![0, 0] ![5, 0] ![0, 0] w (sitofp (F := Ideal) .f32 (constantI S_ 32 0#32)) pads_S3x512_S8x512_050_000 h_S_

/-- The starts that the heads of the queries are taken from. -/
def starts : IVec S8x1 32 :=
  have l : IVec S8 32 := fun i => lit0 (S8.rowMajor i)
  broadcastInDim S8x1 ![0] bcast_S8_S8x1_0
    (select (constantI S8 1 0#1) (addi l (broadcastInDim S8 ![] bcast_S_S8 (constantI S_ 32 8#32))) l)

/-- The queries' columns with the heads in the order of the result. -/
def heads (w : FVec Ideal S1024x2628 .f32) : FVec Ideal S1024x8x64 .f32 :=
  Host.gather gather_S1024x8x64_S8x1_S1024x8x64_02_1_n_n_1_1_1024164
    (shapeCast S1024x8x64 (extractStridedSlice S1024x512 ![0, 0] w slices_S1024x2628_S1024x512_0_0) shapeCasts_S1024x512_S1024x8x64) starts

/-- The weights with their columns in the order of the results, and zero columns between. -/
def weights (w : FVec Ideal S1024x2628 .f32) : FVec Ideal S1024x2688 .bf16 :=
  truncf .bf16 (concatenate S1024x2688 1
    [⟨S1024x512, shapeCast S1024x512 (heads w) shapeCasts_S1024x8x64_S1024x512⟩,
     ⟨S1024x128, extractStridedSlice S1024x128 ![0, 512] w slices_S1024x2628_S1024x128_0_512⟩,
     ⟨S1024x256, extractStridedSlice S1024x256 ![0, 768] w slices_S1024x2628_S1024x256_0_768⟩,
     ⟨S1024x64, extractStridedSlice S1024x64 ![0, 1024] w slices_S1024x2628_S1024x64_0_1024⟩,
     ⟨S1024x4, extractStridedSlice S1024x4 ![0, 1088] w slices_S1024x2628_S1024x4_0_1088⟩,
     ⟨S1024x60, broadcastInDim S1024x60 ![] bcast_S_S1024x60 (constant S_ .f32 0x00000000#32)⟩,
     ⟨S1024x128, extractStridedSlice S1024x128 ![0, 640] w slices_S1024x2628_S1024x128_0_640⟩,
     ⟨S1024x512, extractStridedSlice S1024x512 ![0, 1092] w slices_S1024x2628_S1024x512_0_1092⟩,
     ⟨S1024x512, extractStridedSlice S1024x512 ![0, 1604] w slices_S1024x2628_S1024x512_0_1604⟩,
     ⟨S1024x512, extractStridedSlice S1024x512 ![0, 2116] w slices_S1024x2628_S1024x512_0_2116⟩]
    concatenates_S1024x512_S1024x128_S1024x256_S1024x64_S1024x4_S1024x60_S1024x128_S1024x512_S1024x512_S1024x512_S1024x2688_d1) bitsLt_bf16_f32

theorem entry_rows : V m c main_v1 = rows (m ((c : Thread nD τ).loc main_arg0)) := by
  simp only [V, hostOps0, hostOps0_1, hostOps0_2, List.flatten_cons, List.flatten_nil, List.append_nil, List.cons_append, List.nil_append]; after_results_simp <;> rfl
theorem entry_weights : V m c main_v20 = weights (m ((c : Thread nD τ).loc main_arg1)) := by
  simp only [V, hostOps0, hostOps0_1, hostOps0_2, List.flatten_cons, List.flatten_nil, List.append_nil, List.cons_append, List.nil_append]; after_results_simp <;> rfl
theorem entry_cos : V m c main_v39 = Proj.cosTable := by
  simp only [V, hostOps0, hostOps0_1, hostOps0_2, List.flatten_cons, List.flatten_nil, List.append_nil, List.cons_append, List.nil_append]; after_results_simp <;> rfl
theorem entry_sin : V m c main_v40 = Proj.sinTable := by
  simp only [V, hostOps0, hostOps0_1, hostOps0_2, List.flatten_cons, List.flatten_nil, List.append_nil, List.cons_append, List.nil_append]; after_results_simp <;> rfl
theorem entry_halfCos : V m c main_v42 = halfCos := by
  simp only [V, hostOps0, hostOps0_1, hostOps0_2, List.flatten_cons, List.flatten_nil, List.append_nil, List.cons_append, List.nil_append]; after_results_simp <;> rfl
theorem entry_halfSin : V m c main_v44 = halfSin := by
  simp only [V, hostOps0, hostOps0_1, hostOps0_2, List.flatten_cons, List.flatten_nil, List.append_nil, List.cons_append, List.nil_append]; after_results_simp <;> rfl
theorem entry_taps : V m c main_v0 = taps (m ((c : Thread nD τ).loc main_arg2)) := by
  simp only [V, hostOps0, hostOps0_1, hostOps0_2, List.flatten_cons, List.flatten_nil, List.append_nil, List.cons_append, List.nil_append]; after_results_simp <;> rfl

/-- The head that the result has at place `j`: the eight heads in pairs, four apart. -/
def headAt (j : Nat) : Nat := 4 * (j % 2) + j / 2

/-- The column of the argument that stands at column `n` of the weights in the order of the results. -/
def source (n : Nat) : Nat :=
  if n < 512 then 64 * headAt (n / 64) + n % 64
  else if n < 640 then n else if n < 964 then n + 128 else if n < 1152 then n - 384 else n - 60

theorem starts_apply (j : Fin 8) : starts (ix2 j 0) = lit0 j := by
  have h : S8.rowMajor (ix1 j) = j := Fin.ext (Shape.rowMajor_val_one _)
  pointwise [starts]
  rw [h]

theorem start_nat (j : Fin 8) : min (lit0 j).toInt.toNat (8 - 1) = headAt j.val := by
  have h : ∀ j : Fin 8, min (lit0 j).toInt.toNat (8 - 1) = headAt j.val := by decide +kernel
  exact h j

theorem headAt_lt (j : Nat) (h : j < 8) : headAt j < 8 := by unfold headAt; omega

/-- The gathered heads: head `headAt j` at place `j`. -/
theorem gather_apply (x : FVec Ideal S1024x8x64 .f32) (d : Fin 1024) (j : Fin 8) (l : Fin 64) :
    Host.gather gather_S1024x8x64_S8x1_S1024x8x64_02_1_n_n_1_1_1024164 x starts (ix3 d j l)
      = x (ix3 d ⟨headAt j.val, headAt_lt _ j.isLt⟩ l) := by
  unfold Host.gather
  congr 1
  funext a
  refine Fin.ext ?_
  show (gather_S1024x8x64_S8x1_S1024x8x64_02_1_n_n_1_1_1024164).start (ix3 d j l) starts a
      + (gather_S1024x8x64_S8x1_S1024x8x64_02_1_n_n_1_1_1024164).batchCoord (ix3 d j l) a
      + (gather_S1024x8x64_S8x1_S1024x8x64_02_1_n_n_1_1_1024164).offCoord (ix3 d j l) a = _
  rw [GatherDims.batchCoord_eq_zero _ _ _ List.not_mem_nil]
  match a with
  | ⟨0, _⟩ =>
    show (gather_S1024x8x64_S8x1_S1024x8x64_02_1_n_n_1_1_1024164).start (ix3 d j l) starts 0 + 0
      + (gather_S1024x8x64_S8x1_S1024x8x64_02_1_n_n_1_1_1024164).offCoord (ix3 d j l) 0 = d.val
    unfold GatherDims.start
    rw [dif_neg (show ¬(0 : Fin 3) ∈ (gather_S1024x8x64_S8x1_S1024x8x64_02_1_n_n_1_1_1024164).startIndexMap by decide)]
    unfold GatherDims.offCoord
    rw [dif_pos (show (0 : Fin 3) ∈ (gather_S1024x8x64_S8x1_S1024x8x64_02_1_n_n_1_1_1024164).sKept by decide)]
    exact (Nat.zero_add _).trans rfl
  | ⟨1, _⟩ =>
    have hsi : (gather_S1024x8x64_S8x1_S1024x8x64_02_1_n_n_1_1_1024164).siIdx (ix3 d j l)
        ⟨List.idxOf (1 : Fin 3) (gather_S1024x8x64_S8x1_S1024x8x64_02_1_n_n_1_1_1024164).startIndexMap,
          List.idxOf_lt_length_iff.2 (List.mem_singleton.mpr rfl)⟩ = ix2 j 0 := by
      funext b; refine Fin.ext ?_
      match b with
      | ⟨0, _⟩ => rfl
      | ⟨1, _⟩ => rfl
    show (gather_S1024x8x64_S8x1_S1024x8x64_02_1_n_n_1_1_1024164).start (ix3 d j l) starts 1 + 0
      + (gather_S1024x8x64_S8x1_S1024x8x64_02_1_n_n_1_1_1024164).offCoord (ix3 d j l) 1 = headAt j.val
    rw [GatherDims.offCoord_eq_zero _ _ _ (fun h => ((GatherDims.mem_sKept _ _).mp h).1 (List.mem_singleton.mpr rfl))]
    unfold GatherDims.start
    rw [dif_pos (show (1 : Fin 3) ∈ (gather_S1024x8x64_S8x1_S1024x8x64_02_1_n_n_1_1_1024164).startIndexMap from List.mem_singleton.mpr rfl),
      hsi, starts_apply]
    exact start_nat j
  | ⟨2, _⟩ =>
    show (gather_S1024x8x64_S8x1_S1024x8x64_02_1_n_n_1_1_1024164).start (ix3 d j l) starts 2 + 0
      + (gather_S1024x8x64_S8x1_S1024x8x64_02_1_n_n_1_1_1024164).offCoord (ix3 d j l) 2 = l.val
    unfold GatherDims.start
    rw [dif_neg (show ¬(2 : Fin 3) ∈ (gather_S1024x8x64_S8x1_S1024x8x64_02_1_n_n_1_1_1024164).startIndexMap by decide)]
    unfold GatherDims.offCoord
    rw [dif_pos (show (2 : Fin 3) ∈ (gather_S1024x8x64_S8x1_S1024x8x64_02_1_n_n_1_1_1024164).sKept by decide)]
    exact (Nat.zero_add _).trans rfl

theorem heads_apply (w : FVec Ideal S1024x2628 .f32) (d : Fin 1024) (j : Fin 8) (l : Fin 64) (k : Fin 2628)
    (hk : k.val = 64 * headAt j.val + l.val) : heads w (ix3 d j l) = w (ix2 d k) := by
  unfold heads
  rw [gather_apply]
  have hj := headAt_lt _ j.isLt
  pointwise
  exact congrArg (fun q => w (ix2 d q)) (Fin.ext (by simp only [hk]; omega))

theorem halfCos_low (t : Fin 4096) (l : Fin 128) (h : l.val < 64) :
    halfCos (ix2 t l) = Ideal.cos (Proj.angles (ix2 t ⟨l.val % 32, by omega⟩)) := by
  pointwise [halfCos]
  split
  · split <;> exact congrArg (fun q => Ideal.cos (Proj.angles (ix2 t q))) (Fin.ext (by simp only; omega))
  · exfalso; omega

theorem halfCos_high (t : Fin 4096) (l : Fin 128) (h : ¬l.val < 64) : halfCos (ix2 t l) = half := by
  pointwise [halfCos]
  split
  · exfalso; omega
  · rfl

theorem halfSin_low (t : Fin 4096) (l : Fin 128) (h : l.val < 64) : halfSin (ix2 t l)
    = if l.val < 32 then -Ideal.sin (Proj.angles (ix2 t ⟨l.val % 32, by omega⟩)) else Ideal.sin (Proj.angles (ix2 t ⟨l.val % 32, by omega⟩)) := by
  by_cases h1 : l.val < 32
  · refine Eq.trans ?_ (if_pos h1).symm
    pointwise [halfSin]
    refine (dif_pos h).trans ((dif_pos h1).trans ?_)
    exact congrArg (fun q => -Ideal.sin (Proj.angles (ix2 t q))) (Fin.ext (by show l.val = l.val % 32; omega))
  · refine Eq.trans ?_ (if_neg h1).symm
    pointwise [halfSin]
    refine (dif_pos h).trans ((dif_neg h1).trans ?_)
    exact congrArg (fun q => Ideal.sin (Proj.angles (ix2 t q))) (Fin.ext (by show l.val - 32 = l.val % 32; omega))

theorem halfSin_high (t : Fin 4096) (l : Fin 128) (h : ¬l.val < 64) : halfSin (ix2 t l) = (0 : EReal) := by
  pointwise [halfSin]
  split
  · exfalso; omega
  · rfl

theorem taps_apply (w : FVec Ideal S3x512 .f32) (j : Fin 3) (q : Fin 512) : taps w (ix2 ⟨j.val, by omega⟩ q) = w (ix2 j q) := by
  have hj := j.isLt
  pointwise [taps]

theorem weights_apply (w : FVec Ideal S1024x2628 .f32) (d : Fin 1024) (n : Fin 2688) (k : Fin 2628) (hn : n.val < 964 ∨ 1024 ≤ n.val)
    (hk : k.val = source n.val) : weights w (ix2 d n) = w (ix2 d k) := by
  unfold source at hk
  pointwise [weights]
  split
  · rename_i h
    rw [if_pos h] at hk
    exact heads_apply w d _ _ k hk
  · rename_i h
    rw [if_neg h] at hk
    repeat' split
    all_goals first
      | (exfalso; omega)
      | (refine congrArg (fun q => w (ix2 d q)) (Fin.ext ?_); simp only; split_ifs at hk <;> omega)

theorem weights_zero (w : FVec Ideal S1024x2628 .f32) (d : Fin 1024) (n : Fin 2688) (hn : 964 ≤ n.val) (hn' : n.val < 1024) :
    weights w (ix2 d n) = (0 : EReal) := by
  pointwise [weights]
  repeat' split
  all_goals first
    | (exfalso; omega)
    | rfl

end Cert.Mix

end
-- ==== Proof.MixMath.lean ====
/- The input product of the mixing layer at one row, over the extended reals: its columns, the columns of a head turned by the
   row's angles, the convolution over three rows of a sequence; and that the reference's terms are these. -/
module

public import proofs.«01_k».proof.Proof.Gen.Reference4Ideal.Run
public import proofs.«01_k».proof.Proof.ProjMath

@[expose] public section

noncomputable section

namespace Cert.Mix

open Cert.Reference4Ideal Cert.Reference4Ideal.Gen Idealize.ShloMosaic Idealize.ShloMosaic.TcCoe Idealize.SL.Sem
open Cert.Proj (refAngles rowAngles)

/-! ## The mathematics of one row -/

/-- The columns of a head turned by the angles: lane `l` of the first half against lane `l + 32` of the second. -/
def turn (f : Nat → EReal) (a : Fin 32 → EReal) (k : Nat) : EReal :=
  if k % 64 < 32 then f k * Ideal.cos (a ⟨k % 32, by omega⟩) - f (k + 32) * Ideal.sin (a ⟨k % 32, by omega⟩)
  else f k * Ideal.cos (a ⟨k % 32, by omega⟩) + f (k - 32) * Ideal.sin (a ⟨k % 32, by omega⟩)

/-- Column `k` of row `r` of the product; zero behind its columns. -/
def col (x : FVec Ideal S4x4096x1024 .f32) (w : FVec Ideal S1024x2628 .f32) (r : Fin 16384) (k : Nat) : EReal :=
  if h : k < 2628 then ∑ d : Fin 1024, x (ix3 ⟨r.val / 4096, by omega⟩ ⟨r.val % 4096, by omega⟩ d) * w (ix2 d ⟨k, h⟩) else 0

/-- The convolved column `q` of row `r`: the product of two of its columns. -/
def pair (x : FVec Ideal S4x4096x1024 .f32) (w : FVec Ideal S1024x2628 .f32) (r : Fin 16384) (q : Nat) : EReal :=
  col x w r (1604 + q) * col x w r (2116 + q)

/-- The convolved column `d` rows before row `r` of the same sequence; zero before the sequence's first row. -/
def before (x : FVec Ideal S4x4096x1024 .f32) (w : FVec Ideal S1024x2628 .f32) (d : Nat) (r : Fin 16384) (q : Nat) : EReal :=
  if d ≤ r.val % 4096 then pair x w ⟨r.val - d, by omega⟩ q else 0

/-! ## The reference's terms -/

/-- The product of the rows with the weights. -/
def prod (x : FVec Ideal S4x4096x1024 .f32) (w : FVec Ideal S1024x2628 .f32) : FVec Ideal S4x4096x2628 .f32 :=
  Host.dotGeneral dot_S4x4096x1024_S1024x2628_S4x4096x2628_2_0_01_1_n_n none x w

theorem prod_apply (x : FVec Ideal S4x4096x1024 .f32) (w : FVec Ideal S1024x2628 .f32) (b : Fin 4) (t : Fin 4096) (k : Fin 2628)
    (r : Fin 16384) (hb : b.val = r.val / 4096) (ht : t.val = r.val % 4096) : prod x w (ix3 b t k) = col x w r k.val := by
  unfold col
  rw [dif_pos k.isLt, show b = ⟨r.val / 4096, by omega⟩ from Fin.ext hb, show t = ⟨r.val % 4096, by omega⟩ from Fin.ext ht]
  pointwise [prod]

/-- A run of the product's columns. -/
theorem part_apply {W : Nat} (x : FVec Ideal S4x4096x1024 .f32) (w : FVec Ideal S1024x2628 .f32) (o : Nat)
    (hs : Shape.Slices S4x4096x2628 ![0, 0, o] ⟨3, ![4, 4096, W]⟩) (ho : o + W ≤ 2628) (b : Fin 4) (t : Fin 4096) (q : Fin W)
    (r : Fin 16384) (hb : b.val = r.val / 4096) (ht : t.val = r.val % 4096) :
    (extractStridedSlice ⟨3, ![4, 4096, W]⟩ ![0, 0, o] (prod x w) hs) (ix3 b t q) = col x w r (o + q.val) := by
  refine Eq.trans ?_ (prod_apply x w b t ⟨o + q.val, by omega⟩ r hb ht)
  refine congrArg (prod x w) (funext fun a => Fin.ext ?_)
  match a with
  | ⟨0, _⟩ => show 0 + b.val = b.val; omega
  | ⟨1, _⟩ => show 0 + t.val = t.val; omega
  | ⟨2, _⟩ => rfl

/-! ### The turned heads, any number of them -/

section Turn

variable {H : Nat} (hb : Shape.BroadcastsInDim S1x4096x1x32 ⟨4, ![4, 4096, H, 32]⟩ ![0, 1, 2, 3])
  (hl : Shape.Slices ⟨4, ![4, 4096, H, 64]⟩ ![0, 0, 0, 0] ⟨4, ![4, 4096, H, 32]⟩)
  (hu : Shape.Slices ⟨4, ![4, 4096, H, 64]⟩ ![0, 0, 0, 32] ⟨4, ![4, 4096, H, 32]⟩)
  (hc : Shape.Concatenates [⟨4, ![4, 4096, H, 32]⟩, ⟨4, ![4, 4096, H, 32]⟩] ⟨4, ![4, 4096, H, 64]⟩ 3)
  (y : FVec Ideal ⟨4, ![4, 4096, H, 64]⟩ .f32)

/-- The angles' table laid over the rows and the heads. -/
def wide (a : FVec Ideal S4096x32 .f32) : FVec Ideal ⟨4, ![4, 4096, H, 32]⟩ .f32 :=
  broadcastInDim ⟨4, ![4, 4096, H, 32]⟩ ![0, 1, 2, 3] hb (broadcastInDim S1x4096x1x32 ![1, 3] bcast_S4096x32_S1x4096x1x32_1_3 a)

/-- Half a head: its lanes from `o` on. -/
def lanes (o : Nat) (hs : Shape.Slices ⟨4, ![4, 4096, H, 64]⟩ ![0, 0, 0, o] ⟨4, ![4, 4096, H, 32]⟩) : FVec Ideal ⟨4, ![4, 4096, H, 32]⟩ .f32 :=
  extractStridedSlice ⟨4, ![4, 4096, H, 32]⟩ ![0, 0, 0, o] y hs

theorem lanes_apply (o : Nat) (hs : Shape.Slices ⟨4, ![4, 4096, H, 64]⟩ ![0, 0, 0, o] ⟨4, ![4, 4096, H, 32]⟩) (ho : o ≤ 32) (b : Fin 4) (t : Fin 4096)
    (h : Fin H) (l : Fin 32) : lanes y o hs (ix4 b t h l) = y (ix4 b t h ⟨o + l.val, by omega⟩) := by
  refine congrArg y (funext fun a => Fin.ext ?_)
  match a with
  | ⟨0, _⟩ => show 0 + b.val = b.val; omega
  | ⟨1, _⟩ => show 0 + t.val = t.val; omega
  | ⟨2, _⟩ => show 0 + h.val = h.val; omega
  | ⟨3, _⟩ => rfl

/-- The first half, turned. -/
def front : FVec Ideal ⟨4, ![4, 4096, H, 32]⟩ .f32 :=
  subf (mulf (lanes y 0 hl) (wide hb (Host.cos (F := Ideal) (φ := .f32) refAngles)))
    (mulf (lanes y 32 hu) (wide hb (Host.sin (F := Ideal) (φ := .f32) refAngles)))
/-- The second half, turned. -/
def back : FVec Ideal ⟨4, ![4, 4096, H, 32]⟩ .f32 :=
  addf (mulf (lanes y 32 hu) (wide hb (Host.cos (F := Ideal) (φ := .f32) refAngles)))
    (mulf (lanes y 0 hl) (wide hb (Host.sin (F := Ideal) (φ := .f32) refAngles)))

/-- The heads, their halves turned by the angles. -/
def turnHeads : FVec Ideal ⟨4, ![4, 4096, H, 64]⟩ .f32 :=
  concatenate ⟨4, ![4, 4096, H, 64]⟩ 3 [⟨_, front hb hl hu y⟩, ⟨_, back hb hl hu y⟩] hc

theorem front_apply (b : Fin 4) (t : Fin 4096) (h : Fin H) (l : Fin 32) :
    front hb hl hu y (ix4 b t h l) = y (ix4 b t h ⟨0 + l.val, by omega⟩) * Ideal.cos (refAngles (ix2 t l))
      - y (ix4 b t h ⟨32 + l.val, by omega⟩) * Ideal.sin (refAngles (ix2 t l)) := by
  rw [← lanes_apply y 0 hl (by decide), ← lanes_apply y 32 hu (by decide)]
  pointwise [front, wide]

theorem back_apply (b : Fin 4) (t : Fin 4096) (h : Fin H) (l : Fin 32) :
    back hb hl hu y (ix4 b t h l) = y (ix4 b t h ⟨32 + l.val, by omega⟩) * Ideal.cos (refAngles (ix2 t l))
      + y (ix4 b t h ⟨0 + l.val, by omega⟩) * Ideal.sin (refAngles (ix2 t l)) := by
  rw [← lanes_apply y 0 hl (by decide), ← lanes_apply y 32 hu (by decide)]
  pointwise [back, wide]

theorem turnHeads_low (b : Fin 4) (t : Fin 4096) (h : Fin H) (l : Fin 64) (hl' : l.val < 32) :
    turnHeads hb hl hu hc y (ix4 b t h l) = front hb hl hu y (ix4 b t h ⟨l.val, hl'⟩) := by
  pointwise [turnHeads]
  refine (dif_pos hl').trans (congrArg (front hb hl hu y) (funext fun a => Fin.ext ?_))
  match a with
  | ⟨0, _⟩ => rfl
  | ⟨1, _⟩ => rfl
  | ⟨2, _⟩ => rfl
  | ⟨3, _⟩ => rfl

theorem turnHeads_high (b : Fin 4) (t : Fin 4096) (h : Fin H) (l : Fin 64) (hl' : ¬l.val < 32) :
    turnHeads hb hl hu hc y (ix4 b t h l) = back hb hl hu y (ix4 b t h ⟨l.val - 32, by omega⟩) := by
  pointwise [turnHeads]
  refine (dif_neg hl').trans (congrArg (back hb hl hu y) (funext fun a => Fin.ext ?_))
  match a with
  | ⟨0, _⟩ => rfl
  | ⟨1, _⟩ => rfl
  | ⟨2, _⟩ => rfl
  | ⟨3, _⟩ => rfl

/-- A head whose columns are `f` at `o` and behind, turned. -/
theorem turnHeads_apply (f : Nat → EReal) (o : Nat) (ho : o % 64 = 0) (b : Fin 4) (t : Fin 4096) (h : Fin H)
    (hy : ∀ l : Fin 64, y (ix4 b t h l) = f (o + l.val)) (r : Fin 16384) (ht : t.val = r.val % 4096) (l : Fin 64) :
    turnHeads hb hl hu hc y (ix4 b t h l) = turn f (rowAngles r) (o + l.val) := by
  have et : ∀ i : Fin 32, refAngles (ix2 t i) = rowAngles r i := fun i => congrArg (fun t => refAngles (ix2 t i)) (Fin.ext ht)
  unfold turn
  by_cases h' : l.val < 32
  · have ea : (⟨(o + l.val) % 32, by omega⟩ : Fin 32) = ⟨l.val, h'⟩ := Fin.ext (by show (o + l.val) % 32 = l.val; omega)
    rw [turnHeads_low hb hl hu hc y b t h l h', front_apply, hy, hy, et, if_pos (by omega), ea,
      show o + l.val + 32 = o + (32 + l.val) by omega, show o + l.val = o + (0 + l.val) by omega]
  · have ea : (⟨(o + l.val) % 32, by omega⟩ : Fin 32) = ⟨l.val - 32, by omega⟩ := Fin.ext (by show (o + l.val) % 32 = l.val - 32; omega)
    rw [turnHeads_high hb hl hu hc y b t h l h', back_apply, hy, hy, et, if_neg (by omega), ea,
      show o + l.val - 32 = o + (0 + (l.val - 32)) by omega, show o + l.val = o + (32 + (l.val - 32)) by omega]

end Turn

/-! ## The reference's results -/

variable (x : FVec Ideal S4x4096x1024 .f32) (w : FVec Ideal S1024x2628 .f32) (v : FVec Ideal S3x512 .f32)

/-- The eight heads of the queries, turned. -/
def heads8 : FVec Ideal S4x4096x8x64 .f32 :=
  turnHeads (H := 8) bcast_S1x4096x1x32_S4x4096x8x32_0_1_2_3 slices_S4x4096x8x64_S4x4096x8x32_0_0_0_0 slices_S4x4096x8x64_S4x4096x8x32_0_0_0_32
    concatenates_S4x4096x8x32_S4x4096x8x32_S4x4096x8x64_d3
    (shapeCast S4x4096x8x64 (extractStridedSlice S4x4096x512 ![0, 0, 0] (prod x w) slices_S4x4096x2628_S4x4096x512_0_0_0) shapeCasts_S4x4096x512_S4x4096x8x64)

/-- The four heads of the index's queries, turned. -/
def heads4 : FVec Ideal S4x4096x4x64 .f32 :=
  turnHeads (H := 4) bcast_S1x4096x1x32_S4x4096x4x32_0_1_2_3 slices_S4x4096x4x64_S4x4096x4x32_0_0_0_0 slices_S4x4096x4x64_S4x4096x4x32_0_0_0_32
    concatenates_S4x4096x4x32_S4x4096x4x32_S4x4096x4x64_d3
    (shapeCast S4x4096x4x64 (extractStridedSlice S4x4096x256 ![0, 0, 768] (prod x w) slices_S4x4096x2628_S4x4096x256_0_0_768) shapeCasts_S4x4096x256_S4x4096x4x64)

/-- The two heads of the keys, turned. -/
def heads2 : FVec Ideal S4x4096x2x64 .f32 :=
  turnHeads (H := 2) bcast_S1x4096x1x32_S4x4096x2x32_0_1_2_3 slices_S4x4096x2x64_S4x4096x2x32_0_0_0_0 slices_S4x4096x2x64_S4x4096x2x32_0_0_0_32
    concatenates_S4x4096x2x32_S4x4096x2x32_S4x4096x2x64_d3
    (shapeCast S4x4096x2x64 (extractStridedSlice S4x4096x128 ![0, 0, 512] (prod x w) slices_S4x4096x2628_S4x4096x128_0_0_512) shapeCasts_S4x4096x128_S4x4096x2x64)

/-- The one head of the index's keys, turned. -/
def heads1 : FVec Ideal S4x4096x1x64 .f32 :=
  turnHeads (H := 1) bcast_S1x4096x1x32_S4x4096x1x32_0_1_2_3 slices_S4x4096x1x64_S4x4096x1x32_0_0_0_0 slices_S4x4096x1x64_S4x4096x1x32_0_0_0_32
    concatenates_S4x4096x1x32_S4x4096x1x32_S4x4096x1x64_d3
    (shapeCast S4x4096x1x64 (extractStridedSlice S4x4096x64 ![0, 0, 1024] (prod x w) slices_S4x4096x2628_S4x4096x64_0_0_1024) shapeCasts_S4x4096x64_S4x4096x1x64)

theorem heads8_apply (r : Fin 16384) (h : Fin 8) (l : Fin 64) :
    heads8 x w (ix4 ⟨r.val / 4096, by omega⟩ ⟨r.val % 4096, by omega⟩ h l) = turn (col x w r) (rowAngles r) (64 * h.val + l.val) := by
  refine turnHeads_apply _ _ _ _ _ (col x w r) (64 * h.val) (by omega) _ _ h (fun l => ?_) r rfl l
  refine Eq.trans ?_ ((part_apply x w 0 slices_S4x4096x2628_S4x4096x512_0_0_0 (by decide) ⟨r.val / 4096, by omega⟩ ⟨r.val % 4096, by omega⟩ ⟨h.val * 64 + l.val, by omega⟩ r rfl rfl).trans
    (congrArg (col x w r) (by show 0 + (h.val * 64 + l.val) = 64 * h.val + l.val; omega)))
  pointwise

theorem heads4_apply (r : Fin 16384) (h : Fin 4) (l : Fin 64) :
    heads4 x w (ix4 ⟨r.val / 4096, by omega⟩ ⟨r.val % 4096, by omega⟩ h l) = turn (col x w r) (rowAngles r) (768 + 64 * h.val + l.val) := by
  refine turnHeads_apply _ _ _ _ _ (col x w r) (768 + 64 * h.val) (by omega) _ _ h (fun l => ?_) r rfl l
  refine Eq.trans ?_ ((part_apply x w 768 slices_S4x4096x2628_S4x4096x256_0_0_768 (by decide) ⟨r.val / 4096, by omega⟩ ⟨r.val % 4096, by omega⟩ ⟨h.val * 64 + l.val, by omega⟩ r rfl rfl).trans
    (congrArg (col x w r) (by show 768 + (h.val * 64 + l.val) = 768 + 64 * h.val + l.val; omega)))
  pointwise

theorem heads2_apply (r : Fin 16384) (h : Fin 2) (l : Fin 64) :
    heads2 x w (ix4 ⟨r.val / 4096, by omega⟩ ⟨r.val % 4096, by omega⟩ h l) = turn (col x w r) (rowAngles r) (512 + 64 * h.val + l.val) := by
  refine turnHeads_apply _ _ _ _ _ (col x w r) (512 + 64 * h.val) (by omega) _ _ h (fun l => ?_) r rfl l
  refine Eq.trans ?_ ((part_apply x w 512 slices_S4x4096x2628_S4x4096x128_0_0_512 (by decide) ⟨r.val / 4096, by omega⟩ ⟨r.val % 4096, by omega⟩ ⟨h.val * 64 + l.val, by omega⟩ r rfl rfl).trans
    (congrArg (col x w r) (by show 512 + (h.val * 64 + l.val) = 512 + 64 * h.val + l.val; omega)))
  pointwise

theorem heads1_apply (r : Fin 16384) (h : Fin 1) (l : Fin 64) :
    heads1 x w (ix4 ⟨r.val / 4096, by omega⟩ ⟨r.val % 4096, by omega⟩ h l) = turn (col x w r) (rowAngles r) (1024 + l.val) := by
  refine turnHeads_apply _ _ _ _ _ (col x w r) 1024 (by omega) _ _ h (fun l => ?_) r rfl l
  refine Eq.trans ?_ (part_apply x w 1024 slices_S4x4096x2628_S4x4096x64_0_0_1024 (by decide) ⟨r.val / 4096, by omega⟩ ⟨r.val % 4096, by omega⟩ l r rfl rfl)
  pointwise

/-- The queries: scaled, and their eight heads in pairs, four apart. -/
def queries : FVec Ideal S16384x512 .bf16 :=
  truncf .bf16 (shapeCast S16384x512 (transpose S4x4096x4x2x64 [0, 1, 3, 2, 4]
    (shapeCast S4x4096x2x4x64 (mulf (heads8 x w) (broadcastInDim S4x4096x8x64 ![] bcast_S_S4x4096x8x64 (constant S_ .f32 0x3E38AA3B#32)))
      shapeCasts_S4x4096x8x64_S4x4096x2x4x64) transposes_S4x4096x2x4x64_S4x4096x4x2x64_0_1_3_2_4) shapeCasts_S4x4096x4x2x64_S16384x512) bitsLt_bf16_f32

theorem queries_apply (r : Fin 16384) (n : Fin 512) :
    queries x w (ix2 r n) = turn (col x w r) (rowAngles r) (64 * (4 * (n.val / 64 % 2) + n.val / 64 / 2) + n.val % 64) * Ideal.ofBits .f32 0x3E38AA3B#32 := by
  refine Eq.trans ?_ (congrArg (· * Ideal.ofBits .f32 0x3E38AA3B#32)
    (heads8_apply x w r ⟨4 * (n.val / 64 % 2) + n.val / 64 / 2, by omega⟩ ⟨n.val % 64, by omega⟩))
  pointwise [queries]
  refine congrArg (fun h => heads8 x w (ix4 ⟨r.val / 4096, by omega⟩ ⟨r.val % 4096, by omega⟩ h ⟨n.val % 64, by omega⟩) * Ideal.ofBits .f32 0x3E38AA3B#32) (Fin.ext ?_)
  have e1 : n.val / 128 = n.val / 64 / 2 := (Nat.div_div_eq_div_mul n.val 64 2).symm
  show n.val / 64 % 2 * 4 + n.val / 128 = 4 * (n.val / 64 % 2) + n.val / 64 / 2
  omega

/-- The index's queries, scaled. -/
def indexQueries : FVec Ideal S16384x256 .bf16 :=
  truncf .bf16 (shapeCast S16384x256 (mulf (heads4 x w) (broadcastInDim S4x4096x4x64 ![] bcast_S_S4x4096x4x64 (constant S_ .f32 0x3E000000#32)))
    shapeCasts_S4x4096x4x64_S16384x256) bitsLt_bf16_f32

theorem indexQueries_apply (r : Fin 16384) (n : Fin 256) :
    indexQueries x w (ix2 r n) = turn (col x w r) (rowAngles r) (768 + n.val) * Ideal.ofBits .f32 0x3E000000#32 := by
  refine Eq.trans ?_ (congrArg (· * Ideal.ofBits .f32 0x3E000000#32)
    ((heads4_apply x w r ⟨n.val / 64, by omega⟩ ⟨n.val % 64, by omega⟩).trans
      (congrArg (turn _ _) (by show 768 + 64 * (n.val / 64) + n.val % 64 = 768 + n.val; omega))))
  pointwise [indexQueries]

/-- The keys. -/
def keys : FVec Ideal S16384x128 .f32 := shapeCast S16384x128 (heads2 x w) shapeCasts_S4x4096x2x64_S16384x128

theorem keys_apply (r : Fin 16384) (n : Fin 128) : keys x w (ix2 r n) = turn (col x w r) (rowAngles r) (512 + n.val) := by
  refine Eq.trans ?_ ((heads2_apply x w r ⟨n.val / 64, by omega⟩ ⟨n.val % 64, by omega⟩).trans
      (congrArg (turn _ _) (by show 512 + 64 * (n.val / 64) + n.val % 64 = 512 + n.val; omega)))
  pointwise [keys]

/-- The values. -/
def values : FVec Ideal S16384x128 .f32 :=
  shapeCast S16384x128 (extractStridedSlice S4x4096x128 ![0, 0, 640] (prod x w) slices_S4x4096x2628_S4x4096x128_0_0_640) shapeCasts_S4x4096x128_S16384x128

theorem values_apply (r : Fin 16384) (n : Fin 128) : values x w (ix2 r n) = col x w r (640 + n.val) := by
  refine Eq.trans ?_ (part_apply x w 640 slices_S4x4096x2628_S4x4096x128_0_0_640 (by decide) ⟨r.val / 4096, by omega⟩ ⟨r.val % 4096, by omega⟩ n r rfl rfl)
  pointwise [values]

/-- The index's keys. -/
def indexKeys : FVec Ideal S16384x64 .f32 := shapeCast S16384x64 (heads1 x w) shapeCasts_S4x4096x1x64_S16384x64

theorem indexKeys_apply (r : Fin 16384) (n : Fin 64) : indexKeys x w (ix2 r n) = turn (col x w r) (rowAngles r) (1024 + n.val) := by
  refine Eq.trans ?_ (heads1_apply x w r 0 n)
  pointwise [indexKeys]

/-- The index's weights, halved. -/
def indexWeights : FVec Ideal S16384x4 .f32 :=
  mulf (shapeCast S16384x4 (extractStridedSlice S4x4096x4 ![0, 0, 1088] (prod x w) slices_S4x4096x2628_S4x4096x4_0_0_1088) shapeCasts_S4x4096x4_S16384x4)
    (broadcastInDim S16384x4 ![] bcast_S_S16384x4 (constant S_ .f32 0x3F000000#32))

theorem indexWeights_apply (r : Fin 16384) (n : Fin 4) :
    indexWeights x w (ix2 r n) = col x w r (1088 + n.val) * Ideal.ofBits .f32 0x3F000000#32 := by
  refine Eq.trans ?_ (congrArg (· * Ideal.ofBits .f32 0x3F000000#32)
    (part_apply x w 1088 slices_S4x4096x2628_S4x4096x4_0_0_1088 (by decide) ⟨r.val / 4096, by omega⟩ ⟨r.val % 4096, by omega⟩ n r rfl rfl))
  pointwise [indexWeights]

/-- The index's keys and weights, and zeros in the lanes behind. -/
def index : FVec Ideal S16384x128 .f32 :=
  pad S16384x128 ![0, 0] ![0, 60] ![0, 0] (concatenate S16384x68 1 [⟨S16384x64, indexKeys x w⟩, ⟨S16384x4, indexWeights x w⟩]
    concatenates_S16384x64_S16384x4_S16384x68_d1) (sitofp .f32 (constantI S_ 32 0#32)) pads_S16384x68_S16384x128_000_0600 h_S_

theorem index_keys (r : Fin 16384) (n : Fin 128) (h : n.val < 64) : index x w (ix2 r n) = turn (col x w r) (rowAngles r) (1024 + n.val) := by
  refine Eq.trans ?_ (indexKeys_apply x w r ⟨n.val, h⟩)
  pointwise [index]
  exact (dif_pos (show n.val < 68 by omega)).trans (dif_pos h)

theorem index_weights (r : Fin 16384) (n : Fin 128) (h : ¬n.val < 64) (h' : n.val < 68) :
    index x w (ix2 r n) = col x w r (1024 + n.val) * Ideal.ofBits .f32 0x3F000000#32 := by
  rw [show 1024 + n.val = 1088 + (n.val - 64) by omega]
  refine Eq.trans ?_ (indexWeights_apply x w r ⟨n.val - 64, by omega⟩)
  pointwise [index]
  exact (dif_pos h').trans (dif_neg h)

theorem index_zero (r : Fin 16384) (n : Fin 128) (h : ¬n.val < 68) : index x w (ix2 r n) = (0 : EReal) := by
  pointwise [index]
  refine (dif_neg h).trans ?_
  show (((0#32 : BitVec 32).toInt : ℝ) : EReal) = 0
  simp

/-- The keys beside the values. -/
def both : FVec Ideal S16384x256 .bf16 :=
  truncf .bf16 (concatenate S16384x256 1 [⟨S16384x128, keys x w⟩, ⟨S16384x128, values x w⟩] concatenates_S16384x128_S16384x128_S16384x256_d1) bitsLt_bf16_f32

theorem both_keys (r : Fin 16384) (n : Fin 256) (h : n.val < 128) : both x w (ix2 r n) = turn (col x w r) (rowAngles r) (512 + n.val) := by
  refine Eq.trans ?_ (keys_apply x w r ⟨n.val, h⟩)
  pointwise [both]
  exact dif_pos h

theorem both_values (r : Fin 16384) (n : Fin 256) (h : ¬n.val < 128) : both x w (ix2 r n) = col x w r (512 + n.val) := by
  rw [show 512 + n.val = 640 + (n.val - 128) by omega]
  refine Eq.trans ?_ (values_apply x w r ⟨n.val - 128, by omega⟩)
  pointwise [both]
  exact dif_neg h

/-- The index's keys, twice. -/
def twice : FVec Ideal S16384x128 .bf16 :=
  truncf .bf16 (concatenate S16384x128 1 [⟨S16384x64, indexKeys x w⟩, ⟨S16384x64, indexKeys x w⟩] concatenates_S16384x64_S16384x64_S16384x128_d1) bitsLt_bf16_f32

theorem twice_apply (r : Fin 16384) (n : Fin 128) : twice x w (ix2 r n) = turn (col x w r) (rowAngles r) (1024 + n.val % 64) := by
  refine Eq.trans ?_ (indexKeys_apply x w r ⟨n.val % 64, by omega⟩)
  pointwise [twice]
  by_cases h : n.val < 64
  · exact (dif_pos h).trans (congrArg (fun l => indexKeys x w (ix2 r l)) (Fin.ext (by show n.val = n.val % 64; omega)))
  · exact (dif_neg h).trans (congrArg (fun l => indexKeys x w (ix2 r l)) (Fin.ext (by show n.val - 64 = n.val % 64; omega)))

/-- The convolved columns. -/
def pairs : FVec Ideal S4x4096x512 .f32 :=
  mulf (extractStridedSlice S4x4096x512 ![0, 0, 1604] (prod x w) slices_S4x4096x2628_S4x4096x512_0_0_1604)
    (extractStridedSlice S4x4096x512 ![0, 0, 2116] (prod x w) slices_S4x4096x2628_S4x4096x512_0_0_2116)

theorem pairs_apply (b : Fin 4) (t : Fin 4096) (q : Fin 512) (r : Fin 16384) (hb : b.val = r.val / 4096) (ht : t.val = r.val % 4096) :
    pairs x w (ix3 b t q) = pair x w r q.val := by
  unfold pair
  refine Eq.trans ?_ (congrArg₂ (fun a b : EReal => a * b) (part_apply x w 1604 slices_S4x4096x2628_S4x4096x512_0_0_1604 (by decide) b t q r hb ht)
    (part_apply x w 2116 slices_S4x4096x2628_S4x4096x512_0_0_2116 (by decide) b t q r hb ht))
  rfl

/-- Two rows of zeros in front of every sequence. -/
def padded : FVec Ideal S4x4098x512 .f32 :=
  concatenate S4x4098x512 1 [⟨S4x2x512, broadcastInDim S4x2x512 ![] bcast_S_S4x2x512 (constant S_ .f32 0x00000000#32)⟩, ⟨S4x4096x512, pairs x w⟩]
    concatenates_S4x2x512_S4x4096x512_S4x4098x512_d1

theorem padded_apply (r : Fin 16384) (e : Nat) (he : e ≤ 2) (s : Fin 4098) (hs : s.val = e + r.val % 4096) (q : Fin 512) :
    padded x w (ix3 ⟨r.val / 4096, by omega⟩ s q) = before x w (2 - e) r q.val := by
  unfold before
  by_cases h : 2 - e ≤ r.val % 4096
  · rw [if_pos h]
    refine Eq.trans ?_ (pairs_apply x w ⟨r.val / 4096, by omega⟩ ⟨s.val - 2, by omega⟩ q ⟨r.val - (2 - e), by omega⟩
      (by show r.val / 4096 = (r.val - (2 - e)) / 4096; omega) (by show s.val - 2 = (r.val - (2 - e)) % 4096; omega))
    pointwise [padded]
    exact dif_neg (by omega)
  · rw [if_neg h]
    pointwise [padded]
    exact dif_pos (by omega)

/-- The convolution: a row, the row before it and the row before that, each against its taps. -/
def conv0 : FVec Ideal S4x4096x512 .f32 :=
  addf (addf (mulf (extractStridedSlice S4x4096x512 ![0, 0, 0] (padded x w) slices_S4x4098x512_S4x4096x512_0_0_0) (broadcastInDim S4x4096x512 ![0, 1, 2] bcast_S1x1x512_S4x4096x512_0_1_2 (broadcastInDim S1x1x512 ![2] bcast_S512_S1x1x512_2 (shapeCast S512 (extractStridedSlice S1x512 ![0, 0] v slices_S3x512_S1x512_0_0) shapeCasts_S1x512_S512))))
    (mulf (extractStridedSlice S4x4096x512 ![0, 1, 0] (padded x w) slices_S4x4098x512_S4x4096x512_0_1_0) (broadcastInDim S4x4096x512 ![0, 1, 2] bcast_S1x1x512_S4x4096x512_0_1_2 (broadcastInDim S1x1x512 ![2] bcast_S512_S1x1x512_2 (shapeCast S512 (extractStridedSlice S1x512 ![1, 0] v slices_S3x512_S1x512_1_0) shapeCasts_S1x512_S512)))))
    (mulf (extractStridedSlice S4x4096x512 ![0, 2, 0] (padded x w) slices_S4x4098x512_S4x4096x512_0_2_0) (broadcastInDim S4x4096x512 ![0, 1, 2] bcast_S1x1x512_S4x4096x512_0_1_2 (broadcastInDim S1x1x512 ![2] bcast_S512_S1x1x512_2 (shapeCast S512 (extractStridedSlice S1x512 ![2, 0] v slices_S3x512_S1x512_2_0) shapeCasts_S1x512_S512))))

theorem conv0_apply (b : Fin 4) (t : Fin 4096) (q : Fin 512) :
    conv0 x w v (ix3 b t q) = padded x w (ix3 b ⟨t.val, by omega⟩ q) * v (ix2 (0 : Fin 3) q) + padded x w (ix3 b ⟨1 + t.val, by omega⟩ q) * v (ix2 (1 : Fin 3) q)
      + padded x w (ix3 b ⟨2 + t.val, by omega⟩ q) * v (ix2 (2 : Fin 3) q) := by
  pointwise [conv0]

/-- The convolution, gated. -/
def gated : FVec Ideal S16384x512 .bf16 :=
  truncf .bf16 (shapeCast S16384x512 (mulf (extractStridedSlice S4x4096x512 ![0, 0, 1092] (prod x w) slices_S4x4096x2628_S4x4096x512_0_0_1092)
    (conv0 x w v)) shapeCasts_S4x4096x512_S16384x512) bitsLt_bf16_f32

theorem gated_apply (r : Fin 16384) (q : Fin 512) :
    gated x w v (ix2 r q) = col x w r (1092 + q.val) * (pair x w r q.val * v (ix2 (2 : Fin 3) q) + before x w 1 r q.val * v (ix2 (1 : Fin 3) q)
      + before x w 2 r q.val * v (ix2 (0 : Fin 3) q)) := by
  have h2 := padded_apply x w r 0 (by decide) ⟨r.val % 4096, by omega⟩ (by simp only; omega) q
  have h1 := padded_apply x w r 1 (by decide) ⟨1 + r.val % 4096, by omega⟩ rfl q
  have h0 := padded_apply x w r 2 (by decide) ⟨2 + r.val % 4096, by omega⟩ rfl q
  have hz : before x w 0 r q.val = pair x w r q.val := if_pos (Nat.zero_le _)
  have e : gated x w v (ix2 r q) = col x w r (1092 + q.val) * conv0 x w v (ix3 ⟨r.val / 4096, by omega⟩ ⟨r.val % 4096, by omega⟩ q) := by
    refine Eq.trans ?_ (congrArg (· * conv0 x w v (ix3 ⟨r.val / 4096, by omega⟩ ⟨r.val % 4096, by omega⟩ q))
      (part_apply x w 1092 slices_S4x4096x2628_S4x4096x512_0_0_1092 (by decide) ⟨r.val / 4096, by omega⟩ ⟨r.val % 4096, by omega⟩ q r rfl rfl))
    pointwise [gated]
  have hs : ∀ a b c : EReal, a + b + c = c + b + a := fun a b c => by rw [add_comm (a + b) c, add_comm a b, add_assoc]
  rw [e, conv0_apply, h0, h1, h2, hz, hs]

/-- The convolved columns of the last eight rows of every block of 512 rows. -/
def last : FVec Ideal S256x512 .f32 :=
  shapeCast S256x512 (extractStridedSlice S32x8x512 ![0, 504, 0] (shapeCast S32x512x512 (pairs x w) shapeCasts_S4x4096x512_S32x512x512)
    slices_S32x512x512_S32x8x512_0_504_0) shapeCasts_S32x8x512_S256x512

theorem last_apply (s : Fin 256) (q : Fin 512) (r : Fin 16384) (hr : r.val = s.val / 8 * 512 + 504 + s.val % 8) :
    last x w (ix2 s q) = pair x w r q.val := by
  refine Eq.trans ?_ (pairs_apply x w ⟨r.val / 4096, by omega⟩ ⟨r.val % 4096, by omega⟩ q r rfl rfl)
  pointwise [last]
  refine congrArg₂ (fun b t => pairs x w (ix3 b t q)) (Fin.ext ?_) (Fin.ext ?_)
  · simp only; omega
  · simp only; omega

end Cert.Mix
-- ==== Proof.MixValue.lean ====
/- The mixing layer's input call: what its windows read of the arguments, what a grid point writes, and where it stands in the
   arrays after the run. -/
module

public import proofs.«01_k».proof.Proof.MixBlock
public import proofs.«01_k».proof.Proof.MixEntry
public import proofs.«01_k».proof.Proof.MixMath
public import proofs.«01_k».proof.Proof.ProjValue

@[expose] public section

noncomputable section

namespace Cert.Mix

open Cert.Kernel4Ideal Cert.Kernel4Ideal.Gen Idealize.ShloMosaic Idealize.ShloMosaic.TcCoe Idealize.SL.Sem
open Cert.Proj (rowAngles)

variable (m : (ℓ : Loc nD τ sig) → Buf (Elt Ideal) ℓ) (c : Dev nD)

/-- The rows. -/
abbrev argX : FVec Ideal S4x4096x1024 .f32 := m ((c : Thread nD τ).loc main_arg0)
/-- The weights. -/
abbrev argW : FVec Ideal S1024x2628 .f32 := m ((c : Thread nD τ).loc main_arg1)
/-- The taps. -/
abbrev argV : FVec Ideal S3x512 .f32 := m ((c : Thread nD τ).loc main_arg2)

/-! ## The windows' blocks -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val % 8 ∧ win0_2.index t (1 : Fin 2) = 0 :=
  (by decide +kernel : ∀ t : Fin grid0.N, _)

theorem idx3 : ∀ t : Fin cfg0.N, win0_3.index t (0 : Fin 2) = t.val % 8 ∧ win0_3.index t (1 : Fin 2) = 0 :=
  (by decide +kernel : ∀ t : Fin grid0.N, _)

theorem idx4 : ∀ t : Fin cfg0.N, win0_4.index t (0 : Fin 2) = t.val % 8 ∧ win0_4.index t (1 : Fin 2) = 0 :=
  (by decide +kernel : ∀ t : Fin grid0.N, _)

theorem idx5 : ∀ t : Fin cfg0.N, win0_5.index t (0 : Fin 2) = t.val % 8 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

/-- Row `p` of a point's row block. -/
theorem blk0 (t : Fin cfg0.N) (p : Fin 512) (n : Fin 1024) (r : Fin 16384) (hr : r.val = t.val * 512 + p.val) :
    iblk m c 0 t (ix2 p n) = rows (argX m c) (ix2 r n) := by
  obtain ⟨e0, e1⟩ := idx0 t
  show V m c main_v1 (((cfg0.win 0).blk t).view.emb (ix2 p n)) = _
  rw [entry_rows]
  refine congrArg (rows (argX m c)) (funext fun a => Fin.ext ?_)
  match a with
  | ⟨0, _⟩ => show win0_0.index t (0 : Fin 2) * 512 + 1 * p.val = r.val; omega
  | ⟨1, _⟩ => show win0_0.index t (1 : Fin 2) * 1024 + 1 * n.val = n.val; omega

/-- The weights, whole at every point. -/
theorem blk1 (t : Fin cfg0.N) (d : Fin 1024) (n : Fin 2688) : iblk m c 1 t (ix2 d n) = weights (argW m c) (ix2 d n) := by
  obtain ⟨e0, e1⟩ := idx1 t
  show V m c main_v20 (((cfg0.win 1).blk t).view.emb (ix2 d n)) = _
  rw [entry_weights]
  refine congrArg (weights (argW m c)) (funext fun a => Fin.ext ?_)
  match a with
  | ⟨0, _⟩ => show win0_1.index t (0 : Fin 2) * 1024 + 1 * d.val = d.val; omega
  | ⟨1, _⟩ => show win0_1.index t (1 : Fin 2) * 2688 + 1 * n.val = n.val; omega

/-- The cosines of row `p` of a point's row block. -/
theorem blk2 (t : Fin cfg0.N) (p : Fin 512) (n : Fin 128) (r : Fin 16384) (hr : r.val = t.val * 512 + p.val) :
    iblk m c 2 t (ix2 p n) = Proj.cosTable (ix2 ⟨r.val % 4096, by omega⟩ n) := by
  obtain ⟨e0, e1⟩ := idx2 t
  show V m c main_v39 (((cfg0.win 2).blk t).view.emb (ix2 p n)) = _
  rw [entry_cos]
  refine congrArg Proj.cosTable (funext fun a => Fin.ext ?_)
  match a with
  | ⟨0, _⟩ => show win0_2.index t (0 : Fin 2) * 512 + 1 * p.val = r.val % 4096; omega
  | ⟨1, _⟩ => show win0_2.index t (1 : Fin 2) * 128 + 1 * n.val = n.val; omega

/-- The sines of row `p` of a point's row block. -/
theorem blk3 (t : Fin cfg0.N) (p : Fin 512) (n : Fin 128) (r : Fin 16384) (hr : r.val = t.val * 512 + p.val) :
    iblk m c 3 t (ix2 p n) = Proj.sinTable (ix2 ⟨r.val % 4096, by omega⟩ n) := by
  obtain ⟨e0, e1⟩ := idx3 t
  show V m c main_v40 (((cfg0.win 3).blk t).view.emb (ix2 p n)) = _
  rw [entry_sin]
  refine congrArg Proj.sinTable (funext fun a => Fin.ext ?_)
  match a with
  | ⟨0, _⟩ => show win0_3.index t (0 : Fin 2) * 512 + 1 * p.val = r.val % 4096; omega
  | ⟨1, _⟩ => show win0_3.index t (1 : Fin 2) * 128 + 1 * n.val = n.val; omega

/-- The cosines beside the index's weights' half, at row `p` of a point's row block. -/
theorem blk4 (t : Fin cfg0.N) (p : Fin 512) (n : Fin 128) (r : Fin 16384) (hr : r.val = t.val * 512 + p.val) :
    iblk m c 4 t (ix2 p n) = halfCos (ix2 ⟨r.val % 4096, by omega⟩ n) := by
  obtain ⟨e0, e1⟩ := idx4 t
  show V m c main_v42 (((cfg0.win 4).blk t).view.emb (ix2 p n)) = _
  rw [entry_halfCos]
  refine congrArg halfCos (funext fun a => Fin.ext ?_)
  match a with
  | ⟨0, _⟩ => show win0_4.index t (0 : Fin 2) * 512 + 1 * p.val = r.val % 4096; omega
  | ⟨1, _⟩ => show win0_4.index t (1 : Fin 2) * 128 + 1 * n.val = n.val; omega

/-- The sines beside zeros, at row `p` of a point's row block. -/
theorem blk5 (t : Fin cfg0.N) (p : Fin 512) (n : Fin 128) (r : Fin 16384) (hr : r.val = t.val * 512 + p.val) :
    iblk m c 5 t (ix2 p n) = halfSin (ix2 ⟨r.val % 4096, by omega⟩ n) := by
  obtain ⟨e0, e1⟩ := idx5 t
  show V m c main_v44 (((cfg0.win 5).blk t).view.emb (ix2 p n)) = _
  rw [entry_halfSin]
  refine congrArg halfSin (funext fun a => Fin.ext ?_)
  match a with
  | ⟨0, _⟩ => show win0_5.index t (0 : Fin 2) * 512 + 1 * p.val = r.val % 4096; omega
  | ⟨1, _⟩ => show win0_5.index t (1 : Fin 2) * 128 + 1 * n.val = n.val; omega

/-- The taps, whole at every point. -/
theorem blk6 (t : Fin cfg0.N) (d : Fin 8) (n : Fin 512) : iblk m c 6 t (ix2 d n) = taps (argV m c) (ix2 d n) := by
  obtain ⟨e0, e1⟩ := idx6 t
  show V m c main_v0 (((cfg0.win 6).blk t).view.emb (ix2 d n)) = _
  rw [entry_taps]
  refine congrArg (taps (argV m c)) (funext fun a => Fin.ext ?_)
  match a with
  | ⟨0, _⟩ => show win0_6.index t (0 : Fin 2) * 8 + 1 * d.val = d.val; omega
  | ⟨1, _⟩ => show win0_6.index t (1 : Fin 2) * 512 + 1 * n.val = n.val; omega

/-! ## What a point computes -/

/-- The product of a point's rows with the weights. -/
abbrev prodAt (t : Fin cfg0.N) : FVec Ideal S512x2688 .f32 := k0_pay4 (F := Ideal) (iblk m c 0 t) (iblk m c 1 t)
abbrev cosAt (t : Fin cfg0.N) : FVec Ideal S512x128 .f32 := k0_pay6 (F := Ideal) (iblk m c 2 t)
abbrev sinAt (t : Fin cfg0.N) : FVec Ideal S512x128 .f32 := k0_pay7 (F := Ideal) (iblk m c 3 t)
abbrev halfCosAt (t : Fin cfg0.N) : FVec Ideal S512x128 .f32 := k0_pay6 (F := Ideal) (iblk m c 4 t)
abbrev halfSinAt (t : Fin cfg0.N) : FVec Ideal S512x128 .f32 := k0_pay7 (F := Ideal) (iblk m c 5 t)

/-- The columns' order keeps a lane's place in its head and the two halves of a head 32 apart. -/
theorem source_lane (n : Nat) (hn : n < 960) : source n < 1088 ∧ source n % 64 = n % 64
    ∧ (n % 64 < 32 → source (n + 32) = source n + 32) ∧ (¬n % 64 < 32 → source (n - 32) = source n - 32) := by
  have h : ∀ n : Fin 960, source n.val < 1088 ∧ source n.val % 64 = n.val % 64
      ∧ (n.val % 64 < 32 → source (n.val + 32) = source n.val + 32) ∧ (¬n.val % 64 < 32 → source (n.val - 32) = source n.val - 32) := by
    decide +kernel
  exact h ⟨n, hn⟩

/-- The columns behind the queries. -/
theorem source_block (n k : Nat) (h : (512 ≤ n ∧ n < 640 ∧ k = n) ∨ (640 ≤ n ∧ n < 964 ∧ k = n + 128) ∨ (1024 ≤ n ∧ n < 1152 ∧ k = n - 384)
    ∨ (1152 ≤ n ∧ k = n - 60)) : source n = k := by
  unfold source
  split_ifs <;> omega

/-- A column of the product at row `p` of the block. -/
theorem product (t : Fin cfg0.N) (p : Fin 512) (r : Fin 16384) (hr : r.val = t.val * 512 + p.val) (n : Fin 2688) (k : Nat)
    (hn : n.val < 964 ∨ 1024 ≤ n.val) (hk : k = source n.val) (hlt : k < 2628) :
    prodAt m c t (ix2 p n) = col (argX m c) (argW m c) r k := by
  unfold prodAt
  rw [pay4_apply]
  unfold col
  rw [dif_pos hlt]
  refine Finset.sum_congr rfl fun d _ => ?_
  rw [blk0 m c t p d r hr, blk1, weights_apply _ d n ⟨k, hlt⟩ hn hk]
  exact congrArg (· * _) (Proj.joined _ r d)

/-- The columns between are zero. -/
theorem product_zero (t : Fin cfg0.N) (p : Fin 512) (n : Fin 2688) (hn : 964 ≤ n.val) (hn' : n.val < 1024) :
    prodAt m c t (ix2 p n) = (0 : EReal) := by
  unfold prodAt
  rw [pay4_apply]
  refine Finset.sum_eq_zero fun d _ => ?_
  rw [blk1, weights_zero _ d n hn hn']
  exact mul_zero (M₀ := EReal) _

/-- A column turned by tables that hold at its lane the angle's cosine and its signed sine. -/
theorem turned_of (C S : FVec Ideal S512x128 .f32) (t : Fin cfg0.N) (p : Fin 512) (r : Fin 16384) (hr : r.val = t.val * 512 + p.val) (n : Fin 1792)
    (k : Nat) (hn : n.val < 960) (hk : k = source n.val)
    (hC : C (ix2 p ⟨n.val % 128, by omega⟩) = Ideal.cos (rowAngles r ⟨n.val % 32, by omega⟩))
    (hS : S (ix2 p ⟨n.val % 128, by omega⟩) = if n.val % 64 < 32 then -Ideal.sin (rowAngles r ⟨n.val % 32, by omega⟩) else Ideal.sin (rowAngles r ⟨n.val % 32, by omega⟩)) :
    Proj.turned (prodAt m c t) C S p n = turn (col (argX m c) (argW m c) r) (rowAngles r) k := by
  obtain ⟨hlt, hlane, hup, hdown⟩ := source_lane n.val hn
  have hl : (⟨n.val % 32, by omega⟩ : Fin 32) = ⟨k % 32, by omega⟩ := Fin.ext (by show n.val % 32 = k % 32; omega)
  unfold Proj.turned
  rw [hC, hS, product m c t p r hr ⟨n.val, by omega⟩ k (by simp only; omega) hk (by omega)]
  unfold turn
  by_cases h : n.val % 64 < 32
  · rw [if_pos h, if_pos h, product m c t p r hr ⟨n.val + 32, by omega⟩ (k + 32) (by simp only; omega) (by simp only; omega) (by omega),
      if_pos (show k % 64 < 32 by omega), hl, mul_neg, ← sub_eq_add_neg]
  · rw [if_neg h, if_neg h, product m c t p r hr ⟨n.val - 32, by omega⟩ (k - 32) (by simp only; omega) (by simp only; omega) (by omega),
      if_neg (show ¬k % 64 < 32 by omega), hl]

/-- The angle of a lane of a row. -/
theorem angle_lane (r : Fin 16384) (n a : Nat) (ha : a < 32) (h : a = n % 32) :
    Proj.angles (ix2 ⟨r.val % 4096, by omega⟩ ⟨a, ha⟩) = rowAngles r ⟨n % 32, by omega⟩ := by
  subst h
  exact Proj.angles_row r _

/-- A turned column at row `p` of the block. -/
theorem turned_eq (t : Fin cfg0.N) (p : Fin 512) (r : Fin 16384) (hr : r.val = t.val * 512 + p.val) (n : Fin 1792) (k : Nat) (hn : n.val < 960)
    (hk : k = source n.val) :
    Proj.turned (prodAt m c t) (cosAt m c t) (sinAt m c t) p n = turn (col (argX m c) (argW m c) r) (rowAngles r) k := by
  refine turned_of m c _ _ t p r hr n k hn hk ?_ ?_
  · unfold cosAt
    rw [pay6_apply, blk2 m c t p _ r hr, Proj.cos_apply, angle_lane r n.val _ _ (by simp only; omega)]
  · unfold sinAt
    rw [pay7_apply, blk3 m c t p _ r hr, Proj.sin_apply, angle_lane r n.val _ _ (by simp only; omega)]
    simp only [show n.val % 128 % 64 = n.val % 64 by omega]

/-- The index's keys at row `p` of the block. -/
theorem half_keys (t : Fin cfg0.N) (p : Fin 512) (r : Fin 16384) (hr : r.val = t.val * 512 + p.val) (n : Fin 1792) (k : Nat) (hn : 896 ≤ n.val) (hn' : n.val < 960)
    (hk : k = n.val + 128) :
    Proj.turned (prodAt m c t) (halfCosAt m c t) (halfSinAt m c t) p n = turn (col (argX m c) (argW m c) r) (rowAngles r) k := by
  refine turned_of m c _ _ t p r hr n k hn' (hk.trans (source_block _ _ (by omega)).symm) ?_ ?_
  · unfold halfCosAt
    rw [pay6_apply, blk4 m c t p _ r hr, halfCos_low _ _ (by simp only; omega), angle_lane r n.val _ _ (by simp only; omega)]
  · unfold halfSinAt
    rw [pay7_apply, blk5 m c t p _ r hr, halfSin_low _ _ (by simp only; omega), angle_lane r n.val _ _ (by simp only; omega)]
    simp only [show n.val % 128 = n.val % 64 by omega]

/-- The lanes behind the index's keys are their columns times one half. -/
theorem half_rest (t : Fin cfg0.N) (p : Fin 512) (r : Fin 16384) (hr : r.val = t.val * 512 + p.val) (n : Fin 1792) (hn : 960 ≤ n.val) (hn' : n.val < 1024) :
    Proj.turned (prodAt m c t) (halfCosAt m c t) (halfSinAt m c t) p n = prodAt m c t (ix2 p ⟨n.val, by omega⟩) * half := by
  unfold Proj.turned halfCosAt halfSinAt
  rw [pay6_apply, blk4 m c t p _ r hr, halfCos_high _ _ (by simp only; omega), pay7_apply, blk5 m c t p _ r hr, halfSin_high _ _ (by simp only; omega)]
  rw [mul_zero (M₀ := EReal), add_zero]

/-- The convolved columns at row `p` of the block. -/
theorem pair_at (t : Fin cfg0.N) (p q : Fin 512) (r : Fin 16384) (hr : r.val = t.val * 512 + p.val) :
    k0_pay30 (F := Ideal) (prodAt m c t) (ix2 p q) = pair (argX m c) (argW m c) r q.val := by
  unfold pair
  rw [pay30_apply, product m c t p r hr ⟨1664 + q.val, by omega⟩ (1604 + q.val) (by simp only; omega) (source_block _ _ (by simp only; omega)).symm (by omega),
    product m c t p r hr ⟨2176 + q.val, by omega⟩ (2116 + q.val) (by simp only; omega) (source_block _ _ (by simp only; omega)).symm (by omega)]

/-! ## The rows carried from point to point -/

theorem buffer_high (u : FVec Ideal S512x512 .f32) (top : FVec Ideal S8x512 .f32) (s : Fin 520) (q : Fin 512) (h : 8 ≤ s.val) :
    buffer u top (ix2 s q) = u (ix2 ⟨s.val - 8, by omega⟩ q) := dif_pos h

theorem buffer_low (u : FVec Ideal S512x512 .f32) (top : FVec Ideal S8x512 .f32) (s : Fin 520) (q : Fin 512) (h : ¬8 ≤ s.val) :
    buffer u top (ix2 s q) = top (ix2 ⟨s.val, by omega⟩ q) := dif_neg h

/-- A point leaves its last eight convolved rows at the buffer's end. -/
theorem carried (t : Fin cfg0.N) (j : Fin 8) (q : Fin 512) (r : Fin 16384) (hr : r.val = t.val * 512 + 504 + j.val) :
    (outsAt0 m c t.val t.isLt).2.2.2.2.2.2.2.2.2 (ix2 ⟨512 + j.val, by omega⟩ q) = pair (argX m c) (argW m c) r q.val := by
  have hb : ∀ top : FVec Ideal S8x512 .f32, buffer (k0_pay1 (k0_pay30 (prodAt m c t))) top (ix2 ⟨512 + j.val, by omega⟩ q) = pair (argX m c) (argW m c) r q.val := by
    intro top
    rw [buffer_high _ _ _ _ (by simp only; omega), pay1_apply]
    exact pair_at m c t _ q r (by simp only; omega)
  by_cases h : t.val % 8 = 0
  · rw [outsAt0_A m c t h (not_not_intro h)]
    dsimp only
    exact (buffer_begin (y := ix2 ⟨512 + j.val, by omega⟩ q) ..).trans (hb _)
  · rw [outsAt0_B m c t h h]
    dsimp only
    exact (buffer_carry (y := ix2 ⟨512 + j.val, by omega⟩ q) ..).trans (hb _)

/-- A row of the buffer, `d` rows before row `p` of the block: the convolved row before it, given the eight rows in front. -/
theorem tap (t : Fin cfg0.N) (p q : Fin 512) (r : Fin 16384) (hr : r.val = t.val * 512 + p.val) (d : Nat) (hd : d ≤ 2) (s : Fin 520)
    (hs : s.val = 8 - d + p.val) (top : FVec Ideal S8x512 .f32) (h0 : t.val % 8 = 0 → ∀ j : Fin 8, top (ix2 j q) = (0 : EReal))
    (h1 : ¬t.val % 8 = 0 → ∀ (j : Fin 8) (r' : Fin 16384), r'.val + 8 = t.val * 512 + j.val → top (ix2 j q) = pair (argX m c) (argW m c) r' q.val) :
    buffer (k0_pay1 (k0_pay30 (prodAt m c t))) top (ix2 s q) = before (argX m c) (argW m c) d r q.val := by
  unfold before
  by_cases h : 8 ≤ s.val
  · rw [buffer_high _ _ _ _ h, pay1_apply, if_pos (by omega)]
    exact pair_at m c t _ q _ (by simp only; omega)
  · rw [buffer_low _ _ _ _ h]
    by_cases ht : t.val % 8 = 0
    · rw [if_neg (by omega)]
      exact h0 ht _
    · rw [if_pos (by omega)]
      exact h1 ht _ _ (by simp only; omega)

/-- The gated convolution at row `p` of the block, given the eight rows in front. -/
theorem conv_at (t : Fin cfg0.N) (p q : Fin 512) (r : Fin 16384) (hr : r.val = t.val * 512 + p.val)
    (top : FVec Ideal S8x512 .f32) (h0 : t.val % 8 = 0 → ∀ j : Fin 8, top (ix2 j q) = (0 : EReal))
    (h1 : ¬t.val % 8 = 0 → ∀ (j : Fin 8) (r' : Fin 16384), r'.val + 8 = t.val * 512 + j.val → top (ix2 j q) = pair (argX m c) (argW m c) r' q.val) :
    conv (prodAt m c t) top (iblk m c 6 t) p q = gated (argX m c) (argW m c) (argV m c) (ix2 r q) := by
  rw [gated_apply]
  unfold conv
  have w2 : iblk m c 6 t (ix2 2 q) = argV m c (ix2 2 q) := (blk6 m c t 2 q).trans (taps_apply (argV m c) 2 q)
  have w1 : iblk m c 6 t (ix2 1 q) = argV m c (ix2 1 q) := (blk6 m c t 1 q).trans (taps_apply (argV m c) 1 q)
  have w0 : iblk m c 6 t (ix2 0 q) = argV m c (ix2 0 q) := (blk6 m c t 0 q).trans (taps_apply (argV m c) 0 q)
  rw [product m c t p r hr ⟨1152 + q.val, by omega⟩ (1092 + q.val) (by simp only; omega) (source_block _ _ (by simp only; omega)).symm (by omega),
    pair_at m c t p q r hr, tap m c t p q r hr 1 (by decide) ⟨7 + p.val, by omega⟩ rfl top h0 h1,
    tap m c t p q r hr 2 (by decide) ⟨6 + p.val, by omega⟩ rfl top h0 h1, w2, w1, w0]

/-! ## What a point writes back -/

/-- The first point begins a sequence. -/
theorem begins : cond0_0 (grid0.coords (⟨0, by decide⟩ : Fin cfg0.N)) ∧ ¬cond0_1 (grid0.coords (⟨0, by decide⟩ : Fin cfg0.N)) :=
  ⟨(hcond0_0 _).mpr (Nat.zero_mod 8), fun h => (hcond0_1 _).mp h (Nat.zero_mod 8)⟩

theorem written7 (t : Fin cfg0.N) (p : Fin 512) (n : Fin 512) : (dats m 0 c).flushed 7 t (ix2 p n) = Proj.turned (prodAt m c t) (cosAt m c t) (sinAt m c t) p ⟨n.val, by omega⟩ * Proj.qscale := by
  by_cases h : t.val % 8 = 0
  · exact (congrFun (Value.flushed7_A m c t h (not_not_intro h)) (ix2 p n)).trans (block7 (p := p) (n := n) ..)
  · exact (congrFun (Value.flushed7_B m c t h h) (ix2 p n)).trans
      ((congrFun (same (hA := begins.1) (hA' := begins.2) ..).1 (ix2 p n)).trans (block7 (p := p) (n := n) ..))

theorem written8 (t : Fin cfg0.N) (p : Fin 512) (n : Fin 256) : (dats m 0 c).flushed 8 t (ix2 p n) = Proj.turned (prodAt m c t) (cosAt m c t) (sinAt m c t) p ⟨640 + n.val, by omega⟩ * iscale := by
  by_cases h : t.val % 8 = 0
  · exact (congrFun (Value.flushed8_A m c t h (not_not_intro h)) (ix2 p n)).trans (block8 (p := p) (n := n) ..)
  · exact (congrFun (Value.flushed8_B m c t h h) (ix2 p n)).trans
      ((congrFun (same (hA := begins.1) (hA' := begins.2) ..).2.1 (ix2 p n)).trans (block8 (p := p) (n := n) ..))

theorem written9 (t : Fin cfg0.N) (p : Fin 512) (n : Fin 128) : (dats m 0 c).flushed 9 t (ix2 p n) = Proj.turned (prodAt m c t) (cosAt m c t) (sinAt m c t) p ⟨512 + n.val, by omega⟩ := by
  by_cases h : t.val % 8 = 0
  · exact (congrFun (Value.flushed9_A m c t h (not_not_intro h)) (ix2 p n)).trans (block9 (p := p) (n := n) ..)
  · exact (congrFun (Value.flushed9_B m c t h h) (ix2 p n)).trans
      ((congrFun (same (hA := begins.1) (hA' := begins.2) ..).2.2.1 (ix2 p n)).trans (block9 (p := p) (n := n) ..))

theorem written10 (t : Fin cfg0.N) (p : Fin 512) (n : Fin 128) : (dats m 0 c).flushed 10 t (ix2 p n) = prodAt m c t (ix2 p ⟨1024 + n.val, by omega⟩) := by
  by_cases h : t.val % 8 = 0
  · exact (congrFun (Value.flushed10_A m c t h (not_not_intro h)) (ix2 p n)).trans (block10 (p := p) (n := n) ..)
  · exact (congrFun (Value.flushed10_B m c t h h) (ix2 p n)).trans
      ((congrFun (same (hA := begins.1) (hA' := begins.2) ..).2.2.2.1 (ix2 p n)).trans (block10 (p := p) (n := n) ..))

theorem written11 (t : Fin cfg0.N) (p : Fin 512) (n : Fin 128) : (dats m 0 c).flushed 11 t (ix2 p n) = Proj.turned (prodAt m c t) (halfCosAt m c t) (halfSinAt m c t) p ⟨896 + n.val, by omega⟩ := by
  by_cases h : t.val % 8 = 0
  · exact (congrFun (Value.flushed11_A m c t h (not_not_intro h)) (ix2 p n)).trans (block11 (p := p) (n := n) ..)
  · exact (congrFun (Value.flushed11_B m c t h h) (ix2 p n)).trans
      ((congrFun (same (hA := begins.1) (hA' := begins.2) ..).2.2.2.2.1 (ix2 p n)).trans (block11 (p := p) (n := n) ..))

theorem written12 (t : Fin cfg0.N) (p : Fin 512) (n : Fin 256) : (dats m 0 c).flushed 12 t (ix2 p n) = kvb (prodAt m c t) (cosAt m c t) (sinAt m c t) p n := by
  by_cases h : t.val % 8 = 0
  · exact (congrFun (Value.flushed12_A m c t h (not_not_intro h)) (ix2 p n)).trans (block12 (p := p) (n := n) ..)
  · exact (congrFun (Value.flushed12_B m c t h h) (ix2 p n)).trans
      ((congrFun (same (hA := begins.1) (hA' := begins.2) ..).2.2.2.2.2.1 (ix2 p n)).trans (block12 (p := p) (n := n) ..))

theorem written13 (t : Fin cfg0.N) (p : Fin 512) (n : Fin 128) : (dats m 0 c).flushed 13 t (ix2 p n) = Proj.turned (prodAt m c t) (halfCosAt m c t) (halfSinAt m c t) p ⟨896 + n.val % 64, by omega⟩ := by
  by_cases h : t.val % 8 = 0
  · exact (congrFun (Value.flushed13_A m c t h (not_not_intro h)) (ix2 p n)).trans (block13 (p := p) (n := n) ..)
  · exact (congrFun (Value.flushed13_B m c t h h) (ix2 p n)).trans
      ((congrFun (same (hA := begins.1) (hA' := begins.2) ..).2.2.2.2.2.2.1 (ix2 p n)).trans (block13 (p := p) (n := n) ..))

theorem written15 (t : Fin cfg0.N) (p : Fin 8) (n : Fin 512) : (dats m 0 c).flushed 15 t (ix2 p n) = k0_pay30 (F := Ideal) (prodAt m c t) (ix2 ⟨504 + p.val, by omega⟩ n) := by
  by_cases h : t.val % 8 = 0
  · exact (congrFun (Value.flushed15_A m c t h (not_not_intro h)) (ix2 p n)).trans (block15 (p := p) (n := n) ..)
  · exact (congrFun (Value.flushed15_B m c t h h) (ix2 p n)).trans
      ((congrFun (same (hA := begins.1) (hA' := begins.2) ..).2.2.2.2.2.2.2 (ix2 p n)).trans (block15 (p := p) (n := n) ..))

theorem written14 (t : Fin cfg0.N) (p q : Fin 512) (r : Fin 16384) (hr : r.val = t.val * 512 + p.val) :
    (dats m 0 c).flushed 14 t (ix2 p q) = gated (argX m c) (argW m c) (argV m c) (ix2 r q) := by
  by_cases h : t.val % 8 = 0
  · refine (congrFun (Value.flushed14_A m c t h (not_not_intro h)) (ix2 p q)).trans ((block14 (p := p) (n := q) ..).trans ?_)
    exact conv_at m c t p q r hr _ (fun _ j => pay31_apply j q) (fun h' => absurd h h')
  · refine (congrFun (Value.flushed14_B m c t h h) (ix2 p q)).trans ((block14_carry (p := p) (n := q) ..).trans ?_)
    refine conv_at m c t p q r hr _ (fun h' => absurd h' h) (fun _ j r' hr' => ?_)
    rw [pay32_apply]
    exact carried m c ⟨t.val - 1, by omega⟩ j q r' (by simp only; omega)

/-! ## The arrays after the run -/

theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)
theorem array7 (t : Fin cfg0.N) (p : Fin 512) (n : Fin 512) (r : Fin 16384) (hr : r.val = t.val * 512 + p.val) :
    (dats m 0 c).arrAt 7 cfg0.N (ix2 r n) = (dats m 0 c).flushed 7 t (ix2 p n) := by
  obtain ⟨e0, e1⟩ := idx7 t
  have he : ((cfg0.win 7).blk t).view.emb (ix2 p n) = (ix2 r n : S16384x512.Idx) := by
    funext a; apply Fin.ext
    match a with
    | ⟨0, _⟩ => show win0_7.index t (0 : Fin 2) * 512 + 1 * p.val = r.val; omega
    | ⟨1, _⟩ => show win0_7.index t (1 : Fin 2) * 512 + 1 * n.val = n.val; omega
  exact Eq.trans (congrArg ((dats m 0 c).arrAt 7 cfg0.N) he.symm) (congrFun (Value.blocks7 m c t (flush7 t)) (ix2 p n))

theorem idx8 : ∀ t : Fin cfg0.N, win0_8.index t (0 : Fin 2) = t.val ∧ win0_8.index t (1 : Fin 2) = 0 :=
  (by decide +kernel : ∀ t : Fin grid0.N, _)
theorem flush8 : ∀ t : Fin cfg0.N, (cfg0.win 8).flush t = true :=
  (by decide +kernel : ∀ t : Fin grid0.N, (win0_8).flush t = true)
theorem array8 (t : Fin cfg0.N) (p : Fin 512) (n : Fin 256) (r : Fin 16384) (hr : r.val = t.val * 512 + p.val) :
    (dats m 0 c).arrAt 8 cfg0.N (ix2 r n) = (dats m 0 c).flushed 8 t (ix2 p n) := by
  obtain ⟨e0, e1⟩ := idx8 t
  have he : ((cfg0.win 8).blk t).view.emb (ix2 p n) = (ix2 r n : S16384x256.Idx) := by
    funext a; apply Fin.ext
    match a with
    | ⟨0, _⟩ => show win0_8.index t (0 : Fin 2) * 512 + 1 * p.val = r.val; omega
    | ⟨1, _⟩ => show win0_8.index t (1 : Fin 2) * 256 + 1 * n.val = n.val; omega
  exact Eq.trans (congrArg ((dats m 0 c).arrAt 8 cfg0.N) he.symm) (congrFun (Value.blocks8 m c t (flush8 t)) (ix2 p n))

theorem idx9 : ∀ t : Fin cfg0.N, win0_9.index t (0 : Fin 2) = t.val ∧ win0_9.index t (1 : Fin 2) = 0 :=
  (by decide +kernel : ∀ t : Fin grid0.N, _)
theorem flush9 : ∀ t : Fin cfg0.N, (cfg0.win 9).flush t = true :=
  (by decide +kernel : ∀ t : Fin grid0.N, (win0_9).flush t = true)
theorem array9 (t : Fin cfg0.N) (p : Fin 512) (n : Fin 128) (r : Fin 16384) (hr : r.val = t.val * 512 + p.val) :
    (dats m 0 c).arrAt 9 cfg0.N (ix2 r n) = (dats m 0 c).flushed 9 t (ix2 p n) := by
  obtain ⟨e0, e1⟩ := idx9 t
  have he : ((cfg0.win 9).blk t).view.emb (ix2 p n) = (ix2 r n : S16384x128.Idx) := by
    funext a; apply Fin.ext
    match a with
    | ⟨0, _⟩ => show win0_9.index t (0 : Fin 2) * 512 + 1 * p.val = r.val; omega
    | ⟨1, _⟩ => show win0_9.index t (1 : Fin 2) * 128 + 1 * n.val = n.val; omega
  exact Eq.trans (congrArg ((dats m 0 c).arrAt 9 cfg0.N) he.symm) (congrFun (Value.blocks9 m c t (flush9 t)) (ix2 p n))

theorem idx10 : ∀ t : Fin cfg0.N, win0_10.index t (0 : Fin 2) = t.val ∧ win0_10.index t (1 : Fin 2) = 0 :=
  (by decide +kernel : ∀ t : Fin grid0.N, _)
theorem flush10 : ∀ t : Fin cfg0.N, (cfg0.win 10).flush t = true :=
  (by decide +kernel : ∀ t : Fin grid0.N, (win0_10).flush t = true)
theorem array10 (t : Fin cfg0.N) (p : Fin 512) (n : Fin 128) (r : Fin 16384) (hr : r.val = t.val * 512 + p.val) :
    (dats m 0 c).arrAt 10 cfg0.N (ix2 r n) = (dats m 0 c).flushed 10 t (ix2 p n) := by
  obtain ⟨e0, e1⟩ := idx10 t
  have he : ((cfg0.win 10).blk t).view.emb (ix2 p n) = (ix2 r n : S16384x128.Idx) := by
    funext a; apply Fin.ext
    match a with
    | ⟨0, _⟩ => show win0_10.index t (0 : Fin 2) * 512 + 1 * p.val = r.val; omega
    | ⟨1, _⟩ => show win0_10.index t (1 : Fin 2) * 128 + 1 * n.val = n.val; omega
  exact Eq.trans (congrArg ((dats m 0 c).arrAt 10 cfg0.N) he.symm) (congrFun (Value.blocks10 m c t (flush10 t)) (ix2 p n))

theorem idx11 : ∀ t : Fin cfg0.N, win0_11.index t (0 : Fin 2) = t.val ∧ win0_11.index t (1 : Fin 2) = 0 :=
  (by decide +kernel : ∀ t : Fin grid0.N, _)
theorem flush11 : ∀ t : Fin cfg0.N, (cfg0.win 11).flush t = true :=
  (by decide +kernel : ∀ t : Fin grid0.N, (win0_11).flush t = true)
theorem array11 (t : Fin cfg0.N) (p : Fin 512) (n : Fin 128) (r : Fin 16384) (hr : r.val = t.val * 512 + p.val) :
    (dats m 0 c).arrAt 11 cfg0.N (ix2 r n) = (dats m 0 c).flushed 11 t (ix2 p n) := by
  obtain ⟨e0, e1⟩ := idx11 t
  have he : ((cfg0.win 11).blk t).view.emb (ix2 p n) = (ix2 r n : S16384x128.Idx) := by
    funext a; apply Fin.ext
    match a with
    | ⟨0, _⟩ => show win0_11.index t (0 : Fin 2) * 512 + 1 * p.val = r.val; omega
    | ⟨1, _⟩ => show win0_11.index t (1 : Fin 2) * 128 + 1 * n.val = n.val; omega
  exact Eq.trans (congrArg ((dats m 0 c).arrAt 11 cfg0.N) he.symm) (congrFun (Value.blocks11 m c t (flush11 t)) (ix2 p n))

theorem idx12 : ∀ t : Fin cfg0.N, win0_12.index t (0 : Fin 2) = t.val ∧ win0_12.index t (1 : Fin 2) = 0 :=
  (by decide +kernel : ∀ t : Fin grid0.N, _)
theorem flush12 : ∀ t : Fin cfg0.N, (cfg0.win 12).flush t = true :=
  (by decide +kernel : ∀ t : Fin grid0.N, (win0_12).flush t = true)
theorem array12 (t : Fin cfg0.N) (p : Fin 512) (n : Fin 256) (r : Fin 16384) (hr : r.val = t.val * 512 + p.val) :
    (dats m 0 c).arrAt 12 cfg0.N (ix2 r n) = (dats m 0 c).flushed 12 t (ix2 p n) := by
  obtain ⟨e0, e1⟩ := idx12 t
  have he : ((cfg0.win 12).blk t).view.emb (ix2 p n) = (ix2 r n : S16384x256.Idx) := by
    funext a; apply Fin.ext
    match a with
    | ⟨0, _⟩ => show win0_12.index t (0 : Fin 2) * 512 + 1 * p.val = r.val; omega
    | ⟨1, _⟩ => show win0_12.index t (1 : Fin 2) * 256 + 1 * n.val = n.val; omega
  exact Eq.trans (congrArg ((dats m 0 c).arrAt 12 cfg0.N) he.symm) (congrFun (Value.blocks12 m c t (flush12 t)) (ix2 p n))

theorem idx13 : ∀ t : Fin cfg0.N, win0_13.index t (0 : Fin 2) = t.val ∧ win0_13.index t (1 : Fin 2) = 0 :=
  (by decide +kernel : ∀ t : Fin grid0.N, _)
theorem flush13 : ∀ t : Fin cfg0.N, (cfg0.win 13).flush t = true :=
  (by decide +kernel : ∀ t : Fin grid0.N, (win0_13).flush t = true)
theorem array13 (t : Fin cfg0.N) (p : Fin 512) (n : Fin 128) (r : Fin 16384) (hr : r.val = t.val * 512 + p.val) :
    (dats m 0 c).arrAt 13 cfg0.N (ix2 r n) = (dats m 0 c).flushed 13 t (ix2 p n) := by
  obtain ⟨e0, e1⟩ := idx13 t
  have he : ((cfg0.win 13).blk t).view.emb (ix2 p n) = (ix2 r n : S16384x128.Idx) := by
    funext a; apply Fin.ext
    match a with
    | ⟨0, _⟩ => show win0_13.index t (0 : Fin 2) * 512 + 1 * p.val = r.val; omega
    | ⟨1, _⟩ => show win0_13.index t (1 : Fin 2) * 128 + 1 * n.val = n.val; omega
  exact Eq.trans (congrArg ((dats m 0 c).arrAt 13 cfg0.N) he.symm) (congrFun (Value.blocks13 m c t (flush13 t)) (ix2 p n))

theorem idx14 : ∀ t : Fin cfg0.N, win0_14.index t (0 : Fin 2) = t.val ∧ win0_14.index t (1 : Fin 2) = 0 :=
  (by decide +kernel : ∀ t : Fin grid0.N, _)
theorem flush14 : ∀ t : Fin cfg0.N, (cfg0.win 14).flush t = true :=
  (by decide +kernel : ∀ t : Fin grid0.N, (win0_14).flush t = true)
theorem array14 (t : Fin cfg0.N) (p : Fin 512) (n : Fin 512) (r : Fin 16384) (hr : r.val = t.val * 512 + p.val) :
    (dats m 0 c).arrAt 14 cfg0.N (ix2 r n) = (dats m 0 c).flushed 14 t (ix2 p n) := by
  obtain ⟨e0, e1⟩ := idx14 t
  have he : ((cfg0.win 14).blk t).view.emb (ix2 p n) = (ix2 r n : S16384x512.Idx) := by
    funext a; apply Fin.ext
    match a with
    | ⟨0, _⟩ => show win0_14.index t (0 : Fin 2) * 512 + 1 * p.val = r.val; omega
    | ⟨1, _⟩ => show win0_14.index t (1 : Fin 2) * 512 + 1 * n.val = n.val; omega
  exact Eq.trans (congrArg ((dats m 0 c).arrAt 14 cfg0.N) he.symm) (congrFun (Value.blocks14 m c t (flush14 t)) (ix2 p n))

theorem idx15 : ∀ t : Fin cfg0.N, win0_15.index t (0 : Fin 2) = t.val ∧ win0_15.index t (1 : Fin 2) = 0 :=
  (by decide +kernel : ∀ t : Fin grid0.N, _)
theorem flush15 : ∀ t : Fin cfg0.N, (cfg0.win 15).flush t = true :=
  (by decide +kernel : ∀ t : Fin grid0.N, (win0_15).flush t = true)
theorem array15 (t : Fin cfg0.N) (p : Fin 8) (n : Fin 512) (r : Fin 256) (hr : r.val = t.val * 8 + p.val) :
    (dats m 0 c).arrAt 15 cfg0.N (ix2 r n) = (dats m 0 c).flushed 15 t (ix2 p n) := by
  obtain ⟨e0, e1⟩ := idx15 t
  have he : ((cfg0.win 15).blk t).view.emb (ix2 p n) = (ix2 r n : S256x512.Idx) := by
    funext a; apply Fin.ext
    match a with
    | ⟨0, _⟩ => show win0_15.index t (0 : Fin 2) * 8 + 1 * p.val = r.val; omega
    | ⟨1, _⟩ => show win0_15.index t (1 : Fin 2) * 512 + 1 * n.val = n.val; omega
  exact Eq.trans (congrArg ((dats m 0 c).arrAt 15 cfg0.N) he.symm) (congrFun (Value.blocks15 m c t (flush15 t)) (ix2 p n))

end Cert.Mix

end
-- ==== Proof.MixEqual.lean ====
/- The mixing layer's input call leaves in its arrays the reference's results from the same arguments. -/
module

public import proofs.«01_k».proof.Proof.MixValue

@[expose] public section

noncomputable section

namespace Cert.Mix

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- Every row of an array is a row of one point's block. -/
theorem row_point (r : Fin 16384) : ∃ (t : Fin cfg0.N) (p : Fin 512), r.val = t.val * 512 + p.val :=
  ⟨⟨r.val / 512, by have hN : cfg0.N = 32 := N_0; omega⟩, ⟨r.val % 512, by omega⟩, by show r.val = r.val / 512 * 512 + r.val % 512; omega⟩

theorem equal7 : (dats m 0 c).arrAt 7 cfg0.N = queries (argX m c) (argW m c) := by
  funext i
  obtain ⟨r, n, rfl⟩ : ∃ (r : Fin 16384) (n : Fin 512), i = ix2 r n := ⟨i 0, i 1, eq_ix2 i⟩
  obtain ⟨t, p, hr⟩ := row_point r
  refine (array7 m c t p n r hr).trans ((written7 m c t p n).trans (Eq.trans ?_ (queries_apply _ _ r n).symm))
  refine congrArg (· * _) (turned_eq m c t p r hr _ _ (by simp only; omega) ?_)
  unfold source headAt
  exact (if_pos n.isLt).symm

theorem equal8 : (dats m 0 c).arrAt 8 cfg0.N = indexQueries (argX m c) (argW m c) := by
  funext i
  obtain ⟨r, n, rfl⟩ : ∃ (r : Fin 16384) (n : Fin 256), i = ix2 r n := ⟨i 0, i 1, eq_ix2 i⟩
  obtain ⟨t, p, hr⟩ := row_point r
  refine (array8 m c t p n r hr).trans ((written8 m c t p n).trans (Eq.trans ?_ (indexQueries_apply _ _ r n).symm))
  exact congrArg (· * _) (turned_eq m c t p r hr _ _ (by simp only; omega) (source_block _ _ (by simp only; omega)).symm)

theorem equal9 : (dats m 0 c).arrAt 9 cfg0.N = keys (argX m c) (argW m c) := by
  funext i
  obtain ⟨r, n, rfl⟩ : ∃ (r : Fin 16384) (n : Fin 128), i = ix2 r n := ⟨i 0, i 1, eq_ix2 i⟩
  obtain ⟨t, p, hr⟩ := row_point r
  refine (array9 m c t p n r hr).trans ((written9 m c t p n).trans (Eq.trans ?_ (keys_apply _ _ r n).symm))
  exact turned_eq m c t p r hr _ _ (by simp only; omega) (source_block (512 + n.val) (512 + n.val) (by omega)).symm

theorem equal10 : (dats m 0 c).arrAt 10 cfg0.N = values (argX m c) (argW m c) := by
  funext i
  obtain ⟨r, n, rfl⟩ : ∃ (r : Fin 16384) (n : Fin 128), i = ix2 r n := ⟨i 0, i 1, eq_ix2 i⟩
  obtain ⟨t, p, hr⟩ := row_point r
  refine (array10 m c t p n r hr).trans ((written10 m c t p n).trans (Eq.trans ?_ (values_apply _ _ r n).symm))
  exact product m c t p r hr _ (640 + n.val) (by simp only; omega) (source_block (1024 + n.val) (640 + n.val) (by omega)).symm (by omega)

theorem equal11 : (dats m 0 c).arrAt 11 cfg0.N = index (argX m c) (argW m c) := by
  funext i
  obtain ⟨r, n, rfl⟩ : ∃ (r : Fin 16384) (n : Fin 128), i = ix2 r n := ⟨i 0, i 1, eq_ix2 i⟩
  obtain ⟨t, p, hr⟩ := row_point r
  refine (array11 m c t p n r hr).trans ((written11 m c t p n).trans ?_)
  by_cases h : n.val < 64
  · exact (half_keys m c t p r hr _ _ (by simp only; omega) (by simp only; omega) (by simp only; omega)).trans (index_keys _ _ r n h).symm
  refine (half_rest m c t p r hr _ (by simp only; omega) (by simp only; omega)).trans ?_
  by_cases h' : n.val < 68
  · refine Eq.trans ?_ (index_weights _ _ r n h h').symm
    exact congrArg (· * half) (product m c t p r hr _ _ (by simp only; omega) (source_block _ _ (by simp only; omega)).symm (by omega))
  · refine Eq.trans ?_ (index_zero _ _ r n h').symm
    exact (congrArg (· * half) (product_zero m c t p _ (by simp only; omega) (by simp only; omega))).trans (zero_mul (M₀ := EReal) _)

theorem equal12 : (dats m 0 c).arrAt 12 cfg0.N = both (argX m c) (argW m c) := by
  funext i
  obtain ⟨r, n, rfl⟩ : ∃ (r : Fin 16384) (n : Fin 256), i = ix2 r n := ⟨i 0, i 1, eq_ix2 i⟩
  obtain ⟨t, p, hr⟩ := row_point r
  refine (array12 m c t p n r hr).trans ((written12 m c t p n).trans ?_)
  by_cases h : n.val < 128
  · refine (kvb_low _ _ _ p n h).trans (Eq.trans ?_ (both_keys _ _ r n h).symm)
    exact turned_eq m c t p r hr _ _ (by simp only; omega) (source_block (512 + n.val) (512 + n.val) (by omega)).symm
  · refine (kvb_high _ _ _ p n h).trans (Eq.trans ?_ (both_values _ _ r n h).symm)
    exact product m c t p r hr _ (512 + n.val) (by simp only; omega) (source_block (896 + n.val) (512 + n.val) (by omega)).symm (by omega)

theorem equal13 : (dats m 0 c).arrAt 13 cfg0.N = twice (argX m c) (argW m c) := by
  funext i
  obtain ⟨r, n, rfl⟩ : ∃ (r : Fin 16384) (n : Fin 128), i = ix2 r n := ⟨i 0, i 1, eq_ix2 i⟩
  obtain ⟨t, p, hr⟩ := row_point r
  refine (array13 m c t p n r hr).trans ((written13 m c t p n).trans (Eq.trans ?_ (twice_apply _ _ r n).symm))
  exact half_keys m c t p r hr _ _ (by simp only; omega) (by simp only; omega) (by simp only; omega)

theorem equal14 : (dats m 0 c).arrAt 14 cfg0.N = gated (argX m c) (argW m c) (argV m c) := by
  funext i
  obtain ⟨r, n, rfl⟩ : ∃ (r : Fin 16384) (n : Fin 512), i = ix2 r n := ⟨i 0, i 1, eq_ix2 i⟩
  obtain ⟨t, p, hr⟩ := row_point r
  exact (array14 m c t p n r hr).trans (written14 m c t p n r hr)

theorem equal15 : (dats m 0 c).arrAt 15 cfg0.N = last (argX m c) (argW m c) := by
  funext i
  obtain ⟨r, n, rfl⟩ : ∃ (r : Fin 256) (n : Fin 512), i = ix2 r n := ⟨i 0, i 1, eq_ix2 i⟩
  have hN : cfg0.N = 32 := N_0
  have hr := r.isLt
  refine (array15 m c ⟨r.val / 8, by omega⟩ ⟨r.val % 8, by omega⟩ n r (by simp only; omega)).trans ((written15 m c _ _ n).trans ?_)
  refine (pair_at m c _ _ n ⟨r.val / 8 * 512 + 504 + r.val % 8, by omega⟩ ?_).trans (last_apply _ _ r n _ rfl).symm
  simp only
  omega

end Cert.Mix

end
-- ==== Proof.OutMath.lean ====
/- The output projection of one row over the extended reals: the heads' order and its inverse, a gather of whole heads'
   rows, and that the kernel's payload is the normalized sum. -/
module

public import proofs.«01_k».proof.Proof.FfnMath
public import proofs.«01_k».proof.Proof.Gen.Kernel5Ideal.Skeleton

@[expose] public section

noncomputable section

namespace Cert.Out

open Idealize.ShloMosaic Idealize.ShloMosaic.TcCoe Idealize.SL.Sem

/-! ## The heads' order -/

/-- The lane that the layer keeps at lane `d` of a half: its eight heads stand in pairs, four apart. -/
def lane (d : Fin 512) : Fin 512 := ⟨64 * (4 * (d.val / 64 % 2) + d.val / 64 / 2) + d.val % 64, by omega⟩

/-- Where a lane of the layer stands. -/
def place (d : Fin 512) : Fin 512 := ⟨64 * (2 * (d.val / 64 % 4) + d.val / 64 / 4) + d.val % 64, by omega⟩

theorem place_lane (d : Fin 512) : place (lane d) = d := by
  apply Fin.ext; show 64 * (2 * ((lane d).val / 64 % 4) + (lane d).val / 64 / 4) + (lane d).val % 64 = d.val
  unfold lane; dsimp only; omega

theorem lane_place (d : Fin 512) : lane (place d) = d := by
  apply Fin.ext; show 64 * (4 * ((place d).val / 64 % 2) + (place d).val / 64 / 2) + (place d).val % 64 = d.val
  unfold place; dsimp only; omega

/-- A sum over a half's lanes may run in either order. -/
theorem sum_place (a w : Fin 512 → EReal) : ∑ d, a (place d) * w d = ∑ d, a d * w (lane d) := by
  refine (Equiv.sum_comp ⟨lane, place, place_lane, lane_place⟩ (fun d => a (place d) * w d)).symm.trans ?_
  refine Finset.sum_congr rfl fun d _ => ?_
  show a (place (lane d)) * w (lane d) = _
  rw [place_lane]

/-! ## A gather of the heads' rows -/

/-- The gather of `N` slabs of 64 rows. -/
abbrev slabs {N : Nat}
    (wf : GatherDims.WF ⟨3, ![N, 64, 1024]⟩ ⟨2, ![N, 1]⟩ ⟨3, ![N, 64, 1024]⟩ [1, 2] [0] [] [0] [] 1 ![1, 64, 1024]) :
    GatherDims ⟨3, ![N, 64, 1024]⟩ ⟨2, ![N, 1]⟩ ⟨3, ![N, 64, 1024]⟩ where
  offsetDims := [1, 2]
  collapsedSliceDims := [0]
  operandBatchingDims := []
  startIndicesBatchingDims := []
  startIndexMap := [0]
  indexVectorDim := 1
  sliceSizes := ![1, 64, 1024]
  wf := wf

/-- It reads, at place `j`, the slab that the start names. -/
theorem gather_rows {N : Nat}
    (wf : GatherDims.WF ⟨3, ![N, 64, 1024]⟩ ⟨2, ![N, 1]⟩ ⟨3, ![N, 64, 1024]⟩ [1, 2] [0] [] [0] [] 1 ![1, 64, 1024])
    (x : FVec Ideal ⟨3, ![N, 64, 1024]⟩ .f32) (s : IVec ⟨2, ![N, 1]⟩ 32) (j : Fin N) (l : Fin 64) (q : Fin 1024)
    (h : Fin N) (hh : min (s (ix2 j 0)).toInt.toNat (N - 1) = h.val) :
    Host.gather (slabs wf) x s (ix3 j l q) = x (ix3 h l q) := by
  unfold Host.gather
  congr 1
  funext a
  refine Fin.ext ?_
  let G := slabs wf
  show G.start (ix3 j l q) s a + G.batchCoord (ix3 j l q) a + G.offCoord (ix3 j l q) a = _
  rw [GatherDims.batchCoord_eq_zero _ _ _ List.not_mem_nil]
  match a with
  | ⟨0, _⟩ =>
    have hsi : G.siIdx (ix3 j l q) ⟨List.idxOf (0 : Fin 3) G.startIndexMap, List.idxOf_lt_length_iff.2 (List.mem_singleton.mpr rfl)⟩
        = ix2 j 0 := by
      funext b; refine Fin.ext ?_
      match b with
      | ⟨0, _⟩ => rfl
      | ⟨1, _⟩ => rfl
    show G.start (ix3 j l q) s 0 + 0 + G.offCoord (ix3 j l q) 0 = h.val
    rw [GatherDims.offCoord_eq_zero _ _ _ (fun h => ((GatherDims.mem_sKept _ _).mp h).1 (List.mem_singleton.mpr rfl))]
    unfold GatherDims.start
    rw [dif_pos (show (0 : Fin 3) ∈ G.startIndexMap from List.mem_singleton.mpr rfl), hsi]
    exact hh
  | ⟨1, _⟩ =>
    show G.start (ix3 j l q) s 1 + 0 + G.offCoord (ix3 j l q) 1 = l.val
    unfold GatherDims.start
    rw [dif_neg (show ¬(1 : Fin 3) ∈ G.startIndexMap from (by decide : ¬(1 : Fin 3) ∈ [(0 : Fin 3)]))]
    unfold GatherDims.offCoord
    rw [dif_pos (show (1 : Fin 3) ∈ G.sKept from (GatherDims.mem_sKept _ _).mpr ⟨(by decide : ¬(1 : Fin 3) ∈ [(0 : Fin 3)]), List.not_mem_nil⟩)]
    exact (Nat.zero_add _).trans rfl
  | ⟨2, _⟩ =>
    show G.start (ix3 j l q) s 2 + 0 + G.offCoord (ix3 j l q) 2 = q.val
    unfold GatherDims.start
    rw [dif_neg (show ¬(2 : Fin 3) ∈ G.startIndexMap from (by decide : ¬(2 : Fin 3) ∈ [(0 : Fin 3)]))]
    unfold GatherDims.offCoord
    rw [dif_pos (show (2 : Fin 3) ∈ G.sKept from (GatherDims.mem_sKept _ _).mpr ⟨(by decide : ¬(2 : Fin 3) ∈ [(0 : Fin 3)]), List.not_mem_nil⟩)]
    exact (Nat.zero_add _).trans rfl

/-! ## The mathematics of one row -/

/-- The weighted residual plus the two halves' products. -/
def mixed (x : Fin 1024 → EReal) (a b : Fin 512 → EReal) (wa wb : Fin 512 → Fin 1024 → EReal) (k : Fin 1024) : EReal :=
  Ffn.alpha * x k + ∑ d, a d * wa d k + ∑ d, b d * wb d k

/-- One product over both halves, its first half's lanes in the layer's order. -/
theorem mixed_eq (x : Fin 1024 → EReal) (a b : Fin 512 → EReal) (y : Fin 1024 → EReal) (w : Fin 1024 → Fin 1024 → EReal) (k : Fin 1024)
    (wb : Fin 512 → Fin 1024 → EReal) (ha : ∀ d : Fin 512, y (Fin.castAdd 512 d) = a (place d))
    (hb : ∑ d : Fin 512, y (Fin.natAdd 512 d) * w (Fin.natAdd 512 d) k = ∑ d, b d * wb d k) :
    Ffn.alpha * x k + ∑ d : Fin 1024, y d * w d k = mixed x a b (fun d => w (Fin.castAdd 512 (lane d))) wb k := by
  have e : ∑ d : Fin 1024, y d * w d k = ∑ d, a d * w (Fin.castAdd 512 (lane d)) k + ∑ d, b d * wb d k := by
    refine (Fin.sum_univ_add (a := 512) (b := 512) fun d => y d * w d k).trans ?_
    rw [hb, ← sum_place a fun d => w (Fin.castAdd 512 d) k]
    simp only [ha]
  show Ffn.alpha * x k + _ = Ffn.alpha * x k + ∑ d, a d * w (Fin.castAdd 512 (lane d)) k + ∑ d, b d * wb d k
  rw [e, add_assoc]

open Cert.Kernel5Ideal Cert.Kernel5Ideal.Gen in
/-- The written block: the normalized rows of the sum. -/
theorem pay_apply (x : Vec Ideal S512x1024 .f32) (a b : Vec Ideal S512x512 .bf16) (wa wb : Vec Ideal S512x1024 .bf16) (g bt : Vec Ideal S1x1024 .f32)
    (p : Fin 512) (q : Fin 1024) :
    k0_pay1 (F := Ideal) (k0_pay2 x a wa b wb g) (k0_pay3 bt) (ix2 p q)
      = Ffn.norm (mixed (fun k => x (ix2 p k)) (fun d => a (ix2 p d)) (fun d => b (ix2 p d)) (fun d k => wa (ix2 d k)) (fun d k => wb (ix2 d k)))
          (g (ix2 0 q)) (bt (ix2 0 q)) q := by
  pointwise [k0_pay1, k0_pay2, k0_pay3, Ffn.norm, Ffn.mean, mixed, Ffn.alpha, Ffn.width, Ffn.eps]

end Cert.Out

end
-- ==== Proof.OutPair.lean ====
/- The output projection behind the sparse attention and the short convolution against its reference: what the windows read,
   what the result's array holds after the run, and that the reference's term is the same function of the arguments. -/
module

public import proofs.«01_k».proof.Proof.OutMath
public import proofs.«01_k».proof.Proof.Gen.Kernel5Ideal.Value
public import proofs.«01_k».proof.Proof.Gen.Reference5Ideal.Run

@[expose] public section

noncomputable section

namespace Cert.OutPair

open Idealize.ShloMosaic Idealize.ShloMosaic.TcCoe Idealize.SL.Sem Cert.Out

section Kernel
open Cert.Kernel5Ideal Cert.Kernel5Ideal.Gen

variable (m : (ℓ : Loc nD τ sig) → Buf (Elt Ideal) ℓ) (c : Dev nD)

/-! ## The arrays that the windows read -/

/-- The rows: the first argument with its first two axes joined. -/
def rows (x : FVec Ideal S4x4096x1024 .f32) : FVec Ideal S16384x1024 .f32 := shapeCast S16384x1024 x shapeCasts_S4x4096x1024_S16384x1024

/-- The starts that the slabs of the attention's rows are taken from. -/
def starts : IVec S8x1 32 :=
  have l : IVec S8 32 := fun i => lit0 (S8.rowMajor i)
  broadcastInDim S8x1 ![0] bcast_S8_S8x1_0
    (select (constantI S8 1 0#1) (addi l (broadcastInDim S8 ![] bcast_S_S8 (constantI S_ 32 8#32))) l)

/-- The attention's rows of the weights, in slabs of one head. -/
def slabsOf (w : FVec Ideal S1024x1024 .f32) : FVec Ideal S8x64x1024 .f32 :=
  Host.gather gather_S8x64x1024_S8x1_S8x64x1024_12_0_n_n_0_1_1641024
    (shapeCast S8x64x1024 (extractStridedSlice S512x1024 ![0, 0] w slices_S1024x1024_S512x1024_0_0) shapeCasts_S512x1024_S8x64x1024) starts

/-- The weights with the attention's rows in the order of its lanes. -/
def weights (w : FVec Ideal S1024x1024 .f32) : FVec Ideal S1024x1024 .bf16 :=
  truncf .bf16 (concatenate S1024x1024 0
    [⟨S512x1024, shapeCast S512x1024 (slabsOf w) shapeCasts_S8x64x1024_S512x1024⟩,
     ⟨S512x1024, extractStridedSlice S512x1024 ![512, 0] w slices_S1024x1024_S512x1024_512_0⟩]
    concatenates_S512x1024_S512x1024_S1024x1024_d0) bitsLt_bf16_f32

theorem entry_rows : V m c main_v11 = rows (m ((c : Thread nD τ).loc main_arg0)) := by
  simp only [V, hostOps0]; after_results_simp <;> rfl
theorem entry_weights : V m c main_v10 = weights (m ((c : Thread nD τ).loc main_arg3)) := by
  simp only [V, hostOps0]; after_results_simp <;> rfl
theorem entry_scale : V m c main_v12 = shapeCast S1x1024 (m ((c : Thread nD τ).loc main_arg4)) shapeCasts_S1024_S1x1024 := by
  simp only [V, hostOps0]; after_results_simp <;> rfl
theorem entry_shift : V m c main_v13 = shapeCast S1x1024 (m ((c : Thread nD τ).loc main_arg5)) shapeCasts_S1024_S1x1024 := by
  simp only [V, hostOps0]; after_results_simp <;> rfl

theorem starts_apply (j : Fin 8) : starts (ix2 j 0) = lit0 j := by
  have h : S8.rowMajor (ix1 j) = j := Fin.ext (Shape.rowMajor_val_one _)
  pointwise [starts]
  rw [h]

theorem start_nat (j : Fin 8) : min (lit0 j).toInt.toNat (8 - 1) = 4 * (j.val % 2) + j.val / 2 := by
  have h : ∀ j : Fin 8, min (lit0 j).toInt.toNat (8 - 1) = 4 * (j.val % 2) + j.val / 2 := by decide +kernel
  exact h j

theorem slabsOf_apply (w : FVec Ideal S1024x1024 .f32) (j : Fin 8) (l : Fin 64) (q k : Fin 1024)
    (hk : k.val = 64 * (4 * (j.val % 2) + j.val / 2) + l.val) : slabsOf w (ix3 j l q) = w (ix2 k q) := by
  refine (gather_rows gather_S8x64x1024_S8x1_S8x64x1024_12_0_n_n_0_1_1641024_wf _ starts j l q ⟨4 * (j.val % 2) + j.val / 2, by omega⟩
    ((congrArg (fun z : BitVec 32 => min z.toInt.toNat (8 - 1)) (starts_apply j)).trans (start_nat j))).trans ?_
  pointwise
  exact congrArg (fun z => w (ix2 z q)) (Fin.ext (by simp only [hk]; omega))

theorem weights_first (w : FVec Ideal S1024x1024 .f32) (d : Fin 512) (q : Fin 1024) :
    weights w (ix2 (Fin.castAdd 512 d) q) = w (ix2 (Fin.castAdd 512 (lane d)) q) := by
  have hd := d.isLt
  refine Eq.trans ?_ (slabsOf_apply w ⟨d.val / 64, by omega⟩ ⟨d.val % 64, by omega⟩ q (Fin.castAdd 512 (lane d)) rfl)
  pointwise [weights]
  exact dif_pos hd

theorem weights_second (w : FVec Ideal S1024x1024 .f32) (d : Fin 512) (q : Fin 1024) :
    weights w (ix2 (Fin.natAdd 512 d) q) = w (ix2 (Fin.natAdd 512 d) q) := by
  have hd : ¬512 + d.val < 512 := by omega
  pointwise [weights]
  refine (dif_neg hd).trans ?_
  exact congrArg (fun z => w (ix2 z q)) (Fin.ext (by show 512 + (512 + d.val - 512) = 512 + d.val; omega))

/-! ## The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)

theorem blk0 (t : Fin cfg0.N) (p : Fin 512) (q : Fin 1024) (r : Fin 16384) (hr : r.val = t.val * 512 + p.val) :
    iblk m c 0 t (ix2 p q) = rows (m ((c : Thread nD τ).loc main_arg0)) (ix2 r q) := by
  obtain ⟨e0, e1⟩ := idx0 t
  show V m c main_v11 (((cfg0.win 0).blk t).view.emb (ix2 p q)) = _
  rw [entry_rows]
  refine congrArg (rows _) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

theorem blk1 (t : Fin cfg0.N) (p d : Fin 512) (r : Fin 16384) (hr : r.val = t.val * 512 + p.val) :
    iblk m c 1 t (ix2 p d) = m ((c : Thread nD τ).loc main_arg1) (ix2 r d) := by
  obtain ⟨e0, e1⟩ := idx1 t
  show V m c main_arg1 (((cfg0.win 1).blk t).view.emb (ix2 p d)) = _
  rw [V_main_arg1]
  refine congrArg (m ((c : Thread nD τ).loc main_arg1)) (funext fun a => Fin.ext ?_)
  match a with
  | ⟨0, _⟩ => show win0_1.index t (0 : Fin 2) * 512 + 1 * p.val = r.val; omega
  | ⟨1, _⟩ => show win0_1.index t (1 : Fin 2) * 512 + 1 * d.val = d.val; omega

theorem blk2 (t : Fin cfg0.N) (p d : Fin 512) (r : Fin 16384) (hr : r.val = t.val * 512 + p.val) :
    iblk m c 2 t (ix2 p d) = m ((c : Thread nD τ).loc main_arg2) (ix2 r d) := by
  obtain ⟨e0, e1⟩ := idx2 t
  show V m c main_arg2 (((cfg0.win 2).blk t).view.emb (ix2 p d)) = _
  rw [V_main_arg2]
  refine congrArg (m ((c : Thread nD τ).loc main_arg2)) (funext fun a => Fin.ext ?_)
  match a with
  | ⟨0, _⟩ => show win0_2.index t (0 : Fin 2) * 512 + 1 * p.val = r.val; omega
  | ⟨1, _⟩ => show win0_2.index t (1 : Fin 2) * 512 + 1 * d.val = d.val; omega

/-- The first half of the weights' rows, in the lanes' order. -/
theorem blk3 (t : Fin cfg0.N) (d : Fin 512) (q : Fin 1024) :
    iblk m c 3 t (ix2 d q) = m ((c : Thread nD τ).loc main_arg3) (ix2 (Fin.castAdd 512 (lane d)) q) := by
  obtain ⟨e0, e1⟩ := idx3 t
  show V m c main_v10 (((cfg0.win 3).blk t).view.emb (ix2 d q)) = _
  rw [entry_weights]
  refine Eq.trans ?_ (weights_first _ d q)
  refine congrArg (weights _) (funext fun a => Fin.ext ?_)
  match a with
  | ⟨0, _⟩ => show win0_3.index t (0 : Fin 2) * 512 + 1 * d.val = d.val; omega
  | ⟨1, _⟩ => show win0_3.index t (1 : Fin 2) * 1024 + 1 * q.val = q.val; omega

theorem blk4 (t : Fin cfg0.N) (d : Fin 512) (q : Fin 1024) :
    iblk m c 4 t (ix2 d q) = m ((c : Thread nD τ).loc main_arg3) (ix2 (Fin.natAdd 512 d) q) := by
  obtain ⟨e0, e1⟩ := idx4 t
  show V m c main_v10 (((cfg0.win 4).blk t).view.emb (ix2 d q)) = _
  rw [entry_weights]
  refine Eq.trans ?_ (weights_second _ d q)
  refine congrArg (weights _) (funext fun a => Fin.ext ?_)
  match a with
  | ⟨0, _⟩ => show win0_4.index t (0 : Fin 2) * 512 + 1 * d.val = 512 + d.val; omega
  | ⟨1, _⟩ => show win0_4.index t (1 : Fin 2) * 1024 + 1 * q.val = q.val; omega

theorem blk5 (t : Fin cfg0.N) (q : Fin 1024) : iblk m c 5 t (ix2 0 q) = m ((c : Thread nD τ).loc main_arg4) (ix1 q) := by
  obtain ⟨e0, e1⟩ := idx5 t
  show V m c main_v12 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_scale]
  pointwise

theorem blk6 (t : Fin cfg0.N) (q : Fin 1024) : iblk m c 6 t (ix2 0 q) = m ((c : Thread nD τ).loc main_arg5) (ix1 q) := by
  obtain ⟨e0, e1⟩ := idx6 t
  show V m c main_v13 (((cfg0.win 6).blk t).view.emb (ix2 0 q)) = _
  have e : ((cfg0.win 6).blk t).view.emb (ix2 0 q) = (ix2 0 q : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  rw [e, entry_shift]
  pointwise

/-! ## The result's array after the run -/

theorem block7 (x0 : Vec Ideal S512x1024 .f32) (x1 x2 : Vec Ideal S512x512 .bf16) (x3 x4 : Vec Ideal S512x1024 .bf16) (x5 x6 : Vec Ideal S1x1024 .f32) :
    out0_7 x0 x1 x2 x3 x4 x5 x6 = k0_pay1 (F := Ideal) (k0_pay2 x0 x1 x3 x2 x4 x5) (k0_pay3 x6) := by
  have off0 : (![0, 0] : Fin 2 → Nat) = fun _ => 0 := funext fun a => by fin_cases a <;> rfl
  unfold out0_7
  rw [View.canon_unit_zero (S := S512x1024) off0]
  simp only [View.ld_unit_zero (S := S512x1024) off0, View.ld_unit_zero (S := S512x512) off0, View.ld_unit_zero (S := S1x1024) off0]

/-- The result's array after the run, row by row. -/
theorem array_eq (r : Fin 16384) (q : Fin 1024) :
    (dats m 0 c).arrAt 7 cfg0.N (ix2 r q)
      = Ffn.norm (mixed (fun k => rows (m ((c : Thread nD τ).loc main_arg0)) (ix2 r k))
            (fun d => m ((c : Thread nD τ).loc main_arg1) (ix2 r d)) (fun d => m ((c : Thread nD τ).loc main_arg2) (ix2 r d))
            (fun d k => m ((c : Thread nD τ).loc main_arg3) (ix2 (Fin.castAdd 512 (lane d)) k))
            (fun d k => m ((c : Thread nD τ).loc main_arg3) (ix2 (Fin.natAdd 512 d) k)))
          (m ((c : Thread nD τ).loc main_arg4) (ix1 q)) (m ((c : Thread nD τ).loc main_arg5) (ix1 q)) q := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx7 t
  have he : ((cfg0.win 7).blk t).view.emb (ix2 p q) = (ix2 r q : S16384x1024.Idx) := by
    funext a; apply Fin.ext
    match a with
    | ⟨0, _⟩ => show win0_7.index t (0 : Fin 2) * 512 + 1 * p.val = r.val; omega
    | ⟨1, _⟩ => show win0_7.index t (1 : Fin 2) * 1024 + 1 * q.val = q.val; omega
  have hb := congrFun ((Value.blocks7 m c t (flush7 t)).trans (Value.flushed7 m c t)) (ix2 p q)
  refine Eq.trans (congrArg ((dats m 0 c).arrAt 7 cfg0.N) he.symm) (hb.trans ?_)
  refine (congrFun (block7 (iblk m c 0 t) (iblk m c 1 t) (iblk m c 2 t) (iblk m c 3 t) (iblk m c 4 t) (iblk m c 5 t) (iblk m c 6 t)) (ix2 p q)).trans ?_
  rw [pay_apply, blk5, blk6]
  simp only [blk0 m c t p _ r hrt, blk1 m c t p _ r hrt, blk2 m c t p _ r hrt, blk3, blk4]

end Kernel

/-! ## The reference's term -/

section Reference
open Cert.Reference5Ideal Cert.Reference5Ideal.Gen

/-- The attention's lanes in the order of its heads, beside the convolution's. -/
def joined (a b : FVec Ideal S16384x512 .bf16) : FVec Ideal S16384x1024 .f32 :=
  concatenate S16384x1024 1
    [⟨S16384x512, shapeCast S16384x512 (transpose S16384x2x4x64 [0, 2, 1, 3] (shapeCast S16384x4x2x64 (extf .f32 a bitsLt_bf16_f32) shapeCasts_S16384x512_S16384x4x2x64)
      transposes_S16384x4x2x64_S16384x2x4x64_0_2_1_3) shapeCasts_S16384x2x4x64_S16384x512⟩,
     ⟨S16384x512, extf .f32 b bitsLt_bf16_f32⟩] concatenates_S16384x512_S16384x512_S16384x1024_d1

/-- The reference's sum before it is normalized. -/
def refSum (x : FVec Ideal S16384x1024 .f32) (y : FVec Ideal S16384x1024 .f32) (w : FVec Ideal S1024x1024 .f32) : FVec Ideal S16384x1024 .f32 :=
  addf (mulf (broadcastInDim S16384x1024 ![] bcast_S_S16384x1024 (constant S_ .f32 0x3FD744FD#32)) x)
    (Host.dotGeneral dot_S16384x1024_S1024x1024_S16384x1024_1_0_0_1_n_n none y w)

theorem joined_first (a b : FVec Ideal S16384x512 .bf16) (r : Fin 16384) (d : Fin 512) :
    joined a b (ix2 r (Fin.castAdd 512 d)) = a (ix2 r (place d)) := by
  have hd := d.isLt
  pointwise [joined]
  refine (dif_pos hd).trans ?_
  refine congrArg (fun z => a (ix2 r z)) (Fin.ext ?_)
  unfold place
  dsimp only
  simp only [Fin.val_castAdd]
  omega

theorem joined_second (a b : FVec Ideal S16384x512 .bf16) (r : Fin 16384) (d : Fin 512) :
    joined a b (ix2 r (Fin.natAdd 512 d)) = b (ix2 r d) := by
  have hd : ¬512 + d.val < 512 := by omega
  pointwise [joined]
  refine (dif_neg hd).trans ?_
  exact congrArg (fun z => b (ix2 r z)) (Fin.ext (by show 512 + d.val - 512 = d.val; omega))

theorem refSum_apply (x y : FVec Ideal S16384x1024 .f32) (w : FVec Ideal S1024x1024 .f32) (r : Fin 16384) (q : Fin 1024) :
    refSum x y w (ix2 r q) = Ffn.alpha * x (ix2 r q) + ∑ d : Fin 1024, y (ix2 r d) * w (ix2 d q) := by
  pointwise [refSum, Ffn.alpha]

/-- The reference's composed term is the normalization of its sum. -/
theorem ref_eq (m : (ℓ : Loc nD τ sig) → Buf (Elt Ideal) ℓ) (c : Dev nD) :
    Cert.Reference5Ideal.Value.res_main_v34 m c
      = Ffn.refNorm (refSum (shapeCast S16384x1024 (m ((c.tc : Thread nD τ).loc main_arg0)) shapeCasts_S4x4096x1024_S16384x1024)
          (joined (m ((c.tc : Thread nD τ).loc main_arg1)) (m ((c.tc : Thread nD τ).loc main_arg2))) (m ((c.tc : Thread nD τ).loc main_arg3)))
          (m ((c.tc : Thread nD τ).loc main_arg4)) (m ((c.tc : Thread nD τ).loc main_arg5)) := rfl

end Reference

/-- From equal arguments the reference's result is the array that the call leaves. -/
theorem equal (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h0 : m' ((c.tc : Thread _ _).loc Cert.Reference5Ideal.main_arg0) = m ((c.tc : Thread _ _).loc Cert.Kernel5Ideal.main_arg0))
    (h1 : m' ((c.tc : Thread _ _).loc Cert.Reference5Ideal.main_arg1) = m ((c.tc : Thread _ _).loc Cert.Kernel5Ideal.main_arg1))
    (h2 : m' ((c.tc : Thread _ _).loc Cert.Reference5Ideal.main_arg2) = m ((c.tc : Thread _ _).loc Cert.Kernel5Ideal.main_arg2))
    (h3 : m' ((c.tc : Thread _ _).loc Cert.Reference5Ideal.main_arg3) = m ((c.tc : Thread _ _).loc Cert.Kernel5Ideal.main_arg3))
    (h4 : m' ((c.tc : Thread _ _).loc Cert.Reference5Ideal.main_arg4) = m ((c.tc : Thread _ _).loc Cert.Kernel5Ideal.main_arg4))
    (h5 : m' ((c.tc : Thread _ _).loc Cert.Reference5Ideal.main_arg5) = m ((c.tc : Thread _ _).loc Cert.Kernel5Ideal.main_arg5)) :
    Cert.Reference5Ideal.Value.res_main_v34 m' c = (Cert.Kernel5Ideal.Gen.dats m 0 c).arrAt 7 Cert.Kernel5Ideal.cfg0.N := by
  rw [ref_eq]
  funext i
  obtain ⟨r, q, rfl⟩ : ∃ (r : Fin 16384) (q : Fin 1024), i = ix2 r q := ⟨i 0, i 1, eq_ix2 i⟩
  refine Eq.trans ?_ (array_eq m c r q).symm
  rw [Ffn.refNorm_apply, h4, h5]
  refine congrArg (fun f => Ffn.norm f _ _ q) (funext fun k => ?_)
  rw [refSum_apply, h0, h1, h2, h3]
  exact mixed_eq (fun k => rows _ (ix2 r k)) _ (fun d => m ((c.tc : Thread _ _).loc Cert.Kernel5Ideal.main_arg2) (ix2 r d))
    (fun d => joined _ _ (ix2 r d)) (fun d k => m ((c.tc : Thread _ _).loc Cert.Kernel5Ideal.main_arg3) (ix2 d k)) k
    (fun d k => m ((c.tc : Thread _ _).loc Cert.Kernel5Ideal.main_arg3) (ix2 (Fin.natAdd 512 d) k))
    (fun d => joined_first _ _ r d)
    (Finset.sum_congr rfl fun d _ => congrArg (· * _) (joined_second _ _ r d))

end Cert.OutPair

end
-- ==== Proof.OutWhole.lean ====
/- The output projection behind the native sparse attention against its reference: both halves of the attention's lanes
   stand in the layer's order. The block that a grid point writes and the sum of the reference are those of OutPair.lean. -/
module

public import proofs.«01_k».proof.Proof.OutPair
public import proofs.«01_k».proof.Proof.Gen.Kernel6Ideal.Value
public import proofs.«01_k».proof.Proof.Gen.Reference6Ideal.Run

@[expose] public section

noncomputable section

namespace Cert.OutWhole

open Idealize.ShloMosaic Idealize.ShloMosaic.TcCoe Idealize.SL.Sem Cert.Out
open Cert.OutPair (rows refSum)

section Kernel
open Cert.Kernel6Ideal Cert.Kernel6Ideal.Gen

variable (m : (ℓ : Loc nD τ sig) → Buf (Elt Ideal) ℓ) (c : Dev nD)

/-! ## The arrays that the windows read -/

/-- The starts that the slabs of the rows are taken from. -/
def starts : IVec S16x1 32 :=
  have l : IVec S16 32 := fun i => lit0 (S16.rowMajor i)
  broadcastInDim S16x1 ![0] bcast_S16_S16x1_0
    (select (constantI S16 1 0#1) (addi l (broadcastInDim S16 ![] bcast_S_S16 (constantI S_ 32 16#32))) l)

/-- The weights' rows in slabs of one head. -/
def slabsOf (w : FVec Ideal S1024x1024 .f32) : FVec Ideal S16x64x1024 .f32 :=
  Host.gather gather_S16x64x1024_S16x1_S16x64x1024_12_0_n_n_0_1_1641024 (shapeCast S16x64x1024 w shapeCasts_S1024x1024_S16x64x1024) starts

/-- The weights with their rows in the order of the attention's lanes. -/
def weights (w : FVec Ideal S1024x1024 .f32) : FVec Ideal S1024x1024 .bf16 :=
  truncf .bf16 (shapeCast S1024x1024 (slabsOf w) shapeCasts_S16x64x1024_S1024x1024) bitsLt_bf16_f32

theorem entry_rows : V m c main_v8 = rows (m ((c : Thread nD τ).loc main_arg0)) := by
  simp only [V, hostOps0]; after_results_simp <;> rfl
theorem entry_weights : V m c main_v7 = weights (m ((c : Thread nD τ).loc main_arg2)) := by
  simp only [V, hostOps0]; after_results_simp <;> rfl
theorem entry_scale : V m c main_v9 = shapeCast S1x1024 (m ((c : Thread nD τ).loc main_arg3)) shapeCasts_S1024_S1x1024 := by
  simp only [V, hostOps0]; after_results_simp <;> rfl
theorem entry_shift : V m c main_v10 = shapeCast S1x1024 (m ((c : Thread nD τ).loc main_arg4)) shapeCasts_S1024_S1x1024 := by
  simp only [V, hostOps0]; after_results_simp <;> rfl

theorem starts_apply (j : Fin 16) : starts (ix2 j 0) = lit0 j := by
  have h : S16.rowMajor (ix1 j) = j := Fin.ext (Shape.rowMajor_val_one _)
  pointwise [starts]
  rw [h]

theorem start_nat (j : Fin 16) : min (lit0 j).toInt.toNat (16 - 1) = 8 * (j.val / 8) + 4 * (j.val % 2) + j.val % 8 / 2 := by
  have h : ∀ j : Fin 16, min (lit0 j).toInt.toNat (16 - 1) = 8 * (j.val / 8) + 4 * (j.val % 2) + j.val % 8 / 2 := by decide +kernel
  exact h j

theorem slabsOf_apply (w : FVec Ideal S1024x1024 .f32) (j : Fin 16) (l : Fin 64) (q k : Fin 1024)
    (hk : k.val = 64 * (8 * (j.val / 8) + 4 * (j.val % 2) + j.val % 8 / 2) + l.val) : slabsOf w (ix3 j l q) = w (ix2 k q) := by
  refine (gather_rows gather_S16x64x1024_S16x1_S16x64x1024_12_0_n_n_0_1_1641024_wf _ starts j l q
    ⟨8 * (j.val / 8) + 4 * (j.val % 2) + j.val % 8 / 2, by omega⟩
    ((congrArg (fun z : BitVec 32 => min z.toInt.toNat (16 - 1)) (starts_apply j)).trans (start_nat j))).trans ?_
  pointwise
  exact congrArg (fun z => w (ix2 z q)) (Fin.ext (by simp only [hk]; omega))

/-- A row of the weights, by its row in front of the reordering. -/
theorem weights_apply (w : FVec Ideal S1024x1024 .f32) (d k q : Fin 1024)
    (hk : k.val = 64 * (8 * (d.val / 64 / 8) + 4 * (d.val / 64 % 2) + d.val / 64 % 8 / 2) + d.val % 64) :
    weights w (ix2 d q) = w (ix2 k q) := by
  have hd := d.isLt
  refine Eq.trans ?_ (slabsOf_apply w ⟨d.val / 64, by omega⟩ ⟨d.val % 64, by omega⟩ q k hk)
  pointwise [weights]

/-! ## The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)

theorem blk0 (t : Fin cfg0.N) (p : Fin 512) (q : Fin 1024) (r : Fin 16384) (hr : r.val = t.val * 512 + p.val) :
    iblk m c 0 t (ix2 p q) = rows (m ((c : Thread nD τ).loc main_arg0)) (ix2 r q) := by
  obtain ⟨e0, e1⟩ := idx0 t
  show V m c main_v8 (((cfg0.win 0).blk t).view.emb (ix2 p q)) = _
  rw [entry_rows]
  refine congrArg (rows _) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- The attention's lanes of a window: the first half in window 1, the second in window 2. -/
theorem blk1 (t : Fin cfg0.N) (p d : Fin 512) (r : Fin 16384) (hr : r.val = t.val * 512 + p.val) :
    iblk m c 1 t (ix2 p d) = m ((c : Thread nD τ).loc main_arg1) (ix2 r (Fin.castAdd 512 d)) := by
  obtain ⟨e0, e1⟩ := idx1 t
  show V m c main_arg1 (((cfg0.win 1).blk t).view.emb (ix2 p d)) = _
  rw [V_main_arg1]
  refine congrArg (m ((c : Thread nD τ).loc main_arg1)) (funext fun a => Fin.ext ?_)
  match a with
  | ⟨0, _⟩ => show win0_1.index t (0 : Fin 2) * 512 + 1 * p.val = r.val; omega
  | ⟨1, _⟩ => show win0_1.index t (1 : Fin 2) * 512 + 1 * d.val = d.val; omega

theorem blk2 (t : Fin cfg0.N) (p d : Fin 512) (r : Fin 16384) (hr : r.val = t.val * 512 + p.val) :
    iblk m c 2 t (ix2 p d) = m ((c : Thread nD τ).loc main_arg1) (ix2 r (Fin.natAdd 512 d)) := by
  obtain ⟨e0, e1⟩ := idx2 t
  show V m c main_arg1 (((cfg0.win 2).blk t).view.emb (ix2 p d)) = _
  rw [V_main_arg1]
  refine congrArg (m ((c : Thread nD τ).loc main_arg1)) (funext fun a => Fin.ext ?_)
  match a with
  | ⟨0, _⟩ => show win0_2.index t (0 : Fin 2) * 512 + 1 * p.val = r.val; omega
  | ⟨1, _⟩ => show win0_2.index t (1 : Fin 2) * 512 + 1 * d.val = 512 + d.val; omega

/-- The two halves of the weights' rows, each in the lanes' order. -/
theorem blk3 (t : Fin cfg0.N) (d : Fin 512) (q : Fin 1024) :
    iblk m c 3 t (ix2 d q) = m ((c : Thread nD τ).loc main_arg2) (ix2 (Fin.castAdd 512 (lane d)) q) := by
  obtain ⟨e0, e1⟩ := idx3 t
  have hd := d.isLt
  show V m c main_v7 (((cfg0.win 3).blk t).view.emb (ix2 d q)) = _
  rw [entry_weights]
  refine Eq.trans ?_ (weights_apply _ (Fin.castAdd 512 d) _ q (by unfold lane; simp only [Fin.val_castAdd]; omega))
  refine congrArg (weights _) (funext fun a => Fin.ext ?_)
  match a with
  | ⟨0, _⟩ => show win0_3.index t (0 : Fin 2) * 512 + 1 * d.val = d.val; omega
  | ⟨1, _⟩ => show win0_3.index t (1 : Fin 2) * 1024 + 1 * q.val = q.val; omega

theorem blk4 (t : Fin cfg0.N) (d : Fin 512) (q : Fin 1024) :
    iblk m c 4 t (ix2 d q) = m ((c : Thread nD τ).loc main_arg2) (ix2 (Fin.natAdd 512 (lane d)) q) := by
  obtain ⟨e0, e1⟩ := idx4 t
  have hd := d.isLt
  show V m c main_v7 (((cfg0.win 4).blk t).view.emb (ix2 d q)) = _
  rw [entry_weights]
  refine Eq.trans ?_ (weights_apply _ (Fin.natAdd 512 d) _ q (by unfold lane; simp only [Fin.val_natAdd]; omega))
  refine congrArg (weights _) (funext fun a => Fin.ext ?_)
  match a with
  | ⟨0, _⟩ => show win0_4.index t (0 : Fin 2) * 512 + 1 * d.val = 512 + d.val; omega
  | ⟨1, _⟩ => show win0_4.index t (1 : Fin 2) * 1024 + 1 * q.val = q.val; omega

theorem blk5 (t : Fin cfg0.N) (q : Fin 1024) : iblk m c 5 t (ix2 0 q) = m ((c : Thread nD τ).loc main_arg3) (ix1 q) := by
  obtain ⟨e0, e1⟩ := idx5 t
  show V m c main_v9 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_scale]
  pointwise

theorem blk6 (t : Fin cfg0.N) (q : Fin 1024) : iblk m c 6 t (ix2 0 q) = m ((c : Thread nD τ).loc main_arg4) (ix1 q) := by
  obtain ⟨e0, e1⟩ := idx6 t
  show V m c main_v10 (((cfg0.win 6).blk t).view.emb (ix2 0 q)) = _
  have e : ((cfg0.win 6).blk t).view.emb (ix2 0 q) = (ix2 0 q : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  rw [e, entry_shift]
  pointwise

/-! ## The result's array after the run -/

/-- The result's array after the run, row by row. -/
theorem array_eq (r : Fin 16384) (q : Fin 1024) :
    (dats m 0 c).arrAt 7 cfg0.N (ix2 r q)
      = Ffn.norm (mixed (fun k => rows (m ((c : Thread nD τ).loc main_arg0)) (ix2 r k))
            (fun d => m ((c : Thread nD τ).loc main_arg1) (ix2 r (Fin.castAdd 512 d))) (fun d => m ((c : Thread nD τ).loc main_arg1) (ix2 r (Fin.natAdd 512 d)))
            (fun d k => m ((c : Thread nD τ).loc main_arg2) (ix2 (Fin.castAdd 512 (lane d)) k))
            (fun d k => m ((c : Thread nD τ).loc main_arg2) (ix2 (Fin.natAdd 512 (lane d)) k)))
          (m ((c : Thread nD τ).loc main_arg3) (ix1 q)) (m ((c : Thread nD τ).loc main_arg4) (ix1 q)) q := by
  have hN : cfg0.N = 32 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx7 t
  have he : ((cfg0.win 7).blk t).view.emb (ix2 p q) = (ix2 r q : S16384x1024.Idx) := by
    funext a; apply Fin.ext
    match a with
    | ⟨0, _⟩ => show win0_7.index t (0 : Fin 2) * 512 + 1 * p.val = r.val; omega
    | ⟨1, _⟩ => show win0_7.index t (1 : Fin 2) * 1024 + 1 * q.val = q.val; omega
  have hb := congrFun ((Value.blocks7 m c t (flush7 t)).trans (Value.flushed7 m c t)) (ix2 p q)
  refine Eq.trans (congrArg ((dats m 0 c).arrAt 7 cfg0.N) he.symm) (hb.trans ?_)
  refine (congrFun (OutPair.block7 (iblk m c 0 t) (iblk m c 1 t) (iblk m c 2 t) (iblk m c 3 t) (iblk m c 4 t) (iblk m c 5 t) (iblk m c 6 t)) (ix2 p q)).trans ?_
  rw [pay_apply, blk5, blk6]
  simp only [blk0 m c t p _ r hrt, blk1 m c t p _ r hrt, blk2 m c t p _ r hrt, blk3, blk4]

end Kernel

/-! ## The reference's term -/

section Reference
open Cert.Reference6Ideal Cert.Reference6Ideal.Gen

/-- The attention's lanes in the order of its heads. -/
def heads (o : FVec Ideal S16384x1024 .bf16) : FVec Ideal S16384x1024 .f32 :=
  shapeCast S16384x1024 (transpose S16384x2x2x4x64 [0, 1, 3, 2, 4] (shapeCast S16384x2x4x2x64 (extf .f32 o bitsLt_bf16_f32) shapeCasts_S16384x1024_S16384x2x4x2x64)
    transposes_S16384x2x4x2x64_S16384x2x2x4x64_0_1_3_2_4) shapeCasts_S16384x2x2x4x64_S16384x1024

theorem heads_apply (o : FVec Ideal S16384x1024 .bf16) (r : Fin 16384) (d k : Fin 1024)
    (hk : k.val = 64 * (8 * (d.val / 64 / 8) + 2 * (d.val / 64 % 4) + d.val / 64 % 8 / 4) + d.val % 64) :
    heads o (ix2 r d) = o (ix2 r k) := by
  have hd := d.isLt
  have e0 : d.val / 64 / 8 = d.val / 512 := Nat.div_div_eq_div_mul ..
  have e1 : d.val / 256 / 2 = d.val / 512 := Nat.div_div_eq_div_mul ..
  have e2 : d.val / 64 / 4 = d.val / 256 := Nat.div_div_eq_div_mul ..
  have e3 : d.val / 64 % 8 / 4 = d.val / 256 % 2 := by omega
  rw [e0, e3] at hk
  pointwise [heads]
  refine congrArg (fun z => o (ix2 r z)) (Fin.ext ?_)
  rw [hk]
  dsimp only
  omega

/-- The reference's composed term is the normalization of its sum. -/
theorem ref_eq (m : (ℓ : Loc nD τ sig) → Buf (Elt Ideal) ℓ) (c : Dev nD) :
    Cert.Reference6Ideal.Value.res_main_v32 m c
      = Ffn.refNorm (refSum (shapeCast S16384x1024 (m ((c.tc : Thread nD τ).loc main_arg0)) shapeCasts_S4x4096x1024_S16384x1024)
          (heads (m ((c.tc : Thread nD τ).loc main_arg1))) (m ((c.tc : Thread nD τ).loc main_arg2)))
          (m ((c.tc : Thread nD τ).loc main_arg3)) (m ((c.tc : Thread nD τ).loc main_arg4)) := rfl

end Reference

/-- From equal arguments the reference's result is the array that the call leaves. -/
theorem equal (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (h0 : m' ((c.tc : Thread _ _).loc Cert.Reference6Ideal.main_arg0) = m ((c.tc : Thread _ _).loc Cert.Kernel6Ideal.main_arg0))
    (h1 : m' ((c.tc : Thread _ _).loc Cert.Reference6Ideal.main_arg1) = m ((c.tc : Thread _ _).loc Cert.Kernel6Ideal.main_arg1))
    (h2 : m' ((c.tc : Thread _ _).loc Cert.Reference6Ideal.main_arg2) = m ((c.tc : Thread _ _).loc Cert.Kernel6Ideal.main_arg2))
    (h3 : m' ((c.tc : Thread _ _).loc Cert.Reference6Ideal.main_arg3) = m ((c.tc : Thread _ _).loc Cert.Kernel6Ideal.main_arg3))
    (h4 : m' ((c.tc : Thread _ _).loc Cert.Reference6Ideal.main_arg4) = m ((c.tc : Thread _ _).loc Cert.Kernel6Ideal.main_arg4)) :
    Cert.Reference6Ideal.Value.res_main_v32 m' c = (Cert.Kernel6Ideal.Gen.dats m 0 c).arrAt 7 Cert.Kernel6Ideal.cfg0.N := by
  rw [ref_eq]
  funext i
  obtain ⟨r, q, rfl⟩ : ∃ (r : Fin 16384) (q : Fin 1024), i = ix2 r q := ⟨i 0, i 1, eq_ix2 i⟩
  refine Eq.trans ?_ (array_eq m c r q).symm
  rw [Ffn.refNorm_apply, h3, h4]
  refine congrArg (fun f => Ffn.norm f _ _ q) (funext fun k => ?_)
  rw [OutPair.refSum_apply, h0, h1, h2]
  let o : FVec Ideal ⟨2, ![16384, 1024]⟩ .bf16 := m ((c.tc : Thread _ _).loc Cert.Kernel6Ideal.main_arg1)
  let w : FVec Ideal ⟨2, ![1024, 1024]⟩ .f32 := m ((c.tc : Thread _ _).loc Cert.Kernel6Ideal.main_arg2)
  refine mixed_eq (fun k => rows _ (ix2 r k)) (fun d => o (ix2 r (Fin.castAdd 512 d))) (fun d => o (ix2 r (Fin.natAdd 512 d)))
    (fun d => heads o (ix2 r d)) (fun d k => w (ix2 d k)) k (fun d k => w (ix2 (Fin.natAdd 512 (lane d)) k))
    (fun d => heads_apply o r (Fin.castAdd 512 d) _ (by have := d.isLt; unfold place; simp only [Fin.val_castAdd]; omega)) ?_
  refine Eq.trans ?_ (sum_place (fun d => o (ix2 r (Fin.natAdd 512 d))) fun d => w (ix2 (Fin.natAdd 512 d) k))
  exact Finset.sum_congr rfl fun d _ => congrArg (· * _)
    (heads_apply o r (Fin.natAdd 512 d) _ (by have := d.isLt; unfold place; simp only [Fin.val_natAdd]; omega))

end Cert.OutWhole

end
-- ==== Proof.SampBlock.lean ====
/- The blocks that the projection call for the new rows writes: on the same blocks it writes what the prompt's call writes. -/
module

public import proofs.«01_k».proof.Proof.ProjBlock
public import proofs.«01_k».proof.Proof.Gen.Kernel7Ideal.Value

@[expose] public section

noncomputable section

namespace Cert.Samp.Block

open Cert.Kernel7Ideal Cert.Kernel7Ideal.Gen Idealize.ShloMosaic Idealize.ShloMosaic.TcCoe Idealize.SL.Sem
open Cert.Proj (off0)

variable (c : Dev nD) (i : grid0.Coords) (j : Cert.Kernel3Ideal.grid0.Coords)
  (a1 : Memref sig .tc .vmem S512x1024 .f32) (h1 : a1.IsWhole)
  (a2 : Memref sig .tc .vmem S1024x2688 .bf16) (h2 : a2.IsWhole)
  (a3 : Memref sig .tc .vmem S512x128 .f32) (h3 : a3.IsWhole)
  (a4 : Memref sig .tc .vmem S512x128 .f32) (h4 : a4.IsWhole)
  (a5 : Memref sig .tc .vmem S512x1024 .bf16) (h5 : a5.IsWhole)
  (a6 : Memref sig .tc .vmem S512x256 .f32) (h6 : a6.IsWhole)
  (a7 : Memref sig .tc .vmem S512x256 .f32) (h7 : a7.IsWhole)
  (a8 : Memref sig .tc .vmem S512x256 .f32) (h8 : a8.IsWhole)
  (a9 : Memref sig .tc .vmem S512x256 .f32) (h9 : a9.IsWhole)
  (a10 : Memref sig .tc .vmem S512x256 .f32) (h10 : a10.IsWhole)
  (a11 : Memref sig .tc .vmem S512x256 .f32) (h11 : a11.IsWhole)
  (a12 : Memref sig .tc .vmem S512x128 .f32) (h12 : a12.IsWhole)
  (a13 : Memref sig .tc .vmem S512x1024 .bf16) (h13 : a13.IsWhole)
  (b1 : Memref Cert.Kernel3Ideal.sig .tc .vmem S512x1024 .f32) (g1 : b1.IsWhole)
  (b2 : Memref Cert.Kernel3Ideal.sig .tc .vmem S1024x2688 .bf16) (g2 : b2.IsWhole)
  (b3 : Memref Cert.Kernel3Ideal.sig .tc .vmem S512x128 .f32) (g3 : b3.IsWhole)
  (b4 : Memref Cert.Kernel3Ideal.sig .tc .vmem S512x128 .f32) (g4 : b4.IsWhole)
  (b5 : Memref Cert.Kernel3Ideal.sig .tc .vmem S512x1024 .bf16) (g5 : b5.IsWhole)
  (b6 : Memref Cert.Kernel3Ideal.sig .tc .vmem S512x256 .f32) (g6 : b6.IsWhole)
  (b7 : Memref Cert.Kernel3Ideal.sig .tc .vmem S512x256 .f32) (g7 : b7.IsWhole)
  (b8 : Memref Cert.Kernel3Ideal.sig .tc .vmem S512x256 .f32) (g8 : b8.IsWhole)
  (b9 : Memref Cert.Kernel3Ideal.sig .tc .vmem S512x256 .f32) (g9 : b9.IsWhole)
  (b10 : Memref Cert.Kernel3Ideal.sig .tc .vmem S512x256 .f32) (g10 : b10.IsWhole)
  (b11 : Memref Cert.Kernel3Ideal.sig .tc .vmem S512x256 .f32) (g11 : b11.IsWhole)
  (b12 : Memref Cert.Kernel3Ideal.sig .tc .vmem S512x128 .f32) (g12 : b12.IsWhole)
  (b13 : Memref Cert.Kernel3Ideal.sig .tc .vmem S512x1024 .bf16) (g13 : b13.IsWhole)
  (x0 : Vec Ideal S512x1024 .f32) (x1 : Vec Ideal S1024x2688 .bf16) (x2 x3 : Vec Ideal S512x128 .f32)

theorem same4 : out0_A_4 c i a1 h1 a2 h2 a3 h3 a4 h4 a5 h5 a6 h6 a7 h7 a8 h8 a9 h9 a10 h10 a11 h11 a12 h12 a13 h13 x0 x1 x2 x3 = Cert.Kernel3Ideal.Gen.out0_A_4 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_4 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_4 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same5 : out0_A_5 c i a1 h1 a2 h2 a3 h3 a4 h4 a5 h5 a6 h6 a7 h7 a8 h8 a9 h9 a10 h10 a11 h11 a12 h12 a13 h13 x0 x1 x2 x3 = Cert.Kernel3Ideal.Gen.out0_A_5 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_5 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_5 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same6 : out0_A_6 c i a1 h1 a2 h2 a3 h3 a4 h4 a5 h5 a6 h6 a7 h7 a8 h8 a9 h9 a10 h10 a11 h11 a12 h12 a13 h13 x0 x1 x2 x3 = Cert.Kernel3Ideal.Gen.out0_A_6 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_6 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_6 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same7 : out0_A_7 c i a1 h1 a2 h2 a3 h3 a4 h4 a5 h5 a6 h6 a7 h7 a8 h8 a9 h9 a10 h10 a11 h11 a12 h12 a13 h13 x0 x1 x2 x3 = Cert.Kernel3Ideal.Gen.out0_A_7 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_7 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_7 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same8 : out0_A_8 c i a1 h1 a2 h2 a3 h3 a4 h4 a5 h5 a6 h6 a7 h7 a8 h8 a9 h9 a10 h10 a11 h11 a12 h12 a13 h13 x0 x1 x2 x3 = Cert.Kernel3Ideal.Gen.out0_A_8 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_8 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_8 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same9 : out0_A_9 c i a1 h1 a2 h2 a3 h3 a4 h4 a5 h5 a6 h6 a7 h7 a8 h8 a9 h9 a10 h10 a11 h11 a12 h12 a13 h13 x0 x1 x2 x3 = Cert.Kernel3Ideal.Gen.out0_A_9 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_9 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_9 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same10 : out0_A_10 c i a1 h1 a2 h2 a3 h3 a4 h4 a5 h5 a6 h6 a7 h7 a8 h8 a9 h9 a10 h10 a11 h11 a12 h12 a13 h13 x0 x1 x2 x3 = Cert.Kernel3Ideal.Gen.out0_A_10 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_10 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_10 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same11 : out0_A_11 c i a1 h1 a2 h2 a3 h3 a4 h4 a5 h5 a6 h6 a7 h7 a8 h8 a9 h9 a10 h10 a11 h11 a12 h12 a13 h13 x0 x1 x2 x3 = Cert.Kernel3Ideal.Gen.out0_A_11 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_11 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_11 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

theorem same12 : out0_A_12 c i a1 h1 a2 h2 a3 h3 a4 h4 a5 h5 a6 h6 a7 h7 a8 h8 a9 h9 a10 h10 a11 h11 a12 h12 a13 h13 x0 x1 x2 x3 = Cert.Kernel3Ideal.Gen.out0_A_12 c j b1 g1 b2 g2 b3 g3 b4 g4 b5 g5 b6 g6 b7 g7 b8 g8 b9 g9 b10 g10 b11 g11 b12 g12 b13 g13 x0 x1 x2 x3 := by
  refine (View.read_writes_eq_canon _ _ _ (cover0_A_12 c i a1 h1 a2 h2 a3 h3 a4 h4 a5 h5 a6 h6 a7 h7 a8 h8 a9 h9 a10 h10 a11 h11 a12 h12 a13 h13 x0 x1 x2 x3)).trans
    (Eq.trans ?_ (View.read_writes_eq_canon _ _ _ (Cert.Kernel3Ideal.Gen.cover0_A_12 c j b1 g1 b2 g2 b3 g3 b4 g4 b5 g5 b6 g6 b7 g7 b8 g8 b9 g9 b10 g10 b11 g11 b12 g12 b13 g13 x0 x1 x2 x3)).symm)
  unfold kernelRun0_A Cert.Kernel3Ideal.Gen.kernelRun0_A
  dsimp only
  sl_unfold_words
  simp only [View.readAt_eq_ld, h1.read_unread, h2.read_unread, h3.read_unread, h4.read_unread, g1.read_unread, g2.read_unread, g3.read_unread, g4.read_unread,
    View.ld_unit_zero (S := S512x1024) off0, View.ld_unit_zero (S := S1024x2688) off0, View.ld_unit_zero (S := S512x128) off0]
  rfl

end Cert.Samp.Block

end
-- ==== Proof.SampEntry.lean ====
/- What the windows of the projection call for the new rows read: the rows, the weights in the order of the results, and the
   tables of cosines and sines at the new rows' positions. -/
module

public import proofs.«01_k».proof.Proof.Gen.Kernel7Ideal.Value
public import proofs.«01_k».proof.Proof.ProjEntry

@[expose] public section

noncomputable section

namespace Cert.Samp.Entry

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The divisor four, or one where it is zero. -/
def four : IVec S_ 32 := select (cmpi .eq (constantI S_ 32 4#32) (constantI S_ 32 0#32)) (constantI S_ 32 1#32) (constantI S_ 32 4#32)

/-- The remainder of the row's number before its sign is put right. -/
def rest : IVec S512 32 := Host.remsi (iotaInDim S512 32 0) (broadcastInDim S512 ![] bcast_S_S512 four)

/-- The positions of the rows: the row's number modulo four, behind the 2048 of the cache. -/
def places : IVec S512 32 :=
  addi (broadcastInDim S512 ![] bcast_S_S512 (constantI S_ 32 2048#32))
    (select (andi (cmpi .ne (cmpi .slt rest (broadcastInDim S512 ![] bcast_S_S512 (constantI S_ 32 0#32)))
        (broadcastInDim S512 ![] bcast_S_S512 (cmpi .slt four (constantI S_ 32 0#32))))
      (cmpi .ne rest (broadcastInDim S512 ![] bcast_S_S512 (constantI S_ 32 0#32))))
      (addi rest (broadcastInDim S512 ![] bcast_S_S512 four)) rest)

/-- The angles: position times the inverse power of the lane. -/
def angles : FVec Ideal S512x32 .f32 :=
  mulf (broadcastInDim S512x32 ![0, 1] bcast_S512x1_S512x32_0_1
      (broadcastInDim S512x1 ![0] bcast_S512_S512x1_0 (sitofp .f32 places)))
    (broadcastInDim S512x32 ![0, 1] bcast_S1x32_S512x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of cosines, twice over the two halves of a head. -/
def cosOf (angles : FVec Ideal S512x32 .f32) : FVec Ideal S512x128 .f32 :=
  have t := concatenate S512x64 1 [⟨S512x32, Host.cos (F := Ideal) (φ := .f32) angles⟩, ⟨S512x32, Host.cos (F := Ideal) (φ := .f32) angles⟩] concatenates_S512x32_S512x32_S512x64_d1
  concatenate S512x128 1 [⟨S512x64, t⟩, ⟨S512x64, t⟩] concatenates_S512x64_S512x64_S512x128_d1

/-- A table of sines, negated on the first half of a head. -/
def sinOf (angles : FVec Ideal S512x32 .f32) : FVec Ideal S512x128 .f32 :=
  have t := concatenate S512x64 1 [⟨S512x32, Host.negf (F := Ideal) (φ := .f32) (Host.sin (F := Ideal) (φ := .f32) angles)⟩, ⟨S512x32, Host.sin (F := Ideal) (φ := .f32) angles⟩] concatenates_S512x32_S512x32_S512x64_d1
  concatenate S512x128 1 [⟨S512x64, t⟩, ⟨S512x64, t⟩] concatenates_S512x64_S512x64_S512x128_d1

/-- The table of the rows' cosines. -/
def cosTable : FVec Ideal S512x128 .f32 := cosOf angles

/-- The table of the rows' sines. -/
def sinTable : FVec Ideal S512x128 .f32 := sinOf angles

/-- The rows: the first argument with its first two axes joined. -/
def rows : FVec Ideal S512x1024 .f32 :=
  shapeCast S512x1024 (m ((c : Thread nD τ).loc main_arg0)) shapeCasts_S128x4x1024_S512x1024

theorem entry_rows : V m c main_v27 = rows m c := by
  simp only [V, hostOps0, hostOps0_1, hostOps0_2, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results_simp <;> (try dsimp only [Matrix.cons_val]) <;> (try after_results_simp) <;> rfl
theorem entry_weights : V m c main_v45 = Cert.Proj.weights (m ((c : Thread nD τ).loc main_arg1)) := by
  simp only [V, hostOps0, hostOps0_1, hostOps0_2, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results_simp <;> (try dsimp only [Matrix.cons_val]) <;> (try after_results_simp) <;> rfl
/-- The buffers once the angles are there. -/
abbrev U : Valuation τ sig (Elt Ideal) :=
  StableHlo.after (hostOps0 ++ hostOps0_1 ++ hostOps0_2.take 17) (fun b => m (c, b))

theorem entry_angles : U m c main_v15 = angles := by
  simp only [U, hostOps0, hostOps0_1, hostOps0_2, List.take, List.cons_append, List.nil_append, StableHlo.TRef.nullary, StableHlo.TRef.ternary, StableHlo.TRef.binary, StableHlo.TRef.unary, StableHlo.TRef.toBuf, StableHlo.TRef.ofBuf, cast_eq]
  after_results_simp <;> rfl

theorem cos_of (s : Valuation τ sig (Elt Ideal)) : StableHlo.after (hostOps0_2.drop 17) s main_v21 = cosOf (s main_v15) := by
  simp only [hostOps0_2, List.drop]
  after_results_simp <;> rfl

theorem sin_of (s : Valuation τ sig (Elt Ideal)) : StableHlo.after (hostOps0_2.drop 17) s main_v22 = sinOf (s main_v15) := by
  simp only [hostOps0_2, List.drop]
  after_results_simp <;> rfl

theorem entry_cos : V m c main_v21 = cosTable :=
  (show V m c main_v21 = StableHlo.after (hostOps0_2.drop 17) (U m c) main_v21 from rfl).trans ((cos_of (U m c)).trans (congrArg cosOf (entry_angles m c)))
theorem entry_sin : V m c main_v22 = sinTable :=
  (show V m c main_v22 = StableHlo.after (hostOps0_2.drop 17) (U m c) main_v22 from rfl).trans ((sin_of (U m c)).trans (congrArg sinOf (entry_angles m c)))

theorem place_apply (p : Fin 512) : places (ix1 p) = IntOp.addi 2048#32 (BitVec.ofNat 32 (p.val % 4)) := by
  have h : ∀ p : Fin 512, places (ix1 p) = IntOp.addi 2048#32 (BitVec.ofNat 32 (p.val % 4)) := by decide +kernel
  exact h p

theorem cos_apply (t : Fin 512) (l : Fin 128) : cosTable (ix2 t l) = Ideal.cos (angles (ix2 t ⟨l.val % 32, by omega⟩)) := by
  pointwise [cosTable, cosOf]
  split <;> split <;> exact congrArg (fun q => Ideal.cos (angles (ix2 t q))) (Fin.ext (by simp only; omega))

theorem sin_apply (t : Fin 512) (l : Fin 128) : sinTable (ix2 t l)
    = if l.val % 64 < 32 then -Ideal.sin (angles (ix2 t ⟨l.val % 32, by omega⟩)) else Ideal.sin (angles (ix2 t ⟨l.val % 32, by omega⟩)) := by
  have hl := l.isLt
  have hp : l.val % 64 < 32 → (-Ideal.sin (angles (ix2 t ⟨l.val % 32, by omega⟩)) : EReal)
      = if l.val % 64 < 32 then -Ideal.sin (angles (ix2 t ⟨l.val % 32, by omega⟩)) else Ideal.sin (angles (ix2 t ⟨l.val % 32, by omega⟩)) :=
    fun h => (if_pos h).symm
  have hn : ¬l.val % 64 < 32 → (Ideal.sin (angles (ix2 t ⟨l.val % 32, by omega⟩)) : EReal)
      = if l.val % 64 < 32 then -Ideal.sin (angles (ix2 t ⟨l.val % 32, by omega⟩)) else Ideal.sin (angles (ix2 t ⟨l.val % 32, by omega⟩)) :=
    fun h => (if_neg h).symm
  by_cases h0 : l.val < 64 <;> by_cases h1 : l.val % 64 < 32
  · refine Eq.trans ?_ (hp h1)
    pointwise [sinTable, sinOf]
    refine (dif_pos h0).trans ((dif_pos (show l.val < 32 by omega)).trans ?_)
    exact congrArg (fun q => -Ideal.sin (angles (ix2 t q))) (Fin.ext (by show l.val = l.val % 32; omega))
  · refine Eq.trans ?_ (hn h1)
    pointwise [sinTable, sinOf]
    refine (dif_pos h0).trans ((dif_neg (show ¬l.val < 32 by omega)).trans ?_)
    exact congrArg (fun q => Ideal.sin (angles (ix2 t q))) (Fin.ext (by show l.val - 32 = l.val % 32; omega))
  · refine Eq.trans ?_ (hp h1)
    pointwise [sinTable, sinOf]
    refine (dif_neg h0).trans ((dif_pos (show l.val - 64 < 32 by omega)).trans ?_)
    exact congrArg (fun q => -Ideal.sin (angles (ix2 t q))) (Fin.ext (by show l.val - 64 = l.val % 32; omega))
  · refine Eq.trans ?_ (hn h1)
    pointwise [sinTable, sinOf]
    refine (dif_neg h0).trans ((dif_neg (show ¬l.val - 64 < 32 by omega)).trans ?_)
    exact congrArg (fun q => Ideal.sin (angles (ix2 t q))) (Fin.ext (by show l.val - 64 - 32 = l.val % 32; omega))

end Cert.Samp.Entry

end
-- ==== Proof.SampMath.lean ====
/- The reference of the new rows' projections: its terms are the projection of each row, at the positions behind the cache. -/
module

public import proofs.«01_k».proof.Proof.Gen.Reference7Ideal.Run
public import proofs.«01_k».proof.Proof.ProjMath

@[expose] public section

noncomputable section

namespace Cert.Samp

open Cert.Reference7Ideal Cert.Reference7Ideal.Gen Idealize.ShloMosaic Idealize.ShloMosaic.TcCoe Idealize.SL.Sem
open Cert.Proj (turn turn_low turn_high)

/-- Column `k` of row `r` of the product. -/
def col (x : FVec Ideal S128x4x1024 .f32) (w : FVec Ideal S1024x2608 .f32) (r : Fin 512) (k : Fin 2608) : EReal :=
  ∑ d : Fin 1024, x (ix3 ⟨r.val / 4, by omega⟩ ⟨r.val % 4, by omega⟩ d) * w (ix2 d k)

/-- The positions of the four new rows, behind the 2048 of the cache. -/
def places : IVec S4 32 := addi (broadcastInDim S4 ![] bcast_S_S4 (constantI S_ 32 2048#32)) (iotaInDim S4 32 0)

/-- The reference's angles. -/
def refAngles : FVec Ideal S4x32 .f32 :=
  mulf (broadcastInDim S4x32 ![0, 1] bcast_S4x1_S4x32_0_1
      (broadcastInDim S4x1 ![0] bcast_S4_S4x1_0 (sitofp .f32 places)))
    (broadcastInDim S4x32 ![0, 1] bcast_S1x32_S4x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The product of the rows with the weights. -/
def prod (x : FVec Ideal S128x4x1024 .f32) (w : FVec Ideal S1024x2608 .f32) : FVec Ideal S128x4x2608 .f32 :=
  Host.dotGeneral dot_S128x4x1024_S1024x2608_S128x4x2608_2_0_01_1_n_n none x w

theorem prod_apply (x : FVec Ideal S128x4x1024 .f32) (w : FVec Ideal S1024x2608 .f32) (b : Fin 128) (t : Fin 4) (k : Fin 2608)
    (r : Fin 512) (hb : b.val = r.val / 4) (ht : t.val = r.val % 4) : prod x w (ix3 b t k) = col x w r k := by
  rw [show b = ⟨r.val / 4, by omega⟩ from Fin.ext hb, show t = ⟨r.val % 4, by omega⟩ from Fin.ext ht]
  pointwise [prod]
  rfl

/-- The angles' table laid over the rows and the four heads of the keys. -/
def wide4 (a : FVec Ideal S4x32 .f32) : FVec Ideal S128x4x4x32 .f32 :=
  broadcastInDim S128x4x4x32 ![0, 1, 2, 3] bcast_S1x4x1x32_S128x4x4x32_0_1_2_3 (broadcastInDim S1x4x1x32 ![1, 3] bcast_S4x32_S1x4x1x32_1_3 a)

/-- The first half of the four heads of the keys. -/
def lower4 (y : FVec Ideal S128x4x4x64 .f32) : FVec Ideal S128x4x4x32 .f32 := extractStridedSlice S128x4x4x32 ![0, 0, 0, 0] y slices_S128x4x4x64_S128x4x4x32_0_0_0_0
/-- The second half of the four heads of the keys. -/
def upper4 (y : FVec Ideal S128x4x4x64 .f32) : FVec Ideal S128x4x4x32 .f32 := extractStridedSlice S128x4x4x32 ![0, 0, 0, 32] y slices_S128x4x4x64_S128x4x4x32_0_0_0_32
/-- The first half, turned. -/
def front4 (y : FVec Ideal S128x4x4x64 .f32) : FVec Ideal S128x4x4x32 .f32 := subf (mulf (lower4 y) (wide4 (Host.cos (F := Ideal) (φ := .f32) refAngles))) (mulf (upper4 y) (wide4 (Host.sin (F := Ideal) (φ := .f32) refAngles)))
/-- The second half, turned. -/
def back4 (y : FVec Ideal S128x4x4x64 .f32) : FVec Ideal S128x4x4x32 .f32 := addf (mulf (upper4 y) (wide4 (Host.cos (F := Ideal) (φ := .f32) refAngles))) (mulf (lower4 y) (wide4 (Host.sin (F := Ideal) (φ := .f32) refAngles)))

theorem front4_apply (y : FVec Ideal S128x4x4x64 .f32) (b : Fin 128) (t : Fin 4) (h : Fin 4) (l : Fin 32) :
    front4 y (ix4 b t h l) = y (ix4 b t h ⟨l.val, by omega⟩) * Ideal.cos (refAngles (ix2 t l))
      - y (ix4 b t h ⟨32 + l.val, by omega⟩) * Ideal.sin (refAngles (ix2 t l)) := by
  pointwise [front4, wide4, lower4, upper4]
theorem back4_apply (y : FVec Ideal S128x4x4x64 .f32) (b : Fin 128) (t : Fin 4) (h : Fin 4) (l : Fin 32) :
    back4 y (ix4 b t h l) = y (ix4 b t h ⟨32 + l.val, by omega⟩) * Ideal.cos (refAngles (ix2 t l))
      + y (ix4 b t h ⟨l.val, by omega⟩) * Ideal.sin (refAngles (ix2 t l)) := by
  pointwise [back4, wide4, lower4, upper4]

/-- The four heads of the keys, their halves turned by the angles. -/
def turn4 (y : FVec Ideal S128x4x4x64 .f32) : FVec Ideal S128x4x4x64 .f32 :=
  concatenate S128x4x4x64 3 [⟨S128x4x4x32, front4 y⟩, ⟨S128x4x4x32, back4 y⟩] concatenates_S128x4x4x32_S128x4x4x32_S128x4x4x64_d3

theorem turn4_low (y : FVec Ideal S128x4x4x64 .f32) (b : Fin 128) (t : Fin 4) (h : Fin 4) (l : Fin 64) (hl : l.val < 32) :
    turn4 y (ix4 b t h l) = y (ix4 b t h l) * Ideal.cos (refAngles (ix2 t ⟨l.val, hl⟩))
      - y (ix4 b t h ⟨l.val + 32, by omega⟩) * Ideal.sin (refAngles (ix2 t ⟨l.val, hl⟩)) := by
  have e : (⟨l.val + 32, by omega⟩ : Fin 64) = ⟨32 + l.val, by omega⟩ := Fin.ext (Nat.add_comm _ _)
  rw [e]
  refine Eq.trans ?_ (front4_apply y b t h ⟨l.val, hl⟩)
  pointwise [turn4]
  exact dif_pos hl

theorem turn4_high (y : FVec Ideal S128x4x4x64 .f32) (b : Fin 128) (t : Fin 4) (h : Fin 4) (l : Fin 64) (hl : ¬l.val < 32) :
    turn4 y (ix4 b t h l) = y (ix4 b t h l) * Ideal.cos (refAngles (ix2 t ⟨l.val - 32, by omega⟩))
      + y (ix4 b t h ⟨l.val - 32, by omega⟩) * Ideal.sin (refAngles (ix2 t ⟨l.val - 32, by omega⟩)) := by
  have e : (⟨32 + (l.val - 32), by omega⟩ : Fin 64) = l := Fin.ext (by show 32 + (l.val - 32) = l.val; omega)
  refine Eq.trans ?_ ((back4_apply y b t h ⟨l.val - 32, by omega⟩).trans (by rw [e]))
  pointwise [turn4]
  exact dif_neg hl

/-- The angles' table laid over the rows and the sixteen heads of the queries. -/
def wide16 (a : FVec Ideal S4x32 .f32) : FVec Ideal S128x4x16x32 .f32 :=
  broadcastInDim S128x4x16x32 ![0, 1, 2, 3] bcast_S1x4x1x32_S128x4x16x32_0_1_2_3 (broadcastInDim S1x4x1x32 ![1, 3] bcast_S4x32_S1x4x1x32_1_3 a)

/-- The first half of the sixteen heads of the queries. -/
def lower16 (y : FVec Ideal S128x4x16x64 .f32) : FVec Ideal S128x4x16x32 .f32 := extractStridedSlice S128x4x16x32 ![0, 0, 0, 0] y slices_S128x4x16x64_S128x4x16x32_0_0_0_0
/-- The second half of the sixteen heads of the queries. -/
def upper16 (y : FVec Ideal S128x4x16x64 .f32) : FVec Ideal S128x4x16x32 .f32 := extractStridedSlice S128x4x16x32 ![0, 0, 0, 32] y slices_S128x4x16x64_S128x4x16x32_0_0_0_32
/-- The first half, turned. -/
def front16 (y : FVec Ideal S128x4x16x64 .f32) : FVec Ideal S128x4x16x32 .f32 := subf (mulf (lower16 y) (wide16 (Host.cos (F := Ideal) (φ := .f32) refAngles))) (mulf (upper16 y) (wide16 (Host.sin (F := Ideal) (φ := .f32) refAngles)))
/-- The second half, turned. -/
def back16 (y : FVec Ideal S128x4x16x64 .f32) : FVec Ideal S128x4x16x32 .f32 := addf (mulf (upper16 y) (wide16 (Host.cos (F := Ideal) (φ := .f32) refAngles))) (mulf (lower16 y) (wide16 (Host.sin (F := Ideal) (φ := .f32) refAngles)))

theorem front16_apply (y : FVec Ideal S128x4x16x64 .f32) (b : Fin 128) (t : Fin 4) (h : Fin 16) (l : Fin 32) :
    front16 y (ix4 b t h l) = y (ix4 b t h ⟨l.val, by omega⟩) * Ideal.cos (refAngles (ix2 t l))
      - y (ix4 b t h ⟨32 + l.val, by omega⟩) * Ideal.sin (refAngles (ix2 t l)) := by
  pointwise [front16, wide16, lower16, upper16]
theorem back16_apply (y : FVec Ideal S128x4x16x64 .f32) (b : Fin 128) (t : Fin 4) (h : Fin 16) (l : Fin 32) :
    back16 y (ix4 b t h l) = y (ix4 b t h ⟨32 + l.val, by omega⟩) * Ideal.cos (refAngles (ix2 t l))
      + y (ix4 b t h ⟨l.val, by omega⟩) * Ideal.sin (refAngles (ix2 t l)) := by
  pointwise [back16, wide16, lower16, upper16]

/-- The sixteen heads of the queries, their halves turned by the angles. -/
def turn16 (y : FVec Ideal S128x4x16x64 .f32) : FVec Ideal S128x4x16x64 .f32 :=
  concatenate S128x4x16x64 3 [⟨S128x4x16x32, front16 y⟩, ⟨S128x4x16x32, back16 y⟩] concatenates_S128x4x16x32_S128x4x16x32_S128x4x16x64_d3

theorem turn16_low (y : FVec Ideal S128x4x16x64 .f32) (b : Fin 128) (t : Fin 4) (h : Fin 16) (l : Fin 64) (hl : l.val < 32) :
    turn16 y (ix4 b t h l) = y (ix4 b t h l) * Ideal.cos (refAngles (ix2 t ⟨l.val, hl⟩))
      - y (ix4 b t h ⟨l.val + 32, by omega⟩) * Ideal.sin (refAngles (ix2 t ⟨l.val, hl⟩)) := by
  have e : (⟨l.val + 32, by omega⟩ : Fin 64) = ⟨32 + l.val, by omega⟩ := Fin.ext (Nat.add_comm _ _)
  rw [e]
  refine Eq.trans ?_ (front16_apply y b t h ⟨l.val, hl⟩)
  pointwise [turn16]
  exact dif_pos hl

theorem turn16_high (y : FVec Ideal S128x4x16x64 .f32) (b : Fin 128) (t : Fin 4) (h : Fin 16) (l : Fin 64) (hl : ¬l.val < 32) :
    turn16 y (ix4 b t h l) = y (ix4 b t h l) * Ideal.cos (refAngles (ix2 t ⟨l.val - 32, by omega⟩))
      + y (ix4 b t h ⟨l.val - 32, by omega⟩) * Ideal.sin (refAngles (ix2 t ⟨l.val - 32, by omega⟩)) := by
  have e : (⟨32 + (l.val - 32), by omega⟩ : Fin 64) = l := Fin.ext (by show 32 + (l.val - 32) = l.val; omega)
  refine Eq.trans ?_ ((back16_apply y b t h ⟨l.val - 32, by omega⟩).trans (by rw [e]))
  pointwise [turn16]
  exact dif_neg hl

/-- The angles of row `r`. -/
def rowAngles (r : Fin 512) (l : Fin 32) : EReal := refAngles (ix2 ⟨r.val % 4, by omega⟩ l)

/-- The key columns of the result: the heads turned. -/
def keys (y : FVec Ideal S128x4x256 .f32) : FVec Ideal S512x256 .f32 :=
  shapeCast S512x256 (turn4 (shapeCast S128x4x4x64 y shapeCasts_S128x4x256_S128x4x4x64)) shapeCasts_S128x4x4x64_S512x256

theorem keys_apply (y : FVec Ideal S128x4x256 .f32) (f : Fin 2608 → EReal) (o : Nat) (ho : o % 64 = 0) (hb : o + 256 ≤ 2560)
    (r : Fin 512) (n : Fin 256)
    (hy : ∀ k : Fin 256, y (ix3 ⟨r.val / 4, by omega⟩ ⟨r.val % 4, by omega⟩ k) = f ⟨o + k.val, by omega⟩) :
    keys y (ix2 r n) = turn f (rowAngles r) ⟨o + n.val, by omega⟩ := by
  have hc : ∀ (l : Fin 64) (k : Fin 2608), k.val = o + (n.val / 64 * 64 + l.val) →
      shapeCast S128x4x4x64 y shapeCasts_S128x4x256_S128x4x4x64
      (ix4 ⟨r.val / 4, by omega⟩ ⟨r.val % 4, by omega⟩ ⟨n.val / 64, by omega⟩ l) = f k := by
    intro l k hk
    rw [show k = ⟨o + (n.val / 64 * 64 + l.val), by omega⟩ from Fin.ext hk]
    refine Eq.trans ?_ (hy ⟨n.val / 64 * 64 + l.val, by omega⟩)
    pointwise
  have hk : keys y (ix2 r n) = turn4 (shapeCast S128x4x4x64 y shapeCasts_S128x4x256_S128x4x4x64)
      (ix4 ⟨r.val / 4, by omega⟩ ⟨r.val % 4, by omega⟩ ⟨n.val / 64, by omega⟩ ⟨n.val % 64, by omega⟩) := by
    pointwise [keys]
  rw [hk]
  by_cases h : n.val % 64 < 32
  · rw [turn4_low _ _ _ _ _ h, hc _ ⟨o + n.val, by omega⟩ (by simp only; omega), hc _ ⟨o + n.val + 32, by omega⟩ (by simp only; omega),
      turn_low f (rowAngles r) ⟨o + n.val, by omega⟩ (n.val % 64) (by simp only; omega) h]
    rfl
  · rw [turn4_high _ _ _ _ _ h, hc _ ⟨o + n.val, by omega⟩ (by simp only; omega), hc _ ⟨o + n.val - 32, by omega⟩ (by simp only; omega),
      turn_high f (rowAngles r) ⟨o + n.val, by omega⟩ (n.val % 64) (by simp only; omega) h]
    rfl

/-- The query columns of the result: the heads turned and scaled, and the eight heads of a half put in pairs, four apart. -/
def queries (y : FVec Ideal S128x4x1024 .f32) : FVec Ideal S512x1024 .bf16 :=
  truncf .bf16 (shapeCast S512x1024 (transpose S128x4x2x4x2x64 [0, 1, 2, 4, 3, 5]
    (shapeCast S128x4x2x2x4x64 (mulf (turn16 (shapeCast S128x4x16x64 y shapeCasts_S128x4x1024_S128x4x16x64))
      (broadcastInDim S128x4x16x64 ![] bcast_S_S128x4x16x64 (constant S_ .f32 0x3E38AA3B#32))) shapeCasts_S128x4x16x64_S128x4x2x2x4x64)
    transposes_S128x4x2x2x4x64_S128x4x2x4x2x64_0_1_2_4_3_5) shapeCasts_S128x4x2x4x2x64_S512x1024) bitsLt_bf16_f32

theorem queries_apply (y : FVec Ideal S128x4x1024 .f32) (f : Fin 2608 → EReal) (r : Fin 512) (n : Fin 1024) (k : Fin 2560)
    (hk : k.val = 64 * (8 * (n.val / 512) + 4 * (n.val / 64 % 2) + n.val / 64 % 8 / 2) + n.val % 64)
    (hy : ∀ k : Fin 1024, y (ix3 ⟨r.val / 4, by omega⟩ ⟨r.val % 4, by omega⟩ k) = f ⟨k.val, by omega⟩) :
    queries y (ix2 r n) = turn f (rowAngles r) k * Ideal.ofBits .f32 0x3E38AA3B#32 := by
  have hc : ∀ (h : Fin 16) (l : Fin 64) (k : Fin 2608), k.val = h.val * 64 + l.val →
      shapeCast S128x4x16x64 y shapeCasts_S128x4x1024_S128x4x16x64
      (ix4 ⟨r.val / 4, by omega⟩ ⟨r.val % 4, by omega⟩ h l) = f k := by
    intro h l k hk
    rw [show k = ⟨h.val * 64 + l.val, by omega⟩ from Fin.ext hk]
    refine Eq.trans ?_ (hy ⟨h.val * 64 + l.val, by omega⟩)
    pointwise
  have hq : queries y (ix2 r n) = turn16 (shapeCast S128x4x16x64 y shapeCasts_S128x4x1024_S128x4x16x64)
      (ix4 ⟨r.val / 4, by omega⟩ ⟨r.val % 4, by omega⟩ ⟨8 * (n.val / 512) + 4 * (n.val / 64 % 2) + n.val / 64 % 8 / 2, by omega⟩ ⟨n.val % 64, by omega⟩)
      * Ideal.ofBits .f32 0x3E38AA3B#32 := by
    pointwise [queries]
    refine congrArg (fun h => turn16 (shapeCast S128x4x16x64 y shapeCasts_S128x4x1024_S128x4x16x64)
      (ix4 ⟨r.val / 4, by omega⟩ ⟨r.val % 4, by omega⟩ h ⟨n.val % 64, by omega⟩) * Ideal.ofBits .f32 0x3E38AA3B#32) (Fin.ext ?_)
    show n.val / 512 * 8 + n.val / 64 % 2 * 4 + n.val / 128 % 4 = 8 * (n.val / 512) + 4 * (n.val / 64 % 2) + n.val / 64 % 8 / 2
    have e1 : n.val / 128 = n.val / 64 / 2 := (Nat.div_div_eq_div_mul n.val 64 2).symm
    have e2 : n.val / 512 = n.val / 64 / 8 := (Nat.div_div_eq_div_mul n.val 64 8).symm
    have e3 : ∀ j : Fin 16, j.val / 8 * 8 + j.val % 2 * 4 + j.val / 2 % 4 = 8 * (j.val / 8) + 4 * (j.val % 2) + j.val % 8 / 2 := by decide
    rw [e1, e2]
    exact e3 ⟨n.val / 64, by omega⟩
  rw [hq]
  refine congrArg (· * _) ?_
  by_cases h : n.val % 64 < 32
  · rw [turn16_low _ _ _ _ _ h, hc _ _ ⟨k.val, by omega⟩ (by simp only; omega), hc _ _ ⟨k.val + 32, by omega⟩ (by simp only; omega),
      turn_low f (rowAngles r) k (n.val % 64) (by omega) h]
    rfl
  · rw [turn16_high _ _ _ _ _ h, hc _ _ ⟨k.val, by omega⟩ (by simp only; omega), hc _ _ ⟨k.val - 32, by omega⟩ (by simp only; omega),
      turn_high f (rowAngles r) k (n.val % 64) (by omega) h]
    rfl

/-! ## The reference's results at an index -/

variable (x : FVec Ideal S128x4x1024 .f32) (w : FVec Ideal S1024x2608 .f32)

/-- The product's columns from `o` on, `n` of them. -/
theorem part_apply (n o : Nat) (h : S128x4x2608.Slices ![0, 0, o] ⟨3, ![128, 4, n]⟩) (r : Fin 512) (k : Fin n) (q : Fin 2608)
    (hq : q.val = o + k.val) :
    extractStridedSlice ⟨3, ![128, 4, n]⟩ ![0, 0, o] (prod x w) h (ix3 ⟨r.val / 4, by omega⟩ ⟨r.val % 4, by omega⟩ k) = col x w r q := by
  refine Eq.trans (congrArg (prod x w) (funext fun a => Fin.ext ?_))
    (prod_apply x w ⟨r.val / 4, by omega⟩ ⟨r.val % 4, by omega⟩ q r rfl rfl)
  match a with
  | ⟨0, _⟩ => show 0 + r.val / 4 = r.val / 4; omega
  | ⟨1, _⟩ => show 0 + r.val % 4 = r.val % 4; omega
  | ⟨2, _⟩ => exact hq.symm

/-- The keys whose columns begin at `o`. -/
def keysFrom (o : Nat) (h : S128x4x2608.Slices ![0, 0, o] S128x4x256) : FVec Ideal S512x256 .f32 :=
  keys (extractStridedSlice S128x4x256 ![0, 0, o] (prod x w) h)

theorem keysFrom_apply (o : Nat) (h : S128x4x2608.Slices ![0, 0, o] S128x4x256) (ho : o % 64 = 0) (hb : o + 256 ≤ 2560)
    (r : Fin 512) (n : Fin 256) : keysFrom x w o h (ix2 r n) = turn (col x w r) (rowAngles r) ⟨o + n.val, by omega⟩ :=
  keys_apply _ (col x w r) o ho hb r n (fun k => part_apply x w 256 o h r k ⟨o + k.val, by omega⟩ rfl)

/-- The values whose columns begin at `o`. -/
def valuesFrom (o : Nat) (h : S128x4x2608.Slices ![0, 0, o] S128x4x256) : FVec Ideal S512x256 .f32 :=
  shapeCast S512x256 (extractStridedSlice S128x4x256 ![0, 0, o] (prod x w) h) shapeCasts_S128x4x256_S512x256

theorem valuesFrom_apply (o : Nat) (h : S128x4x2608.Slices ![0, 0, o] S128x4x256) (hb : o + 256 ≤ 2608)
    (r : Fin 512) (n : Fin 256) : valuesFrom x w o h (ix2 r n) = col x w r ⟨o + n.val, by omega⟩ := by
  have e : ∀ y : FVec Ideal S128x4x256 .f32, shapeCast S512x256 y shapeCasts_S128x4x256_S512x256 (ix2 r n)
      = y (ix3 ⟨r.val / 4, by omega⟩ ⟨r.val % 4, by omega⟩ n) := by
    intro y; pointwise
  exact (e _).trans (part_apply x w 256 o h r n _ rfl)

/-- The queries. -/
def queriesAll : FVec Ideal S512x1024 .bf16 := queries (extractStridedSlice S128x4x1024 ![0, 0, 0] (prod x w) slices_S128x4x2608_S128x4x1024_0_0_0)

theorem queriesAll_apply (r : Fin 512) (n : Fin 1024) (k : Fin 2560)
    (hk : k.val = 64 * (8 * (n.val / 512) + 4 * (n.val / 64 % 2) + n.val / 64 % 8 / 2) + n.val % 64) :
    queriesAll x w (ix2 r n) = turn (col x w r) (rowAngles r) k * Ideal.ofBits .f32 0x3E38AA3B#32 :=
  queries_apply _ (col x w r) r n k hk fun k => part_apply x w 1024 0 _ r k _ (Nat.zero_add _).symm

/-- The gates' logits, and zeros in the lanes past the 48th. -/
def logits : FVec Ideal S512x128 .f32 :=
  pad S512x128 ![0, 0] ![0, 80] ![0, 0] (shapeCast S512x48 (extractStridedSlice S128x4x48 ![0, 0, 2560] (prod x w) slices_S128x4x2608_S128x4x48_0_0_2560) shapeCasts_S128x4x48_S512x48) (sitofp .f32 (constantI S_ 32 0#32)) pads_S512x48_S512x128_000_0800 h_S_

/-- The gates. -/
def gates : FVec Ideal S512x128 .f32 :=
  Host.divf (broadcastInDim S512x128 ![] bcast_S_S512x128 (constant S_ .f32 0x3F800000#32)) (addf (broadcastInDim S512x128 ![] bcast_S_S512x128 (constant S_ .f32 0x3F800000#32)) (Host.exp (Host.negf (logits x w))))

theorem logits_gate (r : Fin 512) (n : Fin 128) (h : n.val < 48) : logits x w (ix2 r n) = col x w r ⟨2560 + n.val, by omega⟩ := by
  refine Eq.trans ?_ (prod_apply x w ⟨r.val / 4, by omega⟩ ⟨r.val % 4, by omega⟩ ⟨2560 + n.val, by omega⟩ r rfl rfl)
  pointwise [logits]
  exact dif_pos h

theorem logits_zero (r : Fin 512) (n : Fin 128) (h : ¬n.val < 48) : logits x w (ix2 r n) = (0 : EReal) := by
  pointwise [logits]
  refine (dif_neg h).trans ?_
  show (((0#32 : BitVec 32).toInt : ℝ) : EReal) = 0
  simp

theorem gates_apply (r : Fin 512) (n : Fin 128) :
    gates x w (ix2 r n) = Ideal.div 1 (1 + Ideal.exp (-(logits x w (ix2 r n)))) := by
  pointwise [gates]

/-- Four arrays of 256 columns side by side. -/
def besides (a b c d : FVec Ideal S512x256 .f32) : FVec Ideal S512x1024 .bf16 :=
  truncf .bf16 (concatenate S512x1024 1 [⟨S512x256, a⟩, ⟨S512x256, b⟩, ⟨S512x256, c⟩, ⟨S512x256, d⟩]
    concatenates_S512x256_S512x256_S512x256_S512x256_S512x1024_d1) bitsLt_bf16_f32

theorem besides_apply (a b c d : FVec Ideal S512x256 .f32) (r : Fin 512) (n : Fin 1024) :
    besides a b c d (ix2 r n) = if h : n.val < 256 then a (ix2 r ⟨n.val, h⟩) else if h : n.val < 512 then b (ix2 r ⟨n.val - 256, by omega⟩)
      else if h : n.val < 768 then c (ix2 r ⟨n.val - 512, by omega⟩) else d (ix2 r ⟨n.val - 768, by omega⟩) := by
  pointwise [besides]
  by_cases h0 : n.val < 256
  · rw [dif_pos h0, dif_pos h0]
  refine (dif_neg h0).trans (Eq.trans ?_ (dif_neg h0).symm)
  by_cases h1 : n.val < 512
  · rw [dif_pos (show n.val - 256 < 256 by omega), dif_pos h1]
  refine (dif_neg (show ¬n.val - 256 < 256 by omega)).trans (Eq.trans ?_ (dif_neg h1).symm)
  by_cases h2 : n.val < 768
  · refine (dif_pos (show n.val - 256 - 256 < 256 by omega)).trans (Eq.trans ?_ (dif_pos h2).symm)
    exact congrArg (fun q => c (ix2 r q)) (Fin.ext (by show n.val - 256 - 256 = n.val - 512; omega))
  refine (dif_neg (show ¬n.val - 256 - 256 < 256 by omega)).trans (Eq.trans ?_ (dif_neg h2).symm)
  exact congrArg (fun q => d (ix2 r q)) (Fin.ext (by show n.val - 256 - 256 - 256 = n.val - 768; omega))

/-- The keys and the values of the two branches side by side. -/
def both : FVec Ideal S512x1024 .bf16 :=
  besides (keysFrom x w 1536 slices_S128x4x2608_S128x4x256_0_0_1536) (valuesFrom x w 1792 slices_S128x4x2608_S128x4x256_0_0_1792)
    (keysFrom x w 2048 slices_S128x4x2608_S128x4x256_0_0_2048) (valuesFrom x w 2304 slices_S128x4x2608_S128x4x256_0_0_2304)

/-! ## The results of the reference's run -/

variable (m : (ℓ : Loc nD τ sig) → Buf (Elt Ideal) ℓ) (c : Dev nD)

theorem ref_queries : Value.res_out0 m c = queriesAll (m ((c.tc : Thread nD τ).loc main_arg0)) (m ((c.tc : Thread nD τ).loc main_arg1)) := rfl
theorem ref_keys1024 : Value.res_out1 m c = keysFrom (m ((c.tc : Thread nD τ).loc main_arg0)) (m ((c.tc : Thread nD τ).loc main_arg1)) 1024 slices_S128x4x2608_S128x4x256_0_0_1024 := rfl
theorem ref_keys1536 : Value.res_out2 m c = keysFrom (m ((c.tc : Thread nD τ).loc main_arg0)) (m ((c.tc : Thread nD τ).loc main_arg1)) 1536 slices_S128x4x2608_S128x4x256_0_0_1536 := rfl
theorem ref_keys2048 : Value.res_out3 m c = keysFrom (m ((c.tc : Thread nD τ).loc main_arg0)) (m ((c.tc : Thread nD τ).loc main_arg1)) 2048 slices_S128x4x2608_S128x4x256_0_0_2048 := rfl
theorem ref_both : Value.res_out8 m c = both (m ((c.tc : Thread nD τ).loc main_arg0)) (m ((c.tc : Thread nD τ).loc main_arg1)) := rfl

end Cert.Samp

end
-- ==== Proof.SampValue.lean ====
/- The new rows' projection call's arrays after the run, row by row: what the windows read of the arguments, what the one grid
   point writes, and that it is the whole of each array. -/
module

public import proofs.«01_k».proof.Proof.ProjValue
public import proofs.«01_k».proof.Proof.SampBlock
public import proofs.«01_k».proof.Proof.SampEntry
public import proofs.«01_k».proof.Proof.SampMath

@[expose] public section

noncomputable section

namespace Cert.Samp

open Cert.Kernel7Ideal Cert.Kernel7Ideal.Gen Idealize.ShloMosaic Idealize.ShloMosaic.TcCoe Idealize.SL.Sem
open Cert.Proj (turn turned weights weights_apply weights_zero source headAt source_lane source_block pay1_apply pay3_apply pay4_apply logistic kvb)
open Entry (rows cosTable sinTable cos_apply sin_apply entry_rows entry_weights entry_cos entry_sin place_apply)

variable (m : (ℓ : Loc nD τ sig) → Buf (Elt Ideal) ℓ) (c : Dev nD)

/-! ## The windows' blocks -/

theorem joined (x : FVec Ideal S128x4x1024 .f32) (r : Fin 512) (d : Fin 1024) :
    shapeCast S512x1024 x shapeCasts_S128x4x1024_S512x1024 (ix2 r d) = x (ix3 ⟨r.val / 4, by omega⟩ ⟨r.val % 4, by omega⟩ d) := by
  pointwise

theorem rows_apply (r : Fin 512) (d : Fin 1024) :
    rows m c (ix2 r d) = (m ((c : Thread nD τ).loc main_arg0)) (ix3 ⟨r.val / 4, by omega⟩ ⟨r.val % 4, by omega⟩ d) :=
  joined _ r d

/-- The position of a row is its own in the reference. -/
theorem places_row (r : Fin 512) : Entry.places (ix1 r) = places (ix1 ⟨r.val % 4, by omega⟩) := place_apply r

theorem angles_row (r : Fin 512) (l : Fin 32) : Entry.angles (ix2 r l) = rowAngles r l := by
  have h : sitofp (F := Ideal) .f32 Entry.places (ix1 r) = sitofp (F := Ideal) .f32 places (ix1 ⟨r.val % 4, by omega⟩) :=
    congrArg (FloatOps.sitofp (F := Ideal) .f32) (places_row r)
  exact congrArg (· * _) h

theorem index0 : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The rows, whole. -/
theorem blk0 (t : Fin cfg0.N) : iblk m c 0 t = rows m c := by
  obtain ⟨e, -, -, -, -, -, -, -, -, -, -, -, -⟩ := index0 t
  funext i
  show V m c main_v27 (((cfg0.win 0).blk t).view.emb i) = _
  rw [entry_rows]
  refine congrArg (rows m c) (funext fun a => Fin.ext ?_)
  match a with
  | ⟨0, _⟩ => show win0_0.index t (0 : Fin 2) * 512 + 1 * (i 0).val = (i 0).val; omega
  | ⟨1, _⟩ => show win0_0.index t (1 : Fin 2) * 1024 + 1 * (i 1).val = (i 1).val; omega

/-- The weights, whole. -/
theorem blk1 (t : Fin cfg0.N) : iblk m c 1 t = weights (m ((c : Thread nD τ).loc main_arg1)) := by
  obtain ⟨-, e, -, -, -, -, -, -, -, -, -, -, -⟩ := index0 t
  funext i
  show V m c main_v45 (((cfg0.win 1).blk t).view.emb i) = _
  rw [entry_weights]
  refine congrArg (weights _) (funext fun a => Fin.ext ?_)
  match a with
  | ⟨0, _⟩ => show win0_1.index t (0 : Fin 2) * 1024 + 1 * (i 0).val = (i 0).val; omega
  | ⟨1, _⟩ => show win0_1.index t (1 : Fin 2) * 2688 + 1 * (i 1).val = (i 1).val; omega

/-- The cosines, whole. -/
theorem blk2 (t : Fin cfg0.N) : iblk m c 2 t = cosTable := by
  obtain ⟨-, -, e, -, -, -, -, -, -, -, -, -, -⟩ := index0 t
  funext i
  show V m c main_v21 (((cfg0.win 2).blk t).view.emb i) = _
  rw [entry_cos]
  refine congrArg (cosTable) (funext fun a => Fin.ext ?_)
  match a with
  | ⟨0, _⟩ => show win0_2.index t (0 : Fin 2) * 512 + 1 * (i 0).val = (i 0).val; omega
  | ⟨1, _⟩ => show win0_2.index t (1 : Fin 2) * 128 + 1 * (i 1).val = (i 1).val; omega

/-- The sines, whole. -/
theorem blk3 (t : Fin cfg0.N) : iblk m c 3 t = sinTable := by
  obtain ⟨-, -, -, e, -, -, -, -, -, -, -, -, -⟩ := index0 t
  funext i
  show V m c main_v22 (((cfg0.win 3).blk t).view.emb i) = _
  rw [entry_sin]
  refine congrArg (sinTable) (funext fun a => Fin.ext ?_)
  match a with
  | ⟨0, _⟩ => show win0_3.index t (0 : Fin 2) * 512 + 1 * (i 0).val = (i 0).val; omega
  | ⟨1, _⟩ => show win0_3.index t (1 : Fin 2) * 128 + 1 * (i 1).val = (i 1).val; omega

/-! ## What the point computes -/

/-- A column of the product at row `p`. -/
theorem product (t : Fin cfg0.N) (p : Fin 512) (n : Fin 2688) (k : Fin 2608) (hn : n.val < 2608) (hk : k.val = source n.val) :
    Cert.Kernel3Ideal.Gen.k0_pay1 (F := Ideal) (iblk m c 0 t) (iblk m c 1 t) (ix2 p n) = col (m ((c : Thread nD τ).loc main_arg0)) (m ((c : Thread nD τ).loc main_arg1)) p k := by
  rw [pay1_apply]
  unfold col
  refine Finset.sum_congr rfl fun d _ => ?_
  rw [blk0, blk1, weights_apply _ d n k hn hk, rows_apply]

/-- The columns behind are zero. -/
theorem product_zero (t : Fin cfg0.N) (p : Fin 512) (n : Fin 2688) (hn : 2608 ≤ n.val) :
    Cert.Kernel3Ideal.Gen.k0_pay1 (F := Ideal) (iblk m c 0 t) (iblk m c 1 t) (ix2 p n) = (0 : EReal) := by
  rw [pay1_apply]
  refine Finset.sum_eq_zero fun d _ => ?_
  rw [blk1, weights_zero _ d n hn]
  exact mul_zero (M₀ := EReal) _

/-- A turned column at row `p`. -/
theorem turned_eq (t : Fin cfg0.N) (p : Fin 512) (n : Fin 1792) (k : Fin 2560) (hk : k.val = source n.val) :
    turned (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) p n = turn (col (m ((c : Thread nD τ).loc main_arg0)) (m ((c : Thread nD τ).loc main_arg1)) p) (rowAngles p) k := by
  obtain ⟨hlt, hlane, hup, hdown⟩ := source_lane n.val n.isLt
  have hl : (⟨n.val % 128 % 32, by omega⟩ : Fin 32) = ⟨k.val % 32, by omega⟩ := Fin.ext (by show n.val % 128 % 32 = k.val % 32; omega)
  unfold turned
  rw [pay3_apply, pay4_apply, blk2 m c t, blk3 m c t, cos_apply, sin_apply,
    product m c t p ⟨n.val, by omega⟩ ⟨k.val, by omega⟩ (by simp only; omega) hk]
  by_cases h : n.val % 64 < 32
  · rw [if_pos h, if_pos (show n.val % 128 % 64 < 32 by omega),
      product m c t p ⟨n.val + 32, by omega⟩ ⟨k.val + 32, by omega⟩ (by simp only; omega) (by simp only; omega)]
    unfold turn
    rw [if_pos (show k.val % 64 < 32 by omega), hl, angles_row, mul_neg, ← sub_eq_add_neg]
  · rw [if_neg h, if_neg (show ¬n.val % 128 % 64 < 32 by omega),
      product m c t p ⟨n.val - 32, by omega⟩ ⟨k.val - 32, by omega⟩ (by simp only; omega) (by simp only; omega)]
    unfold turn
    rw [if_neg (show ¬k.val % 64 < 32 by omega), hl, angles_row]

/-! ## The arrays after the run -/

/-- The one point of the grid. -/
abbrev t : Fin cfg0.N := ⟨0, by rw [show cfg0.N = 1 from N_0]; exact Nat.zero_lt_one⟩

/-- A point of the prompt's call, whose blocks the proofs compare with. -/
abbrev u : Fin Cert.Kernel3Ideal.cfg0.N := ⟨0, by rw [show Cert.Kernel3Ideal.cfg0.N = 32 from Cert.Kernel3Ideal.Gen.N_0]; decide⟩

theorem array4 (r : Fin 512) (n : Fin 1024) : (dats m 0 c).arrAt 4 cfg0.N (ix2 r n) = turned (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) r ⟨n.val, Nat.lt_of_lt_of_le n.isLt (by decide)⟩ * Cert.Proj.qscale := by
  obtain ⟨-, -, -, -, e, -, -, -, -, -, -, -, -⟩ := index0 t
  have he : ((cfg0.win 4).blk t).view.emb (ix2 r n) = (ix2 r n : S512x1024.Idx) := by
    funext a; apply Fin.ext
    match a with
    | ⟨0, _⟩ => show win0_4.index t (0 : Fin 2) * 512 + 1 * r.val = r.val; omega
    | ⟨1, _⟩ => show win0_4.index t (1 : Fin 2) * 1024 + 1 * n.val = n.val; omega
  have hb := congrFun ((Value.blocks4 m c t (by decide +kernel : (win0_4).flush (⟨0, by decide⟩ : Fin grid0.N) = true)).trans (Value.flushed4_A m c t)) (ix2 r n)
  refine Eq.trans (congrArg ((dats m 0 c).arrAt 4 cfg0.N) he.symm) (hb.trans ?_)
  refine Eq.trans (congrFun (Block.same4 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block4 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array5 (r : Fin 512) (n : Fin 256) : (dats m 0 c).arrAt 5 cfg0.N (ix2 r n) = turned (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) r ⟨1024 + n.val, by omega⟩ := by
  obtain ⟨-, -, -, -, -, e, -, -, -, -, -, -, -⟩ := index0 t
  have he : ((cfg0.win 5).blk t).view.emb (ix2 r n) = (ix2 r n : S512x256.Idx) := by
    funext a; apply Fin.ext
    match a with
    | ⟨0, _⟩ => show win0_5.index t (0 : Fin 2) * 512 + 1 * r.val = r.val; omega
    | ⟨1, _⟩ => show win0_5.index t (1 : Fin 2) * 256 + 1 * n.val = n.val; omega
  have hb := congrFun ((Value.blocks5 m c t (by decide +kernel : (win0_5).flush (⟨0, by decide⟩ : Fin grid0.N) = true)).trans (Value.flushed5_A m c t)) (ix2 r n)
  refine Eq.trans (congrArg ((dats m 0 c).arrAt 5 cfg0.N) he.symm) (hb.trans ?_)
  refine Eq.trans (congrFun (Block.same5 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block5 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array6 (r : Fin 512) (n : Fin 256) : (dats m 0 c).arrAt 6 cfg0.N (ix2 r n) = turned (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) r ⟨1280 + n.val, by omega⟩ := by
  obtain ⟨-, -, -, -, -, -, e, -, -, -, -, -, -⟩ := index0 t
  have he : ((cfg0.win 6).blk t).view.emb (ix2 r n) = (ix2 r n : S512x256.Idx) := by
    funext a; apply Fin.ext
    match a with
    | ⟨0, _⟩ => show win0_6.index t (0 : Fin 2) * 512 + 1 * r.val = r.val; omega
    | ⟨1, _⟩ => show win0_6.index t (1 : Fin 2) * 256 + 1 * n.val = n.val; omega
  have hb := congrFun ((Value.blocks6 m c t (by decide +kernel : (win0_6).flush (⟨0, by decide⟩ : Fin grid0.N) = true)).trans (Value.flushed6_A m c t)) (ix2 r n)
  refine Eq.trans (congrArg ((dats m 0 c).arrAt 6 cfg0.N) he.symm) (hb.trans ?_)
  refine Eq.trans (congrFun (Block.same6 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block6 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array7 (r : Fin 512) (n : Fin 256) : (dats m 0 c).arrAt 7 cfg0.N (ix2 r n) = turned (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) r ⟨1536 + n.val, by omega⟩ := by
  obtain ⟨-, -, -, -, -, -, -, e, -, -, -, -, -⟩ := index0 t
  have he : ((cfg0.win 7).blk t).view.emb (ix2 r n) = (ix2 r n : S512x256.Idx) := by
    funext a; apply Fin.ext
    match a with
    | ⟨0, _⟩ => show win0_7.index t (0 : Fin 2) * 512 + 1 * r.val = r.val; omega
    | ⟨1, _⟩ => show win0_7.index t (1 : Fin 2) * 256 + 1 * n.val = n.val; omega
  have hb := congrFun ((Value.blocks7 m c t (by decide +kernel : (win0_7).flush (⟨0, by decide⟩ : Fin grid0.N) = true)).trans (Value.flushed7_A m c t)) (ix2 r n)
  refine Eq.trans (congrArg ((dats m 0 c).arrAt 7 cfg0.N) he.symm) (hb.trans ?_)
  refine Eq.trans (congrFun (Block.same7 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block7 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array8 (r : Fin 512) (n : Fin 256) : (dats m 0 c).arrAt 8 cfg0.N (ix2 r n) = (Cert.Kernel3Ideal.Gen.k0_pay1 (F := Ideal) (iblk m c 0 t) (iblk m c 1 t)) (ix2 r ⟨1792 + n.val, by omega⟩) := by
  obtain ⟨-, -, -, -, -, -, -, -, e, -, -, -, -⟩ := index0 t
  have he : ((cfg0.win 8).blk t).view.emb (ix2 r n) = (ix2 r n : S512x256.Idx) := by
    funext a; apply Fin.ext
    match a with
    | ⟨0, _⟩ => show win0_8.index t (0 : Fin 2) * 512 + 1 * r.val = r.val; omega
    | ⟨1, _⟩ => show win0_8.index t (1 : Fin 2) * 256 + 1 * n.val = n.val; omega
  have hb := congrFun ((Value.blocks8 m c t (by decide +kernel : (win0_8).flush (⟨0, by decide⟩ : Fin grid0.N) = true)).trans (Value.flushed8_A m c t)) (ix2 r n)
  refine Eq.trans (congrArg ((dats m 0 c).arrAt 8 cfg0.N) he.symm) (hb.trans ?_)
  refine Eq.trans (congrFun (Block.same8 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block8 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array9 (r : Fin 512) (n : Fin 256) : (dats m 0 c).arrAt 9 cfg0.N (ix2 r n) = (Cert.Kernel3Ideal.Gen.k0_pay1 (F := Ideal) (iblk m c 0 t) (iblk m c 1 t)) (ix2 r ⟨2048 + n.val, by omega⟩) := by
  obtain ⟨-, -, -, -, -, -, -, -, -, e, -, -, -⟩ := index0 t
  have he : ((cfg0.win 9).blk t).view.emb (ix2 r n) = (ix2 r n : S512x256.Idx) := by
    funext a; apply Fin.ext
    match a with
    | ⟨0, _⟩ => show win0_9.index t (0 : Fin 2) * 512 + 1 * r.val = r.val; omega
    | ⟨1, _⟩ => show win0_9.index t (1 : Fin 2) * 256 + 1 * n.val = n.val; omega
  have hb := congrFun ((Value.blocks9 m c t (by decide +kernel : (win0_9).flush (⟨0, by decide⟩ : Fin grid0.N) = true)).trans (Value.flushed9_A m c t)) (ix2 r n)
  refine Eq.trans (congrArg ((dats m 0 c).arrAt 9 cfg0.N) he.symm) (hb.trans ?_)
  refine Eq.trans (congrFun (Block.same9 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block9 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array10 (r : Fin 512) (n : Fin 256) : (dats m 0 c).arrAt 10 cfg0.N (ix2 r n) = (Cert.Kernel3Ideal.Gen.k0_pay1 (F := Ideal) (iblk m c 0 t) (iblk m c 1 t)) (ix2 r ⟨2304 + n.val, by omega⟩) := by
  obtain ⟨-, -, -, -, -, -, -, -, -, -, e, -, -⟩ := index0 t
  have he : ((cfg0.win 10).blk t).view.emb (ix2 r n) = (ix2 r n : S512x256.Idx) := by
    funext a; apply Fin.ext
    match a with
    | ⟨0, _⟩ => show win0_10.index t (0 : Fin 2) * 512 + 1 * r.val = r.val; omega
    | ⟨1, _⟩ => show win0_10.index t (1 : Fin 2) * 256 + 1 * n.val = n.val; omega
  have hb := congrFun ((Value.blocks10 m c t (by decide +kernel : (win0_10).flush (⟨0, by decide⟩ : Fin grid0.N) = true)).trans (Value.flushed10_A m c t)) (ix2 r n)
  refine Eq.trans (congrArg ((dats m 0 c).arrAt 10 cfg0.N) he.symm) (hb.trans ?_)
  refine Eq.trans (congrFun (Block.same10 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block10 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array11 (r : Fin 512) (n : Fin 128) : (dats m 0 c).arrAt 11 cfg0.N (ix2 r n) = logistic ((Cert.Kernel3Ideal.Gen.k0_pay1 (F := Ideal) (iblk m c 0 t) (iblk m c 1 t)) (ix2 r ⟨2560 + n.val, by omega⟩)) := by
  obtain ⟨-, -, -, -, -, -, -, -, -, -, -, e, -⟩ := index0 t
  have he : ((cfg0.win 11).blk t).view.emb (ix2 r n) = (ix2 r n : S512x128.Idx) := by
    funext a; apply Fin.ext
    match a with
    | ⟨0, _⟩ => show win0_11.index t (0 : Fin 2) * 512 + 1 * r.val = r.val; omega
    | ⟨1, _⟩ => show win0_11.index t (1 : Fin 2) * 128 + 1 * n.val = n.val; omega
  have hb := congrFun ((Value.blocks11 m c t (by decide +kernel : (win0_11).flush (⟨0, by decide⟩ : Fin grid0.N) = true)).trans (Value.flushed11_A m c t)) (ix2 r n)
  refine Eq.trans (congrArg ((dats m 0 c).arrAt 11 cfg0.N) he.symm) (hb.trans ?_)
  refine Eq.trans (congrFun (Block.same11 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block11 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

theorem array12 (r : Fin 512) (n : Fin 1024) : (dats m 0 c).arrAt 12 cfg0.N (ix2 r n) = kvb (Cert.Kernel3Ideal.Gen.k0_pay1 (F := Ideal) (iblk m c 0 t) (iblk m c 1 t)) (Cert.Kernel3Ideal.Gen.k0_pay3 (iblk m c 2 t)) (Cert.Kernel3Ideal.Gen.k0_pay4 (iblk m c 3 t)) r n := by
  obtain ⟨-, -, -, -, -, -, -, -, -, -, -, -, e⟩ := index0 t
  have he : ((cfg0.win 12).blk t).view.emb (ix2 r n) = (ix2 r n : S512x1024.Idx) := by
    funext a; apply Fin.ext
    match a with
    | ⟨0, _⟩ => show win0_12.index t (0 : Fin 2) * 512 + 1 * r.val = r.val; omega
    | ⟨1, _⟩ => show win0_12.index t (1 : Fin 2) * 1024 + 1 * n.val = n.val; omega
  have hb := congrFun ((Value.blocks12 m c t (by decide +kernel : (win0_12).flush (⟨0, by decide⟩ : Fin grid0.N) = true)).trans (Value.flushed12_A m c t)) (ix2 r n)
  refine Eq.trans (congrArg ((dats m 0 c).arrAt 12 cfg0.N) he.symm) (hb.trans ?_)
  refine Eq.trans (congrFun (Block.same12 c (grid0.coords t) (Cert.Kernel3Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t)) (ix2 r n)) ?_
  exact Cert.Proj.block12 c (Cert.Kernel3Ideal.grid0.coords u) (Cert.Kernel3Ideal.Gen.ms0_0 u) (Cert.Kernel3Ideal.Gen.hs0_0 u) (Cert.Kernel3Ideal.Gen.ms0_1 u) (Cert.Kernel3Ideal.Gen.hs0_1 u) (Cert.Kernel3Ideal.Gen.ms0_2 u) (Cert.Kernel3Ideal.Gen.hs0_2 u) (Cert.Kernel3Ideal.Gen.ms0_3 u) (Cert.Kernel3Ideal.Gen.hs0_3 u) (Cert.Kernel3Ideal.Gen.ms0_4 u) (Cert.Kernel3Ideal.Gen.hs0_4 u) (Cert.Kernel3Ideal.Gen.ms0_5 u) (Cert.Kernel3Ideal.Gen.hs0_5 u) (Cert.Kernel3Ideal.Gen.ms0_6 u) (Cert.Kernel3Ideal.Gen.hs0_6 u) (Cert.Kernel3Ideal.Gen.ms0_7 u) (Cert.Kernel3Ideal.Gen.hs0_7 u) (Cert.Kernel3Ideal.Gen.ms0_8 u) (Cert.Kernel3Ideal.Gen.hs0_8 u) (Cert.Kernel3Ideal.Gen.ms0_9 u) (Cert.Kernel3Ideal.Gen.hs0_9 u) (Cert.Kernel3Ideal.Gen.ms0_10 u) (Cert.Kernel3Ideal.Gen.hs0_10 u) (Cert.Kernel3Ideal.Gen.ms0_11 u) (Cert.Kernel3Ideal.Gen.hs0_11 u) (Cert.Kernel3Ideal.Gen.ms0_12 u) (Cert.Kernel3Ideal.Gen.hs0_12 u) (iblk m c 0 t) (iblk m c 1 t) (iblk m c 2 t) (iblk m c 3 t) r n

end Cert.Samp

end
-- ==== Proof.SampEqual.lean ====
/- The new rows' projection call's arrays are the reference's results from the same arguments. -/
module

public import proofs.«01_k».proof.Proof.SampValue

@[expose] public section

noncomputable section

namespace Cert.Samp

open Cert.Kernel7Ideal Cert.Kernel7Ideal.Gen Idealize.ShloMosaic Idealize.ShloMosaic.TcCoe Idealize.SL.Sem
open Cert.Proj (source headAt source_block logistic kvb)

variable (m : (ℓ : Loc nD τ sig) → Buf (Elt Ideal) ℓ) (c : Dev nD)

theorem equal4 : (dats m 0 c).arrAt 4 cfg0.N = queriesAll (m ((c : Thread nD τ).loc main_arg0)) (m ((c : Thread nD τ).loc main_arg1)) := by
  funext i
  obtain ⟨r, n, rfl⟩ : ∃ (r : Fin 512) (n : Fin 1024), i = ix2 r n := ⟨i 0, i 1, eq_ix2 i⟩
  have hn := n.isLt
  have hk : 64 * (8 * (n.val / 512) + 4 * (n.val / 64 % 2) + n.val / 64 % 8 / 2) + n.val % 64 < 2560 := by omega
  refine (array4 m c r n).trans (Eq.trans ?_ (queriesAll_apply _ _ r n ⟨_, hk⟩ rfl).symm)
  refine congrArg (· * _) (turned_eq m c t r _ ⟨_, hk⟩ ?_)
  have e2 : n.val / 512 = n.val / 64 / 8 := (Nat.div_div_eq_div_mul n.val 64 8).symm
  show 64 * (8 * (n.val / 512) + 4 * (n.val / 64 % 2) + n.val / 64 % 8 / 2) + n.val % 64 = source n.val
  unfold source headAt
  rw [if_pos n.isLt, e2]

theorem equal5 : (dats m 0 c).arrAt 5 cfg0.N = keysFrom (m ((c : Thread nD τ).loc main_arg0)) (m ((c : Thread nD τ).loc main_arg1)) 1024 Cert.Reference7Ideal.Gen.slices_S128x4x2608_S128x4x256_0_0_1024 := by
  funext i
  obtain ⟨r, n, rfl⟩ : ∃ (r : Fin 512) (n : Fin 256), i = ix2 r n := ⟨i 0, i 1, eq_ix2 i⟩
  refine (array5 m c r n).trans (Eq.trans ?_ (keysFrom_apply _ _ 1024 _ (by decide) (by decide) r n).symm)
  exact turned_eq m c t r _ _ (by show 1024 + n.val = source (1024 + n.val); exact (source_block _ _ (by omega)).symm)

theorem equal6 : (dats m 0 c).arrAt 6 cfg0.N = keysFrom (m ((c : Thread nD τ).loc main_arg0)) (m ((c : Thread nD τ).loc main_arg1)) 1536 Cert.Reference7Ideal.Gen.slices_S128x4x2608_S128x4x256_0_0_1536 := by
  funext i
  obtain ⟨r, n, rfl⟩ : ∃ (r : Fin 512) (n : Fin 256), i = ix2 r n := ⟨i 0, i 1, eq_ix2 i⟩
  refine (array6 m c r n).trans (Eq.trans ?_ (keysFrom_apply _ _ 1536 _ (by decide) (by decide) r n).symm)
  exact turned_eq m c t r _ _ (by show 1536 + n.val = source (1280 + n.val); exact (source_block _ _ (by omega)).symm)

theorem equal7 : (dats m 0 c).arrAt 7 cfg0.N = keysFrom (m ((c : Thread nD τ).loc main_arg0)) (m ((c : Thread nD τ).loc main_arg1)) 2048 Cert.Reference7Ideal.Gen.slices_S128x4x2608_S128x4x256_0_0_2048 := by
  funext i
  obtain ⟨r, n, rfl⟩ : ∃ (r : Fin 512) (n : Fin 256), i = ix2 r n := ⟨i 0, i 1, eq_ix2 i⟩
  refine (array7 m c r n).trans (Eq.trans ?_ (keysFrom_apply _ _ 2048 _ (by decide) (by decide) r n).symm)
  exact turned_eq m c t r _ _ (by show 2048 + n.val = source (1536 + n.val); exact (source_block _ _ (by omega)).symm)

theorem equal8 : (dats m 0 c).arrAt 8 cfg0.N = valuesFrom (m ((c : Thread nD τ).loc main_arg0)) (m ((c : Thread nD τ).loc main_arg1)) 1280 Cert.Reference7Ideal.Gen.slices_S128x4x2608_S128x4x256_0_0_1280 := by
  funext i
  obtain ⟨r, n, rfl⟩ : ∃ (r : Fin 512) (n : Fin 256), i = ix2 r n := ⟨i 0, i 1, eq_ix2 i⟩
  refine (array8 m c r n).trans (Eq.trans ?_ (valuesFrom_apply _ _ 1280 _ (by decide) r n).symm)
  exact product m c t r _ _ (by show 1792 + n.val < 2608; omega) (by show 1280 + n.val = source (1792 + n.val); exact (source_block _ _ (by omega)).symm)

theorem equal9 : (dats m 0 c).arrAt 9 cfg0.N = valuesFrom (m ((c : Thread nD τ).loc main_arg0)) (m ((c : Thread nD τ).loc main_arg1)) 1792 Cert.Reference7Ideal.Gen.slices_S128x4x2608_S128x4x256_0_0_1792 := by
  funext i
  obtain ⟨r, n, rfl⟩ : ∃ (r : Fin 512) (n : Fin 256), i = ix2 r n := ⟨i 0, i 1, eq_ix2 i⟩
  refine (array9 m c r n).trans (Eq.trans ?_ (valuesFrom_apply _ _ 1792 _ (by decide) r n).symm)
  exact product m c t r _ _ (by show 2048 + n.val < 2608; omega) (by show 1792 + n.val = source (2048 + n.val); exact (source_block _ _ (by omega)).symm)

theorem equal10 : (dats m 0 c).arrAt 10 cfg0.N = valuesFrom (m ((c : Thread nD τ).loc main_arg0)) (m ((c : Thread nD τ).loc main_arg1)) 2304 Cert.Reference7Ideal.Gen.slices_S128x4x2608_S128x4x256_0_0_2304 := by
  funext i
  obtain ⟨r, n, rfl⟩ : ∃ (r : Fin 512) (n : Fin 256), i = ix2 r n := ⟨i 0, i 1, eq_ix2 i⟩
  refine (array10 m c r n).trans (Eq.trans ?_ (valuesFrom_apply _ _ 2304 _ (by decide) r n).symm)
  exact product m c t r _ _ (by show 2304 + n.val < 2608; omega) (by show 2304 + n.val = source (2304 + n.val); exact (source_block _ _ (by omega)).symm)

theorem equal11 : (dats m 0 c).arrAt 11 cfg0.N = gates (m ((c : Thread nD τ).loc main_arg0)) (m ((c : Thread nD τ).loc main_arg1)) := by
  funext i
  obtain ⟨r, n, rfl⟩ : ∃ (r : Fin 512) (n : Fin 128), i = ix2 r n := ⟨i 0, i 1, eq_ix2 i⟩
  refine (array11 m c r n).trans (Eq.trans ?_ (gates_apply _ _ r n).symm)
  refine congrArg logistic ?_
  by_cases h : n.val < 48
  · refine Eq.trans ?_ (logits_gate _ _ r n h).symm
    exact product m c t r _ _ (by show 2560 + n.val < 2608; omega) (by show 2560 + n.val = source (2560 + n.val); exact (source_block _ _ (by omega)).symm)
  · refine Eq.trans ?_ (logits_zero _ _ r n h).symm
    exact product_zero m c t r _ (by show 2608 ≤ 2560 + n.val; omega)

theorem equal12 : (dats m 0 c).arrAt 12 cfg0.N = both (m ((c : Thread nD τ).loc main_arg0)) (m ((c : Thread nD τ).loc main_arg1)) := by
  funext i
  obtain ⟨r, n, rfl⟩ : ∃ (r : Fin 512) (n : Fin 1024), i = ix2 r n := ⟨i 0, i 1, eq_ix2 i⟩
  refine (array12 m c r n).trans (Eq.trans ?_ (besides_apply _ _ _ _ r n).symm)
  unfold kvb
  by_cases h0 : n.val < 256
  · rw [dif_pos h0, dif_pos h0, keysFrom_apply _ _ 1536 _ (by decide) (by decide)]
    exact turned_eq m c t r _ _ (by show 1536 + n.val = source (1280 + n.val); exact (source_block _ _ (by omega)).symm)
  rw [dif_neg h0, dif_neg h0]
  by_cases h1 : n.val < 512
  · rw [dif_pos h1, dif_pos h1, valuesFrom_apply _ _ 1792 _ (by decide)]
    exact product m c t r _ _ (by show 2048 + (n.val - 256) < 2608; omega) (by show 1792 + (n.val - 256) = source (2048 + (n.val - 256)); exact (source_block _ _ (by omega)).symm)
  rw [dif_neg h1, dif_neg h1]
  by_cases h2 : n.val < 768
  · rw [dif_pos h2, dif_pos h2, keysFrom_apply _ _ 2048 _ (by decide) (by decide)]
    exact turned_eq m c t r _ _ (by show 2048 + (n.val - 512) = source (1536 + (n.val - 512)); exact (source_block _ _ (by omega)).symm)
  rw [dif_neg h2, dif_neg h2, valuesFrom_apply _ _ 2304 _ (by decide)]
  exact product m c t r _ _ (by show 2304 + (n.val - 768) < 2608; omega) (by show 2304 + (n.val - 768) = source (2304 + (n.val - 768)); exact (source_block _ _ (by omega)).symm)

end Cert.Samp

end
-- ==== Proof.SampMixBlock.lean ====
/- The blocks that the mixing layer's input call for the new rows writes: the keys, the values and the indexer's keys are those
   that the prompt's call writes on the same blocks; the convolved columns are the products of two columns. -/
module

public import proofs.«01_k».proof.Proof.MixBlock
public import proofs.«01_k».proof.Proof.Gen.Kernel8Ideal.Value

@[expose] public section

noncomputable section

namespace Cert.SampMix.Block

open Cert.Kernel8Ideal Cert.Kernel8Ideal.Gen Idealize.ShloMosaic Idealize.ShloMosaic.TcCoe Idealize.SL.Sem
open Cert.Proj (off0)

variable (c : Dev nD) (i : grid0.Coords) (j : Cert.Kernel4Ideal.grid0.Coords)
  (a1 : Memref sig .tc .vmem S512x1024 .f32) (h1 : a1.IsWhole)
  (a2 : Memref sig .tc .vmem S1024x2688 .bf16) (h2 : a2.IsWhole)
  (a3 : Memref sig .tc .vmem S512x128 .f32) (h3 : a3.IsWhole)
  (a4 : Memref sig .tc .vmem S512x128 .f32) (h4 : a4.IsWhole)
  (a5 : Memref sig .tc .vmem S512x128 .f32) (h5 : a5.IsWhole)
  (a6 : Memref sig .tc .vmem S512x128 .f32) (h6 : a6.IsWhole)
  (a7 : Memref sig .tc .vmem S8x512 .f32) (h7 : a7.IsWhole)
  (a8 : Memref sig .tc .vmem S512x512 .f32) (h8 : a8.IsWhole)
  (a9 : Memref sig .tc .vmem S512x512 .f32) (h9 : a9.IsWhole)
  (a10 : Memref sig .tc .vmem S512x512 .bf16) (h10 : a10.IsWhole)
  (a11 : Memref sig .tc .vmem S512x256 .bf16) (h11 : a11.IsWhole)
  (a12 : Memref sig .tc .vmem S512x128 .f32) (h12 : a12.IsWhole)
  (a13 : Memref sig .tc .vmem S512x128 .f32) (h13 : a13.IsWhole)
  (a14 : Memref sig .tc .vmem S512x128 .f32) (h14 : a14.IsWhole)
  (a15 : Memref sig .tc .vmem S512x256 .bf16) (h15 : a15.IsWhole)
  (a16 : Memref sig .tc .vmem S512x128 .bf16) (h16 : a16.IsWhole)
  (a17 : Memref sig .tc .vmem S512x512 .bf16) (h17 : a17.IsWhole)
  (a18 : Memref sig .tc .vmem S512x512 .f32) (h18 : a18.IsWhole)
  (a19 : Memref sig .tc .vmem S520x512 .f32) (h19 : a19.IsWhole)
  (hA : cond0_0 i) (hA' : ¬cond0_1 i)
  (x0 : Vec Ideal S512x1024 .f32) (x1 : Vec Ideal S1024x2688 .bf16) (x2 x3 x4 x5 : Vec Ideal S512x128 .f32) (x6 : Vec Ideal S8x512 .f32)
  (x7 x8 : Vec Ideal S512x512 .f32)

/-- The convolved columns. -/
theorem block17 (p q : Fin 512) : out0_A_17 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8 (ix2 p q)
    = Cert.Kernel4Ideal.Gen.k0_pay30 (F := Ideal) (Cert.Kernel4Ideal.Gen.k0_pay4 (F := Ideal) x0 x1) (ix2 p q) := by
  refine congrFun (Eq.trans (View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8)) ?_) (ix2 p q)
  unfold kernelRun0_A
  dsimp only
  sl_unfold_words
  rw [View.canon_unit_zero (S := S512x512) off0]
  simp only [View.readAt_eq_ld, h1.read_unread, h2.read_unread, h3.read_unread, h4.read_unread, h5.read_unread, h6.read_unread, h7.read_unread, h8.read_unread, h9.read_unread,
    View.ld_unit_zero (S := S512x1024) off0, View.ld_unit_zero (S := S1024x2688) off0, View.ld_unit_zero (S := S512x128) off0,
    View.ld_unit_zero (S := S8x512) off0, View.ld_unit_zero (S := S512x512) off0]
  funext a
  rfl

variable   (b1 : Memref Cert.Kernel4Ideal.sig .tc .vmem S512x1024 .f32) (g1 : b1.IsWhole)
  (b2 : Memref Cert.Kernel4Ideal.sig .tc .vmem S1024x2688 .bf16) (g2 : b2.IsWhole)
  (b3 : Memref Cert.Kernel4Ideal.sig .tc .vmem S512x128 .f32) (g3 : b3.IsWhole)
  (b4 : Memref Cert.Kernel4Ideal.sig .tc .vmem S512x128 .f32) (g4 : b4.IsWhole)
  (b5 : Memref Cert.Kernel4Ideal.sig .tc .vmem S512x128 .f32) (g5 : b5.IsWhole)
  (b6 : Memref Cert.Kernel4Ideal.sig .tc .vmem S512x128 .f32) (g6 : b6.IsWhole)
  (b7 : Memref Cert.Kernel4Ideal.sig .tc .vmem S8x512 .f32) (g7 : b7.IsWhole)
  (b8 : Memref Cert.Kernel4Ideal.sig .tc .vmem S512x512 .bf16) (g8 : b8.IsWhole)
  (b9 : Memref Cert.Kernel4Ideal.sig .tc .vmem S512x256 .bf16) (g9 : b9.IsWhole)
  (b10 : Memref Cert.Kernel4Ideal.sig .tc .vmem S512x128 .f32) (g10 : b10.IsWhole)
  (b11 : Memref Cert.Kernel4Ideal.sig .tc .vmem S512x128 .f32) (g11 : b11.IsWhole)
  (b12 : Memref Cert.Kernel4Ideal.sig .tc .vmem S512x128 .f32) (g12 : b12.IsWhole)
  (b13 : Memref Cert.Kernel4Ideal.sig .tc .vmem S512x256 .bf16) (g13 : b13.IsWhole)
  (b14 : Memref Cert.Kernel4Ideal.sig .tc .vmem S512x128 .bf16) (g14 : b14.IsWhole)
  (b15 : Memref Cert.Kernel4Ideal.sig .tc .vmem S512x512 .bf16) (g15 : b15.IsWhole)
  (b16 : Memref Cert.Kernel4Ideal.sig .tc .vmem S8x512 .f32) (g16 : b16.IsWhole)
  (b17 : Memref Cert.Kernel4Ideal.sig .tc .vmem S520x512 .f32) (g17 : b17.IsWhole)
  (hB : Cert.Kernel4Ideal.Gen.cond0_0 j) (hB' : ¬Cert.Kernel4Ideal.Gen.cond0_1 j)

/-- The keys. -/
theorem same11 : out0_A_11 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8 = Cert.Kernel4Ideal.Gen.out0_A_9 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6 := by
  refine (View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8)).trans
    (Eq.trans ?_ (View.read_writes_eq_canon _ _ _ (Cert.Kernel4Ideal.Gen.cover0_A_9 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6)).symm)
  unfold kernelRun0_A Cert.Kernel4Ideal.Gen.kernelRun0_A
  dsimp only
  sl_unfold_words
  simp only [View.readAt_eq_ld, h1.read_unread, h2.read_unread, h3.read_unread, h4.read_unread, h5.read_unread, h6.read_unread, h7.read_unread, h8.read_unread, h9.read_unread, g1.read_unread, g2.read_unread, g3.read_unread, g4.read_unread, g5.read_unread, g6.read_unread, g7.read_unread,
    View.ld_unit_zero (S := S512x1024) off0, View.ld_unit_zero (S := S1024x2688) off0, View.ld_unit_zero (S := S512x128) off0,
    View.ld_unit_zero (S := S8x512) off0, View.ld_unit_zero (S := S512x512) off0]
  rfl

/-- The values. -/
theorem same12 : out0_A_12 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8 = Cert.Kernel4Ideal.Gen.out0_A_10 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6 := by
  refine (View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8)).trans
    (Eq.trans ?_ (View.read_writes_eq_canon _ _ _ (Cert.Kernel4Ideal.Gen.cover0_A_10 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6)).symm)
  unfold kernelRun0_A Cert.Kernel4Ideal.Gen.kernelRun0_A
  dsimp only
  sl_unfold_words
  simp only [View.readAt_eq_ld, h1.read_unread, h2.read_unread, h3.read_unread, h4.read_unread, h5.read_unread, h6.read_unread, h7.read_unread, h8.read_unread, h9.read_unread, g1.read_unread, g2.read_unread, g3.read_unread, g4.read_unread, g5.read_unread, g6.read_unread, g7.read_unread,
    View.ld_unit_zero (S := S512x1024) off0, View.ld_unit_zero (S := S1024x2688) off0, View.ld_unit_zero (S := S512x128) off0,
    View.ld_unit_zero (S := S8x512) off0, View.ld_unit_zero (S := S512x512) off0]
  rfl

/-- The indexer's keys and weights. -/
theorem same13 : out0_A_13 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8 = Cert.Kernel4Ideal.Gen.out0_A_11 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6 := by
  refine (View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 hA hA' x0 x1 x2 x3 x4 x5 x6 x7 x8)).trans
    (Eq.trans ?_ (View.read_writes_eq_canon _ _ _ (Cert.Kernel4Ideal.Gen.cover0_A_11 c j b1 g1 b2 g2 b3 g3 b4 g4 b5 g5 b6 g6 b7 g7 b8 g8 b9 g9 b10 g10 b11 g11 b12 g12 b13 g13 b14 g14 b15 g15 b16 g16 b17 g17 hB hB' x0 x1 x2 x3 x4 x5 x6)).symm)
  unfold kernelRun0_A Cert.Kernel4Ideal.Gen.kernelRun0_A
  dsimp only
  sl_unfold_words
  simp only [View.readAt_eq_ld, h1.read_unread, h2.read_unread, h3.read_unread, h4.read_unread, h5.read_unread, h6.read_unread, h7.read_unread, h8.read_unread, h9.read_unread, g1.read_unread, g2.read_unread, g3.read_unread, g4.read_unread, g5.read_unread, g6.read_unread, g7.read_unread,
    View.ld_unit_zero (S := S512x1024) off0, View.ld_unit_zero (S := S1024x2688) off0, View.ld_unit_zero (S := S512x128) off0,
    View.ld_unit_zero (S := S8x512) off0, View.ld_unit_zero (S := S512x512) off0]
  rfl

end Cert.SampMix.Block

end
-- ==== Proof.SampMixEntry.lean ====
/- What the windows of the mixing layer's input call for the new rows read: the rows, the weights in the order of the results,
   and the tables of cosines and sines at the new rows' positions. -/
module

public import proofs.«01_k».proof.Proof.Gen.Kernel8Ideal.Value
public import proofs.«01_k».proof.Proof.MixEntry
public import proofs.«01_k».proof.Proof.SampEntry

@[expose] public section

noncomputable section

namespace Cert.SampMix

open Cert.Kernel8Ideal Cert.Kernel8Ideal.Gen Idealize.ShloMosaic Idealize.ShloMosaic.TcCoe Idealize.SL.Sem
open Cert.Samp.Entry (angles cosOf sinOf cosTable sinTable)
open Cert.Mix (half)

variable (m : (ℓ : Loc nD τ sig) → Buf (Elt Ideal) ℓ) (c : Dev nD)

/-- A table of cosines on the first 64 lanes, a half on the others. -/
def halfCosOf (a : FVec Ideal S512x32 .f32) : FVec Ideal S512x128 .f32 :=
  concatenate S512x128 1 [⟨S512x64, concatenate S512x64 1 [⟨S512x32, Host.cos (F := Ideal) (φ := .f32) a⟩, ⟨S512x32, Host.cos (F := Ideal) (φ := .f32) a⟩] concatenates_S512x32_S512x32_S512x64_d1⟩,
    ⟨S512x64, broadcastInDim S512x64 ![] bcast_S_S512x64 (constant (F := Ideal) S_ .f32 0x3F000000#32)⟩] concatenates_S512x64_S512x64_S512x128_d1

/-- A table of sines on the first 64 lanes, nothing on the others. -/
def halfSinOf (a : FVec Ideal S512x32 .f32) : FVec Ideal S512x128 .f32 :=
  concatenate S512x128 1 [⟨S512x64, concatenate S512x64 1 [⟨S512x32, Host.negf (F := Ideal) (φ := .f32) (Host.sin (F := Ideal) (φ := .f32) a)⟩, ⟨S512x32, Host.sin (F := Ideal) (φ := .f32) a⟩] concatenates_S512x32_S512x32_S512x64_d1⟩,
    ⟨S512x64, broadcastInDim S512x64 ![] bcast_S_S512x64 (constant (F := Ideal) S_ .f32 0x00000000#32)⟩] concatenates_S512x64_S512x64_S512x128_d1

/-- The table of cosines on the first 64 lanes at the rows' positions. -/
def halfCos : FVec Ideal S512x128 .f32 := halfCosOf angles
/-- The table of sines on the first 64 lanes at the rows' positions. -/
def halfSin : FVec Ideal S512x128 .f32 := halfSinOf angles

/-- The rows: the first argument with its first two axes joined. -/
def rows (x : FVec Ideal S128x4x1024 .f32) : FVec Ideal S512x1024 .f32 := shapeCast S512x1024 x shapeCasts_S128x4x1024_S512x1024

theorem entry_rows : V m c main_v28 = rows (m ((c : Thread nD τ).loc main_arg0)) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results_simp <;> (try dsimp only [Matrix.cons_val]) <;> (try after_results_simp) <;> rfl

theorem entry_weights : V m c main_v47 = Mix.weights (m ((c : Thread nD τ).loc main_arg1)) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results_simp <;> (try dsimp only [Matrix.cons_val]) <;> (try after_results_simp) <;> rfl

/-- The buffers before the rows are numbered. -/
abbrev U : Valuation τ sig (Elt Ideal) :=
  StableHlo.after (hostOps0 ++ hostOps0_1 ++ hostOps0_2 ++ hostOps0_3 ++ hostOps0_4 ++ hostOps0_5 ++ hostOps0_6.take 32) (fun b => m (c, b))

theorem angles_of (s : Valuation τ sig (Elt Ideal)) :
    StableHlo.after (hostOps0_6.drop 32 ++ hostOps0_7 ++ hostOps0_8.take 17) s main_v63 = angles := by
  simp only [hostOps0_6, hostOps0_7, hostOps0_8, List.take, List.drop, List.cons_append, List.nil_append, StableHlo.TRef.nullary, StableHlo.TRef.ternary, StableHlo.TRef.binary, StableHlo.TRef.unary, StableHlo.TRef.toBuf, StableHlo.TRef.ofBuf, cast_eq]
  after_results_simp <;> rfl

theorem cos_of (s : Valuation τ sig (Elt Ideal)) : StableHlo.after (hostOps0_8.drop 17) s main_v69 = cosOf (s main_v63) := by
  simp only [hostOps0_8, List.drop]
  after_results_simp <;> rfl

theorem sin_of (s : Valuation τ sig (Elt Ideal)) : StableHlo.after (hostOps0_8.drop 17) s main_v70 = sinOf (s main_v63) := by
  simp only [hostOps0_8, List.drop]
  after_results_simp <;> rfl

theorem halfCos_of (s : Valuation τ sig (Elt Ideal)) : StableHlo.after (hostOps0_8.drop 17) s main_v72 = halfCosOf (s main_v63) := by
  simp only [hostOps0_8, List.drop]
  after_results_simp <;> rfl

theorem halfSin_of (s : Valuation τ sig (Elt Ideal)) : StableHlo.after (hostOps0_8.drop 17) s main_v74 = halfSinOf (s main_v63) := by
  simp only [hostOps0_8, List.drop]
  after_results_simp <;> rfl

/-- The buffers once the angles are there. -/
abbrev W : Valuation τ sig (Elt Ideal) := StableHlo.after (hostOps0_6.drop 32 ++ hostOps0_7 ++ hostOps0_8.take 17) (U m c)

theorem entry_cos : V m c main_v69 = cosTable :=
  (show V m c main_v69 = StableHlo.after (hostOps0_8.drop 17) (W m c) main_v69 from rfl).trans ((cos_of (W m c)).trans (congrArg cosOf (angles_of (U m c))))
theorem entry_sin : V m c main_v70 = sinTable :=
  (show V m c main_v70 = StableHlo.after (hostOps0_8.drop 17) (W m c) main_v70 from rfl).trans ((sin_of (W m c)).trans (congrArg sinOf (angles_of (U m c))))
theorem entry_halfCos : V m c main_v72 = halfCos :=
  (show V m c main_v72 = StableHlo.after (hostOps0_8.drop 17) (W m c) main_v72 from rfl).trans ((halfCos_of (W m c)).trans (congrArg halfCosOf (angles_of (U m c))))
theorem entry_halfSin : V m c main_v74 = halfSin :=
  (show V m c main_v74 = StableHlo.after (hostOps0_8.drop 17) (W m c) main_v74 from rfl).trans ((halfSin_of (W m c)).trans (congrArg halfSinOf (angles_of (U m c))))

theorem halfCos_low (t : Fin 512) (l : Fin 128) (h : l.val < 64) :
    halfCos (ix2 t l) = Ideal.cos (angles (ix2 t ⟨l.val % 32, by omega⟩)) := by
  pointwise [halfCos, halfCosOf]
  split
  · split <;> exact congrArg (fun q => Ideal.cos (angles (ix2 t q))) (Fin.ext (by simp only; omega))
  · exfalso; omega

theorem halfCos_high (t : Fin 512) (l : Fin 128) (h : ¬l.val < 64) : halfCos (ix2 t l) = half := by
  pointwise [halfCos, halfCosOf]
  split
  · exfalso; omega
  · rfl

theorem halfSin_low (t : Fin 512) (l : Fin 128) (h : l.val < 64) : halfSin (ix2 t l)
    = if l.val < 32 then -Ideal.sin (angles (ix2 t ⟨l.val % 32, by omega⟩)) else Ideal.sin (angles (ix2 t ⟨l.val % 32, by omega⟩)) := by
  by_cases h1 : l.val < 32
  · refine Eq.trans ?_ (if_pos h1).symm
    pointwise [halfSin, halfSinOf]
    refine (dif_pos h).trans ((dif_pos h1).trans ?_)
    exact congrArg (fun q => -Ideal.sin (angles (ix2 t q))) (Fin.ext (by show l.val = l.val % 32; omega))
  · refine Eq.trans ?_ (if_neg h1).symm
    pointwise [halfSin, halfSinOf]
    refine (dif_pos h).trans ((dif_neg h1).trans ?_)
    exact congrArg (fun q => Ideal.sin (angles (ix2 t q))) (Fin.ext (by show l.val - 32 = l.val % 32; omega))

theorem halfSin_high (t : Fin 512) (l : Fin 128) (h : ¬l.val < 64) : halfSin (ix2 t l) = (0 : EReal) := by
  pointwise [halfSin, halfSinOf]
  split
  · exfalso; omega
  · rfl

end Cert.SampMix

end
-- ==== Proof.SampMixMath.lean ====
/- The reference of the mixing layer's input call for the new rows: its terms are the columns of each row's product, the heads
   among them turned by the row's angles. -/
module

public import proofs.«01_k».proof.Proof.Gen.Reference8Ideal.Run
public import proofs.«01_k».proof.Proof.MixMath
public import proofs.«01_k».proof.Proof.SampMath

@[expose] public section

noncomputable section

namespace Cert.SampMix

open Cert.Reference8Ideal Cert.Reference8Ideal.Gen Idealize.ShloMosaic Idealize.ShloMosaic.TcCoe Idealize.SL.Sem
open Cert.Samp (refAngles rowAngles)
open Cert.Mix (turn)

/-- Column `k` of row `r` of the product; zero behind its columns. -/
def col (x : FVec Ideal S128x4x1024 .f32) (w : FVec Ideal S1024x2628 .f32) (r : Fin 512) (k : Nat) : EReal :=
  if h : k < 2628 then ∑ d : Fin 1024, x (ix3 ⟨r.val / 4, by omega⟩ ⟨r.val % 4, by omega⟩ d) * w (ix2 d ⟨k, h⟩) else 0

/-- The product of the rows with the weights. -/
def prod (x : FVec Ideal S128x4x1024 .f32) (w : FVec Ideal S1024x2628 .f32) : FVec Ideal S128x4x2628 .f32 :=
  Host.dotGeneral dot_S128x4x1024_S1024x2628_S128x4x2628_2_0_01_1_n_n none x w

theorem prod_apply (x : FVec Ideal S128x4x1024 .f32) (w : FVec Ideal S1024x2628 .f32) (b : Fin 128) (t : Fin 4) (k : Fin 2628)
    (r : Fin 512) (hb : b.val = r.val / 4) (ht : t.val = r.val % 4) : prod x w (ix3 b t k) = col x w r k.val := by
  unfold col
  rw [dif_pos k.isLt, show b = ⟨r.val / 4, by omega⟩ from Fin.ext hb, show t = ⟨r.val % 4, by omega⟩ from Fin.ext ht]
  pointwise [prod]

/-- A run of the product's columns. -/
theorem part_apply {N : Nat} (x : FVec Ideal S128x4x1024 .f32) (w : FVec Ideal S1024x2628 .f32) (o : Nat)
    (hs : Shape.Slices S128x4x2628 ![0, 0, o] ⟨3, ![128, 4, N]⟩) (ho : o + N ≤ 2628) (b : Fin 128) (t : Fin 4) (q : Fin N)
    (r : Fin 512) (hb : b.val = r.val / 4) (ht : t.val = r.val % 4) :
    (extractStridedSlice ⟨3, ![128, 4, N]⟩ ![0, 0, o] (prod x w) hs) (ix3 b t q) = col x w r (o + q.val) := by
  refine Eq.trans ?_ (prod_apply x w b t ⟨o + q.val, by omega⟩ r hb ht)
  refine congrArg (prod x w) (funext fun a => Fin.ext ?_)
  match a with
  | ⟨0, _⟩ => show 0 + b.val = b.val; omega
  | ⟨1, _⟩ => show 0 + t.val = t.val; omega
  | ⟨2, _⟩ => rfl

/-! ### The turned heads, any number of them -/

section Turn

variable {H : Nat} (hb : Shape.BroadcastsInDim S1x4x1x32 ⟨4, ![128, 4, H, 32]⟩ ![0, 1, 2, 3])
  (hl : Shape.Slices ⟨4, ![128, 4, H, 64]⟩ ![0, 0, 0, 0] ⟨4, ![128, 4, H, 32]⟩)
  (hu : Shape.Slices ⟨4, ![128, 4, H, 64]⟩ ![0, 0, 0, 32] ⟨4, ![128, 4, H, 32]⟩)
  (hc : Shape.Concatenates [⟨4, ![128, 4, H, 32]⟩, ⟨4, ![128, 4, H, 32]⟩] ⟨4, ![128, 4, H, 64]⟩ 3)
  (y : FVec Ideal ⟨4, ![128, 4, H, 64]⟩ .f32)

/-- The angles' table laid over the rows and the heads. -/
def wide (a : FVec Ideal S4x32 .f32) : FVec Ideal ⟨4, ![128, 4, H, 32]⟩ .f32 :=
  broadcastInDim ⟨4, ![128, 4, H, 32]⟩ ![0, 1, 2, 3] hb (broadcastInDim S1x4x1x32 ![1, 3] bcast_S4x32_S1x4x1x32_1_3 a)

/-- Half a head: its lanes from `o` on. -/
def lanes (o : Nat) (hs : Shape.Slices ⟨4, ![128, 4, H, 64]⟩ ![0, 0, 0, o] ⟨4, ![128, 4, H, 32]⟩) : FVec Ideal ⟨4, ![128, 4, H, 32]⟩ .f32 :=
  extractStridedSlice ⟨4, ![128, 4, H, 32]⟩ ![0, 0, 0, o] y hs

theorem lanes_apply (o : Nat) (hs : Shape.Slices ⟨4, ![128, 4, H, 64]⟩ ![0, 0, 0, o] ⟨4, ![128, 4, H, 32]⟩) (ho : o ≤ 32) (b : Fin 128) (t : Fin 4)
    (h : Fin H) (l : Fin 32) : lanes y o hs (ix4 b t h l) = y (ix4 b t h ⟨o + l.val, by omega⟩) := by
  refine congrArg y (funext fun a => Fin.ext ?_)
  match a with
  | ⟨0, _⟩ => show 0 + b.val = b.val; omega
  | ⟨1, _⟩ => show 0 + t.val = t.val; omega
  | ⟨2, _⟩ => show 0 + h.val = h.val; omega
  | ⟨3, _⟩ => rfl

/-- The first half, turned. -/
def front : FVec Ideal ⟨4, ![128, 4, H, 32]⟩ .f32 :=
  subf (mulf (lanes y 0 hl) (wide hb (Host.cos (F := Ideal) (φ := .f32) refAngles)))
    (mulf (lanes y 32 hu) (wide hb (Host.sin (F := Ideal) (φ := .f32) refAngles)))
/-- The second half, turned. -/
def back : FVec Ideal ⟨4, ![128, 4, H, 32]⟩ .f32 :=
  addf (mulf (lanes y 32 hu) (wide hb (Host.cos (F := Ideal) (φ := .f32) refAngles)))
    (mulf (lanes y 0 hl) (wide hb (Host.sin (F := Ideal) (φ := .f32) refAngles)))

/-- The heads, their halves turned by the angles. -/
def turnHeads : FVec Ideal ⟨4, ![128, 4, H, 64]⟩ .f32 :=
  concatenate ⟨4, ![128, 4, H, 64]⟩ 3 [⟨_, front hb hl hu y⟩, ⟨_, back hb hl hu y⟩] hc

theorem front_apply (b : Fin 128) (t : Fin 4) (h : Fin H) (l : Fin 32) :
    front hb hl hu y (ix4 b t h l) = y (ix4 b t h ⟨0 + l.val, by omega⟩) * Ideal.cos (refAngles (ix2 t l))
      - y (ix4 b t h ⟨32 + l.val, by omega⟩) * Ideal.sin (refAngles (ix2 t l)) := by
  rw [← lanes_apply y 0 hl (by decide), ← lanes_apply y 32 hu (by decide)]
  pointwise [front, wide]

theorem back_apply (b : Fin 128) (t : Fin 4) (h : Fin H) (l : Fin 32) :
    back hb hl hu y (ix4 b t h l) = y (ix4 b t h ⟨32 + l.val, by omega⟩) * Ideal.cos (refAngles (ix2 t l))
      + y (ix4 b t h ⟨0 + l.val, by omega⟩) * Ideal.sin (refAngles (ix2 t l)) := by
  rw [← lanes_apply y 0 hl (by decide), ← lanes_apply y 32 hu (by decide)]
  pointwise [back, wide]

theorem turnHeads_low (b : Fin 128) (t : Fin 4) (h : Fin H) (l : Fin 64) (hl' : l.val < 32) :
    turnHeads hb hl hu hc y (ix4 b t h l) = front hb hl hu y (ix4 b t h ⟨l.val, hl'⟩) := by
  pointwise [turnHeads]
  refine (dif_pos hl').trans (congrArg (front hb hl hu y) (funext fun a => Fin.ext ?_))
  match a with
  | ⟨0, _⟩ => rfl
  | ⟨1, _⟩ => rfl
  | ⟨2, _⟩ => rfl
  | ⟨3, _⟩ => rfl

theorem turnHeads_high (b : Fin 128) (t : Fin 4) (h : Fin H) (l : Fin 64) (hl' : ¬l.val < 32) :
    turnHeads hb hl hu hc y (ix4 b t h l) = back hb hl hu y (ix4 b t h ⟨l.val - 32, by omega⟩) := by
  pointwise [turnHeads]
  refine (dif_neg hl').trans (congrArg (back hb hl hu y) (funext fun a => Fin.ext ?_))
  match a with
  | ⟨0, _⟩ => rfl
  | ⟨1, _⟩ => rfl
  | ⟨2, _⟩ => rfl
  | ⟨3, _⟩ => rfl

/-- A head whose columns are `f` at `o` and behind, turned. -/
theorem turnHeads_apply (f : Nat → EReal) (o : Nat) (ho : o % 64 = 0) (b : Fin 128) (t : Fin 4) (h : Fin H)
    (hy : ∀ l : Fin 64, y (ix4 b t h l) = f (o + l.val)) (r : Fin 512) (ht : t.val = r.val % 4) (l : Fin 64) :
    turnHeads hb hl hu hc y (ix4 b t h l) = turn f (rowAngles r) (o + l.val) := by
  have et : ∀ i : Fin 32, refAngles (ix2 t i) = rowAngles r i := fun i => congrArg (fun t => refAngles (ix2 t i)) (Fin.ext ht)
  unfold turn
  by_cases h' : l.val < 32
  · have ea : (⟨(o + l.val) % 32, by omega⟩ : Fin 32) = ⟨l.val, h'⟩ := Fin.ext (by show (o + l.val) % 32 = l.val; omega)
    rw [turnHeads_low hb hl hu hc y b t h l h', front_apply, hy, hy, et, if_pos (by omega), ea,
      show o + l.val + 32 = o + (32 + l.val) by omega, show o + l.val = o + (0 + l.val) by omega]
  · have ea : (⟨(o + l.val) % 32, by omega⟩ : Fin 32) = ⟨l.val - 32, by omega⟩ := Fin.ext (by show (o + l.val) % 32 = l.val - 32; omega)
    rw [turnHeads_high hb hl hu hc y b t h l h', back_apply, hy, hy, et, if_neg (by omega), ea,
      show o + l.val - 32 = o + (0 + (l.val - 32)) by omega, show o + l.val = o + (32 + (l.val - 32)) by omega]

end Turn

/-! ## The reference's results -/

variable (x : FVec Ideal S128x4x1024 .f32) (w : FVec Ideal S1024x2628 .f32)

/-- The two heads of the keys, turned. -/
def heads2 : FVec Ideal S128x4x2x64 .f32 :=
  turnHeads (H := 2) bcast_S1x4x1x32_S128x4x2x32_0_1_2_3 slices_S128x4x2x64_S128x4x2x32_0_0_0_0 slices_S128x4x2x64_S128x4x2x32_0_0_0_32
    concatenates_S128x4x2x32_S128x4x2x32_S128x4x2x64_d3
    (shapeCast S128x4x2x64 (extractStridedSlice S128x4x128 ![0, 0, 512] (prod x w) slices_S128x4x2628_S128x4x128_0_0_512) shapeCasts_S128x4x128_S128x4x2x64)

/-- The one head of the index's keys, turned. -/
def heads1 : FVec Ideal S128x4x1x64 .f32 :=
  turnHeads (H := 1) bcast_S1x4x1x32_S128x4x1x32_0_1_2_3 slices_S128x4x1x64_S128x4x1x32_0_0_0_0 slices_S128x4x1x64_S128x4x1x32_0_0_0_32
    concatenates_S128x4x1x32_S128x4x1x32_S128x4x1x64_d3
    (shapeCast S128x4x1x64 (extractStridedSlice S128x4x64 ![0, 0, 1024] (prod x w) slices_S128x4x2628_S128x4x64_0_0_1024) shapeCasts_S128x4x64_S128x4x1x64)

theorem heads2_apply (r : Fin 512) (h : Fin 2) (l : Fin 64) :
    heads2 x w (ix4 ⟨r.val / 4, by omega⟩ ⟨r.val % 4, by omega⟩ h l) = turn (col x w r) (rowAngles r) (512 + 64 * h.val + l.val) := by
  refine turnHeads_apply _ _ _ _ _ (col x w r) (512 + 64 * h.val) (by omega) _ _ h (fun l => ?_) r rfl l
  refine Eq.trans ?_ ((part_apply x w 512 slices_S128x4x2628_S128x4x128_0_0_512 (by decide) ⟨r.val / 4, by omega⟩ ⟨r.val % 4, by omega⟩ ⟨h.val * 64 + l.val, by omega⟩ r rfl rfl).trans
    (congrArg (col x w r) (by show 512 + (h.val * 64 + l.val) = 512 + 64 * h.val + l.val; omega)))
  pointwise

theorem heads1_apply (r : Fin 512) (h : Fin 1) (l : Fin 64) :
    heads1 x w (ix4 ⟨r.val / 4, by omega⟩ ⟨r.val % 4, by omega⟩ h l) = turn (col x w r) (rowAngles r) (1024 + l.val) := by
  refine turnHeads_apply _ _ _ _ _ (col x w r) 1024 (by omega) _ _ h (fun l => ?_) r rfl l
  refine Eq.trans ?_ (part_apply x w 1024 slices_S128x4x2628_S128x4x64_0_0_1024 (by decide) ⟨r.val / 4, by omega⟩ ⟨r.val % 4, by omega⟩ l r rfl rfl)
  pointwise

/-- The keys. -/
def keys : FVec Ideal S512x128 .f32 := shapeCast S512x128 (heads2 x w) shapeCasts_S128x4x2x64_S512x128

theorem keys_apply (r : Fin 512) (n : Fin 128) : keys x w (ix2 r n) = turn (col x w r) (rowAngles r) (512 + n.val) := by
  refine Eq.trans ?_ ((heads2_apply x w r ⟨n.val / 64, by omega⟩ ⟨n.val % 64, by omega⟩).trans
      (congrArg (turn _ _) (by show 512 + 64 * (n.val / 64) + n.val % 64 = 512 + n.val; omega)))
  pointwise [keys]

/-- The values. -/
def values : FVec Ideal S512x128 .f32 :=
  shapeCast S512x128 (extractStridedSlice S128x4x128 ![0, 0, 640] (prod x w) slices_S128x4x2628_S128x4x128_0_0_640) shapeCasts_S128x4x128_S512x128

theorem values_apply (r : Fin 512) (n : Fin 128) : values x w (ix2 r n) = col x w r (640 + n.val) := by
  refine Eq.trans ?_ (part_apply x w 640 slices_S128x4x2628_S128x4x128_0_0_640 (by decide) ⟨r.val / 4, by omega⟩ ⟨r.val % 4, by omega⟩ n r rfl rfl)
  pointwise [values]

/-- The index's keys. -/
def indexKeys : FVec Ideal S512x64 .f32 := shapeCast S512x64 (heads1 x w) shapeCasts_S128x4x1x64_S512x64

theorem indexKeys_apply (r : Fin 512) (n : Fin 64) : indexKeys x w (ix2 r n) = turn (col x w r) (rowAngles r) (1024 + n.val) := by
  refine Eq.trans ?_ (heads1_apply x w r 0 n)
  pointwise [indexKeys]

/-- The index's weights, halved. -/
def indexWeights : FVec Ideal S512x4 .f32 :=
  mulf (shapeCast S512x4 (extractStridedSlice S128x4x4 ![0, 0, 1088] (prod x w) slices_S128x4x2628_S128x4x4_0_0_1088) shapeCasts_S128x4x4_S512x4)
    (broadcastInDim S512x4 ![] bcast_S_S512x4 (constant S_ .f32 0x3F000000#32))

theorem indexWeights_apply (r : Fin 512) (n : Fin 4) :
    indexWeights x w (ix2 r n) = col x w r (1088 + n.val) * Ideal.ofBits .f32 0x3F000000#32 := by
  refine Eq.trans ?_ (congrArg (· * Ideal.ofBits .f32 0x3F000000#32)
    (part_apply x w 1088 slices_S128x4x2628_S128x4x4_0_0_1088 (by decide) ⟨r.val / 4, by omega⟩ ⟨r.val % 4, by omega⟩ n r rfl rfl))
  pointwise [indexWeights]

/-- The index's keys and weights, and zeros in the lanes behind. -/
def index : FVec Ideal S512x128 .f32 :=
  pad S512x128 ![0, 0] ![0, 60] ![0, 0] (concatenate S512x68 1 [⟨S512x64, indexKeys x w⟩, ⟨S512x4, indexWeights x w⟩]
    concatenates_S512x64_S512x4_S512x68_d1) (sitofp .f32 (constantI S_ 32 0#32)) pads_S512x68_S512x128_000_0600 h_S_

theorem index_keys (r : Fin 512) (n : Fin 128) (h : n.val < 64) : index x w (ix2 r n) = turn (col x w r) (rowAngles r) (1024 + n.val) := by
  refine Eq.trans ?_ (indexKeys_apply x w r ⟨n.val, h⟩)
  pointwise [index]
  exact (dif_pos (show n.val < 68 by omega)).trans (dif_pos h)

theorem index_weights (r : Fin 512) (n : Fin 128) (h : ¬n.val < 64) (h' : n.val < 68) :
    index x w (ix2 r n) = col x w r (1024 + n.val) * Ideal.ofBits .f32 0x3F000000#32 := by
  rw [show 1024 + n.val = 1088 + (n.val - 64) by omega]
  refine Eq.trans ?_ (indexWeights_apply x w r ⟨n.val - 64, by omega⟩)
  pointwise [index]
  exact (dif_pos h').trans (dif_neg h)

theorem index_zero (r : Fin 512) (n : Fin 128) (h : ¬n.val < 68) : index x w (ix2 r n) = (0 : EReal) := by
  pointwise [index]
  refine (dif_neg h).trans ?_
  show (((0#32 : BitVec 32).toInt : ℝ) : EReal) = 0
  simp

/-- The convolved columns. -/
def pairs : FVec Ideal S128x4x512 .f32 :=
  mulf (extractStridedSlice S128x4x512 ![0, 0, 1604] (prod x w) slices_S128x4x2628_S128x4x512_0_0_1604)
    (extractStridedSlice S128x4x512 ![0, 0, 2116] (prod x w) slices_S128x4x2628_S128x4x512_0_0_2116)

theorem pairs_apply (b : Fin 128) (t : Fin 4) (q : Fin 512) (r : Fin 512) (hb : b.val = r.val / 4) (ht : t.val = r.val % 4) :
    pairs x w (ix3 b t q) = col x w r (1604 + q.val) * col x w r (2116 + q.val) := by
  refine Eq.trans ?_ (congrArg₂ (fun a b : EReal => a * b) (part_apply x w 1604 slices_S128x4x2628_S128x4x512_0_0_1604 (by decide) b t q r hb ht)
    (part_apply x w 2116 slices_S128x4x2628_S128x4x512_0_0_2116 (by decide) b t q r hb ht))
  rfl

/-- The convolved columns, a row for each new row. -/
def rowsOfPairs : FVec Ideal S512x512 .f32 := shapeCast S512x512 (pairs x w) shapeCasts_S128x4x512_S512x512

theorem rowsOfPairs_apply (r q : Fin 512) : rowsOfPairs x w (ix2 r q) = col x w r (1604 + q.val) * col x w r (2116 + q.val) := by
  refine Eq.trans ?_ (pairs_apply x w ⟨r.val / 4, by omega⟩ ⟨r.val % 4, by omega⟩ q r rfl rfl)
  pointwise [rowsOfPairs]

theorem ref_keys (m : (ℓ : Loc nD τ sig) → Buf (Elt Ideal) ℓ) (c : Dev nD) : Value.res_out0 m c
    = keys (m ((c : Thread nD τ).loc main_arg0)) (m ((c : Thread nD τ).loc main_arg1)) := rfl

theorem ref_index (m : (ℓ : Loc nD τ sig) → Buf (Elt Ideal) ℓ) (c : Dev nD) : Value.res_out2 m c
    = index (m ((c : Thread nD τ).loc main_arg0)) (m ((c : Thread nD τ).loc main_arg1)) := rfl

end Cert.SampMix

end
-- ==== Proof.SampMixValue.lean ====
/- The mixing layer's input call for the new rows leaves in its arrays the reference's results from the same arguments: what the
   windows read of the arguments, what the one grid point writes, and that it is the whole of each array. -/
module

public import proofs.«01_k».proof.Proof.MixValue
public import proofs.«01_k».proof.Proof.SampValue
public import proofs.«01_k».proof.Proof.SampMixBlock
public import proofs.«01_k».proof.Proof.SampMixEntry
public import proofs.«01_k».proof.Proof.SampMixMath

@[expose] public section

noncomputable section

namespace Cert.SampMix

open Cert.Kernel8Ideal Cert.Kernel8Ideal.Gen Idealize.ShloMosaic Idealize.ShloMosaic.TcCoe Idealize.SL.Sem
open Cert.Samp (rowAngles angles_row)
open Cert.Samp.Entry (cosTable sinTable cos_apply sin_apply)
open Cert.Mix (turn half weights weights_apply weights_zero source source_lane source_block pay4_apply pay6_apply pay7_apply pay30_apply)

variable (m : (ℓ : Loc nD τ sig) → Buf (Elt Ideal) ℓ) (c : Dev nD)

abbrev argX : FVec Ideal S128x4x1024 .f32 := m ((c : Thread nD τ).loc main_arg0)
abbrev argW : FVec Ideal S1024x2628 .f32 := m ((c : Thread nD τ).loc main_arg1)

/-! ## The windows' blocks -/

theorem rows_apply (r : Fin 512) (d : Fin 1024) :
    rows (argX m c) (ix2 r d) = argX m c (ix3 ⟨r.val / 4, by omega⟩ ⟨r.val % 4, by omega⟩ d) :=
  Cert.Samp.joined _ r d

theorem index0 : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_17.index t (0 : Fin 2) = 0 ∧ win0_17.index t (1 : Fin 2) = 0) :=
  (by decide +kernel : ∀ t : Fin grid0.N, _)

/-- The rows, whole. -/
theorem blk0 (t : Fin cfg0.N) : iblk m c 0 t = rows (argX m c) := by
  obtain ⟨e, -, -, -, -, -, -, -, -, -⟩ := index0 t
  funext i
  show V m c main_v28 (((cfg0.win 0).blk t).view.emb i) = _
  rw [entry_rows]
  refine congrArg (rows (argX m c)) (funext fun a => Fin.ext ?_)
  match a with
  | ⟨0, _⟩ => show win0_0.index t (0 : Fin 2) * 512 + 1 * (i 0).val = (i 0).val; omega
  | ⟨1, _⟩ => show win0_0.index t (1 : Fin 2) * 1024 + 1 * (i 1).val = (i 1).val; omega

/-- The weights, whole. -/
theorem blk1 (t : Fin cfg0.N) : iblk m c 1 t = weights (argW m c) := by
  obtain ⟨-, e, -, -, -, -, -, -, -, -⟩ := index0 t
  funext i
  show V m c main_v47 (((cfg0.win 1).blk t).view.emb i) = _
  rw [entry_weights]
  refine congrArg (weights (argW m c)) (funext fun a => Fin.ext ?_)
  match a with
  | ⟨0, _⟩ => show win0_1.index t (0 : Fin 2) * 1024 + 1 * (i 0).val = (i 0).val; omega
  | ⟨1, _⟩ => show win0_1.index t (1 : Fin 2) * 2688 + 1 * (i 1).val = (i 1).val; omega

/-- The cosines, whole. -/
theorem blk2 (t : Fin cfg0.N) : iblk m c 2 t = cosTable := by
  obtain ⟨-, -, e, -, -, -, -, -, -, -⟩ := index0 t
  funext i
  show V m c main_v69 (((cfg0.win 2).blk t).view.emb i) = _
  rw [entry_cos]
  refine congrArg (cosTable) (funext fun a => Fin.ext ?_)
  match a with
  | ⟨0, _⟩ => show win0_2.index t (0 : Fin 2) * 512 + 1 * (i 0).val = (i 0).val; omega
  | ⟨1, _⟩ => show win0_2.index t (1 : Fin 2) * 128 + 1 * (i 1).val = (i 1).val; omega

/-- The sines, whole. -/
theorem blk3 (t : Fin cfg0.N) : iblk m c 3 t = sinTable := by
  obtain ⟨-, -, -, e, -, -, -, -, -, -⟩ := index0 t
  funext i
  show V m c main_v70 (((cfg0.win 3).blk t).view.emb i) = _
  rw [entry_sin]
  refine congrArg (sinTable) (funext fun a => Fin.ext ?_)
  match a with
  | ⟨0, _⟩ => show win0_3.index t (0 : Fin 2) * 512 + 1 * (i 0).val = (i 0).val; omega
  | ⟨1, _⟩ => show win0_3.index t (1 : Fin 2) * 128 + 1 * (i 1).val = (i 1).val; omega

/-- The indexer's cosines, whole. -/
theorem blk4 (t : Fin cfg0.N) : iblk m c 4 t = halfCos := by
  obtain ⟨-, -, -, -, e, -, -, -, -, -⟩ := index0 t
  funext i
  show V m c main_v72 (((cfg0.win 4).blk t).view.emb i) = _
  rw [entry_halfCos]
  refine congrArg (halfCos) (funext fun a => Fin.ext ?_)
  match a with
  | ⟨0, _⟩ => show win0_4.index t (0 : Fin 2) * 512 + 1 * (i 0).val = (i 0).val; omega
  | ⟨1, _⟩ => show win0_4.index t (1 : Fin 2) * 128 + 1 * (i 1).val = (i 1).val; omega

/-- The indexer's sines, whole. -/
theorem blk5 (t : Fin cfg0.N) : iblk m c 5 t = halfSin := by
  obtain ⟨-, -, -, -, -, e, -, -, -, -⟩ := index0 t
  funext i
  show V m c main_v74 (((cfg0.win 5).blk t).view.emb i) = _
  rw [entry_halfSin]
  refine congrArg (halfSin) (funext fun a => Fin.ext ?_)
  match a with
  | ⟨0, _⟩ => show win0_5.index t (0 : Fin 2) * 512 + 1 * (i 0).val = (i 0).val; omega
  | ⟨1, _⟩ => show win0_5.index t (1 : Fin 2) * 128 + 1 * (i 1).val = (i 1).val; omega

/-! ## What the point computes -/

/-- The one point of the grid. -/
abbrev t : Fin cfg0.N := ⟨0, by rw [show cfg0.N = 1 from N_0]; exact Nat.zero_lt_one⟩

/-- The product of the rows with the weights. -/
abbrev prodAt : FVec Ideal S512x2688 .f32 := Cert.Kernel4Ideal.Gen.k0_pay4 (F := Ideal) (iblk m c 0 t) (iblk m c 1 t)
abbrev cosAt : FVec Ideal S512x128 .f32 := Cert.Kernel4Ideal.Gen.k0_pay6 (F := Ideal) (iblk m c 2 t)
abbrev sinAt : FVec Ideal S512x128 .f32 := Cert.Kernel4Ideal.Gen.k0_pay7 (F := Ideal) (iblk m c 3 t)
abbrev halfCosAt : FVec Ideal S512x128 .f32 := Cert.Kernel4Ideal.Gen.k0_pay6 (F := Ideal) (iblk m c 4 t)
abbrev halfSinAt : FVec Ideal S512x128 .f32 := Cert.Kernel4Ideal.Gen.k0_pay7 (F := Ideal) (iblk m c 5 t)

/-- A column of the product at a row. -/
theorem product (r : Fin 512) (n : Fin 2688) (k : Nat) (hn : n.val < 964 ∨ 1024 ≤ n.val) (hk : k = source n.val) (hlt : k < 2628) :
    prodAt m c (ix2 r n) = col (argX m c) (argW m c) r k := by
  unfold prodAt
  rw [pay4_apply]
  unfold col
  rw [dif_pos hlt]
  refine Finset.sum_congr rfl fun d _ => ?_
  rw [blk0, blk1, weights_apply _ d n ⟨k, hlt⟩ hn hk, rows_apply]

/-- The columns between are zero. -/
theorem product_zero (r : Fin 512) (n : Fin 2688) (hn : 964 ≤ n.val) (hn' : n.val < 1024) : prodAt m c (ix2 r n) = (0 : EReal) := by
  unfold prodAt
  rw [pay4_apply]
  refine Finset.sum_eq_zero fun d _ => ?_
  rw [blk1, weights_zero _ d n hn hn']
  exact mul_zero (M₀ := EReal) _

/-- A column turned by tables that hold at its lane the angle's cosine and its signed sine. -/
theorem turned_of (C S : FVec Ideal S512x128 .f32) (r : Fin 512) (n : Fin 1792) (k : Nat) (hn : n.val < 960) (hk : k = source n.val)
    (hC : C (ix2 r ⟨n.val % 128, by omega⟩) = Ideal.cos (rowAngles r ⟨n.val % 32, by omega⟩))
    (hS : S (ix2 r ⟨n.val % 128, by omega⟩) = if n.val % 64 < 32 then -Ideal.sin (rowAngles r ⟨n.val % 32, by omega⟩) else Ideal.sin (rowAngles r ⟨n.val % 32, by omega⟩)) :
    Proj.turned (prodAt m c) C S r n = turn (col (argX m c) (argW m c) r) (rowAngles r) k := by
  obtain ⟨hlt, hlane, hup, hdown⟩ := source_lane n.val hn
  have hl : (⟨n.val % 32, by omega⟩ : Fin 32) = ⟨k % 32, by omega⟩ := Fin.ext (by show n.val % 32 = k % 32; omega)
  unfold Proj.turned
  rw [hC, hS, product m c r ⟨n.val, by omega⟩ k (by simp only; omega) hk (by omega)]
  unfold turn
  by_cases h : n.val % 64 < 32
  · rw [if_pos h, if_pos h, product m c r ⟨n.val + 32, by omega⟩ (k + 32) (by simp only; omega) (by simp only; omega) (by omega),
      if_pos (show k % 64 < 32 by omega), hl, mul_neg, ← sub_eq_add_neg]
  · rw [if_neg h, if_neg h, product m c r ⟨n.val - 32, by omega⟩ (k - 32) (by simp only; omega) (by simp only; omega) (by omega),
      if_neg (show ¬k % 64 < 32 by omega), hl]

/-- The angle of a lane of a row. -/
theorem angle_lane (r : Fin 512) (n a : Nat) (ha : a < 32) (h : a = n % 32) :
    Cert.Samp.Entry.angles (ix2 r ⟨a, ha⟩) = rowAngles r ⟨n % 32, by omega⟩ := by
  subst h
  exact angles_row r _

/-- A turned column. -/
theorem turned_eq (r : Fin 512) (n : Fin 1792) (k : Nat) (hn : n.val < 960) (hk : k = source n.val) :
    Proj.turned (prodAt m c) (cosAt m c) (sinAt m c) r n = turn (col (argX m c) (argW m c) r) (rowAngles r) k := by
  refine turned_of m c _ _ r n k hn hk ?_ ?_
  · unfold cosAt
    rw [pay6_apply, blk2, cos_apply, angle_lane r n.val _ _ (by simp only; omega)]
  · unfold sinAt
    rw [pay7_apply, blk3, sin_apply, angle_lane r n.val _ _ (by simp only; omega)]
    simp only [show n.val % 128 % 64 = n.val % 64 by omega]

/-- The indexer's keys. -/
theorem half_keys (r : Fin 512) (n : Fin 1792) (k : Nat) (hn : 896 ≤ n.val) (hn' : n.val < 960) (hk : k = n.val + 128) :
    Proj.turned (prodAt m c) (halfCosAt m c) (halfSinAt m c) r n = turn (col (argX m c) (argW m c) r) (rowAngles r) k := by
  refine turned_of m c _ _ r n k hn' (hk.trans (source_block _ _ (by omega)).symm) ?_ ?_
  · unfold halfCosAt
    rw [pay6_apply, blk4, halfCos_low _ _ (by simp only; omega), angle_lane r n.val _ _ (by simp only; omega)]
  · unfold halfSinAt
    rw [pay7_apply, blk5, halfSin_low _ _ (by simp only; omega), angle_lane r n.val _ _ (by simp only; omega)]
    simp only [show n.val % 128 = n.val % 64 by omega]

/-- The lanes behind the indexer's keys are their columns times one half. -/
theorem half_rest (r : Fin 512) (n : Fin 1792) (hn : 960 ≤ n.val) (hn' : n.val < 1024) :
    Proj.turned (prodAt m c) (halfCosAt m c) (halfSinAt m c) r n = prodAt m c (ix2 r ⟨n.val, by omega⟩) * half := by
  unfold Proj.turned halfCosAt halfSinAt
  rw [pay6_apply, blk4, halfCos_high _ _ (by simp only; omega), pay7_apply, blk5, halfSin_high _ _ (by simp only; omega)]
  rw [mul_zero (M₀ := EReal), add_zero]

/-! ## The arrays after the run -/

/-- A point of the prompt's call that begins a sequence, whose blocks the proofs compare with. -/
abbrev u : Fin Cert.Kernel4Ideal.cfg0.N := ⟨0, by decide⟩

theorem array11 (r : Fin 512) (n : Fin 128) : (dats m 0 c).arrAt 11 cfg0.N (ix2 r n) = Proj.turned (prodAt m c) (cosAt m c) (sinAt m c) r ⟨512 + n.val, by omega⟩ := by
  obtain ⟨-, -, -, -, -, -, e, -, -, -⟩ := index0 t
  have he : ((cfg0.win 11).blk t).view.emb (ix2 r n) = (ix2 r n : S512x128.Idx) := by
    funext a; apply Fin.ext
    match a with
    | ⟨0, _⟩ => show win0_11.index t (0 : Fin 2) * 512 + 1 * r.val = r.val; omega
    | ⟨1, _⟩ => show win0_11.index t (1 : Fin 2) * 128 + 1 * n.val = n.val; omega
  have hb := congrFun ((Value.blocks11 m c t (by decide +kernel : (win0_11).flush (⟨0, by decide⟩ : Fin grid0.N) = true)).trans (Value.flushed11_A m c t)) (ix2 r n)
  refine Eq.trans (congrArg ((dats m 0 c).arrAt 11 cfg0.N) he.symm) (hb.trans ?_)
  refine Eq.trans (congrFun (Block.same11 c (grid0.coords t) (Cert.Kernel4Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (Cert.Kernel4Ideal.Gen.ms0_0 u) (Cert.Kernel4Ideal.Gen.hs0_0 u) (Cert.Kernel4Ideal.Gen.ms0_1 u) (Cert.Kernel4Ideal.Gen.hs0_1 u) (Cert.Kernel4Ideal.Gen.ms0_2 u) (Cert.Kernel4Ideal.Gen.hs0_2 u) (Cert.Kernel4Ideal.Gen.ms0_3 u) (Cert.Kernel4Ideal.Gen.hs0_3 u) (Cert.Kernel4Ideal.Gen.ms0_4 u) (Cert.Kernel4Ideal.Gen.hs0_4 u) (Cert.Kernel4Ideal.Gen.ms0_5 u) (Cert.Kernel4Ideal.Gen.hs0_5 u) (Cert.Kernel4Ideal.Gen.ms0_6 u) (Cert.Kernel4Ideal.Gen.hs0_6 u) (Cert.Kernel4Ideal.Gen.ms0_7 u) (Cert.Kernel4Ideal.Gen.hs0_7 u) (Cert.Kernel4Ideal.Gen.ms0_8 u) (Cert.Kernel4Ideal.Gen.hs0_8 u) (Cert.Kernel4Ideal.Gen.ms0_9 u) (Cert.Kernel4Ideal.Gen.hs0_9 u) (Cert.Kernel4Ideal.Gen.ms0_10 u) (Cert.Kernel4Ideal.Gen.hs0_10 u) (Cert.Kernel4Ideal.Gen.ms0_11 u) (Cert.Kernel4Ideal.Gen.hs0_11 u) (Cert.Kernel4Ideal.Gen.ms0_12 u) (Cert.Kernel4Ideal.Gen.hs0_12 u) (Cert.Kernel4Ideal.Gen.ms0_13 u) (Cert.Kernel4Ideal.Gen.hs0_13 u) (Cert.Kernel4Ideal.Gen.ms0_14 u) (Cert.Kernel4Ideal.Gen.hs0_14 u) (Cert.Kernel4Ideal.Gen.ms0_15 u) (Cert.Kernel4Ideal.Gen.hs0_15 u) Cert.Kernel4Ideal.Gen.scM0_0 (Memref.isWhole_whole _) Cert.Mix.begins.1 Cert.Mix.begins.2) (ix2 r n)) ?_
  exact Cert.Mix.block9 (p := r) (n := n) ..

theorem array12 (r : Fin 512) (n : Fin 128) : (dats m 0 c).arrAt 12 cfg0.N (ix2 r n) = prodAt m c (ix2 r ⟨1024 + n.val, by omega⟩) := by
  obtain ⟨-, -, -, -, -, -, -, e, -, -⟩ := index0 t
  have he : ((cfg0.win 12).blk t).view.emb (ix2 r n) = (ix2 r n : S512x128.Idx) := by
    funext a; apply Fin.ext
    match a with
    | ⟨0, _⟩ => show win0_12.index t (0 : Fin 2) * 512 + 1 * r.val = r.val; omega
    | ⟨1, _⟩ => show win0_12.index t (1 : Fin 2) * 128 + 1 * n.val = n.val; omega
  have hb := congrFun ((Value.blocks12 m c t (by decide +kernel : (win0_12).flush (⟨0, by decide⟩ : Fin grid0.N) = true)).trans (Value.flushed12_A m c t)) (ix2 r n)
  refine Eq.trans (congrArg ((dats m 0 c).arrAt 12 cfg0.N) he.symm) (hb.trans ?_)
  refine Eq.trans (congrFun (Block.same12 c (grid0.coords t) (Cert.Kernel4Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (Cert.Kernel4Ideal.Gen.ms0_0 u) (Cert.Kernel4Ideal.Gen.hs0_0 u) (Cert.Kernel4Ideal.Gen.ms0_1 u) (Cert.Kernel4Ideal.Gen.hs0_1 u) (Cert.Kernel4Ideal.Gen.ms0_2 u) (Cert.Kernel4Ideal.Gen.hs0_2 u) (Cert.Kernel4Ideal.Gen.ms0_3 u) (Cert.Kernel4Ideal.Gen.hs0_3 u) (Cert.Kernel4Ideal.Gen.ms0_4 u) (Cert.Kernel4Ideal.Gen.hs0_4 u) (Cert.Kernel4Ideal.Gen.ms0_5 u) (Cert.Kernel4Ideal.Gen.hs0_5 u) (Cert.Kernel4Ideal.Gen.ms0_6 u) (Cert.Kernel4Ideal.Gen.hs0_6 u) (Cert.Kernel4Ideal.Gen.ms0_7 u) (Cert.Kernel4Ideal.Gen.hs0_7 u) (Cert.Kernel4Ideal.Gen.ms0_8 u) (Cert.Kernel4Ideal.Gen.hs0_8 u) (Cert.Kernel4Ideal.Gen.ms0_9 u) (Cert.Kernel4Ideal.Gen.hs0_9 u) (Cert.Kernel4Ideal.Gen.ms0_10 u) (Cert.Kernel4Ideal.Gen.hs0_10 u) (Cert.Kernel4Ideal.Gen.ms0_11 u) (Cert.Kernel4Ideal.Gen.hs0_11 u) (Cert.Kernel4Ideal.Gen.ms0_12 u) (Cert.Kernel4Ideal.Gen.hs0_12 u) (Cert.Kernel4Ideal.Gen.ms0_13 u) (Cert.Kernel4Ideal.Gen.hs0_13 u) (Cert.Kernel4Ideal.Gen.ms0_14 u) (Cert.Kernel4Ideal.Gen.hs0_14 u) (Cert.Kernel4Ideal.Gen.ms0_15 u) (Cert.Kernel4Ideal.Gen.hs0_15 u) Cert.Kernel4Ideal.Gen.scM0_0 (Memref.isWhole_whole _) Cert.Mix.begins.1 Cert.Mix.begins.2) (ix2 r n)) ?_
  exact Cert.Mix.block10 (p := r) (n := n) ..

theorem array13 (r : Fin 512) (n : Fin 128) : (dats m 0 c).arrAt 13 cfg0.N (ix2 r n) = Proj.turned (prodAt m c) (halfCosAt m c) (halfSinAt m c) r ⟨896 + n.val, by omega⟩ := by
  obtain ⟨-, -, -, -, -, -, -, -, e, -⟩ := index0 t
  have he : ((cfg0.win 13).blk t).view.emb (ix2 r n) = (ix2 r n : S512x128.Idx) := by
    funext a; apply Fin.ext
    match a with
    | ⟨0, _⟩ => show win0_13.index t (0 : Fin 2) * 512 + 1 * r.val = r.val; omega
    | ⟨1, _⟩ => show win0_13.index t (1 : Fin 2) * 128 + 1 * n.val = n.val; omega
  have hb := congrFun ((Value.blocks13 m c t (by decide +kernel : (win0_13).flush (⟨0, by decide⟩ : Fin grid0.N) = true)).trans (Value.flushed13_A m c t)) (ix2 r n)
  refine Eq.trans (congrArg ((dats m 0 c).arrAt 13 cfg0.N) he.symm) (hb.trans ?_)
  refine Eq.trans (congrFun (Block.same13 c (grid0.coords t) (Cert.Kernel4Ideal.grid0.coords u) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (Cert.Kernel4Ideal.Gen.ms0_0 u) (Cert.Kernel4Ideal.Gen.hs0_0 u) (Cert.Kernel4Ideal.Gen.ms0_1 u) (Cert.Kernel4Ideal.Gen.hs0_1 u) (Cert.Kernel4Ideal.Gen.ms0_2 u) (Cert.Kernel4Ideal.Gen.hs0_2 u) (Cert.Kernel4Ideal.Gen.ms0_3 u) (Cert.Kernel4Ideal.Gen.hs0_3 u) (Cert.Kernel4Ideal.Gen.ms0_4 u) (Cert.Kernel4Ideal.Gen.hs0_4 u) (Cert.Kernel4Ideal.Gen.ms0_5 u) (Cert.Kernel4Ideal.Gen.hs0_5 u) (Cert.Kernel4Ideal.Gen.ms0_6 u) (Cert.Kernel4Ideal.Gen.hs0_6 u) (Cert.Kernel4Ideal.Gen.ms0_7 u) (Cert.Kernel4Ideal.Gen.hs0_7 u) (Cert.Kernel4Ideal.Gen.ms0_8 u) (Cert.Kernel4Ideal.Gen.hs0_8 u) (Cert.Kernel4Ideal.Gen.ms0_9 u) (Cert.Kernel4Ideal.Gen.hs0_9 u) (Cert.Kernel4Ideal.Gen.ms0_10 u) (Cert.Kernel4Ideal.Gen.hs0_10 u) (Cert.Kernel4Ideal.Gen.ms0_11 u) (Cert.Kernel4Ideal.Gen.hs0_11 u) (Cert.Kernel4Ideal.Gen.ms0_12 u) (Cert.Kernel4Ideal.Gen.hs0_12 u) (Cert.Kernel4Ideal.Gen.ms0_13 u) (Cert.Kernel4Ideal.Gen.hs0_13 u) (Cert.Kernel4Ideal.Gen.ms0_14 u) (Cert.Kernel4Ideal.Gen.hs0_14 u) (Cert.Kernel4Ideal.Gen.ms0_15 u) (Cert.Kernel4Ideal.Gen.hs0_15 u) Cert.Kernel4Ideal.Gen.scM0_0 (Memref.isWhole_whole _) Cert.Mix.begins.1 Cert.Mix.begins.2) (ix2 r n)) ?_
  exact Cert.Mix.block11 (p := r) (n := n) ..

theorem array17 (r : Fin 512) (n : Fin 512) : (dats m 0 c).arrAt 17 cfg0.N (ix2 r n) = Cert.Kernel4Ideal.Gen.k0_pay30 (F := Ideal) (prodAt m c) (ix2 r n) := by
  obtain ⟨-, -, -, -, -, -, -, -, -, e⟩ := index0 t
  have he : ((cfg0.win 17).blk t).view.emb (ix2 r n) = (ix2 r n : S512x512.Idx) := by
    funext a; apply Fin.ext
    match a with
    | ⟨0, _⟩ => show win0_17.index t (0 : Fin 2) * 512 + 1 * r.val = r.val; omega
    | ⟨1, _⟩ => show win0_17.index t (1 : Fin 2) * 512 + 1 * n.val = n.val; omega
  have hb := congrFun ((Value.blocks17 m c t (by decide +kernel : (win0_17).flush (⟨0, by decide⟩ : Fin grid0.N) = true)).trans (Value.flushed17_A m c t)) (ix2 r n)
  refine Eq.trans (congrArg ((dats m 0 c).arrAt 17 cfg0.N) he.symm) (hb.trans ?_)
  exact Block.block17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) r n

theorem equal11 : (dats m 0 c).arrAt 11 cfg0.N = keys (argX m c) (argW m c) := by
  funext i
  obtain ⟨r, n, rfl⟩ : ∃ (r : Fin 512) (n : Fin 128), i = ix2 r n := ⟨i 0, i 1, eq_ix2 i⟩
  refine (array11 m c r n).trans (Eq.trans ?_ (keys_apply _ _ r n).symm)
  exact turned_eq m c r _ _ (by simp only; omega) (source_block (512 + n.val) (512 + n.val) (by omega)).symm

theorem equal12 : (dats m 0 c).arrAt 12 cfg0.N = values (argX m c) (argW m c) := by
  funext i
  obtain ⟨r, n, rfl⟩ : ∃ (r : Fin 512) (n : Fin 128), i = ix2 r n := ⟨i 0, i 1, eq_ix2 i⟩
  refine (array12 m c r n).trans (Eq.trans ?_ (values_apply _ _ r n).symm)
  exact product m c r _ (640 + n.val) (by simp only; omega) (source_block (1024 + n.val) (640 + n.val) (by omega)).symm (by omega)

theorem equal13 : (dats m 0 c).arrAt 13 cfg0.N = index (argX m c) (argW m c) := by
  funext i
  obtain ⟨r, n, rfl⟩ : ∃ (r : Fin 512) (n : Fin 128), i = ix2 r n := ⟨i 0, i 1, eq_ix2 i⟩
  refine (array13 m c r n).trans ?_
  by_cases h : n.val < 64
  · exact (half_keys m c r _ _ (by simp only; omega) (by simp only; omega) (by simp only; omega)).trans (index_keys _ _ r n h).symm
  refine (half_rest m c r _ (by simp only; omega) (by simp only; omega)).trans ?_
  by_cases h' : n.val < 68
  · refine Eq.trans ?_ (index_weights _ _ r n h h').symm
    exact congrArg (· * half) (product m c r _ _ (by simp only; omega) (source_block _ _ (by simp only; omega)).symm (by omega))
  · refine Eq.trans ?_ (index_zero _ _ r n h').symm
    exact (congrArg (· * half) (product_zero m c r _ (by simp only; omega) (by simp only; omega))).trans (zero_mul (M₀ := EReal) _)

theorem equal17 : (dats m 0 c).arrAt 17 cfg0.N = rowsOfPairs (argX m c) (argW m c) := by
  funext i
  obtain ⟨r, n, rfl⟩ : ∃ (r n : Fin 512), i = ix2 r n := ⟨i 0, i 1, eq_ix2 i⟩
  refine (array17 m c r n).trans (Eq.trans ?_ (rowsOfPairs_apply _ _ r n).symm)
  rw [pay30_apply, product m c r ⟨1664 + n.val, by omega⟩ (1604 + n.val) (by simp only; omega) (source_block _ _ (by simp only; omega)).symm (by omega),
    product m c r ⟨2176 + n.val, by omega⟩ (2116 + n.val) (by simp only; omega) (source_block _ _ (by simp only; omega)).symm (by omega)]

end Cert.SampMix

end
-- ==== Proof.SampFfnStep.lean ====
/- What one grid point of the new rows' feed-forward call leaves behind, as a function of the blocks it reads. The grid is (row block,
   half of the hidden width). The first half's point rounds the row block and puts the first half's contribution to the
   product into the accumulator; the second half's point adds its own and writes the normalized rows. -/
module

public import proofs.«01_k».proof.Proof.Gen.Kernel11Ideal.Value

@[expose] public section

noncomputable section

namespace Cert.Ffn.Samp

open Cert.Kernel11Ideal Cert.Kernel11Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section Point

variable (c : Dev nD) (i : grid0.Coords)
  (a2 : Memref sig .tc .vmem S512x1024 .f32) (h2 : a2.IsWhole) (a3 : Memref sig .tc .vmem S1024x1408 .bf16) (h3 : a3.IsWhole)
  (a4 : Memref sig .tc .vmem S1024x1408 .bf16) (h4 : a4.IsWhole) (a5 : Memref sig .tc .vmem S1408x1024 .bf16) (h5 : a5.IsWhole)
  (a6 : Memref sig .tc .vmem S1x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S512x1024 .f32) (h10 : a10.IsWhole)
  (x0 : Vec F S512x1024 .f32) (x1 x2 : Vec F S1024x1408 .bf16) (x3 : Vec F S1408x1024 .bf16) (x4 x5 : Vec F S1x1024 .f32)

/-- The first half's point leaves the rounded row block in the first scratch. -/
theorem first_rows (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = k0_pay1 x0 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero (S := S512x1024) off0]
  simp only [View.readAt_eq_ld, h2.read_unread, View.ld_unit_zero (S := S512x1024) off0]

/-- It leaves the first half's contribution, added to zero, in the accumulator. -/
theorem first_acc (hc0 : cond0_0 i) (hc1 : ¬cond0_1 i) :
    sout0_A_1 c i a2 h2 a3 h3 a4 h4 a5 h5 a6 h6 a7 h7 a8 h8 a9 h9 a10 h10 hc0 hc1 x0 x1 x2 x3 x4 x5
      = k0_pay3 (k0_pay1 x0) x1 x2 k0_pay2 x3 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S512x1024) off0, View.readCov_unit_zero (S := S512x1024) _ off0, View.readCov_unit_zero (S := S512x1024) _ off0]
  simp only [View.readAt_eq_ld, h2.read_unread, h3.read_unread, h4.read_unread, h5.read_unread,
    View.ld_unit_zero (S := S512x1024) off0, View.ld_unit_zero (S := S1024x1408) off0, View.ld_unit_zero (S := S1408x1024) off0]

/-- The second half's point leaves in the result's block the normalized sum of the row block and the whole product. -/
theorem second_out (hc0 : ¬cond0_0 i) (hc1 : cond0_1 i) (y : Vec F S512x1024 .bf16) (p : Vec F S512x1024 .f32) :
    out0_B_6 c i a2 h2 a3 h3 a4 h4 a5 h5 a6 h6 a7 h7 a8 h8 a9 h9 a10 h10 hc0 hc1 x0 x1 x2 x3 x4 x5 y p
      = k0_pay4 x0 (k0_pay3 y x1 x2 p x3) x4 x5 := by
  unfold out0_B_6
  rw [View.read_writes_eq_canon _ _ _ (cover0_B_6 c i a2 h2 a3 h3 a4 h4 a5 h5 a6 h6 a7 h7 a8 h8 a9 h9 a10 h10 hc0 hc1 x0 x1 x2 x3 x4 x5 y p)]
  unfold kernelRun0_B
  dsimp only
  sl_unfold_words
  rw [View.canon_unit_zero (S := S512x1024) off0, View.readCov_unit_zero (S := S512x1024) _ off0]
  simp only [View.readAt_eq_ld, h2.read_unread, h3.read_unread, h4.read_unread, h5.read_unread, h6.read_unread, h7.read_unread,
    h9.read_unread, h10.read_unread,
    View.ld_unit_zero (S := S512x1024) off0, View.ld_unit_zero (S := S1024x1408) off0, View.ld_unit_zero (S := S1408x1024) off0,
    View.ld_unit_zero (S := S1x1024) off0]

end Point

variable (m : (ℓ : Loc nD τ sig) → Buf (Elt F) ℓ)

/-- What the second half's point of a row block leaves in the result's block, from the blocks that the two points read. -/
theorem two_points (c : Dev nD) (s t : Fin cfg0.N) (hs : s.val % 2 = 0) (hst : t.val = s.val + 1) :
    (outsAt0 m c t.val t.isLt).1
      = k0_pay4 (iblk m c 0 t)
          (k0_pay3 (k0_pay1 (iblk m c 0 s)) (iblk m c 1 t) (iblk m c 2 t)
            (k0_pay3 (k0_pay1 (iblk m c 0 s)) (iblk m c 1 s) (iblk m c 2 s) k0_pay2 (iblk m c 3 s)) (iblk m c 3 t))
          (iblk m c 4 t) (iblk m c 5 t) := by
  have hA := outsAt0_A m c s hs (by omega)
  have hB := outsAt0_B m c t (by omega) (by omega)
  have e : ∀ h, outsAt0 m c (t.val - 1) h = outsAt0 m c s.val s.isLt := by
    have : t.val - 1 = s.val := by omega
    rw [this]; intro _; rfl
  rw [hB]
  dsimp only
  rw [second_out, e, hA]
  dsimp only
  rw [first_rows, first_acc]

end Cert.Ffn.Samp

end
-- ==== Proof.SampFfnMath.lean ====
/- The feed-forward layer of the new rows over the extended reals: that the kernel's payloads and the reference's composed
   term are the functions of one row in FfnMath.lean. -/
module

public import proofs.«01_k».proof.Proof.FfnMath
public import proofs.«01_k».proof.Proof.Gen.Kernel11Ideal.Skeleton
public import proofs.«01_k».proof.Proof.Gen.Reference11Ideal.Run

@[expose] public section

noncomputable section

namespace Cert.Ffn.Samp

open Idealize.ShloMosaic Idealize.ShloMosaic.TcCoe Idealize.SL.Sem

/-! ## The kernel's payloads -/

section Kernel
open Cert.Kernel11Ideal Cert.Kernel11Ideal.Gen

/-- The accumulator after a half of the hidden width: what it held plus that half's products. -/
theorem pay3_apply (x : Vec Ideal S512x1024 .bf16) (wg wu : Vec Ideal S1024x1408 .bf16) (a : Vec Ideal S512x1024 .f32)
    (wd : Vec Ideal S1408x1024 .bf16) (p : Fin 512) (q : Fin 1024) :
    k0_pay3 (F := Ideal) x wg wu a wd (ix2 p q)
      = a (ix2 p q) + ∑ k : Fin 1408, hidden (fun d => x (ix2 p d)) (fun d => wg (ix2 d k)) (fun d => wu (ix2 d k)) * wd (ix2 k q) := by
  pointwise [k0_pay3, hidden, silu]
  simp only [zero_sub]

/-- The written block: the normalized rows of the weighted residual plus the accumulator. -/
theorem pay4_apply (x a : Vec Ideal S512x1024 .f32) (g b : Vec Ideal S1x1024 .f32) (p : Fin 512) (q : Fin 1024) :
    k0_pay4 (F := Ideal) x a g b (ix2 p q)
      = norm (fun k => alpha * x (ix2 p k) + a (ix2 p k)) (g (ix2 0 q)) (b (ix2 0 q)) q := by
  pointwise [k0_pay4, norm, mean, alpha, width, eps]

theorem pay1_apply (x : Vec Ideal S512x1024 .f32) (p : Fin 512) (q : Fin 1024) : k0_pay1 (F := Ideal) x (ix2 p q) = x (ix2 p q) := by
  pointwise [k0_pay1]

theorem pay2_apply (p : Fin 512) (q : Fin 1024) : k0_pay2 (F := Ideal) (ix2 p q) = (0 : EReal) := by
  pointwise [k0_pay2]

end Kernel

/-! ## The reference's term -/

section Reference
open Cert.Reference11Ideal Cert.Reference11Ideal.Gen

/-- The reference's sum before it is normalized. -/
def refSum (x : FVec Ideal S512x1024 .f32) (wg wu : FVec Ideal S1024x2816 .f32) (wd : FVec Ideal S2816x1024 .f32) : FVec Ideal S512x1024 .f32 :=
  have h := Host.dotGeneral dot_S512x1024_S1024x2816_S512x2816_1_0_0_1_n_n none x wg
  have one := broadcastInDim S512x2816 ![] bcast_S_S512x2816 (constant (F := Ideal) S_ .f32 0x3F800000#32)
  addf (mulf (broadcastInDim S512x1024 ![] bcast_S_S512x1024 (constant S_ .f32 0x3FD744FD#32)) x)
    (Host.dotGeneral dot_S512x2816_S2816x1024_S512x1024_1_0_0_1_n_n none
      (mulf (mulf h (Host.divf one (addf one (Host.exp (Host.negf h)))))
        (Host.dotGeneral dot_S512x1024_S1024x2816_S512x2816_1_0_0_1_n_n none x wu)) wd)

/-- The reference's means of an array's rows, as a column. -/
def refMean (y : FVec Ideal S512x1024 .f32) : FVec Ideal S512x1 .f32 :=
  Host.divf (broadcastInDim S512x1 ![0] bcast_S512_S512x1_0
      (Host.reduceAdd y (constant S_ .f32 0x00000000#32) reducesTo_S512x1024_S512_d1 h_S_))
    (broadcastInDim S512x1 ![] bcast_S_S512x1 (constant S_ .f32 0x44800000#32))

/-- The reference's normalization of an array's rows. -/
def refNorm (y : FVec Ideal S512x1024 .f32) (g b : FVec Ideal S1024 .f32) : FVec Ideal S512x1024 .f32 :=
  have e := subf y (broadcastInDim S512x1024 ![0, 1] bcast_S512x1_S512x1024_0_1 (refMean y))
  addf (mulf (mulf e (broadcastInDim S512x1024 ![0, 1] bcast_S512x1_S512x1024_0_1
      (Host.rsqrt (addf (refMean (mulf e e)) (broadcastInDim S512x1 ![] bcast_S_S512x1 (constant S_ .f32 0x3727C5AC#32))))))
      (broadcastInDim S512x1024 ![0, 1] bcast_S1x1024_S512x1024_0_1 (broadcastInDim S1x1024 ![1] bcast_S1024_S1x1024_1 g)))
    (broadcastInDim S512x1024 ![0, 1] bcast_S1x1024_S512x1024_0_1 (broadcastInDim S1x1024 ![1] bcast_S1024_S1x1024_1 b))

theorem refSum_apply (x : FVec Ideal S512x1024 .f32) (wg wu : FVec Ideal S1024x2816 .f32) (wd : FVec Ideal S2816x1024 .f32)
    (r : Fin 512) (q : Fin 1024) :
    refSum x wg wu wd (ix2 r q) = alpha * x (ix2 r q)
      + ∑ k : Fin 2816, hidden (fun d => x (ix2 r d)) (fun d => wg (ix2 d k)) (fun d => wu (ix2 d k)) * wd (ix2 k q) := by
  pointwise [refSum, hidden, alpha, ← silu_eq]

theorem refMean_apply (y : FVec Ideal S512x1024 .f32) (r : Fin 512) : refMean y (ix2 r 0) = mean (fun k => y (ix2 r k)) := by
  pointwise [refMean, mean, width]

theorem refNorm_apply (y : FVec Ideal S512x1024 .f32) (g b : FVec Ideal S1024 .f32) (r : Fin 512) (q : Fin 1024) :
    refNorm y g b (ix2 r q) = norm (fun k => y (ix2 r k)) (g (ix1 q)) (b (ix1 q)) q := by
  pointwise [refNorm, refMean, norm, mean, width, eps]

/-- The reference's composed term is the normalization of its sum. -/
theorem ref_eq (m : (ℓ : Loc nD τ sig) → Buf (Elt Ideal) ℓ) (c : Dev nD) :
    Cert.Reference11Ideal.Value.res_main_v32 m c
      = refNorm (refSum (shapeCast S512x1024 (m ((c.tc : Thread nD τ).loc main_arg0)) shapeCasts_S128x4x1024_S512x1024)
          (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) := rfl

end Reference

end Cert.Ffn.Samp

end
-- ==== Proof.SampFfnValue.lean ====
/- The new rows' feed-forward call against its reference: what the windows read of the arguments, what the result's array holds after
   the run, and that both are the same function of the arguments. -/
module

public import proofs.«01_k».proof.Proof.SampFfnStep
public import proofs.«01_k».proof.Proof.SampFfnMath

@[expose] public section

noncomputable section

namespace Cert.Ffn.Samp

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-! ## The arrays that the windows read -/

/-- The rows: the first argument with its first two axes joined. -/
def rows : FVec Ideal S512x1024 .f32 :=
  shapeCast S512x1024 (m ((c : Thread nD τ).loc main_arg0)) shapeCasts_S128x4x1024_S512x1024

theorem entry_rows : V m c main_v0 = rows m c := by
  simp only [V, hostOps0]; after_results_simp <;> rfl
theorem entry_gate : V m c main_v1 = m ((c : Thread nD τ).loc main_arg1) := by
  simp only [V, hostOps0]; after_results_simp <;> rfl
theorem entry_up : V m c main_v2 = m ((c : Thread nD τ).loc main_arg2) := by
  simp only [V, hostOps0]; after_results_simp <;> rfl
theorem entry_down : V m c main_v3 = m ((c : Thread nD τ).loc main_arg3) := by
  simp only [V, hostOps0]; after_results_simp <;> rfl
theorem entry_scale : V m c main_v4 = shapeCast S1x1024 (m ((c : Thread nD τ).loc main_arg4)) shapeCasts_S1024_S1x1024 := by
  simp only [V, hostOps0]; after_results_simp <;> rfl
theorem entry_shift : V m c main_v5 = shapeCast S1x1024 (m ((c : Thread nD τ).loc main_arg5)) shapeCasts_S1024_S1x1024 := by
  simp only [V, hostOps0]; after_results_simp <;> rfl

/-! ## The windows' blocks -/

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = 0 ∧ win0_2.index t (1 : Fin 2) = t.val % 2 :=
  (by decide +kernel : ∀ t : Fin grid0.N, _)
theorem idx3 : ∀ t : Fin cfg0.N, win0_3.index t (0 : Fin 2) = t.val % 2 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Row `p` of a point's row block. -/
theorem blk0 (t : Fin cfg0.N) (p : Fin 512) (q : Fin 1024) (r : Fin 512) (hr : r.val = t.val / 2 * 512 + p.val) :
    iblk m c 0 t (ix2 p q) = rows m c (ix2 r q) := by
  obtain ⟨e0, e1⟩ := idx0 t
  show V m c main_v0 (((cfg0.win 0).blk t).view.emb (ix2 p q)) = _
  rw [entry_rows]
  refine congrArg (rows m c) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- Column `k` of a point's half of the gate's weights. -/
theorem blk1 (t : Fin cfg0.N) (d : Fin 1024) (k : Fin 1408) (f : Fin 2816) (hf : f.val = t.val % 2 * 1408 + k.val) :
    iblk m c 1 t (ix2 d k) = m ((c : Thread nD τ).loc main_arg1) (ix2 d f) := by
  obtain ⟨e0, e1⟩ := idx1 t
  show V m c main_v1 (((cfg0.win 1).blk t).view.emb (ix2 d k)) = _
  rw [entry_gate]
  refine congrArg (m ((c : Thread nD τ).loc main_arg1)) (funext fun a => Fin.ext ?_)
  match a with
  | ⟨0, _⟩ => show win0_1.index t (0 : Fin 2) * 1024 + 1 * d.val = d.val; omega
  | ⟨1, _⟩ => show win0_1.index t (1 : Fin 2) * 1408 + 1 * k.val = f.val; omega

/-- Column `k` of a point's half of the other weights. -/
theorem blk2 (t : Fin cfg0.N) (d : Fin 1024) (k : Fin 1408) (f : Fin 2816) (hf : f.val = t.val % 2 * 1408 + k.val) :
    iblk m c 2 t (ix2 d k) = m ((c : Thread nD τ).loc main_arg2) (ix2 d f) := by
  obtain ⟨e0, e1⟩ := idx2 t
  show V m c main_v2 (((cfg0.win 2).blk t).view.emb (ix2 d k)) = _
  rw [entry_up]
  refine congrArg (m ((c : Thread nD τ).loc main_arg2)) (funext fun a => Fin.ext ?_)
  match a with
  | ⟨0, _⟩ => show win0_2.index t (0 : Fin 2) * 1024 + 1 * d.val = d.val; omega
  | ⟨1, _⟩ => show win0_2.index t (1 : Fin 2) * 1408 + 1 * k.val = f.val; omega

/-- Row `k` of a point's half of the weights back to the width. -/
theorem blk3 (t : Fin cfg0.N) (k : Fin 1408) (q : Fin 1024) (f : Fin 2816) (hf : f.val = t.val % 2 * 1408 + k.val) :
    iblk m c 3 t (ix2 k q) = m ((c : Thread nD τ).loc main_arg3) (ix2 f q) := by
  obtain ⟨e0, e1⟩ := idx3 t
  show V m c main_v3 (((cfg0.win 3).blk t).view.emb (ix2 k q)) = _
  rw [entry_down]
  refine congrArg (m ((c : Thread nD τ).loc main_arg3)) (funext fun a => Fin.ext ?_)
  match a with
  | ⟨0, _⟩ => show win0_3.index t (0 : Fin 2) * 1408 + 1 * k.val = f.val; omega
  | ⟨1, _⟩ => show win0_3.index t (1 : Fin 2) * 1024 + 1 * q.val = q.val; omega

theorem blk4 (t : Fin cfg0.N) (q : Fin 1024) : iblk m c 4 t (ix2 0 q) = m ((c : Thread nD τ).loc main_arg4) (ix1 q) := by
  obtain ⟨e0, e1⟩ := idx4 t
  show V m c main_v4 (((cfg0.win 4).blk t).view.emb (ix2 0 q)) = _
  have e : ((cfg0.win 4).blk t).view.emb (ix2 0 q) = (ix2 0 q : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [e, entry_scale]
  pointwise

theorem blk5 (t : Fin cfg0.N) (q : Fin 1024) : iblk m c 5 t (ix2 0 q) = m ((c : Thread nD τ).loc main_arg5) (ix1 q) := by
  obtain ⟨e0, e1⟩ := idx5 t
  show V m c main_v5 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_shift]
  pointwise

/-! ## The result's array after the run -/

/-- The term of hidden unit `f` in row `r`, column `q` of the product. -/
def unit (r : Fin 512) (q : Fin 1024) (f : Fin 2816) : EReal :=
  hidden (fun d => rows m c (ix2 r d)) (fun d => m ((c : Thread nD τ).loc main_arg1) (ix2 d f))
      (fun d => m ((c : Thread nD τ).loc main_arg2) (ix2 d f))
    * m ((c : Thread nD τ).loc main_arg3) (ix2 f q)

/-- A point's half of the sum over the hidden units. -/
theorem half (t s : Fin cfg0.N) (hst : s.val / 2 = t.val / 2) (p : Fin 512) (q : Fin 1024) (r : Fin 512)
    (hr : r.val = t.val / 2 * 512 + p.val) (e : Fin 1408 → Fin 2816) (he : ∀ k, (e k).val = t.val % 2 * 1408 + k.val) :
    ∑ k : Fin 1408, hidden (fun d => k0_pay1 (F := Ideal) (iblk m c 0 s) (ix2 p d)) (fun d => iblk m c 1 t (ix2 d k))
        (fun d => iblk m c 2 t (ix2 d k)) * iblk m c 3 t (ix2 k q)
      = ∑ k : Fin 1408, unit m c r q (e k) := by
  refine Finset.sum_congr rfl fun k _ => ?_
  unfold unit
  rw [blk3 m c t k q (e k) (he k)]
  refine congrArg (· * _) ?_
  have h0 : (fun d => k0_pay1 (F := Ideal) (iblk m c 0 s) (ix2 p d)) = fun d => rows m c (ix2 r d) :=
    funext fun d => (pay1_apply _ p d).trans (blk0 m c s p d r (by omega))
  have h1 : (fun d => iblk m c 1 t (ix2 d k)) = fun d => m ((c : Thread nD τ).loc main_arg1) (ix2 d (e k)) :=
    funext fun d => blk1 m c t d k (e k) (he k)
  have h2 : (fun d => iblk m c 2 t (ix2 d k)) = fun d => m ((c : Thread nD τ).loc main_arg2) (ix2 d (e k)) :=
    funext fun d => blk2 m c t d k (e k) (he k)
  rw [h0, h1, h2]

/-- What the second point of a row block writes at row `p`, column `q`. -/
theorem written (s t : Fin cfg0.N) (hs : s.val % 2 = 0) (hst : t.val = s.val + 1) (p : Fin 512) (q : Fin 1024) (r : Fin 512)
    (hr : r.val = t.val / 2 * 512 + p.val) :
    (outsAt0 m c t.val t.isLt).1 (ix2 p q)
      = norm (fun k => alpha * rows m c (ix2 r k) + ∑ f, unit m c r k f)
          (m ((c : Thread nD τ).loc main_arg4) (ix1 q)) (m ((c : Thread nD τ).loc main_arg5) (ix1 q)) q := by
  rw [two_points m c s t hs hst, pay4_apply, blk4, blk5]
  refine congrArg (fun f => norm f _ _ q) (funext fun k => ?_)
  rw [blk0 m c t p k r hr, pay3_apply, pay3_apply, pay2_apply, zero_add,
    half m c s s rfl p k r (by omega) (Fin.castAdd 1408) (fun k => by simp [hs]),
    half m c t s (by omega) p k r hr (Fin.natAdd 1408) (fun k => by rw [show t.val % 2 = 1 by omega]; simp; omega)]
  exact congrArg (_ + ·) (Fin.sum_univ_add (a := 1408) (b := 1408) (unit m c r k)).symm

/-- The result's array after the run, row by row. -/
theorem array_eq (r : Fin 512) (q : Fin 1024) :
    Cert.Kernel11Ideal.Value.G6 m c (ix2 r q)
      = norm (fun k => alpha * rows m c (ix2 r k) + ∑ f, unit m c r k f)
          (m ((c : Thread nD τ).loc main_arg4) (ix1 q)) (m ((c : Thread nD τ).loc main_arg5) (ix1 q)) q := by
  have hN : cfg0.N = 2 := N_0
  have hr := r.isLt
  have hq := q.isLt
  have hpt : Cert.Kernel11Ideal.Value.pt6Of (ix2 r q) = 2 * (r.val / 512) + 1 := by
    show 2 * (1 * (r.val / 512 - 0) + 1 * (q.val / 1024 - 0)) + 1 = _
    omega
  have hloc : Cert.Kernel11Ideal.Value.loc6Of (ix2 r q) = (ix2 ⟨r.val % 512, by omega⟩ q : S512x1024.Idx) := by
    funext a; apply Fin.ext
    match a with
    | ⟨0, _⟩ => rfl
    | ⟨1, _⟩ => show q.val % 1024 = q.val; omega
  have hlt : Cert.Kernel11Ideal.Value.pt6Of (ix2 r q) < cfg0.N := by omega
  unfold Cert.Kernel11Ideal.Value.G6
  rw [dif_pos hlt, ← Cert.Kernel11Ideal.Value.outsAt0_sweep, hloc]
  exact written m c ⟨2 * (r.val / 512), by omega⟩ ⟨_, hlt⟩ (by show 2 * (r.val / 512) % 2 = 0; omega) hpt _ q r
    (by show r.val = Cert.Kernel11Ideal.Value.pt6Of (ix2 r q) / 2 * 512 + r.val % 512; omega)

/-- From equal arguments the reference's result is the array that the feed-forward call leaves. -/
theorem equal (m : (ℓ : Loc Cert.Kernel11Ideal.nD Cert.Kernel11Ideal.τ Cert.Kernel11Ideal.sig) → Buf (Elt Ideal) ℓ)
    (m' : (ℓ : Loc Cert.Reference11Ideal.nD Cert.Reference11Ideal.τ Cert.Reference11Ideal.sig) → Buf (Elt Ideal) ℓ)
    (c : Dev Cert.Kernel11Ideal.nD)
    (h0 : m' ((c.tc : Thread _ _).loc Cert.Reference11Ideal.main_arg0) = m ((c.tc : Thread _ _).loc Cert.Kernel11Ideal.main_arg0))
    (h1 : m' ((c.tc : Thread _ _).loc Cert.Reference11Ideal.main_arg1) = m ((c.tc : Thread _ _).loc Cert.Kernel11Ideal.main_arg1))
    (h2 : m' ((c.tc : Thread _ _).loc Cert.Reference11Ideal.main_arg2) = m ((c.tc : Thread _ _).loc Cert.Kernel11Ideal.main_arg2))
    (h3 : m' ((c.tc : Thread _ _).loc Cert.Reference11Ideal.main_arg3) = m ((c.tc : Thread _ _).loc Cert.Kernel11Ideal.main_arg3))
    (h4 : m' ((c.tc : Thread _ _).loc Cert.Reference11Ideal.main_arg4) = m ((c.tc : Thread _ _).loc Cert.Kernel11Ideal.main_arg4))
    (h5 : m' ((c.tc : Thread _ _).loc Cert.Reference11Ideal.main_arg5) = m ((c.tc : Thread _ _).loc Cert.Kernel11Ideal.main_arg5)) :
    Cert.Reference11Ideal.Value.res_main_v32 m' c = Cert.Kernel11Ideal.Value.G6 m c := by
  rw [ref_eq]
  funext i
  obtain ⟨r, q, rfl⟩ : ∃ (r : Fin 512) (q : Fin 1024), i = ix2 r q := ⟨i 0, i 1, eq_ix2 i⟩
  refine Eq.trans ?_ (array_eq m c r q).symm
  rw [refNorm_apply, h4, h5]
  refine congrArg (fun f => norm f _ _ q) (funext fun k => ?_)
  rw [refSum_apply, h0, h1, h2, h3]
  rfl

end Cert.Ffn.Samp

end
-- ==== Proof.SampOutPair.lean ====
/- The new rows' output projection behind the sparse attention and the short convolution against its reference: what the windows read,
   what the result's array holds after the run, and that the reference's term is the same function of the arguments. -/
module

public import proofs.«01_k».proof.Proof.OutPair
public import proofs.«01_k».proof.Proof.SampFfnMath
public import proofs.«01_k».proof.Proof.Gen.Kernel9Ideal.Value
public import proofs.«01_k».proof.Proof.Gen.Reference9Ideal.Run

@[expose] public section

noncomputable section

namespace Cert.SampOutPair

open Idealize.ShloMosaic Idealize.ShloMosaic.TcCoe Idealize.SL.Sem Cert.Out

section Kernel
open Cert.Kernel9Ideal Cert.Kernel9Ideal.Gen

variable (m : (ℓ : Loc nD τ sig) → Buf (Elt Ideal) ℓ) (c : Dev nD)

/-! ## The arrays that the windows read -/

/-- The rows: the first argument with its first two axes joined. -/
def rows (x : FVec Ideal S128x4x1024 .f32) : FVec Ideal S512x1024 .f32 := shapeCast S512x1024 x shapeCasts_S128x4x1024_S512x1024

/-- The starts that the slabs of the attention's rows are taken from. -/
def starts : IVec S8x1 32 :=
  have l : IVec S8 32 := fun i => lit0 (S8.rowMajor i)
  broadcastInDim S8x1 ![0] bcast_S8_S8x1_0
    (select (constantI S8 1 0#1) (addi l (broadcastInDim S8 ![] bcast_S_S8 (constantI S_ 32 8#32))) l)

/-- The attention's rows of the weights, in slabs of one head. -/
def slabsOf (w : FVec Ideal S1024x1024 .f32) : FVec Ideal S8x64x1024 .f32 :=
  Host.gather gather_S8x64x1024_S8x1_S8x64x1024_12_0_n_n_0_1_1641024
    (shapeCast S8x64x1024 (extractStridedSlice S512x1024 ![0, 0] w slices_S1024x1024_S512x1024_0_0) shapeCasts_S512x1024_S8x64x1024) starts

/-- The weights with the attention's rows in the order of its lanes. -/
def weights (w : FVec Ideal S1024x1024 .f32) : FVec Ideal S1024x1024 .bf16 :=
  truncf .bf16 (concatenate S1024x1024 0
    [⟨S512x1024, shapeCast S512x1024 (slabsOf w) shapeCasts_S8x64x1024_S512x1024⟩,
     ⟨S512x1024, extractStridedSlice S512x1024 ![512, 0] w slices_S1024x1024_S512x1024_512_0⟩]
    concatenates_S512x1024_S512x1024_S1024x1024_d0) bitsLt_bf16_f32

theorem entry_rows : V m c main_v11 = rows (m ((c : Thread nD τ).loc main_arg0)) := by
  simp only [V, hostOps0]; after_results_simp <;> rfl
theorem entry_weights : V m c main_v10 = weights (m ((c : Thread nD τ).loc main_arg3)) := by
  simp only [V, hostOps0]; after_results_simp <;> rfl
theorem entry_scale : V m c main_v12 = shapeCast S1x1024 (m ((c : Thread nD τ).loc main_arg4)) shapeCasts_S1024_S1x1024 := by
  simp only [V, hostOps0]; after_results_simp <;> rfl
theorem entry_shift : V m c main_v13 = shapeCast S1x1024 (m ((c : Thread nD τ).loc main_arg5)) shapeCasts_S1024_S1x1024 := by
  simp only [V, hostOps0]; after_results_simp <;> rfl

theorem starts_apply (j : Fin 8) : starts (ix2 j 0) = lit0 j := by
  have h : S8.rowMajor (ix1 j) = j := Fin.ext (Shape.rowMajor_val_one _)
  pointwise [starts]
  rw [h]

theorem start_nat (j : Fin 8) : min (lit0 j).toInt.toNat (8 - 1) = 4 * (j.val % 2) + j.val / 2 := by
  have h : ∀ j : Fin 8, min (lit0 j).toInt.toNat (8 - 1) = 4 * (j.val % 2) + j.val / 2 := by decide +kernel
  exact h j

theorem slabsOf_apply (w : FVec Ideal S1024x1024 .f32) (j : Fin 8) (l : Fin 64) (q k : Fin 1024)
    (hk : k.val = 64 * (4 * (j.val % 2) + j.val / 2) + l.val) : slabsOf w (ix3 j l q) = w (ix2 k q) := by
  refine (gather_rows gather_S8x64x1024_S8x1_S8x64x1024_12_0_n_n_0_1_1641024_wf _ starts j l q ⟨4 * (j.val % 2) + j.val / 2, by omega⟩
    ((congrArg (fun z : BitVec 32 => min z.toInt.toNat (8 - 1)) (starts_apply j)).trans (start_nat j))).trans ?_
  pointwise
  exact congrArg (fun z => w (ix2 z q)) (Fin.ext (by simp only [hk]; omega))

theorem weights_first (w : FVec Ideal S1024x1024 .f32) (d : Fin 512) (q : Fin 1024) :
    weights w (ix2 (Fin.castAdd 512 d) q) = w (ix2 (Fin.castAdd 512 (lane d)) q) := by
  have hd := d.isLt
  refine Eq.trans ?_ (slabsOf_apply w ⟨d.val / 64, by omega⟩ ⟨d.val % 64, by omega⟩ q (Fin.castAdd 512 (lane d)) rfl)
  pointwise [weights]
  exact dif_pos hd

theorem weights_second (w : FVec Ideal S1024x1024 .f32) (d : Fin 512) (q : Fin 1024) :
    weights w (ix2 (Fin.natAdd 512 d) q) = w (ix2 (Fin.natAdd 512 d) q) := by
  have hd : ¬512 + d.val < 512 := by omega
  pointwise [weights]
  refine (dif_neg hd).trans ?_
  exact congrArg (fun z => w (ix2 z q)) (Fin.ext (by show 512 + (512 + d.val - 512) = 512 + d.val; omega))

/-! ## The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)

theorem blk0 (t : Fin cfg0.N) (p : Fin 512) (q : Fin 1024) (r : Fin 512) (hr : r.val = t.val * 512 + p.val) :
    iblk m c 0 t (ix2 p q) = rows (m ((c : Thread nD τ).loc main_arg0)) (ix2 r q) := by
  obtain ⟨e0, e1⟩ := idx0 t
  show V m c main_v11 (((cfg0.win 0).blk t).view.emb (ix2 p q)) = _
  rw [entry_rows]
  refine congrArg (rows _) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

theorem blk1 (t : Fin cfg0.N) (p d : Fin 512) (r : Fin 512) (hr : r.val = t.val * 512 + p.val) :
    iblk m c 1 t (ix2 p d) = m ((c : Thread nD τ).loc main_arg1) (ix2 r d) := by
  obtain ⟨e0, e1⟩ := idx1 t
  show V m c main_arg1 (((cfg0.win 1).blk t).view.emb (ix2 p d)) = _
  rw [V_main_arg1]
  refine congrArg (m ((c : Thread nD τ).loc main_arg1)) (funext fun a => Fin.ext ?_)
  match a with
  | ⟨0, _⟩ => show win0_1.index t (0 : Fin 2) * 512 + 1 * p.val = r.val; omega
  | ⟨1, _⟩ => show win0_1.index t (1 : Fin 2) * 512 + 1 * d.val = d.val; omega

theorem blk2 (t : Fin cfg0.N) (p d : Fin 512) (r : Fin 512) (hr : r.val = t.val * 512 + p.val) :
    iblk m c 2 t (ix2 p d) = m ((c : Thread nD τ).loc main_arg2) (ix2 r d) := by
  obtain ⟨e0, e1⟩ := idx2 t
  show V m c main_arg2 (((cfg0.win 2).blk t).view.emb (ix2 p d)) = _
  rw [V_main_arg2]
  refine congrArg (m ((c : Thread nD τ).loc main_arg2)) (funext fun a => Fin.ext ?_)
  match a with
  | ⟨0, _⟩ => show win0_2.index t (0 : Fin 2) * 512 + 1 * p.val = r.val; omega
  | ⟨1, _⟩ => show win0_2.index t (1 : Fin 2) * 512 + 1 * d.val = d.val; omega

/-- The first half of the weights' rows, in the lanes' order. -/
theorem blk3 (t : Fin cfg0.N) (d : Fin 512) (q : Fin 1024) :
    iblk m c 3 t (ix2 d q) = m ((c : Thread nD τ).loc main_arg3) (ix2 (Fin.castAdd 512 (lane d)) q) := by
  obtain ⟨e0, e1⟩ := idx3 t
  show V m c main_v10 (((cfg0.win 3).blk t).view.emb (ix2 d q)) = _
  rw [entry_weights]
  refine Eq.trans ?_ (weights_first _ d q)
  refine congrArg (weights _) (funext fun a => Fin.ext ?_)
  match a with
  | ⟨0, _⟩ => show win0_3.index t (0 : Fin 2) * 512 + 1 * d.val = d.val; omega
  | ⟨1, _⟩ => show win0_3.index t (1 : Fin 2) * 1024 + 1 * q.val = q.val; omega

theorem blk4 (t : Fin cfg0.N) (d : Fin 512) (q : Fin 1024) :
    iblk m c 4 t (ix2 d q) = m ((c : Thread nD τ).loc main_arg3) (ix2 (Fin.natAdd 512 d) q) := by
  obtain ⟨e0, e1⟩ := idx4 t
  show V m c main_v10 (((cfg0.win 4).blk t).view.emb (ix2 d q)) = _
  rw [entry_weights]
  refine Eq.trans ?_ (weights_second _ d q)
  refine congrArg (weights _) (funext fun a => Fin.ext ?_)
  match a with
  | ⟨0, _⟩ => show win0_4.index t (0 : Fin 2) * 512 + 1 * d.val = 512 + d.val; omega
  | ⟨1, _⟩ => show win0_4.index t (1 : Fin 2) * 1024 + 1 * q.val = q.val; omega

theorem blk5 (t : Fin cfg0.N) (q : Fin 1024) : iblk m c 5 t (ix2 0 q) = m ((c : Thread nD τ).loc main_arg4) (ix1 q) := by
  obtain ⟨e0, e1⟩ := idx5 t
  show V m c main_v12 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_scale]
  pointwise

theorem blk6 (t : Fin cfg0.N) (q : Fin 1024) : iblk m c 6 t (ix2 0 q) = m ((c : Thread nD τ).loc main_arg5) (ix1 q) := by
  obtain ⟨e0, e1⟩ := idx6 t
  show V m c main_v13 (((cfg0.win 6).blk t).view.emb (ix2 0 q)) = _
  have e : ((cfg0.win 6).blk t).view.emb (ix2 0 q) = (ix2 0 q : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  rw [e, entry_shift]
  pointwise

/-! ## The result's array after the run -/

/-- The result's array after the run, row by row. -/
theorem array_eq (r : Fin 512) (q : Fin 1024) :
    (dats m 0 c).arrAt 7 cfg0.N (ix2 r q)
      = Ffn.norm (mixed (fun k => rows (m ((c : Thread nD τ).loc main_arg0)) (ix2 r k))
            (fun d => m ((c : Thread nD τ).loc main_arg1) (ix2 r d)) (fun d => m ((c : Thread nD τ).loc main_arg2) (ix2 r d))
            (fun d k => m ((c : Thread nD τ).loc main_arg3) (ix2 (Fin.castAdd 512 (lane d)) k))
            (fun d k => m ((c : Thread nD τ).loc main_arg3) (ix2 (Fin.natAdd 512 d) k)))
          (m ((c : Thread nD τ).loc main_arg4) (ix1 q)) (m ((c : Thread nD τ).loc main_arg5) (ix1 q)) q := by
  have hN : cfg0.N = 1 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx7 t
  have he : ((cfg0.win 7).blk t).view.emb (ix2 p q) = (ix2 r q : S512x1024.Idx) := by
    funext a; apply Fin.ext
    match a with
    | ⟨0, _⟩ => show win0_7.index t (0 : Fin 2) * 512 + 1 * p.val = r.val; omega
    | ⟨1, _⟩ => show win0_7.index t (1 : Fin 2) * 1024 + 1 * q.val = q.val; omega
  have hb := congrFun ((Value.blocks7 m c t (flush7 t)).trans (Value.flushed7 m c t)) (ix2 p q)
  refine Eq.trans (congrArg ((dats m 0 c).arrAt 7 cfg0.N) he.symm) (hb.trans ?_)
  refine (congrFun (OutPair.block7 (iblk m c 0 t) (iblk m c 1 t) (iblk m c 2 t) (iblk m c 3 t) (iblk m c 4 t) (iblk m c 5 t) (iblk m c 6 t)) (ix2 p q)).trans ?_
  rw [pay_apply, blk5, blk6]
  simp only [blk0 m c t p _ r hrt, blk1 m c t p _ r hrt, blk2 m c t p _ r hrt, blk3, blk4]

end Kernel

/-! ## The reference's term -/

section Reference
open Cert.Reference9Ideal Cert.Reference9Ideal.Gen

/-- The attention's lanes in the order of its heads, beside the convolution's. -/
def joined (a b : FVec Ideal S512x512 .bf16) : FVec Ideal S512x1024 .f32 :=
  concatenate S512x1024 1
    [⟨S512x512, shapeCast S512x512 (transpose S512x2x4x64 [0, 2, 1, 3] (shapeCast S512x4x2x64 (extf .f32 a bitsLt_bf16_f32) shapeCasts_S512x512_S512x4x2x64)
      transposes_S512x4x2x64_S512x2x4x64_0_2_1_3) shapeCasts_S512x2x4x64_S512x512⟩,
     ⟨S512x512, extf .f32 b bitsLt_bf16_f32⟩] concatenates_S512x512_S512x512_S512x1024_d1

/-- The reference's sum before it is normalized. -/
def refSum (x : FVec Ideal S512x1024 .f32) (y : FVec Ideal S512x1024 .f32) (w : FVec Ideal S1024x1024 .f32) : FVec Ideal S512x1024 .f32 :=
  addf (mulf (broadcastInDim S512x1024 ![] bcast_S_S512x1024 (constant S_ .f32 0x3FD744FD#32)) x)
    (Host.dotGeneral dot_S512x1024_S1024x1024_S512x1024_1_0_0_1_n_n none y w)

theorem joined_first (a b : FVec Ideal S512x512 .bf16) (r : Fin 512) (d : Fin 512) :
    joined a b (ix2 r (Fin.castAdd 512 d)) = a (ix2 r (place d)) := by
  have hd := d.isLt
  pointwise [joined]
  refine (dif_pos hd).trans ?_
  refine congrArg (fun z => a (ix2 r z)) (Fin.ext ?_)
  unfold place
  dsimp only
  simp only [Fin.val_castAdd]
  omega

theorem joined_second (a b : FVec Ideal S512x512 .bf16) (r : Fin 512) (d : Fin 512) :
    joined a b (ix2 r (Fin.natAdd 512 d)) = b (ix2 r d) := by
  have hd : ¬512 + d.val < 512 := by omega
  pointwise [joined]
  refine (dif_neg hd).trans ?_
  exact congrArg (fun z => b (ix2 r z)) (Fin.ext (by show 512 + d.val - 512 = d.val; omega))

theorem refSum_apply (x y : FVec Ideal S512x1024 .f32) (w : FVec Ideal S1024x1024 .f32) (r : Fin 512) (q : Fin 1024) :
    refSum x y w (ix2 r q) = Ffn.alpha * x (ix2 r q) + ∑ d : Fin 1024, y (ix2 r d) * w (ix2 d q) := by
  pointwise [refSum, Ffn.alpha]

/-- The reference's composed term is the normalization of its sum. -/
theorem ref_eq (m : (ℓ : Loc nD τ sig) → Buf (Elt Ideal) ℓ) (c : Dev nD) :
    Cert.Reference9Ideal.Value.res_main_v34 m c
      = Ffn.Samp.refNorm (refSum (shapeCast S512x1024 (m ((c.tc : Thread nD τ).loc main_arg0)) shapeCasts_S128x4x1024_S512x1024)
          (joined (m ((c.tc : Thread nD τ).loc main_arg1)) (m ((c.tc : Thread nD τ).loc main_arg2))) (m ((c.tc : Thread nD τ).loc main_arg3)))
          (m ((c.tc : Thread nD τ).loc main_arg4)) (m ((c.tc : Thread nD τ).loc main_arg5)) := rfl

end Reference

/-- From equal arguments the reference's result is the array that the call leaves. -/
theorem equal (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ)
    (c : Dev Cert.Kernel9Ideal.nD)
    (h0 : m' ((c.tc : Thread _ _).loc Cert.Reference9Ideal.main_arg0) = m ((c.tc : Thread _ _).loc Cert.Kernel9Ideal.main_arg0))
    (h1 : m' ((c.tc : Thread _ _).loc Cert.Reference9Ideal.main_arg1) = m ((c.tc : Thread _ _).loc Cert.Kernel9Ideal.main_arg1))
    (h2 : m' ((c.tc : Thread _ _).loc Cert.Reference9Ideal.main_arg2) = m ((c.tc : Thread _ _).loc Cert.Kernel9Ideal.main_arg2))
    (h3 : m' ((c.tc : Thread _ _).loc Cert.Reference9Ideal.main_arg3) = m ((c.tc : Thread _ _).loc Cert.Kernel9Ideal.main_arg3))
    (h4 : m' ((c.tc : Thread _ _).loc Cert.Reference9Ideal.main_arg4) = m ((c.tc : Thread _ _).loc Cert.Kernel9Ideal.main_arg4))
    (h5 : m' ((c.tc : Thread _ _).loc Cert.Reference9Ideal.main_arg5) = m ((c.tc : Thread _ _).loc Cert.Kernel9Ideal.main_arg5)) :
    Cert.Reference9Ideal.Value.res_main_v34 m' c = (Cert.Kernel9Ideal.Gen.dats m 0 c).arrAt 7 Cert.Kernel9Ideal.cfg0.N := by
  rw [ref_eq]
  funext i
  obtain ⟨r, q, rfl⟩ : ∃ (r : Fin 512) (q : Fin 1024), i = ix2 r q := ⟨i 0, i 1, eq_ix2 i⟩
  refine Eq.trans ?_ (array_eq m c r q).symm
  rw [Ffn.Samp.refNorm_apply, h4, h5]
  refine congrArg (fun f => Ffn.norm f _ _ q) (funext fun k => ?_)
  rw [refSum_apply, h0, h1, h2, h3]
  exact mixed_eq (fun k => rows _ (ix2 r k)) _ (fun d => m ((c.tc : Thread _ _).loc Cert.Kernel9Ideal.main_arg2) (ix2 r d))
    (fun d => joined _ _ (ix2 r d)) (fun d k => m ((c.tc : Thread _ _).loc Cert.Kernel9Ideal.main_arg3) (ix2 d k)) k
    (fun d k => m ((c.tc : Thread _ _).loc Cert.Kernel9Ideal.main_arg3) (ix2 (Fin.natAdd 512 d) k))
    (fun d => joined_first _ _ r d)
    (Finset.sum_congr rfl fun d _ => congrArg (· * _) (joined_second _ _ r d))

end Cert.SampOutPair

end
-- ==== Proof.SampOutWhole.lean ====
/- The new rows' output projection behind the native sparse attention against its reference: both halves of the attention's lanes
   stand in the layer's order. The block that a grid point writes and the sum of the reference are those of OutPair.lean and SampOutPair.lean. -/
module

public import proofs.«01_k».proof.Proof.SampOutPair
public import proofs.«01_k».proof.Proof.Gen.Kernel10Ideal.Value
public import proofs.«01_k».proof.Proof.Gen.Reference10Ideal.Run

@[expose] public section

noncomputable section

namespace Cert.SampOutWhole

open Idealize.ShloMosaic Idealize.ShloMosaic.TcCoe Idealize.SL.Sem Cert.Out
open Cert.SampOutPair (rows refSum)

section Kernel
open Cert.Kernel10Ideal Cert.Kernel10Ideal.Gen

variable (m : (ℓ : Loc nD τ sig) → Buf (Elt Ideal) ℓ) (c : Dev nD)

/-! ## The arrays that the windows read -/

/-- The starts that the slabs of the rows are taken from. -/
def starts : IVec S16x1 32 :=
  have l : IVec S16 32 := fun i => lit0 (S16.rowMajor i)
  broadcastInDim S16x1 ![0] bcast_S16_S16x1_0
    (select (constantI S16 1 0#1) (addi l (broadcastInDim S16 ![] bcast_S_S16 (constantI S_ 32 16#32))) l)

/-- The weights' rows in slabs of one head. -/
def slabsOf (w : FVec Ideal S1024x1024 .f32) : FVec Ideal S16x64x1024 .f32 :=
  Host.gather gather_S16x64x1024_S16x1_S16x64x1024_12_0_n_n_0_1_1641024 (shapeCast S16x64x1024 w shapeCasts_S1024x1024_S16x64x1024) starts

/-- The weights with their rows in the order of the attention's lanes. -/
def weights (w : FVec Ideal S1024x1024 .f32) : FVec Ideal S1024x1024 .bf16 :=
  truncf .bf16 (shapeCast S1024x1024 (slabsOf w) shapeCasts_S16x64x1024_S1024x1024) bitsLt_bf16_f32

theorem entry_rows : V m c main_v8 = rows (m ((c : Thread nD τ).loc main_arg0)) := by
  simp only [V, hostOps0]; after_results_simp <;> rfl
theorem entry_weights : V m c main_v7 = weights (m ((c : Thread nD τ).loc main_arg2)) := by
  simp only [V, hostOps0]; after_results_simp <;> rfl
theorem entry_scale : V m c main_v9 = shapeCast S1x1024 (m ((c : Thread nD τ).loc main_arg3)) shapeCasts_S1024_S1x1024 := by
  simp only [V, hostOps0]; after_results_simp <;> rfl
theorem entry_shift : V m c main_v10 = shapeCast S1x1024 (m ((c : Thread nD τ).loc main_arg4)) shapeCasts_S1024_S1x1024 := by
  simp only [V, hostOps0]; after_results_simp <;> rfl

theorem starts_apply (j : Fin 16) : starts (ix2 j 0) = lit0 j := by
  have h : S16.rowMajor (ix1 j) = j := Fin.ext (Shape.rowMajor_val_one _)
  pointwise [starts]
  rw [h]

theorem start_nat (j : Fin 16) : min (lit0 j).toInt.toNat (16 - 1) = 8 * (j.val / 8) + 4 * (j.val % 2) + j.val % 8 / 2 := by
  have h : ∀ j : Fin 16, min (lit0 j).toInt.toNat (16 - 1) = 8 * (j.val / 8) + 4 * (j.val % 2) + j.val % 8 / 2 := by decide +kernel
  exact h j

theorem slabsOf_apply (w : FVec Ideal S1024x1024 .f32) (j : Fin 16) (l : Fin 64) (q k : Fin 1024)
    (hk : k.val = 64 * (8 * (j.val / 8) + 4 * (j.val % 2) + j.val % 8 / 2) + l.val) : slabsOf w (ix3 j l q) = w (ix2 k q) := by
  refine (gather_rows gather_S16x64x1024_S16x1_S16x64x1024_12_0_n_n_0_1_1641024_wf _ starts j l q
    ⟨8 * (j.val / 8) + 4 * (j.val % 2) + j.val % 8 / 2, by omega⟩
    ((congrArg (fun z : BitVec 32 => min z.toInt.toNat (16 - 1)) (starts_apply j)).trans (start_nat j))).trans ?_
  pointwise
  exact congrArg (fun z => w (ix2 z q)) (Fin.ext (by simp only [hk]; omega))

/-- A row of the weights, by its row in front of the reordering. -/
theorem weights_apply (w : FVec Ideal S1024x1024 .f32) (d k q : Fin 1024)
    (hk : k.val = 64 * (8 * (d.val / 64 / 8) + 4 * (d.val / 64 % 2) + d.val / 64 % 8 / 2) + d.val % 64) :
    weights w (ix2 d q) = w (ix2 k q) := by
  have hd := d.isLt
  refine Eq.trans ?_ (slabsOf_apply w ⟨d.val / 64, by omega⟩ ⟨d.val % 64, by omega⟩ q k hk)
  pointwise [weights]

/-! ## The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 1 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true :=
  (by decide +kernel : ∀ t : Fin grid0.N, (win0_7).flush t = true)

theorem blk0 (t : Fin cfg0.N) (p : Fin 512) (q : Fin 1024) (r : Fin 512) (hr : r.val = t.val * 512 + p.val) :
    iblk m c 0 t (ix2 p q) = rows (m ((c : Thread nD τ).loc main_arg0)) (ix2 r q) := by
  obtain ⟨e0, e1⟩ := idx0 t
  show V m c main_v8 (((cfg0.win 0).blk t).view.emb (ix2 p q)) = _
  rw [entry_rows]
  refine congrArg (rows _) (funext fun a => Fin.ext ?_)
  match a with
  | ⟨0, _⟩ => show win0_0.index t (0 : Fin 2) * 512 + 1 * p.val = r.val; omega
  | ⟨1, _⟩ => show win0_0.index t (1 : Fin 2) * 1024 + 1 * q.val = q.val; omega

/-- The attention's lanes of a window: the first half in window 1, the second in window 2. -/
theorem blk1 (t : Fin cfg0.N) (p d : Fin 512) (r : Fin 512) (hr : r.val = t.val * 512 + p.val) :
    iblk m c 1 t (ix2 p d) = m ((c : Thread nD τ).loc main_arg1) (ix2 r (Fin.castAdd 512 d)) := by
  obtain ⟨e0, e1⟩ := idx1 t
  show V m c main_arg1 (((cfg0.win 1).blk t).view.emb (ix2 p d)) = _
  rw [V_main_arg1]
  refine congrArg (m ((c : Thread nD τ).loc main_arg1)) (funext fun a => Fin.ext ?_)
  match a with
  | ⟨0, _⟩ => show win0_1.index t (0 : Fin 2) * 512 + 1 * p.val = r.val; omega
  | ⟨1, _⟩ => show win0_1.index t (1 : Fin 2) * 512 + 1 * d.val = d.val; omega

theorem blk2 (t : Fin cfg0.N) (p d : Fin 512) (r : Fin 512) (hr : r.val = t.val * 512 + p.val) :
    iblk m c 2 t (ix2 p d) = m ((c : Thread nD τ).loc main_arg1) (ix2 r (Fin.natAdd 512 d)) := by
  obtain ⟨e0, e1⟩ := idx2 t
  show V m c main_arg1 (((cfg0.win 2).blk t).view.emb (ix2 p d)) = _
  rw [V_main_arg1]
  refine congrArg (m ((c : Thread nD τ).loc main_arg1)) (funext fun a => Fin.ext ?_)
  match a with
  | ⟨0, _⟩ => show win0_2.index t (0 : Fin 2) * 512 + 1 * p.val = r.val; omega
  | ⟨1, _⟩ => show win0_2.index t (1 : Fin 2) * 512 + 1 * d.val = 512 + d.val; omega

/-- The two halves of the weights' rows, each in the lanes' order. -/
theorem blk3 (t : Fin cfg0.N) (d : Fin 512) (q : Fin 1024) :
    iblk m c 3 t (ix2 d q) = m ((c : Thread nD τ).loc main_arg2) (ix2 (Fin.castAdd 512 (lane d)) q) := by
  obtain ⟨e0, e1⟩ := idx3 t
  have hd := d.isLt
  show V m c main_v7 (((cfg0.win 3).blk t).view.emb (ix2 d q)) = _
  rw [entry_weights]
  refine Eq.trans ?_ (weights_apply _ (Fin.castAdd 512 d) _ q (by unfold lane; simp only [Fin.val_castAdd]; omega))
  refine congrArg (weights _) (funext fun a => Fin.ext ?_)
  match a with
  | ⟨0, _⟩ => show win0_3.index t (0 : Fin 2) * 512 + 1 * d.val = d.val; omega
  | ⟨1, _⟩ => show win0_3.index t (1 : Fin 2) * 1024 + 1 * q.val = q.val; omega

theorem blk4 (t : Fin cfg0.N) (d : Fin 512) (q : Fin 1024) :
    iblk m c 4 t (ix2 d q) = m ((c : Thread nD τ).loc main_arg2) (ix2 (Fin.natAdd 512 (lane d)) q) := by
  obtain ⟨e0, e1⟩ := idx4 t
  have hd := d.isLt
  show V m c main_v7 (((cfg0.win 4).blk t).view.emb (ix2 d q)) = _
  rw [entry_weights]
  refine Eq.trans ?_ (weights_apply _ (Fin.natAdd 512 d) _ q (by unfold lane; simp only [Fin.val_natAdd]; omega))
  refine congrArg (weights _) (funext fun a => Fin.ext ?_)
  match a with
  | ⟨0, _⟩ => show win0_4.index t (0 : Fin 2) * 512 + 1 * d.val = 512 + d.val; omega
  | ⟨1, _⟩ => show win0_4.index t (1 : Fin 2) * 1024 + 1 * q.val = q.val; omega

theorem blk5 (t : Fin cfg0.N) (q : Fin 1024) : iblk m c 5 t (ix2 0 q) = m ((c : Thread nD τ).loc main_arg3) (ix1 q) := by
  obtain ⟨e0, e1⟩ := idx5 t
  show V m c main_v9 (((cfg0.win 5).blk t).view.emb (ix2 0 q)) = _
  have e : ((cfg0.win 5).blk t).view.emb (ix2 0 q) = (ix2 0 q : S1x1024.Idx) := by
    funext a; apply Fin.ext
    match a with
    | ⟨0, _⟩ => show win0_5.index t (0 : Fin 2) * 1 + 1 * 0 = 0; omega
    | ⟨1, _⟩ => show win0_5.index t (1 : Fin 2) * 1024 + 1 * q.val = q.val; omega
  rw [e, entry_scale]
  pointwise

theorem blk6 (t : Fin cfg0.N) (q : Fin 1024) : iblk m c 6 t (ix2 0 q) = m ((c : Thread nD τ).loc main_arg4) (ix1 q) := by
  obtain ⟨e0, e1⟩ := idx6 t
  show V m c main_v10 (((cfg0.win 6).blk t).view.emb (ix2 0 q)) = _
  have e : ((cfg0.win 6).blk t).view.emb (ix2 0 q) = (ix2 0 q : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  rw [e, entry_shift]
  pointwise

/-! ## The result's array after the run -/

/-- The result's array after the run, row by row. -/
theorem array_eq (r : Fin 512) (q : Fin 1024) :
    (dats m 0 c).arrAt 7 cfg0.N (ix2 r q)
      = Ffn.norm (mixed (fun k => rows (m ((c : Thread nD τ).loc main_arg0)) (ix2 r k))
            (fun d => m ((c : Thread nD τ).loc main_arg1) (ix2 r (Fin.castAdd 512 d))) (fun d => m ((c : Thread nD τ).loc main_arg1) (ix2 r (Fin.natAdd 512 d)))
            (fun d k => m ((c : Thread nD τ).loc main_arg2) (ix2 (Fin.castAdd 512 (lane d)) k))
            (fun d k => m ((c : Thread nD τ).loc main_arg2) (ix2 (Fin.natAdd 512 (lane d)) k)))
          (m ((c : Thread nD τ).loc main_arg3) (ix1 q)) (m ((c : Thread nD τ).loc main_arg4) (ix1 q)) q := by
  have hN : cfg0.N = 1 := N_0
  have hr := r.isLt
  let t : Fin cfg0.N := ⟨r.val / 512, by omega⟩
  let p : Fin 512 := ⟨r.val % 512, by omega⟩
  have hrt : r.val = t.val * 512 + p.val := by show r.val = r.val / 512 * 512 + r.val % 512; omega
  obtain ⟨e0, e1⟩ := idx7 t
  have he : ((cfg0.win 7).blk t).view.emb (ix2 p q) = (ix2 r q : S512x1024.Idx) := by
    funext a; apply Fin.ext
    match a with
    | ⟨0, _⟩ => show win0_7.index t (0 : Fin 2) * 512 + 1 * p.val = r.val; omega
    | ⟨1, _⟩ => show win0_7.index t (1 : Fin 2) * 1024 + 1 * q.val = q.val; omega
  have hb := congrFun ((Value.blocks7 m c t (flush7 t)).trans (Value.flushed7 m c t)) (ix2 p q)
  refine Eq.trans (congrArg ((dats m 0 c).arrAt 7 cfg0.N) he.symm) (hb.trans ?_)
  refine (congrFun (OutPair.block7 (iblk m c 0 t) (iblk m c 1 t) (iblk m c 2 t) (iblk m c 3 t) (iblk m c 4 t) (iblk m c 5 t) (iblk m c 6 t)) (ix2 p q)).trans ?_
  rw [pay_apply, blk5, blk6]
  simp only [blk0 m c t p _ r hrt, blk1 m c t p _ r hrt, blk2 m c t p _ r hrt, blk3, blk4]

end Kernel

/-! ## The reference's term -/

section Reference
open Cert.Reference10Ideal Cert.Reference10Ideal.Gen

/-- The attention's lanes in the order of its heads. -/
def heads (o : FVec Ideal S512x1024 .bf16) : FVec Ideal S512x1024 .f32 :=
  shapeCast S512x1024 (transpose S512x2x2x4x64 [0, 1, 3, 2, 4] (shapeCast S512x2x4x2x64 (extf .f32 o bitsLt_bf16_f32) shapeCasts_S512x1024_S512x2x4x2x64)
    transposes_S512x2x4x2x64_S512x2x2x4x64_0_1_3_2_4) shapeCasts_S512x2x2x4x64_S512x1024

theorem heads_apply (o : FVec Ideal S512x1024 .bf16) (r : Fin 512) (d k : Fin 1024)
    (hk : k.val = 64 * (8 * (d.val / 64 / 8) + 2 * (d.val / 64 % 4) + d.val / 64 % 8 / 4) + d.val % 64) :
    heads o (ix2 r d) = o (ix2 r k) := by
  have hd := d.isLt
  have e0 : d.val / 64 / 8 = d.val / 512 := Nat.div_div_eq_div_mul ..
  have e1 : d.val / 256 / 2 = d.val / 512 := Nat.div_div_eq_div_mul ..
  have e2 : d.val / 64 / 4 = d.val / 256 := Nat.div_div_eq_div_mul ..
  have e3 : d.val / 64 % 8 / 4 = d.val / 256 % 2 := by omega
  rw [e0, e3] at hk
  pointwise [heads]
  refine congrArg (fun z => o (ix2 r z)) (Fin.ext ?_)
  rw [hk]
  dsimp only
  omega

/-- The reference's composed term is the normalization of its sum. -/
theorem ref_eq (m : (ℓ : Loc nD τ sig) → Buf (Elt Ideal) ℓ) (c : Dev nD) :
    Cert.Reference10Ideal.Value.res_main_v32 m c
      = Ffn.Samp.refNorm (refSum (shapeCast S512x1024 (m ((c.tc : Thread nD τ).loc main_arg0)) shapeCasts_S128x4x1024_S512x1024)
          (heads (m ((c.tc : Thread nD τ).loc main_arg1))) (m ((c.tc : Thread nD τ).loc main_arg2)))
          (m ((c.tc : Thread nD τ).loc main_arg3)) (m ((c.tc : Thread nD τ).loc main_arg4)) := rfl

end Reference

/-- From equal arguments the reference's result is the array that the call leaves. -/
theorem equal (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ)
    (c : Dev Cert.Kernel10Ideal.nD)
    (h0 : m' ((c.tc : Thread _ _).loc Cert.Reference10Ideal.main_arg0) = m ((c.tc : Thread _ _).loc Cert.Kernel10Ideal.main_arg0))
    (h1 : m' ((c.tc : Thread _ _).loc Cert.Reference10Ideal.main_arg1) = m ((c.tc : Thread _ _).loc Cert.Kernel10Ideal.main_arg1))
    (h2 : m' ((c.tc : Thread _ _).loc Cert.Reference10Ideal.main_arg2) = m ((c.tc : Thread _ _).loc Cert.Kernel10Ideal.main_arg2))
    (h3 : m' ((c.tc : Thread _ _).loc Cert.Reference10Ideal.main_arg3) = m ((c.tc : Thread _ _).loc Cert.Kernel10Ideal.main_arg3))
    (h4 : m' ((c.tc : Thread _ _).loc Cert.Reference10Ideal.main_arg4) = m ((c.tc : Thread _ _).loc Cert.Kernel10Ideal.main_arg4)) :
    Cert.Reference10Ideal.Value.res_main_v32 m' c = (Cert.Kernel10Ideal.Gen.dats m 0 c).arrAt 7 Cert.Kernel10Ideal.cfg0.N := by
  rw [ref_eq]
  funext i
  obtain ⟨r, q, rfl⟩ : ∃ (r : Fin 512) (q : Fin 1024), i = ix2 r q := ⟨i 0, i 1, eq_ix2 i⟩
  refine Eq.trans ?_ (array_eq m c r q).symm
  rw [Ffn.Samp.refNorm_apply, h3, h4]
  refine congrArg (fun f => Ffn.norm f _ _ q) (funext fun k => ?_)
  rw [SampOutPair.refSum_apply, h0, h1, h2]
  let o : FVec Ideal ⟨2, ![512, 1024]⟩ .bf16 := m ((c.tc : Thread _ _).loc Cert.Kernel10Ideal.main_arg1)
  let w : FVec Ideal ⟨2, ![1024, 1024]⟩ .f32 := m ((c.tc : Thread _ _).loc Cert.Kernel10Ideal.main_arg2)
  refine mixed_eq (fun k => rows _ (ix2 r k)) (fun d => o (ix2 r (Fin.castAdd 512 d))) (fun d => o (ix2 r (Fin.natAdd 512 d)))
    (fun d => heads o (ix2 r d)) (fun d k => w (ix2 d k)) k (fun d k => w (ix2 (Fin.natAdd 512 (lane d)) k))
    (fun d => heads_apply o r (Fin.castAdd 512 d) _ (by have := d.isLt; unfold place; simp only [Fin.val_castAdd]; omega)) ?_
  refine Eq.trans ?_ (sum_place (fun d => o (ix2 r (Fin.natAdd 512 d))) fun d => w (ix2 (Fin.natAdd 512 d) k))
  exact Finset.sum_congr rfl fun d _ => congrArg (· * _)
    (heads_apply o r (Fin.natAdd 512 d) _ (by have := d.isLt; unfold place; simp only [Fin.val_natAdd]; omega))

end Cert.SampOutWhole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.DsaFrame
public import proofs.«01_k».proof.Proof.FfnValue
public import proofs.«01_k».proof.Proof.ProjEqual
public import proofs.«01_k».proof.Proof.MixEqual
public import proofs.«01_k».proof.Proof.OutPair
public import proofs.«01_k».proof.Proof.OutWhole
public import proofs.«01_k».proof.Proof.SampEqual
public import proofs.«01_k».proof.Proof.SampMixValue
public import proofs.«01_k».proof.Proof.SampFfnValue
public import proofs.«01_k».proof.Proof.SampOutPair
public import proofs.«01_k».proof.Proof.SampOutWhole

@[expose] public section

noncomputable section

namespace Cert.Proof

open Idealize.ShloMosaic Idealize.ShloMosaic.TcCoe Idealize.SL.Sem

/-- From equal arguments the reference's result is the array that the feed-forward call leaves. -/
theorem ffn_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread _ _).loc Cert.Reference2Ideal.main_arg0) = m ((c.tc : Thread _ _).loc Cert.Kernel2Ideal.main_arg0))
    (h1 : m' ((c.tc : Thread _ _).loc Cert.Reference2Ideal.main_arg1) = m ((c.tc : Thread _ _).loc Cert.Kernel2Ideal.main_arg1))
    (h2 : m' ((c.tc : Thread _ _).loc Cert.Reference2Ideal.main_arg2) = m ((c.tc : Thread _ _).loc Cert.Kernel2Ideal.main_arg2))
    (h3 : m' ((c.tc : Thread _ _).loc Cert.Reference2Ideal.main_arg3) = m ((c.tc : Thread _ _).loc Cert.Kernel2Ideal.main_arg3))
    (h4 : m' ((c.tc : Thread _ _).loc Cert.Reference2Ideal.main_arg4) = m ((c.tc : Thread _ _).loc Cert.Kernel2Ideal.main_arg4))
    (h5 : m' ((c.tc : Thread _ _).loc Cert.Reference2Ideal.main_arg5) = m ((c.tc : Thread _ _).loc Cert.Kernel2Ideal.main_arg5)) :
    Cert.Reference2Ideal.Value.res_main_v32 m' c = Cert.Kernel2Ideal.Value.G6 m c := by
  rw [Cert.Ffn.ref_eq]
  funext i
  obtain ⟨r, q, rfl⟩ : ∃ (r : Fin 16384) (q : Fin 1024), i = ix2 r q := ⟨i 0, i 1, eq_ix2 i⟩
  refine Eq.trans ?_ (Cert.Ffn.array_eq m c r q).symm
  rw [Cert.Ffn.refNorm_apply, h4, h5]
  refine congrArg (fun f => Cert.Ffn.norm f _ _ q) (funext fun k => ?_)
  rw [Cert.Ffn.refSum_apply, h0, h1, h2, h3]
  rfl

/-- Over the extended reals the feed-forward call and its reference end with equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Value.G6 m c, Cert.Kernel2Ideal.Value.run m g, ?_⟩
  refine (θ_run (Cert.Reference2Ideal.defs (F := Ideal)) _ _).mono (fun r h c => ?_) (Cert.Reference2Ideal.Value.run (F := Ideal) m' g')
  obtain ⟨hv, hk⟩ := h c
  obtain ⟨h0, h1, h2, h3, h4, h5⟩ := hargs c
  exact ⟨hv.trans (ffn_eq m m' c h0 h1 h2 h3 h4 h5), hk⟩

/-- The reference's run read at its arguments; it declares no semaphore. -/
theorem reference_frame : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

/-- Over the extended reals the projection call and its reference end with equal results. -/
theorem projection_algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N, fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N,
    Cert.Kernel3Ideal.Value.run_blocks m g, ?_⟩
  refine (θ_run (Cert.Reference3Ideal.defs (F := Ideal)) _ _).mono (fun r h c => ?_) (Cert.Reference3Ideal.Value.run (F := Ideal) m' g')
  obtain ⟨e0, e1, e2, e3, e4, e5, e6, e7, e8, hk⟩ := h c
  obtain ⟨h0, h1⟩ := hargs c
  simp only [Cert.Proj.equal4, Cert.Proj.equal5, Cert.Proj.equal6, Cert.Proj.equal7, Cert.Proj.equal8, Cert.Proj.equal9,
    Cert.Proj.equal10, Cert.Proj.equal11, Cert.Proj.equal12, ← h0, ← h1]
  exact ⟨e0.trans (Cert.Proj.ref_queries m' c), e1.trans (Cert.Proj.ref_keys1024 m' c), e2.trans (Cert.Proj.ref_keys1536 m' c),
    e3.trans (Cert.Proj.ref_keys2048 m' c), e4, e5, e6, e7, e8.trans (Cert.Proj.ref_both m' c), hk⟩

/-- The projection's reference read at its arguments; it declares no semaphore. -/
theorem projection_reference_frame : Cert.quiescent_Reference3Ideal (hReference3Ideal := Cert.Reference3Ideal.Gen.facts) := fun m ρ _ =>
  (θ_run (Cert.Reference3Ideal.defs (F := Ideal)) _ _).mono
    (fun r h => ⟨fun c => (h c).2.2.2.2.2.2.2.2.2, sem_eq_zero_of_no_sems (by decide) r.2⟩)
    (Cert.Reference3Ideal.Value.run (F := Ideal) m ρ)

/-- Over the extended reals the mixing layer's input call and its reference end with equal results. -/
theorem mixing_algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N,
    Cert.Kernel4Ideal.Value.run_blocks m g, ?_⟩
  refine (θ_run (Cert.Reference4Ideal.defs (F := Ideal)) _ _).mono (fun r h c => ?_) (Cert.Reference4Ideal.Value.run (F := Ideal) m' g')
  obtain ⟨e0, e1, e2, e3, e4, e5, e6, e7, e8, hk⟩ := h c
  obtain ⟨h0, h1, h2⟩ := hargs c
  simp only [Cert.Mix.equal7, Cert.Mix.equal8, Cert.Mix.equal9, Cert.Mix.equal10, Cert.Mix.equal11, Cert.Mix.equal12,
    Cert.Mix.equal13, Cert.Mix.equal14, Cert.Mix.equal15, Cert.Mix.argX, Cert.Mix.argW, Cert.Mix.argV, ← h0, ← h1, ← h2]
  exact ⟨e0, e1, e2, e3, e4, e5, e6, e7, e8, hk⟩

/-- The mixing layer's reference read at its arguments; it declares no semaphore. -/
theorem mixing_reference_frame : Cert.quiescent_Reference4Ideal (hReference4Ideal := Cert.Reference4Ideal.Gen.facts) := fun m ρ _ =>
  (θ_run (Cert.Reference4Ideal.defs (F := Ideal)) _ _).mono
    (fun r h => ⟨fun c => (h c).2.2.2.2.2.2.2.2.2, sem_eq_zero_of_no_sems (by decide) r.2⟩)
    (Cert.Reference4Ideal.Value.run (F := Ideal) m ρ)

/-- Over the extended reals the mixing layer's output call and its reference end with equal results. -/
theorem mixing_output_algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 7 Cert.Kernel5Ideal.cfg0.N, Cert.Kernel5Ideal.Value.run_blocks m g, ?_⟩
  refine (θ_run (Cert.Reference5Ideal.defs (F := Ideal)) _ _).mono (fun r h c => ?_) (Cert.Reference5Ideal.Value.run (F := Ideal) m' g')
  obtain ⟨hv, hk⟩ := h c
  obtain ⟨h0, h1, h2, h3, h4, h5⟩ := hargs c
  exact ⟨hv.trans (Cert.OutPair.equal m m' c h0 h1 h2 h3 h4 h5), hk⟩

/-- That reference read at its arguments; it declares no semaphore. -/
theorem mixing_output_reference_frame : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems (by decide) r.2⟩)
    (Cert.Reference5Ideal.Value.run (F := Ideal) m ρ)

/-- Over the extended reals the native sparse attention's output call and its reference end with equal results. -/
theorem native_output_algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 7 Cert.Kernel6Ideal.cfg0.N, Cert.Kernel6Ideal.Value.run_blocks m g, ?_⟩
  refine (θ_run (Cert.Reference6Ideal.defs (F := Ideal)) _ _).mono (fun r h c => ?_) (Cert.Reference6Ideal.Value.run (F := Ideal) m' g')
  obtain ⟨hv, hk⟩ := h c
  obtain ⟨h0, h1, h2, h3, h4⟩ := hargs c
  exact ⟨hv.trans (Cert.OutWhole.equal m m' c h0 h1 h2 h3 h4), hk⟩

/-- That reference read at its arguments; it declares no semaphore. -/
theorem native_output_reference_frame : Cert.quiescent_Reference6Ideal (hReference6Ideal := Cert.Reference6Ideal.Gen.facts) := fun m ρ _ =>
  (θ_run (Cert.Reference6Ideal.defs (F := Ideal)) _ _).mono (fun r h => ⟨fun c => (h c).2, sem_eq_zero_of_no_sems (by decide) r.2⟩)
    (Cert.Reference6Ideal.Value.run (F := Ideal) m ρ)

/-- Over the extended reals the new rows' projection call and its reference end with equal results. -/
theorem sample_projection_algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N, fun c => (Cert.Kernel7Ideal.Gen.dats m 0 c).arrAt 6 Cert.Kernel7Ideal.cfg0.N, fun c => (Cert.Kernel7Ideal.Gen.dats m 0 c).arrAt 7 Cert.Kernel7Ideal.cfg0.N, fun c => (Cert.Kernel7Ideal.Gen.dats m 0 c).arrAt 8 Cert.Kernel7Ideal.cfg0.N, fun c => (Cert.Kernel7Ideal.Gen.dats m 0 c).arrAt 9 Cert.Kernel7Ideal.cfg0.N, fun c => (Cert.Kernel7Ideal.Gen.dats m 0 c).arrAt 10 Cert.Kernel7Ideal.cfg0.N, fun c => (Cert.Kernel7Ideal.Gen.dats m 0 c).arrAt 11 Cert.Kernel7Ideal.cfg0.N, fun c => (Cert.Kernel7Ideal.Gen.dats m 0 c).arrAt 12 Cert.Kernel7Ideal.cfg0.N,
    Cert.Kernel7Ideal.Value.run_blocks m g, ?_⟩
  refine (θ_run (Cert.Reference7Ideal.defs (F := Ideal)) _ _).mono (fun r h c => ?_) (Cert.Reference7Ideal.Value.run (F := Ideal) m' g')
  obtain ⟨e0, e1, e2, e3, e4, e5, e6, e7, e8, hk⟩ := h c
  obtain ⟨h0, h1⟩ := hargs c
  simp only [Cert.Samp.equal4, Cert.Samp.equal5, Cert.Samp.equal6, Cert.Samp.equal7, Cert.Samp.equal8, Cert.Samp.equal9,
    Cert.Samp.equal10, Cert.Samp.equal11, Cert.Samp.equal12, ← h0, ← h1]
  exact ⟨e0.trans (Cert.Samp.ref_queries m' c), e1.trans (Cert.Samp.ref_keys1024 m' c), e2.trans (Cert.Samp.ref_keys1536 m' c),
    e3.trans (Cert.Samp.ref_keys2048 m' c), e4, e5, e6, e7, e8.trans (Cert.Samp.ref_both m' c), hk⟩

/-- The new rows' reference read at its arguments; it declares no semaphore. -/
theorem sample_projection_reference_frame : Cert.quiescent_Reference7Ideal (hReference7Ideal := Cert.Reference7Ideal.Gen.facts) := fun m ρ _ =>
  (θ_run (Cert.Reference7Ideal.defs (F := Ideal)) _ _).mono
    (fun r h => ⟨fun c => (h c).2.2.2.2.2.2.2.2.2, sem_eq_zero_of_no_sems (by decide) r.2⟩)
    (Cert.Reference7Ideal.Value.run (F := Ideal) m ρ)

/-- Over the extended reals the new rows' mixing input call and its reference end with equal results. -/
theorem sample_mixing_algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 11 Cert.Kernel8Ideal.cfg0.N, fun c => (Cert.Kernel8Ideal.Gen.dats m 0 c).arrAt 12 Cert.Kernel8Ideal.cfg0.N,
    fun c => (Cert.Kernel8Ideal.Gen.dats m 0 c).arrAt 13 Cert.Kernel8Ideal.cfg0.N, fun c => (Cert.Kernel8Ideal.Gen.dats m 0 c).arrAt 17 Cert.Kernel8Ideal.cfg0.N,
    (θ_run (Cert.Kernel8Ideal.defs (F := Ideal)) _ _).mono (fun r h c => ?_) (Cert.Kernel8Ideal.Value.run_blocks m g), ?_⟩
  · obtain ⟨-, -, e2, e3, e4, -, -, -, e8, hk⟩ := h c
    exact ⟨e2, e3, e4, e8, hk⟩
  refine (θ_run (Cert.Reference8Ideal.defs (F := Ideal)) _ _).mono (fun r h c => ?_) (Cert.Reference8Ideal.Value.run (F := Ideal) m' g')
  obtain ⟨e0, e1, e2, e3, hk⟩ := h c
  obtain ⟨h0, h1, -, -⟩ := hargs c
  simp only [Cert.SampMix.equal11, Cert.SampMix.equal12, Cert.SampMix.equal13, Cert.SampMix.equal17, ← h0, ← h1]
  exact ⟨e0.trans (Cert.SampMix.ref_keys m' c), e1, e2.trans (Cert.SampMix.ref_index m' c), e3, hk⟩

/-- The new rows' mixing reference read at its arguments; it declares no semaphore. -/
theorem sample_mixing_reference_frame : Cert.quiescent_Reference8Ideal (hReference8Ideal := Cert.Reference8Ideal.Gen.facts) := fun m ρ _ =>
  (θ_run (Cert.Reference8Ideal.defs (F := Ideal)) _ _).mono
    (fun r h => ⟨fun c => (h c).2.2.2.2, sem_eq_zero_of_no_sems (by decide) r.2⟩)
    (Cert.Reference8Ideal.Value.run (F := Ideal) m ρ)

/-- Over the extended reals the new rows' mixing output call and its reference end with equal results. -/
theorem sample_mixing_output_algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 7 Cert.Kernel9Ideal.cfg0.N, Cert.Kernel9Ideal.Value.run_blocks m g, ?_⟩
  refine (θ_run (Cert.Reference9Ideal.defs (F := Ideal)) _ _).mono (fun r h c => ?_) (Cert.Reference9Ideal.Value.run (F := Ideal) m' g')
  obtain ⟨hv, hk⟩ := h c
  obtain ⟨h0, h1, h2, h3, h4, h5⟩ := hargs c
  exact ⟨hv.trans (Cert.SampOutPair.equal m m' c h0 h1 h2 h3 h4 h5), hk⟩

/-- That reference read at its arguments; it declares no semaphore. -/
theorem sample_mixing_output_reference_frame : Cert.quiescent_Reference9Ideal (hReference9Ideal := Cert.Reference9Ideal.Gen.facts) := fun m ρ _ =>
  (θ_run (Cert.Reference9Ideal.defs (F := Ideal)) _ _).mono (fun r h => ⟨fun c => (h c).2, sem_eq_zero_of_no_sems (by decide) r.2⟩)
    (Cert.Reference9Ideal.Value.run (F := Ideal) m ρ)

/-- Over the extended reals the new rows' native sparse attention output call and its reference end with equal results. -/
theorem sample_native_output_algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 7 Cert.Kernel10Ideal.cfg0.N, Cert.Kernel10Ideal.Value.run_blocks m g, ?_⟩
  refine (θ_run (Cert.Reference10Ideal.defs (F := Ideal)) _ _).mono (fun r h c => ?_) (Cert.Reference10Ideal.Value.run (F := Ideal) m' g')
  obtain ⟨hv, hk⟩ := h c
  obtain ⟨h0, h1, h2, h3, h4⟩ := hargs c
  exact ⟨hv.trans (Cert.SampOutWhole.equal m m' c h0 h1 h2 h3 h4), hk⟩

/-- That reference read at its arguments; it declares no semaphore. -/
theorem sample_native_output_reference_frame : Cert.quiescent_Reference10Ideal (hReference10Ideal := Cert.Reference10Ideal.Gen.facts) := fun m ρ _ =>
  (θ_run (Cert.Reference10Ideal.defs (F := Ideal)) _ _).mono (fun r h => ⟨fun c => (h c).2, sem_eq_zero_of_no_sems (by decide) r.2⟩)
    (Cert.Reference10Ideal.Value.run (F := Ideal) m ρ)

/-- Over the extended reals the new rows' feed-forward call and its reference end with equal results. -/
theorem sample_ffn_algebraic : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Value.G6 m c, Cert.Kernel11Ideal.Value.run m g, ?_⟩
  refine (θ_run (Cert.Reference11Ideal.defs (F := Ideal)) _ _).mono (fun r h c => ?_) (Cert.Reference11Ideal.Value.run (F := Ideal) m' g')
  obtain ⟨hv, hk⟩ := h c
  obtain ⟨h0, h1, h2, h3, h4, h5⟩ := hargs c
  exact ⟨hv.trans (Cert.Ffn.Samp.equal m m' c h0 h1 h2 h3 h4 h5), hk⟩

/-- The reference's run read at its arguments; it declares no semaphore. -/
theorem sample_ffn_reference_frame : Cert.quiescent_Reference11Ideal (hReference11Ideal := Cert.Reference11Ideal.Gen.facts) := fun m ρ _ =>
  (θ_run (Cert.Reference11Ideal.defs (F := Ideal)) _ _).mono (fun r h => ⟨fun c => (h c).2, sem_eq_zero_of_no_sems (by decide) r.2⟩)
    (Cert.Reference11Ideal.Value.run (F := Ideal) m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m ρ _ => Cert.Dsa.frame m ρ, fun m ρ _ => Cert.Kernel2.Gen.frame m ρ, fun m ρ _ => Cert.Kernel2Ideal.Gen.frame m ρ,
    reference_frame, fun m ρ _ => Cert.Kernel3.Gen.frame m ρ, fun m ρ _ => Cert.Kernel3Ideal.Gen.frame m ρ,
    projection_reference_frame, fun m ρ _ => Cert.Kernel4.Gen.frame m ρ, fun m ρ _ => Cert.Kernel4Ideal.Gen.frame m ρ,
    mixing_reference_frame, fun m ρ _ => Cert.Kernel5.Gen.frame m ρ, fun m ρ _ => Cert.Kernel5Ideal.Gen.frame m ρ,
    mixing_output_reference_frame, fun m ρ _ => Cert.Kernel6.Gen.frame m ρ, fun m ρ _ => Cert.Kernel6Ideal.Gen.frame m ρ,
    native_output_reference_frame, fun m ρ _ => Cert.Kernel7.Gen.frame m ρ, fun m ρ _ => Cert.Kernel7Ideal.Gen.frame m ρ,
    sample_projection_reference_frame, fun m ρ _ => Cert.Kernel8.Gen.frame m ρ, fun m ρ _ => Cert.Kernel8Ideal.Gen.frame m ρ,
    sample_mixing_reference_frame,
    fun m ρ _ => Cert.Kernel9.Gen.frame m ρ, fun m ρ _ => Cert.Kernel9Ideal.Gen.frame m ρ, sample_mixing_output_reference_frame,
    fun m ρ _ => Cert.Kernel10.Gen.frame m ρ, fun m ρ _ => Cert.Kernel10Ideal.Gen.frame m ρ, sample_native_output_reference_frame,
    fun m ρ _ => Cert.Kernel11.Gen.frame m ρ, fun m ρ _ => Cert.Kernel11Ideal.Gen.frame m ρ, sample_ffn_reference_frame,
    trivial, algebraic, trivial, projection_algebraic, trivial, mixing_algebraic,
    trivial, mixing_output_algebraic, trivial, native_output_algebraic, trivial, sample_projection_algebraic,
    trivial, sample_mixing_algebraic, trivial, sample_mixing_output_algebraic, trivial, sample_native_output_algebraic,
    trivial, sample_ffn_algebraic⟩

end Cert.Proof

end
